-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmIdeal_finite_state_space [hPre_finite_state_space : Cert.Pre_finite_state_space.Facts] (m : (ℓ : Loc Cert.SsmIdeal.nD Cert.SsmIdeal.τ Cert.SsmIdeal.sig) → Buf (Elt Ideal) ℓ) : Prop :=
  ∀ c : Dev Cert.SsmIdeal.nD,
    (Cert.Pre_finite_state_space.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9))).1 = (fun _ => 1#1)
    ∧ (Cert.Pre_finite_state_space.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9))).2.1 = (fun _ => 1#1)
    ∧ (Cert.Pre_finite_state_space.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9))).2.2.1 = (fun _ => 1#1)
    ∧ (Cert.Pre_finite_state_space.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9))).2.2.2.1 = (fun _ => 1#1)
    ∧ (Cert.Pre_finite_state_space.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9))).2.2.2.2.1 = (fun _ => 1#1)
    ∧ (Cert.Pre_finite_state_space.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9))).2.2.2.2.2 = (fun _ => 1#1)

def Pre_SsmRefIdeal (m : (ℓ : Loc Cert.SsmRefIdeal.nD Cert.SsmRefIdeal.τ Cert.SsmRefIdeal.sig) → Buf (Elt Ideal) ℓ) : Prop :=
  True

def Pre_SsmRefIdeal_finite_state_space [hPre_finite_state_space : Cert.Pre_finite_state_space.Facts] (m : (ℓ : Loc Cert.SsmRefIdeal.nD Cert.SsmRefIdeal.τ Cert.SsmRefIdeal.sig) → Buf (Elt Ideal) ℓ) : Prop :=
  ∀ c : Dev Cert.SsmRefIdeal.nD,
    (Cert.Pre_finite_state_space.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9))).1 = (fun _ => 1#1)
    ∧ (Cert.Pre_finite_state_space.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9))).2.1 = (fun _ => 1#1)
    ∧ (Cert.Pre_finite_state_space.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9))).2.2.1 = (fun _ => 1#1)
    ∧ (Cert.Pre_finite_state_space.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9))).2.2.2.1 = (fun _ => 1#1)
    ∧ (Cert.Pre_finite_state_space.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9))).2.2.2.2.1 = (fun _ => 1#1)
    ∧ (Cert.Pre_finite_state_space.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9))).2.2.2.2.2 = (fun _ => 1#1)

def Pre_Slot (m : (ℓ : Loc Cert.Slot.nD Cert.Slot.τ Cert.Slot.sig) → Buf (Elt Bits) ℓ) : Prop :=
  True

def Pre_SlotIdeal (m : (ℓ : Loc Cert.SlotIdeal.nD Cert.SlotIdeal.τ Cert.SlotIdeal.sig) → Buf (Elt Ideal) ℓ) : Prop :=
  True

def Pre_SlotIdeal_slots_of_table [hPre_slots_of_table : Cert.Pre_slots_of_table.Facts] (m : (ℓ : Loc Cert.SlotIdeal.nD Cert.SlotIdeal.τ Cert.SlotIdeal.sig) → Buf (Elt Ideal) ℓ) : Prop :=
  ∀ c : Dev Cert.SlotIdeal.nD,
    (Cert.Pre_slots_of_table.fn (F := Ideal) (m ((c.tc : Thread Cert.SlotIdeal.nD Cert.SlotIdeal.τ).loc Cert.SlotIdeal.main_arg0)) (m ((c.tc : Thread Cert.SlotIdeal.nD Cert.SlotIdeal.τ).loc Cert.SlotIdeal.main_arg1))) = (fun _ => 1#1)

def Pre_SlotRefIdeal (m : (ℓ : Loc Cert.SlotRefIdeal.nD Cert.SlotRefIdeal.τ Cert.SlotRefIdeal.sig) → Buf (Elt Ideal) ℓ) : Prop :=
  True

def Pre_SlotRefIdeal_slots_of_table [hPre_slots_of_table : Cert.Pre_slots_of_table.Facts] (m : (ℓ : Loc Cert.SlotRefIdeal.nD Cert.SlotRefIdeal.τ Cert.SlotRefIdeal.sig) → Buf (Elt Ideal) ℓ) : Prop :=
  ∀ c : Dev Cert.SlotRefIdeal.nD,
    (Cert.Pre_slots_of_table.fn (F := Ideal) (m ((c.tc : Thread Cert.SlotRefIdeal.nD Cert.SlotRefIdeal.τ).loc Cert.SlotRefIdeal.main_arg0)) (m ((c.tc : Thread Cert.SlotRefIdeal.nD Cert.SlotRefIdeal.τ).loc Cert.SlotRefIdeal.main_arg1))) = (fun _ => 1#1)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8)
      ∧ r.2.mem ((c.tc : Thread Cert.Ssm.nD Cert.Ssm.τ).loc Cert.Ssm.main_arg9) = m ((c.tc : Thread Cert.Ssm.nD Cert.Ssm.τ).loc Cert.Ssm.main_arg9))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9))
      ∧ r.2.sem = fun _ => 0)

def quiescent_SsmIdeal_pre_finite_state_space [hSsmIdeal : Cert.SsmIdeal.Facts] [hPre_finite_state_space : Cert.Pre_finite_state_space.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal_finite_state_space m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9))
      ∧ r.2.sem = fun _ => 0)

def quiescent_SsmRefIdeal_pre_finite_state_space [hSsmRefIdeal : Cert.SsmRefIdeal.Facts] [hPre_finite_state_space : Cert.Pre_finite_state_space.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal_finite_state_space m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9))
      ∧ r.2.sem = fun _ => 0)

def quiescent_Slot [hSlot : Cert.Slot.Facts] : Prop :=
  ∀ (m : (ℓ : Loc Cert.Slot.nD Cert.Slot.τ Cert.Slot.sig) → Buf (Elt Bits) ℓ) (g : Dev Cert.Slot.nD → PrngReg), Pre_Slot m →
    θ_run (Cert.Slot.defs (F := Bits)) (onTc (τ := Cert.Slot.τ) (Cert.Slot.main (F := Bits))) ⟨m, fun _ => 0, g⟩ (fun r => (∀ c : Dev Cert.Slot.nD,
      r.2.mem ((c.tc : Thread Cert.Slot.nD Cert.Slot.τ).loc Cert.Slot.main_arg0) = m ((c.tc : Thread Cert.Slot.nD Cert.Slot.τ).loc Cert.Slot.main_arg0)
      ∧ r.2.mem ((c.tc : Thread Cert.Slot.nD Cert.Slot.τ).loc Cert.Slot.main_arg1) = m ((c.tc : Thread Cert.Slot.nD Cert.Slot.τ).loc Cert.Slot.main_arg1))
      ∧ r.2.sem = fun _ => 0)

def quiescent_SlotIdeal [hSlotIdeal : Cert.SlotIdeal.Facts] : Prop :=
  ∀ (m : (ℓ : Loc Cert.SlotIdeal.nD Cert.SlotIdeal.τ Cert.SlotIdeal.sig) → Buf (Elt Ideal) ℓ) (g : Dev Cert.SlotIdeal.nD → PrngReg), Pre_SlotIdeal m →
    θ_run (Cert.SlotIdeal.defs (F := Ideal)) (onTc (τ := Cert.SlotIdeal.τ) (Cert.SlotIdeal.main (F := Ideal))) ⟨m, fun _ => 0, g⟩ (fun r => (∀ c : Dev Cert.SlotIdeal.nD,
      r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
      ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1))
      ∧ r.2.sem = fun _ => 0)

def quiescent_SlotIdeal_pre_slots_of_table [hSlotIdeal : Cert.SlotIdeal.Facts] [hPre_slots_of_table : Cert.Pre_slots_of_table.Facts] : Prop :=
  ∀ (m : (ℓ : Loc Cert.SlotIdeal.nD Cert.SlotIdeal.τ Cert.SlotIdeal.sig) → Buf (Elt Ideal) ℓ) (g : Dev Cert.SlotIdeal.nD → PrngReg), Pre_SlotIdeal_slots_of_table m →
    θ_run (Cert.SlotIdeal.defs (F := Ideal)) (onTc (τ := Cert.SlotIdeal.τ) (Cert.SlotIdeal.main (F := Ideal))) ⟨m, fun _ => 0, g⟩ (fun r => (∀ c : Dev Cert.SlotIdeal.nD,
      r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
      ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1))
      ∧ r.2.sem = fun _ => 0)

def quiescent_SlotRefIdeal [hSlotRefIdeal : Cert.SlotRefIdeal.Facts] : Prop :=
  ∀ (m : (ℓ : Loc Cert.SlotRefIdeal.nD Cert.SlotRefIdeal.τ Cert.SlotRefIdeal.sig) → Buf (Elt Ideal) ℓ) (g : Dev Cert.SlotRefIdeal.nD → PrngReg), Pre_SlotRefIdeal m →
    θ_run (Cert.SlotRefIdeal.defs (F := Ideal)) (onTc (τ := Cert.SlotRefIdeal.τ) (Cert.SlotRefIdeal.main (F := Ideal))) ⟨m, fun _ => 0, g⟩ (fun r => (∀ c : Dev Cert.SlotRefIdeal.nD,
      r.2.mem ((c.tc : Thread Cert.SlotRefIdeal.nD Cert.SlotRefIdeal.τ).loc Cert.SlotRefIdeal.main_arg0) = m ((c.tc : Thread Cert.SlotRefIdeal.nD Cert.SlotRefIdeal.τ).loc Cert.SlotRefIdeal.main_arg0)
      ∧ r.2.mem ((c.tc : Thread Cert.SlotRefIdeal.nD Cert.SlotRefIdeal.τ).loc Cert.SlotRefIdeal.main_arg1) = m ((c.tc : Thread Cert.SlotRefIdeal.nD Cert.SlotRefIdeal.τ).loc Cert.SlotRefIdeal.main_arg1))
      ∧ r.2.sem = fun _ => 0)

def quiescent_SlotRefIdeal_pre_slots_of_table [hSlotRefIdeal : Cert.SlotRefIdeal.Facts] [hPre_slots_of_table : Cert.Pre_slots_of_table.Facts] : Prop :=
  ∀ (m : (ℓ : Loc Cert.SlotRefIdeal.nD Cert.SlotRefIdeal.τ Cert.SlotRefIdeal.sig) → Buf (Elt Ideal) ℓ) (g : Dev Cert.SlotRefIdeal.nD → PrngReg), Pre_SlotRefIdeal_slots_of_table m →
    θ_run (Cert.SlotRefIdeal.defs (F := Ideal)) (onTc (τ := Cert.SlotRefIdeal.τ) (Cert.SlotRefIdeal.main (F := Ideal))) ⟨m, fun _ => 0, g⟩ (fun r => (∀ c : Dev Cert.SlotRefIdeal.nD,
      r.2.mem ((c.tc : Thread Cert.SlotRefIdeal.nD Cert.SlotRefIdeal.τ).loc Cert.SlotRefIdeal.main_arg0) = m ((c.tc : Thread Cert.SlotRefIdeal.nD Cert.SlotRefIdeal.τ).loc Cert.SlotRefIdeal.main_arg0)
      ∧ r.2.mem ((c.tc : Thread Cert.SlotRefIdeal.nD Cert.SlotRefIdeal.τ).loc Cert.SlotRefIdeal.main_arg1) = m ((c.tc : Thread Cert.SlotRefIdeal.nD Cert.SlotRefIdeal.τ).loc Cert.SlotRefIdeal.main_arg1))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)) (v2 : (c : Dev Cert.TailIdeal.nD) → Buf (Elt Ideal) ((c.tc : Thread Cert.TailIdeal.nD Cert.TailIdeal.τ).loc Cert.TailIdeal.main_v5_2)) (v3 : (c : Dev Cert.TailIdeal.nD) → Buf (Elt Ideal) ((c.tc : Thread Cert.TailIdeal.nD Cert.TailIdeal.τ).loc Cert.TailIdeal.main_v5_3)) (v4 : (c : Dev Cert.TailIdeal.nD) → Buf (Elt Ideal) ((c.tc : Thread Cert.TailIdeal.nD Cert.TailIdeal.τ).loc Cert.TailIdeal.main_v5_4)) (v5 : (c : Dev Cert.TailIdeal.nD) → Buf (Elt Ideal) ((c.tc : Thread Cert.TailIdeal.nD Cert.TailIdeal.τ).loc Cert.TailIdeal.main_v5_5)) (v6 : (c : Dev Cert.TailIdeal.nD) → Buf (Elt Ideal) ((c.tc : Thread Cert.TailIdeal.nD Cert.TailIdeal.τ).loc Cert.TailIdeal.main_v5_6)) (v7 : (c : Dev Cert.TailIdeal.nD) → Buf (Elt Ideal) ((c.tc : Thread Cert.TailIdeal.nD Cert.TailIdeal.τ).loc Cert.TailIdeal.main_v5_7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5_0) = v0 c
          ∧ r.2.mem ((c.tc : Thread Cert.TailIdeal.nD Cert.TailIdeal.τ).loc Cert.TailIdeal.main_v5_1) = v1 c
          ∧ r.2.mem ((c.tc : Thread Cert.TailIdeal.nD Cert.TailIdeal.τ).loc Cert.TailIdeal.main_v5_2) = v2 c
          ∧ r.2.mem ((c.tc : Thread Cert.TailIdeal.nD Cert.TailIdeal.τ).loc Cert.TailIdeal.main_v5_3) = v3 c
          ∧ r.2.mem ((c.tc : Thread Cert.TailIdeal.nD Cert.TailIdeal.τ).loc Cert.TailIdeal.main_v5_4) = v4 c
          ∧ r.2.mem ((c.tc : Thread Cert.TailIdeal.nD Cert.TailIdeal.τ).loc Cert.TailIdeal.main_v5_5) = v5 c
          ∧ r.2.mem ((c.tc : Thread Cert.TailIdeal.nD Cert.TailIdeal.τ).loc Cert.TailIdeal.main_v5_6) = v6 c
          ∧ r.2.mem ((c.tc : Thread Cert.TailIdeal.nD Cert.TailIdeal.τ).loc Cert.TailIdeal.main_v5_7) = v7 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v1_0) = v0 c
          ∧ r.2.mem ((c.tc : Thread Cert.TailRefIdeal.nD Cert.TailRefIdeal.τ).loc Cert.TailRefIdeal.main_v1_1) = v1 c
          ∧ r.2.mem ((c.tc : Thread Cert.TailRefIdeal.nD Cert.TailRefIdeal.τ).loc Cert.TailRefIdeal.main_v1_2) = v2 c
          ∧ r.2.mem ((c.tc : Thread Cert.TailRefIdeal.nD Cert.TailRefIdeal.τ).loc Cert.TailRefIdeal.main_v1_3) = v3 c
          ∧ r.2.mem ((c.tc : Thread Cert.TailRefIdeal.nD Cert.TailRefIdeal.τ).loc Cert.TailRefIdeal.main_v1_4) = v4 c
          ∧ r.2.mem ((c.tc : Thread Cert.TailRefIdeal.nD Cert.TailRefIdeal.τ).loc Cert.TailRefIdeal.main_v1_5) = v5 c
          ∧ r.2.mem ((c.tc : Thread Cert.TailRefIdeal.nD Cert.TailRefIdeal.τ).loc Cert.TailRefIdeal.main_v1_6) = v6 c
          ∧ r.2.mem ((c.tc : Thread Cert.TailRefIdeal.nD Cert.TailRefIdeal.τ).loc Cert.TailRefIdeal.main_v1_7) = v7 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)
      ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)
      ∧ m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v62_0)) (v1 : (c : Dev Cert.ProjIdeal.nD) → Buf (Elt Ideal) ((c.tc : Thread Cert.ProjIdeal.nD Cert.ProjIdeal.τ).loc Cert.ProjIdeal.main_v62_1)) (v2 : (c : Dev Cert.ProjIdeal.nD) → Buf (Elt Ideal) ((c.tc : Thread Cert.ProjIdeal.nD Cert.ProjIdeal.τ).loc Cert.ProjIdeal.main_v62_2)) (v3 : (c : Dev Cert.ProjIdeal.nD) → Buf (Elt Ideal) ((c.tc : Thread Cert.ProjIdeal.nD Cert.ProjIdeal.τ).loc Cert.ProjIdeal.main_v62_3)) (v4 : (c : Dev Cert.ProjIdeal.nD) → Buf (Elt Ideal) ((c.tc : Thread Cert.ProjIdeal.nD Cert.ProjIdeal.τ).loc Cert.ProjIdeal.main_v62_4)) (v5 : (c : Dev Cert.ProjIdeal.nD) → Buf (Elt Ideal) ((c.tc : Thread Cert.ProjIdeal.nD Cert.ProjIdeal.τ).loc Cert.ProjIdeal.main_v62_5)) (v6 : (c : Dev Cert.ProjIdeal.nD) → Buf (Elt Ideal) ((c.tc : Thread Cert.ProjIdeal.nD Cert.ProjIdeal.τ).loc Cert.ProjIdeal.main_v62_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v62_0) = v0 c
          ∧ r.2.mem ((c.tc : Thread Cert.ProjIdeal.nD Cert.ProjIdeal.τ).loc Cert.ProjIdeal.main_v62_1) = v1 c
          ∧ r.2.mem ((c.tc : Thread Cert.ProjIdeal.nD Cert.ProjIdeal.τ).loc Cert.ProjIdeal.main_v62_2) = v2 c
          ∧ r.2.mem ((c.tc : Thread Cert.ProjIdeal.nD Cert.ProjIdeal.τ).loc Cert.ProjIdeal.main_v62_3) = v3 c
          ∧ r.2.mem ((c.tc : Thread Cert.ProjIdeal.nD Cert.ProjIdeal.τ).loc Cert.ProjIdeal.main_v62_4) = v4 c
          ∧ r.2.mem ((c.tc : Thread Cert.ProjIdeal.nD Cert.ProjIdeal.τ).loc Cert.ProjIdeal.main_v62_5) = v5 c
          ∧ r.2.mem ((c.tc : Thread Cert.ProjIdeal.nD Cert.ProjIdeal.τ).loc Cert.ProjIdeal.main_v62_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20_0) = v0 c
          ∧ r.2.mem ((c.tc : Thread Cert.ProjRefIdeal.nD Cert.ProjRefIdeal.τ).loc Cert.ProjRefIdeal.main_v20_1) = v1 c
          ∧ r.2.mem ((c.tc : Thread Cert.ProjRefIdeal.nD Cert.ProjRefIdeal.τ).loc Cert.ProjRefIdeal.main_v20_2) = v2 c
          ∧ r.2.mem ((c.tc : Thread Cert.ProjRefIdeal.nD Cert.ProjRefIdeal.τ).loc Cert.ProjRefIdeal.main_v20_3) = v3 c
          ∧ r.2.mem ((c.tc : Thread Cert.ProjRefIdeal.nD Cert.ProjRefIdeal.τ).loc Cert.ProjRefIdeal.main_v20_4) = v4 c
          ∧ r.2.mem ((c.tc : Thread Cert.ProjRefIdeal.nD Cert.ProjRefIdeal.τ).loc Cert.ProjRefIdeal.main_v20_5) = v5 c
          ∧ r.2.mem ((c.tc : Thread Cert.ProjRefIdeal.nD Cert.ProjRefIdeal.τ).loc Cert.ProjRefIdeal.main_v20_6) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12)
          ∧ r.2.mem ((c.tc : Thread Cert.ProjRefIdeal.nD Cert.ProjRefIdeal.τ).loc Cert.ProjRefIdeal.main_arg13) = m' ((c.tc : Thread Cert.ProjRefIdeal.nD Cert.ProjRefIdeal.τ).loc Cert.ProjRefIdeal.main_arg13)
          ∧ r.2.mem ((c.tc : Thread Cert.ProjRefIdeal.nD Cert.ProjRefIdeal.τ).loc Cert.ProjRefIdeal.main_arg14) = m' ((c.tc : Thread Cert.ProjRefIdeal.nD Cert.ProjRefIdeal.τ).loc Cert.ProjRefIdeal.main_arg14))

def preserves_Ssm_SsmIdeal : Prop :=
  True

def algebraic_SsmIdeal_SsmRefIdeal_pre_finite_state_space [hSsmIdeal : Cert.SsmIdeal.Facts] [hSsmRefIdeal : Cert.SsmRefIdeal.Facts] [hPre_finite_state_space : Cert.Pre_finite_state_space.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal_finite_state_space m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
      ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)) →
    ∃ (v0 : (c : Dev Cert.SsmIdeal.nD) → Buf (Elt Ideal) ((c.tc : Thread Cert.SsmIdeal.nD Cert.SsmIdeal.τ).loc Cert.SsmIdeal.main_v39_0)) (v1 : (c : Dev Cert.SsmIdeal.nD) → Buf (Elt Ideal) ((c.tc : Thread Cert.SsmIdeal.nD Cert.SsmIdeal.τ).loc Cert.SsmIdeal.main_v39_1)) (v2 : (c : Dev Cert.SsmIdeal.nD) → Buf (Elt Ideal) ((c.tc : Thread Cert.SsmIdeal.nD Cert.SsmIdeal.τ).loc Cert.SsmIdeal.main_v39_2)) (v3 : (c : Dev Cert.SsmIdeal.nD) → Buf (Elt Ideal) ((c.tc : Thread Cert.SsmIdeal.nD Cert.SsmIdeal.τ).loc Cert.SsmIdeal.main_v39_3)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v39_0) = v0 c
          ∧ r.2.mem ((c.tc : Thread Cert.SsmIdeal.nD Cert.SsmIdeal.τ).loc Cert.SsmIdeal.main_v39_1) = v1 c
          ∧ r.2.mem ((c.tc : Thread Cert.SsmIdeal.nD Cert.SsmIdeal.τ).loc Cert.SsmIdeal.main_v39_2) = v2 c
          ∧ r.2.mem ((c.tc : Thread Cert.SsmIdeal.nD Cert.SsmIdeal.τ).loc Cert.SsmIdeal.main_v39_3) = v3 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
          ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v20_0) = v0 c
          ∧ r.2.mem ((c.tc : Thread Cert.SsmRefIdeal.nD Cert.SsmRefIdeal.τ).loc Cert.SsmRefIdeal.main_v20_1) = v1 c
          ∧ r.2.mem ((c.tc : Thread Cert.SsmRefIdeal.nD Cert.SsmRefIdeal.τ).loc Cert.SsmRefIdeal.main_v20_2) = v2 c
          ∧ r.2.mem ((c.tc : Thread Cert.SsmRefIdeal.nD Cert.SsmRefIdeal.τ).loc Cert.SsmRefIdeal.main_v20_3) = v3 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8)
          ∧ r.2.mem ((c.tc : Thread Cert.SsmRefIdeal.nD Cert.SsmRefIdeal.τ).loc Cert.SsmRefIdeal.main_arg9) = m' ((c.tc : Thread Cert.SsmRefIdeal.nD Cert.SsmRefIdeal.τ).loc Cert.SsmRefIdeal.main_arg9))

def preserves_Slot_SlotIdeal : Prop :=
  True

def algebraic_SlotIdeal_SlotRefIdeal_pre_slots_of_table [hSlotIdeal : Cert.SlotIdeal.Facts] [hSlotRefIdeal : Cert.SlotRefIdeal.Facts] [hPre_slots_of_table : Cert.Pre_slots_of_table.Facts] : Prop :=
  ∀ (m : (ℓ : Loc Cert.SlotIdeal.nD Cert.SlotIdeal.τ Cert.SlotIdeal.sig) → Buf (Elt Ideal) ℓ) (g : Dev Cert.SlotIdeal.nD → PrngReg)
    (m' : (ℓ : Loc Cert.SlotRefIdeal.nD Cert.SlotRefIdeal.τ Cert.SlotRefIdeal.sig) → Buf (Elt Ideal) ℓ) (g' : Dev Cert.SlotRefIdeal.nD → PrngReg), Pre_SlotIdeal_slots_of_table m →
    (∀ c : Dev Cert.SlotIdeal.nD,
      m' ((c.tc : Thread Cert.SlotRefIdeal.nD Cert.SlotRefIdeal.τ).loc Cert.SlotRefIdeal.main_arg0) = m ((c.tc : Thread Cert.SlotIdeal.nD Cert.SlotIdeal.τ).loc Cert.SlotIdeal.main_arg0)
      ∧ m' ((c.tc : Thread Cert.SlotRefIdeal.nD Cert.SlotRefIdeal.τ).loc Cert.SlotRefIdeal.main_arg1) = m ((c.tc : Thread Cert.SlotIdeal.nD Cert.SlotIdeal.τ).loc Cert.SlotIdeal.main_arg1)) →
    ∃ (v0 : (c : Dev Cert.SlotIdeal.nD) → Buf (Elt Ideal) ((c.tc : Thread Cert.SlotIdeal.nD Cert.SlotIdeal.τ).loc Cert.SlotIdeal.main_v2)),
      θ_run (Cert.SlotIdeal.defs (F := Ideal)) (onTc (τ := Cert.SlotIdeal.τ) (Cert.SlotIdeal.main (F := Ideal))) ⟨m, fun _ => 0, g⟩ (fun r => ∀ c : Dev Cert.SlotIdeal.nD,
          r.2.mem ((c.tc : Thread Cert.SlotIdeal.nD Cert.SlotIdeal.τ).loc Cert.SlotIdeal.main_v2) = v0 c
          ∧ r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
          ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1))
      ∧ θ_run (Cert.SlotRefIdeal.defs (F := Ideal)) (onTc (τ := Cert.SlotRefIdeal.τ) (Cert.SlotRefIdeal.main (F := Ideal))) ⟨m', fun _ => 0, g'⟩ (fun r => ∀ c : Dev Cert.SlotRefIdeal.nD,
          r.2.mem ((c.tc : Thread Cert.SlotRefIdeal.nD Cert.SlotRefIdeal.τ).loc Cert.SlotRefIdeal.main_v7) = v0 c
          ∧ r.2.mem ((c.tc : Thread Cert.SlotRefIdeal.nD Cert.SlotRefIdeal.τ).loc Cert.SlotRefIdeal.main_arg0) = m' ((c.tc : Thread Cert.SlotRefIdeal.nD Cert.SlotRefIdeal.τ).loc Cert.SlotRefIdeal.main_arg0)
          ∧ r.2.mem ((c.tc : Thread Cert.SlotRefIdeal.nD Cert.SlotRefIdeal.τ).loc Cert.SlotRefIdeal.main_arg1) = m' ((c.tc : Thread Cert.SlotRefIdeal.nD Cert.SlotRefIdeal.τ).loc Cert.SlotRefIdeal.main_arg1))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hSsm : Cert.Ssm.Facts) (hSsmIdeal : Cert.SsmIdeal.Facts) (hSsmRefIdeal : Cert.SsmRefIdeal.Facts) (hSlot : Cert.Slot.Facts) (hSlotIdeal : Cert.SlotIdeal.Facts) (hSlotRefIdeal : Cert.SlotRefIdeal.Facts) (hPre_finite_state_space : Cert.Pre_finite_state_space.Facts) (hPre_slots_of_table : Cert.Pre_slots_of_table.Facts),
    quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_Ssm (hSsm := hSsm)
    ∧ quiescent_SsmIdeal (hSsmIdeal := hSsmIdeal)
    ∧ quiescent_SsmIdeal_pre_finite_state_space (hSsmIdeal := hSsmIdeal) (hPre_finite_state_space := hPre_finite_state_space)
    ∧ quiescent_SsmRefIdeal (hSsmRefIdeal := hSsmRefIdeal)
    ∧ quiescent_SsmRefIdeal_pre_finite_state_space (hSsmRefIdeal := hSsmRefIdeal) (hPre_finite_state_space := hPre_finite_state_space)
    ∧ quiescent_Slot (hSlot := hSlot)
    ∧ quiescent_SlotIdeal (hSlotIdeal := hSlotIdeal)
    ∧ quiescent_SlotIdeal_pre_slots_of_table (hSlotIdeal := hSlotIdeal) (hPre_slots_of_table := hPre_slots_of_table)
    ∧ quiescent_SlotRefIdeal (hSlotRefIdeal := hSlotRefIdeal)
    ∧ quiescent_SlotRefIdeal_pre_slots_of_table (hSlotRefIdeal := hSlotRefIdeal) (hPre_slots_of_table := hPre_slots_of_table)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_Ssm_SsmIdeal
    ∧ algebraic_SsmIdeal_SsmRefIdeal_pre_finite_state_space (hSsmIdeal := hSsmIdeal) (hSsmRefIdeal := hSsmRefIdeal) (hPre_finite_state_space := hPre_finite_state_space)
    ∧ preserves_Slot_SlotIdeal
    ∧ algebraic_SlotIdeal_SlotRefIdeal_pre_slots_of_table (hSlotIdeal := hSlotIdeal) (hSlotRefIdeal := hSlotRefIdeal) (hPre_slots_of_table := hPre_slots_of_table)
-- ==== Pre_finite_state_space.lean ====
abbrev S5x256x1536 : Shape := ⟨3, ![5, 256, 1536]⟩
abbrev S5x256x512 : Shape := ⟨3, ![5, 256, 512]⟩
abbrev S5x256x64 : Shape := ⟨3, ![5, 256, 64]⟩
abbrev S256x1536x128 : Shape := ⟨3, ![256, 1536, 128]⟩
abbrev S256x1536 : Shape := ⟨2, ![256, 1536]⟩
abbrev S24 : Shape := ⟨1, ![24]⟩
abbrev S1536 : Shape := ⟨1, ![1536]⟩
abbrev S1536x1024 : Shape := ⟨2, ![1536, 1024]⟩
abbrev S1024 : Shape := ⟨1, ![1024]⟩
abbrev S_ : Shape := ⟨0, ![]⟩
abbrev S5x256x24 : Shape := ⟨3, ![5, 256, 24]⟩

class Facts : Prop where
  bcast_S_S5x256x1536 : S_.BroadcastsInDim S5x256x1536 (![] : Fin 0 → Fin S5x256x1536.rank)
  bcast_S_S5x256x512 : S_.BroadcastsInDim S5x256x512 (![] : Fin 0 → Fin S5x256x512.rank)
  slices_S5x256x64_S5x256x24_0_0_0 : S5x256x64.Slices ![0, 0, 0] S5x256x24
  bcast_S_S5x256x24 : S_.BroadcastsInDim S5x256x24 (![] : Fin 0 → Fin S5x256x24.rank)
  slices_S5x256x64_S5x256x24_0_0_32 : S5x256x64.Slices ![0, 0, 32] S5x256x24
  bcast_S_S256x1536x128 : S_.BroadcastsInDim S256x1536x128 (![] : Fin 0 → Fin S256x1536x128.rank)
  bcast_S_S256x1536 : S_.BroadcastsInDim S256x1536 (![] : Fin 0 → Fin S256x1536.rank)

variable [Facts]

def fn_part1 {F : FTy → Type} [FloatOps F] (main_v2 : IVec S5x256x1536 1) (main_v5 : IVec S5x256x512 1) (main_v9 : IVec S5x256x24 1) (main_v13 : IVec S5x256x24 1) (main_v16 : IVec S256x1536x128 1) (main_v17 : FVec F S256x1536 .f32) (main_cst_4 : FVec F S_ .f32) : IVec S5x256x1536 1 × IVec S5x256x512 1 × IVec S5x256x24 1 × IVec S5x256x24 1 × IVec S256x1536x128 1 × IVec S256x1536 1 :=
  let main_v18 : FVec F S256x1536 .f32 := broadcastInDim S256x1536 ![] bcast_S_S256x1536 main_cst_4
  let main_v19 : IVec S256x1536 1 := cmpf .olt main_v17 main_v18
  (main_v2, main_v5, main_v9, main_v13, main_v16, main_v19)

def fn {F : FTy → Type} [FloatOps F] (main_arg0 : FVec F S5x256x1536 .f32) (main_arg1 : FVec F S5x256x512 .f32) (main_arg2 : FVec F S5x256x64 .f32) (main_arg3 : FVec F S5x256x1536 .f32) (main_arg4 : FVec F S256x1536x128 .f32) (main_arg5 : FVec F S256x1536 .f32) (main_arg6 : FVec F S24 .f32) (main_arg7 : FVec F S1536 .f32) (main_arg8 : IVec S1536x1024 8) (main_arg9 : FVec F S1024 .f32) : IVec S5x256x1536 1 × IVec S5x256x512 1 × IVec S5x256x24 1 × IVec S5x256x24 1 × IVec S256x1536x128 1 × IVec S256x1536 1 :=
  let main_v0 : FVec F S5x256x1536 .f32 := Host.absf main_arg0
  let main_cst : FVec F S_ .f32 := constant S_ .f32 0x7F800000#32
  let main_v1 : FVec F S5x256x1536 .f32 := broadcastInDim S5x256x1536 ![] bcast_S_S5x256x1536 main_cst
  let main_v2 : IVec S5x256x1536 1 := cmpf .olt main_v0 main_v1
  let main_v3 : FVec F S5x256x512 .f32 := Host.absf main_arg1
  let main_cst_0 : FVec F S_ .f32 := constant S_ .f32 0x7F800000#32
  let main_v4 : FVec F S5x256x512 .f32 := broadcastInDim S5x256x512 ![] bcast_S_S5x256x512 main_cst_0
  let main_v5 : IVec S5x256x512 1 := cmpf .olt main_v3 main_v4
  let main_v6 : FVec F S5x256x24 .f32 := (extractStridedSlice S5x256x24 ![0, 0, 0] · slices_S5x256x64_S5x256x24_0_0_0) main_arg2
  let main_v7 : FVec F S5x256x24 .f32 := Host.absf main_v6
  let main_cst_1 : FVec F S_ .f32 := constant S_ .f32 0x7F800000#32
  let main_v8 : FVec F S5x256x24 .f32 := broadcastInDim S5x256x24 ![] bcast_S_S5x256x24 main_cst_1
  let main_v9 : IVec S5x256x24 1 := cmpf .olt main_v7 main_v8
  let main_v10 : FVec F S5x256x24 .f32 := (extractStridedSlice S5x256x24 ![0, 0, 32] · slices_S5x256x64_S5x256x24_0_0_32) main_arg2
  let main_v11 : FVec F S5x256x24 .f32 := Host.absf main_v10
  let main_cst_2 : FVec F S_ .f32 := constant S_ .f32 0x7F800000#32
  let main_v12 : FVec F S5x256x24 .f32 := broadcastInDim S5x256x24 ![] bcast_S_S5x256x24 main_cst_2
  let main_v13 : IVec S5x256x24 1 := cmpf .olt main_v11 main_v12
  let main_v14 : FVec F S256x1536x128 .f32 := Host.absf main_arg4
  let main_cst_3 : FVec F S_ .f32 := constant S_ .f32 0x7F800000#32
  let main_v15 : FVec F S256x1536x128 .f32 := broadcastInDim S256x1536x128 ![] bcast_S_S256x1536x128 main_cst_3
  let main_v16 : IVec S256x1536x128 1 := cmpf .olt main_v14 main_v15
  let main_v17 : FVec F S256x1536 .f32 := Host.absf main_arg5
  let main_cst_4 : FVec F S_ .f32 := constant S_ .f32 0x7F800000#32
  fn_part1 (F := F) main_v2 main_v5 main_v9 main_v13 main_v16 main_v17 main_cst_4
-- ==== Pre_slots_of_table.lean ====
abbrev S256 : Shape := ⟨1, ![256]⟩
abbrev S387x24x64 : Shape := ⟨3, ![387, 24, 64]⟩
abbrev S_ : Shape := ⟨0, ![]⟩

class Facts : Prop where
  bcast_S_S256 : S_.BroadcastsInDim S256 (![] : Fin 0 → Fin S256.rank)

variable [Facts]

def fn {F : FTy → Type} [FloatOps F] (main_arg0 : IVec S256 32) (main_arg1 : FVec F S387x24x64 .f32) : IVec S256 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 387#32
  let main_v2 : IVec S256 32 := broadcastInDim S256 ![] bcast_S_S256 main_c_0
  let main_v3 : IVec S256 1 := cmpi .slt main_arg0 main_v2
  let main_v4 : IVec S256 1 := andi main_v1 main_v3
  main_v4
-- ==== Tail.lean ====
abbrev S256x5x1024 : Shape := ⟨3, ![256, 5, 1024]⟩
abbrev S5x256x512 : Shape := ⟨3, ![5, 256, 512]⟩
abbrev S5x256x1024 : Shape := ⟨3, ![5, 256, 1024]⟩
abbrev S2 : Shape := ⟨1, ![2]⟩
abbrev S1024 : Shape := ⟨1, ![1024]⟩
abbrev S512x1024 : Shape := ⟨2, ![512, 1024]⟩
abbrev S1024x4096 : Shape := ⟨2, ![1024, 4096]⟩
abbrev S4096 : Shape := ⟨1, ![4096]⟩
abbrev S2048x1024 : Shape := ⟨2, ![2048, 1024]⟩
abbrev S1x1024 : Shape := ⟨2, ![1, 1024]⟩
abbrev S1x4096 : Shape := ⟨2, ![1, 4096]⟩
abbrev S5x256x1 : Shape := ⟨3, ![5, 256, 1]⟩
abbrev S5x256x2048 : Shape := ⟨3, ![5, 256, 2048]⟩
abbrev S1x256x1024 : Shape := ⟨3, ![1, 256, 1024]⟩
abbrev S1x256x512 : Shape := ⟨3, ![1, 256, 512]⟩
abbrev S1x256x1 : Shape := ⟨3, ![1, 256, 1]⟩
abbrev S1x256x2048 : Shape := ⟨3, ![1, 256, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1 : Shape := ⟨1, ![1]⟩
abbrev S256x4096 : Shape := ⟨2, ![256, 4096]⟩
abbrev S256x2048 : Shape := ⟨2, ![256, 2048]⟩

abbrev nBuf : Space → Nat
  | .hbm => 24
  | .vmem => 29
  | .smem => 1
  | _ => 0

abbrev bufTy : (tb : Table) → Fin (tcTables nBuf tb) → BufTy
  | .hbm, ⟨0, _⟩ => ⟨S256x5x1024, .bf16⟩
  | .hbm, ⟨1, _⟩ => ⟨S5x256x512, .f32⟩
  | .hbm, ⟨2, _⟩ => ⟨S5x256x1024, .f32⟩
  | .hbm, ⟨3, _⟩ => ⟨S2, .f32⟩
  | .hbm, ⟨4, _⟩ => ⟨S1024, .f32⟩
  | .hbm, ⟨5, _⟩ => ⟨S512x1024, .i8⟩
  | .hbm, ⟨6, _⟩ => ⟨S1024, .f32⟩
  | .hbm, ⟨7, _⟩ => ⟨S1024x4096, .i8⟩
  | .hbm, ⟨8, _⟩ => ⟨S4096, .f32⟩
  | .hbm, ⟨9, _⟩ => ⟨S2048x1024, .i8⟩
  | .hbm, ⟨10, _⟩ => ⟨S1024, .f32⟩
  | .hbm, ⟨11, _⟩ => ⟨S5x256x1024, .bf16⟩
  | .hbm, ⟨12, _⟩ => ⟨S1x1024, .f32⟩
  | .hbm, ⟨13, _⟩ => ⟨S1x1024, .f32⟩
  | .hbm, ⟨14, _⟩ => ⟨S1x4096, .f32⟩
  | .hbm, ⟨15, _⟩ => ⟨S1x1024, .f32⟩
  | .hbm, ⟨16, _⟩ => ⟨S5x256x1024, .bf16⟩
  | .hbm, ⟨17, _⟩ => ⟨S5x256x1024, .f32⟩
  | .hbm, ⟨18, _⟩ => ⟨S5x256x512, .i8⟩
  | .hbm, ⟨19, _⟩ => ⟨S5x256x1, .f32⟩
  | .hbm, ⟨20, _⟩ => ⟨S5x256x1024, .i8⟩
  | .hbm, ⟨21, _⟩ => ⟨S5x256x1, .f32⟩
  | .hbm, ⟨22, _⟩ => ⟨S5x256x2048, .i8⟩
  | .hbm, ⟨23, _⟩ => ⟨S5x256x1, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S512x1024, .i8⟩
  | .local _ .vmem, ⟨7, _⟩ => ⟨S1x1024, .f32⟩
  | .local _ .vmem, ⟨8, _⟩ => ⟨S1x1024, .f32⟩
  | .local _ .vmem, ⟨9, _⟩ => ⟨S1024x4096, .i8⟩
  | .local _ .vmem, ⟨10, _⟩ => ⟨S1x4096, .f32⟩
  | .local _ .vmem, ⟨11, _⟩ => ⟨S2048x1024, .i8⟩
  | .local _ .vmem, ⟨12, _⟩ => ⟨S1x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .f32⟩
  | .local _ .vmem, ⟨16, _⟩ => ⟨S1x256x1024, .f32⟩
  | .local _ .vmem, ⟨17, _⟩ => ⟨S1x256x512, .i8⟩
  | .local _ .vmem, ⟨18, _⟩ => ⟨S1x256x512, .i8⟩
  | .local _ .vmem, ⟨19, _⟩ => ⟨S1x256x1, .f32⟩
  | .local _ .vmem, ⟨20, _⟩ => ⟨S1x256x1, .f32⟩
  | .local _ .vmem, ⟨21, _⟩ => ⟨S1x256x1024, .i8⟩
  | .local _ .vmem, ⟨22, _⟩ => ⟨S1x256x1024, .i8⟩
  | .local _ .vmem, ⟨23, _⟩ => ⟨S1x256x1, .f32⟩
  | .local _ .vmem, ⟨24, _⟩ => ⟨S1x256x1, .f32⟩
  | .local _ .vmem, ⟨25, _⟩ => ⟨S1x256x2048, .i8⟩
  | .local _ .vmem, ⟨26, _⟩ => ⟨S1x256x2048, .i8⟩
  | .local _ .vmem, ⟨27, _⟩ => ⟨S1x256x1, .f32⟩
  | .local _ .vmem, ⟨28, _⟩ => ⟨S1x256x1, .f32⟩
  | .local _ .smem, ⟨0, _⟩ => ⟨S2, .f32⟩
  | _, _ => ⟨S256x5x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x2048 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== TailRefIdeal.lean ====
abbrev S256x5x1024 : Shape := ⟨3, ![256, 5, 1024]⟩
abbrev S5x256x512 : Shape := ⟨3, ![5, 256, 512]⟩
abbrev S5x256x1024 : Shape := ⟨3, ![5, 256, 1024]⟩
abbrev S2 : Shape := ⟨1, ![2]⟩
abbrev S1024 : Shape := ⟨1, ![1024]⟩
abbrev S512x1024 : Shape := ⟨2, ![512, 1024]⟩
abbrev S1024x4096 : Shape := ⟨2, ![1024, 4096]⟩
abbrev S4096 : Shape := ⟨1, ![4096]⟩
abbrev S2048x1024 : Shape := ⟨2, ![2048, 1024]⟩
abbrev S5x256x1 : Shape := ⟨3, ![5, 256, 1]⟩
abbrev S5x256x2048 : Shape := ⟨3, ![5, 256, 2048]⟩
abbrev S5x256 : Shape := ⟨2, ![5, 256]⟩
abbrev S1x1x1024 : Shape := ⟨3, ![1, 1, 1024]⟩
abbrev S1 : Shape := ⟨1, ![1]⟩
abbrev S5x256x4096 : Shape := ⟨3, ![5, 256, 4096]⟩
abbrev S1x1x4096 : Shape := ⟨3, ![1, 1, 4096]⟩

abbrev nBuf : Space → Nat
  | .hbm => 20
  | .vmem => 18
  | .smem => 1
  | _ => 0

abbrev bufTy : (tb : Table) → Fin (tcTables nBuf tb) → BufTy
  | .hbm, ⟨0, _⟩ => ⟨S256x5x1024, .bf16⟩
  | .hbm, ⟨1, _⟩ => ⟨S5x256x512, .f32⟩
  | .hbm, ⟨2, _⟩ => ⟨S5x256x1024, .f32⟩
  | .hbm, ⟨3, _⟩ => ⟨S2, .f32⟩
  | .hbm, ⟨4, _⟩ => ⟨S1024, .f32⟩
  | .hbm, ⟨5, _⟩ => ⟨S512x1024, .i8⟩
  | .hbm, ⟨6, _⟩ => ⟨S1024, .f32⟩
  | .hbm, ⟨7, _⟩ => ⟨S1024x4096, .i8⟩
  | .hbm, ⟨8, _⟩ => ⟨S4096, .f32⟩
  | .hbm, ⟨9, _⟩ => ⟨S2048x1024, .i8⟩
  | .hbm, ⟨10, _⟩ => ⟨S1024, .f32⟩
  | .hbm, ⟨11, _⟩ => ⟨S5x256x1024, .bf16⟩
  | .hbm, ⟨12, _⟩ => ⟨S5x256x1024, .bf16⟩
  | .hbm, ⟨13, _⟩ => ⟨S5x256x1024, .f32⟩
  | .hbm, ⟨14, _⟩ => ⟨S5x256x512, .i8⟩
  | .hbm, ⟨15, _⟩ => ⟨S5x256x1, .f32⟩
  | .hbm, ⟨16, _⟩ => ⟨S5x256x1024, .i8⟩
  | .hbm, ⟨17, _⟩ => ⟨S5x256x1, .f32⟩
  | .hbm, ⟨18, _⟩ => ⟨S5x256x2048, .i8⟩
  | .hbm, ⟨19, _⟩ => ⟨S5x256x1, .f32⟩
  | .local _ .vmem, ⟨0, _⟩ => ⟨S5x256x1024, .bf16⟩
  | .local _ .vmem, ⟨1, _⟩ => ⟨S5x256x512, .f32⟩
  | .local _ .vmem, ⟨2, _⟩ => ⟨S5x256x1024, .f32⟩
  | .local _ .vmem, ⟨3, _⟩ => ⟨S1024, .f32⟩
  | .local _ .vmem, ⟨4, _⟩ => ⟨S512x1024, .i8⟩
  | .local _ .vmem, ⟨5, _⟩ => ⟨S1024, .f32⟩
  | .local _ .vmem, ⟨6, _⟩ => ⟨S1024x4096, .i8⟩
  | .local _ .vmem, ⟨7, _⟩ => ⟨S4096, .f32⟩
  | .local _ .vmem, ⟨8, _⟩ => ⟨S2048x1024, .i8⟩
  | .local _ .vmem, ⟨9, _⟩ => ⟨S1024, .f32⟩
  | .local _ .vmem, ⟨10, _⟩ => ⟨S5x256x1024, .bf16⟩
  | .local _ .vmem, ⟨11, _⟩ => ⟨S5x256x1024, .f32⟩
  | .local _ .vmem, ⟨12, _⟩ => ⟨S5x256x512, .i8⟩
  | .local _ .vmem, ⟨13, _⟩ => ⟨S5x256x1, .f32⟩
  | .local _ .vmem, ⟨14, _⟩ => ⟨S5x256x1024, .i8⟩
  | .local _ .vmem, ⟨15, _⟩ => ⟨S5x256x1, .f32⟩
  | .local _ .vmem, ⟨16, _⟩ => ⟨S5x256x2048, .i8⟩
  | .local _ .vmem, ⟨17, _⟩ => ⟨S5x256x1, .f32⟩
  | .local _ .smem, ⟨0, _⟩ => ⟨S2, .f32⟩
  | _, _ => ⟨S256x5x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S5x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1024 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x256x512 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x256x1024 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S5x256x2048 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S5x256x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proj.lean ====
abbrev S256x5x1024 : Shape := ⟨3, ![256, 5, 1024]⟩
abbrev S1024 : Shape := ⟨1, ![1024]⟩
abbrev S1024x4376 : Shape := ⟨2, ![1024, 4376]⟩
abbrev S4376 : Shape := ⟨1, ![4376]⟩
abbrev S8 : Shape := ⟨1, ![8]⟩
abbrev S256x5x32 : Shape := ⟨3, ![256, 5, 32]⟩
abbrev S2 : Shape := ⟨1, ![2]⟩
abbrev S256 : Shape := ⟨1, ![256]⟩
abbrev S387x3x2048 : Shape := ⟨3, ![387, 3, 2048]⟩
abbrev S4x2048 : Shape := ⟨2, ![4, 2048]⟩
abbrev S2048 : Shape := ⟨1, ![2048]⟩
abbrev S24 : Shape := ⟨1, ![24]⟩
abbrev S24x1536 : Shape := ⟨2, ![24, 1536]⟩
abbrev S_ : Shape := ⟨0, ![]⟩
abbrev S24x384 : Shape := ⟨2, ![24, 384]⟩
abbrev S512x512 : Shape := ⟨2, ![512, 512]⟩
abbrev S5x256x1024 : Shape := ⟨3, ![5, 256, 1024]⟩
abbrev S5x256x32 : Shape := ⟨3, ![5, 256, 32]⟩
abbrev S5x256x128 : Shape := ⟨3, ![5, 256, 128]⟩
abbrev S1 : Shape := ⟨1, ![1]⟩
abbrev S7 : Shape := ⟨1, ![7]⟩
abbrev S8x1 : Shape := ⟨2, ![8, 1]⟩
abbrev S4376x1 : Shape := ⟨2, ![4376, 1]⟩
abbrev S1x1 : Shape := ⟨2, ![1, 1]⟩
abbrev S1x1024 : Shape := ⟨2, ![1, 1024]⟩
abbrev S4376x1024 : Shape := ⟨2, ![4376, 1024]⟩
abbrev S1x4376 : Shape := ⟨2, ![1, 4376]⟩
abbrev S2x64 : Shape := ⟨2, ![2, 64]⟩
abbrev S128 : Shape := ⟨1, ![128]⟩
abbrev S1x128 : Shape := ⟨2, ![1, 128]⟩
abbrev S256x1 : Shape := ⟨2, ![256, 1]⟩
abbrev S3x387x2048 : Shape := ⟨3, ![3, 387, 2048]⟩
abbrev S1x2048 : Shape := ⟨2, ![1, 2048]⟩
abbrev S1x24 : Shape := ⟨2, ![1, 24]⟩
abbrev S5x256x1 : Shape := ⟨3, ![5, 256, 1]⟩
abbrev S5x256x512 : Shape := ⟨3, ![5, 256, 512]⟩
abbrev S5x256x1536 : Shape := ⟨3, ![5, 256, 1536]⟩
abbrev S5x256x2048 : Shape := ⟨3, ![5, 256, 2048]⟩
abbrev S5x256x64 : Shape := ⟨3, ![5, 256, 64]⟩
abbrev S18x5x256x128 : Shape := ⟨4, ![18, 5, 256, 128]⟩
abbrev S1x256x1024 : Shape := ⟨3, ![1, 256, 1024]⟩
abbrev S1x256x128 : Shape := ⟨3, ![1, 256, 128]⟩
abbrev S1x256x1 : Shape := ⟨3, ![1, 256, 1]⟩
abbrev S1x256x512 : Shape := ⟨3, ![1, 256, 512]⟩
abbrev S1x256x1536 : Shape := ⟨3, ![1, 256, 1536]⟩
abbrev S1x256x2048 : Shape := ⟨3, ![1, 256, 2048]⟩
abbrev S1x256x64 : Shape := ⟨3, ![1, 256, 64]⟩
abbrev S18x1x256x128 : Shape := ⟨4, ![18, 1, 256, 128]⟩
abbrev S3x256x2048 : Shape := ⟨3, ![3, 256, 2048]⟩
abbrev S256x24 : Shape := ⟨2, ![256, 24]⟩
abbrev S256x387 : Shape := ⟨2, ![256, 387]⟩
abbrev S1x387x2048 : Shape := ⟨3, ![1, 387, 2048]⟩
abbrev S387x2048 : Shape := ⟨2, ![387, 2048]⟩
abbrev S256x2048 : Shape := ⟨2, ![256, 2048]⟩
abbrev S256x1024 : Shape := ⟨2, ![256, 1024]⟩
abbrev S256x128 : Shape := ⟨2, ![256, 128]⟩
abbrev S768x1024 : Shape := ⟨2, ![768, 1024]⟩
abbrev S256x768 : Shape := ⟨2, ![256, 768]⟩
abbrev S1x768 : Shape := ⟨2, ![1, 768]⟩
abbrev S1536x1024 : Shape := ⟨2, ![1536, 1024]⟩
abbrev S256x1536 : Shape := ⟨2, ![256, 1536]⟩
abbrev S1x1536 : Shape := ⟨2, ![1, 1536]⟩
abbrev S2048x1024 : Shape := ⟨2, ![2048, 1024]⟩
abbrev S24x1024 : Shape := ⟨2, ![24, 1024]⟩
abbrev S256x512 : Shape := ⟨2, ![256, 512]⟩
abbrev S1x256x24 : Shape := ⟨3, ![1, 256, 24]⟩
abbrev S256x384 : Shape := ⟨2, ![256, 384]⟩
abbrev S1x1x256x128 : Shape := ⟨4, ![1, 1, 256, 128]⟩

abbrev nBuf : Space → Nat
  | .hbm => 129
  | .vmem => 46
  | .smem => 0
  | _ => 0

abbrev hbmTy0_0 (i : Nat) : BufTy := match i % 128 with
  | 0 => ⟨S256x5x1024, .bf16⟩
  | 1 => ⟨S1024, .f32⟩
  | 2 => ⟨S1024x4376, .i8⟩
  | 3 => ⟨S4376, .f32⟩
  | 4 => ⟨S8, .f32⟩
  | 5 => ⟨S256x5x32, .f32⟩
  | 6 => ⟨S256x5x32, .f32⟩
  | 7 => ⟨S2, .f32⟩
  | 8 => ⟨S2, .f32⟩
  | 9 => ⟨S256, .i32⟩
  | 10 => ⟨S387x3x2048, .bf16⟩
  | 11 => ⟨S4x2048, .f32⟩
  | 12 => ⟨S2048, .f32⟩
  | 13 => ⟨S24, .f32⟩
  | 14 => ⟨S24, .f32⟩
  | 15 => ⟨S8, .i32⟩
  | 16 => ⟨S24x1536, .i32⟩
  | 17 => ⟨S24x1536, .i32⟩
  | 18 => ⟨S_, .i32⟩
  | 19 => ⟨S24x1536, .i32⟩
  | 20 => ⟨S24x1536, .i32⟩
  | 21 => ⟨S24x1536, .i1⟩
  | 22 => ⟨S24x1536, .f32⟩
  | 23 => ⟨S24x384, .i32⟩
  | 24 => ⟨S24x384, .i32⟩
  | 25 => ⟨S_, .i32⟩
  | 26 => ⟨S24x384, .i32⟩
  | 27 => ⟨S24x384, .i32⟩
  | 28 => ⟨S24x384, .i1⟩
  | 29 => ⟨S24x384, .f32⟩
  | 30 => ⟨S512x512, .i32⟩
  | 31 => ⟨S512x512, .i32⟩
  | 32 => ⟨S_, .i32⟩
  | 33 => ⟨S512x512, .i32⟩
  | 34 => ⟨S512x512, .i32⟩
  | 35 => ⟨S_, .i32⟩
  | 36 => ⟨S512x512, .i32⟩
  | 37 => ⟨S512x512, .i32⟩
  | 38 => ⟨S_, .i32⟩
  | 39 => ⟨S512x512, .i32⟩
  | 40 => ⟨S512x512, .i32⟩
  | 41 => ⟨S512x512, .i32⟩
  | 42 => ⟨S512x512, .i1⟩
  | 43 => ⟨S512x512, .f32⟩
  | 44 => ⟨S5x256x1024, .bf16⟩
  | 45 => ⟨S5x256x32, .f32⟩
  | 46 => ⟨S5x256x32, .f32⟩
  | 47 => ⟨S5x256x128, .f32⟩
  | 48 => ⟨S5x256x32, .f32⟩
  | 49 => ⟨S5x256x32, .f32⟩
  | 50 => ⟨S5x256x128, .f32⟩
  | 51 => ⟨S1, .i32⟩
  | 52 => ⟨S7, .i32⟩
  | 53 => ⟨S8, .i32⟩
  | 54 => ⟨S_, .i32⟩
  | 55 => ⟨S1, .i32⟩
  | 56 => ⟨S_, .i32⟩
  | 57 => ⟨S8, .i32⟩
  | 58 => ⟨S_, .i32⟩
  | 59 => ⟨S_, .i32⟩
  | 60 => ⟨S8, .i32⟩
  | 61 => ⟨S_, .i32⟩
  | 62 => ⟨S4376, .i32⟩
  | 63 => ⟨S_, .i32⟩
  | 64 => ⟨S8, .i32⟩
  | 65 => ⟨S8, .i1⟩
  | 66 => ⟨S_, .i32⟩
  | 67 => ⟨S8, .i32⟩
  | 68 => ⟨S8, .i32⟩
  | 69 => ⟨S8, .i32⟩
  | 70 => ⟨S8x1, .i32⟩
  | 71 => ⟨S_, .i32⟩
  | 72 => ⟨S8, .i32⟩
  | 73 => ⟨S4376, .i32⟩
  | 74 => ⟨S_, .i32⟩
  | 75 => ⟨S_, .i32⟩
  | 76 => ⟨S4376, .i32⟩
  | 77 => ⟨S_, .i32⟩
  | 78 => ⟨S4376, .i32⟩
  | 79 => ⟨S4376, .i32⟩
  | 80 => ⟨S_, .i32⟩
  | 81 => ⟨S4376, .i32⟩
  | 82 => ⟨S4376, .i1⟩
  | 83 => ⟨S_, .i32⟩
  | 84 => ⟨S4376, .i32⟩
  | 85 => ⟨S4376, .i32⟩
  | 86 => ⟨S4376, .i32⟩
  | 87 => ⟨S4376x1, .i32⟩
  | 88 => ⟨S1, .i32⟩
  | 89 => ⟨S_, .i32⟩
  | 90 => ⟨S4376x1, .i32⟩
  | 91 => ⟨S4376x1, .i1⟩
  | 92 => ⟨S1x1, .i32⟩
  | 93 => ⟨S4376x1, .i32⟩
  | 94 => ⟨S4376x1, .i1⟩
  | 95 => ⟨S4376x1, .i1⟩
  | 96 => ⟨S_, .i1⟩
  | 97 => ⟨S4376, .i1⟩
  | 98 => ⟨S4376, .f32⟩
  | 99 => ⟨S_, .f32⟩
  | 100 => ⟨S4376, .f32⟩
  | 101 => ⟨S4376, .f32⟩
  | 102 => ⟨S1x1024, .f32⟩
  | 103 => ⟨S4376x1024, .i8⟩
  | 104 => ⟨S1x4376, .f32⟩
  | 105 => ⟨S1x4376, .f32⟩
  | 106 => ⟨S2x64, .f32⟩
  | 107 => ⟨S128, .f32⟩
  | 108 => ⟨S1x128, .f32⟩
  | 109 => ⟨S2x64, .f32⟩
  | 110 => ⟨S128, .f32⟩
  | 111 => ⟨S1x128, .f32⟩
  | 112 => ⟨S256x1, .i32⟩
  | 113 => ⟨S3x387x2048, .bf16⟩
  | 114 => ⟨S1x2048, .f32⟩
  | 115 => ⟨S1x24, .f32⟩
  | 116 => ⟨S1x24, .f32⟩
  | 117 => ⟨S5x256x1024, .i8⟩
  | 118 => ⟨S5x256x1, .f32⟩
  | 119 => ⟨S5x256x512, .bf16⟩
  | 120 => ⟨S5x256x128, .fp8e4m3⟩
  | 121 => ⟨S5x256x128, .fp8e4m3⟩
  | 122 => ⟨S5x256x1536, .f32⟩
  | 123 => ⟨S5x256x2048, .bf16⟩
  | 124 => ⟨S5x256x1536, .f32⟩
  | 125 => ⟨S5x256x512, .f32⟩
  | 126 => ⟨S5x256x64, .f32⟩
  | 127 => ⟨S256x1, .f32⟩
  | _ => ⟨S256x5x1024, .bf16⟩

abbrev hbmTy0_1 (i : Nat) : BufTy := match i % 128 with
  | 0 => ⟨S18x5x256x128, .f32⟩
  | _ => ⟨S256x5x1024, .bf16⟩

abbrev hbmTy (i : Nat) : BufTy := match i / 128 with
  | 0 => hbmTy0_0 i
  | 1 => hbmTy0_1 i
  | _ => ⟨S256x5x1024, .bf16⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x1024, .f32⟩
  | .local _ .vmem, ⟨3, _⟩ => ⟨S4376x1024, .i8⟩
  | .local _ .vmem, ⟨4, _⟩ => ⟨S1x4376, .f32⟩
  | .local _ .vmem, ⟨5, _⟩ => ⟨S1x4376, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x128, .f32⟩
  | .local _ .vmem, ⟨11, _⟩ => ⟨S1x128, .f32⟩
  | .local _ .vmem, ⟨12, _⟩ => ⟨S256x1, .i32⟩
  | .local _ .vmem, ⟨13, _⟩ => ⟨S3x387x2048, .bf16⟩
  | .local _ .vmem, ⟨14, _⟩ => ⟨S4x2048, .f32⟩
  | .local _ .vmem, ⟨15, _⟩ => ⟨S1x2048, .f32⟩
  | .local _ .vmem, ⟨16, _⟩ => ⟨S1x24, .f32⟩
  | .local _ .vmem, ⟨17, _⟩ => ⟨S1x24, .f32⟩
  | .local _ .vmem, ⟨18, _⟩ => ⟨S24x1536, .f32⟩
  | .local _ .vmem, ⟨19, _⟩ => ⟨S24x384, .f32⟩
  | .local _ .vmem, ⟨20, _⟩ => ⟨S512x512, .f32⟩
  | .local _ .vmem, ⟨21, _⟩ => ⟨S1x256x1024, .i8⟩
  | .local _ .vmem, ⟨22, _⟩ => ⟨S1x256x1024, .i8⟩
  | .local _ .vmem, ⟨23, _⟩ => ⟨S1x256x1, .f32⟩
  | .local _ .vmem, ⟨24, _⟩ => ⟨S1x256x1, .f32⟩
  | .local _ .vmem, ⟨25, _⟩ => ⟨S1x256x512, .bf16⟩
  | .local _ .vmem, ⟨26, _⟩ => ⟨S1x256x512, .bf16⟩
  | .local _ .vmem, ⟨27, _⟩ => ⟨S1x256x128, .fp8e4m3⟩
  | .local _ .vmem, ⟨28, _⟩ => ⟨S1x256x128, .fp8e4m3⟩
  | .local _ .vmem, ⟨29, _⟩ => ⟨S1x256x128, .fp8e4m3⟩
  | .local _ .vmem, ⟨30, _⟩ => ⟨S1x256x128, .fp8e4m3⟩
  | .local _ .vmem, ⟨31, _⟩ => ⟨S1x256x1536, .f32⟩
  | .local _ .vmem, ⟨32, _⟩ => ⟨S1x256x1536, .f32⟩
  | .local _ .vmem, ⟨33, _⟩ => ⟨S1x256x2048, .bf16⟩
  | .local _ .vmem, ⟨34, _⟩ => ⟨S1x256x2048, .bf16⟩
  | .local _ .vmem, ⟨35, _⟩ => ⟨S1x256x1536, .f32⟩
  | .local _ .vmem, ⟨36, _⟩ => ⟨S1x256x1536, .f32⟩
  | .local _ .vmem, ⟨37, _⟩ => ⟨S1x256x512, .f32⟩
  | .local _ .vmem, ⟨38, _⟩ => ⟨S1x256x512, .f32⟩
  | .local _ .vmem, ⟨39, _⟩ => ⟨S1x256x64, .f32⟩
  | .local _ .vmem, ⟨40, _⟩ => ⟨S1x256x64, .f32⟩
  | .local _ .vmem, ⟨41, _⟩ => ⟨S256x1, .f32⟩
  | .local _ .vmem, ⟨42, _⟩ => ⟨S18x1x256x128, .f32⟩
  | .local _ .vmem, ⟨43, _⟩ => ⟨S18x1x256x128, .f32⟩
  | .local _ .vmem, ⟨44, _⟩ => ⟨S3x256x2048, .bf16⟩
  | .local _ .vmem, ⟨45, _⟩ => ⟨S256x24, .f32⟩
  | _, _ => ⟨S256x5x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_v0 : Ref sig .tc := ⟨.hbm, 51, rfl⟩
abbrev main_call0_v1 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_call1_call0_c : Ref sig .tc := ⟨.hbm, 58, rfl⟩
abbrev main_call1_call0_v0 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_10 : Ref sig .tc := ⟨.hbm, 71, rfl⟩
abbrev main_v41 : Ref sig .tc := ⟨.hbm, 72, rfl⟩
abbrev main_v42 : Ref sig .tc := ⟨.hbm, 73, rfl⟩
abbrev main_call2_call0_c : Ref sig .tc := ⟨.hbm, 74, rfl⟩
abbrev main_call2_call0_v0 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_cst : Ref sig .tc := ⟨.hbm, 99, rfl⟩
abbrev main_call3_v14 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62_0 : Ref sig .tc := ⟨.hbm, 117, rfl⟩
abbrev main_v62_1 : Ref sig .tc := ⟨.hbm, 118, rfl⟩
abbrev main_v62_2 : Ref sig .tc := ⟨.hbm, 119, rfl⟩
abbrev main_v62_3 : Ref sig .tc := ⟨.hbm, 120, rfl⟩
abbrev main_v62_4 : Ref sig .tc := ⟨.hbm, 121, rfl⟩
abbrev main_v62_5 : Ref sig .tc := ⟨.hbm, 122, rfl⟩
abbrev main_v62_6 : Ref sig .tc := ⟨.hbm, 123, rfl⟩
abbrev main_v62_7 : Ref sig .tc := ⟨.hbm, 124, rfl⟩
abbrev main_v62_8 : Ref sig .tc := ⟨.hbm, 125, rfl⟩
abbrev main_v62_9 : Ref sig .tc := ⟨.hbm, 126, rfl⟩
abbrev main_v62_10 : Ref sig .tc := ⟨.hbm, 127, rfl⟩
abbrev main_v62_11 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg29_0 : Ref sig .tc := ⟨.vmem, 42, rfl⟩
abbrev cc0_stg29_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem29_0 : DmaSem sig := 42
abbrev cc0_sem29_1 : DmaSem sig := 43

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4376x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x387x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x24 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x24 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S24x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x256x1024 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x128 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x128 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x1536 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x256x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x1536 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x256x64 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S256x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S18x1x256x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== ProjRefIdeal.lean ====
abbrev S256x5x1024 : Shape := ⟨3, ![256, 5, 1024]⟩
abbrev S1024 : Shape := ⟨1, ![1024]⟩
abbrev S1024x4376 : Shape := ⟨2, ![1024, 4376]⟩
abbrev S4376 : Shape := ⟨1, ![4376]⟩
abbrev S8 : Shape := ⟨1, ![8]⟩
abbrev S256x5x32 : Shape := ⟨3, ![256, 5, 32]⟩
abbrev S2 : Shape := ⟨1, ![2]⟩
abbrev S256 : Shape := ⟨1, ![256]⟩
abbrev S387x3x2048 : Shape := ⟨3, ![387, 3, 2048]⟩
abbrev S4x2048 : Shape := ⟨2, ![4, 2048]⟩
abbrev S2048 : Shape := ⟨1, ![2048]⟩
abbrev S24 : Shape := ⟨1, ![24]⟩
abbrev S1 : Shape := ⟨1, ![1]⟩
abbrev S7 : Shape := ⟨1, ![7]⟩
abbrev S_ : Shape := ⟨0, ![]⟩
abbrev S8x1 : Shape := ⟨2, ![8, 1]⟩
abbrev S4376x1 : Shape := ⟨2, ![4376, 1]⟩
abbrev S1x1 : Shape := ⟨2, ![1, 1]⟩
abbrev S5x256x1024 : Shape := ⟨3, ![5, 256, 1024]⟩
abbrev S5x256x32 : Shape := ⟨3, ![5, 256, 32]⟩
abbrev S5x256x1 : Shape := ⟨3, ![5, 256, 1]⟩
abbrev S5x256x512 : Shape := ⟨3, ![5, 256, 512]⟩
abbrev S5x256x128 : Shape := ⟨3, ![5, 256, 128]⟩
abbrev S5x256x1536 : Shape := ⟨3, ![5, 256, 1536]⟩
abbrev S5x256x2048 : Shape := ⟨3, ![5, 256, 2048]⟩
abbrev S5x256 : Shape := ⟨2, ![5, 256]⟩
abbrev S1x1x1024 : Shape := ⟨3, ![1, 1, 1024]⟩
abbrev S5x256x4376 : Shape := ⟨3, ![5, 256, 4376]⟩
abbrev S1x1x4376 : Shape := ⟨3, ![1, 1, 4376]⟩
abbrev S5x256x24 : Shape := ⟨3, ![5, 256, 24]⟩
abbrev S5x256x8x64 : Shape := ⟨4, ![5, 256, 8, 64]⟩
abbrev S5x256x8x32 : Shape := ⟨4, ![5, 256, 8, 32]⟩
abbrev S5x256x1x32 : Shape := ⟨4, ![5, 256, 1, 32]⟩
abbrev S5x256x2x64 : Shape := ⟨4, ![5, 256, 2, 64]⟩
abbrev S5x256x2x32 : Shape := ⟨4, ![5, 256, 2, 32]⟩
abbrev S2x1 : Shape := ⟨2, ![2, 1]⟩
abbrev S1x1x2x1 : Shape := ⟨4, ![1, 1, 2, 1]⟩

abbrev nBuf : Space → Nat
  | .hbm => 77
  | .vmem => 16
  | .smem => 0
  | _ => 0

abbrev bufTy : (tb : Table) → Fin (tcTables nBuf tb) → BufTy
  | .hbm, ⟨0, _⟩ => ⟨S256x5x1024, .bf16⟩
  | .hbm, ⟨1, _⟩ => ⟨S1024, .f32⟩
  | .hbm, ⟨2, _⟩ => ⟨S1024x4376, .i8⟩
  | .hbm, ⟨3, _⟩ => ⟨S4376, .f32⟩
  | .hbm, ⟨4, _⟩ => ⟨S8, .f32⟩
  | .hbm, ⟨5, _⟩ => ⟨S256x5x32, .f32⟩
  | .hbm, ⟨6, _⟩ => ⟨S256x5x32, .f32⟩
  | .hbm, ⟨7, _⟩ => ⟨S2, .f32⟩
  | .hbm, ⟨8, _⟩ => ⟨S2, .f32⟩
  | .hbm, ⟨9, _⟩ => ⟨S256, .i32⟩
  | .hbm, ⟨10, _⟩ => ⟨S387x3x2048, .bf16⟩
  | .hbm, ⟨11, _⟩ => ⟨S4x2048, .f32⟩
  | .hbm, ⟨12, _⟩ => ⟨S2048, .f32⟩
  | .hbm, ⟨13, _⟩ => ⟨S24, .f32⟩
  | .hbm, ⟨14, _⟩ => ⟨S24, .f32⟩
  | .hbm, ⟨15, _⟩ => ⟨S8, .i32⟩
  | .hbm, ⟨16, _⟩ => ⟨S1, .i32⟩
  | .hbm, ⟨17, _⟩ => ⟨S7, .i32⟩
  | .hbm, ⟨18, _⟩ => ⟨S8, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S8, .i32⟩
  | .hbm, ⟨23, _⟩ => ⟨S_, .i32⟩
  | .hbm, ⟨24, _⟩ => ⟨S_, .i32⟩
  | .hbm, ⟨25, _⟩ => ⟨S8, .i32⟩
  | .hbm, ⟨26, _⟩ => ⟨S_, .i32⟩
  | .hbm, ⟨27, _⟩ => ⟨S4376, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S8x1, .i32⟩
  | .hbm, ⟨36, _⟩ => ⟨S_, .i32⟩
  | .hbm, ⟨37, _⟩ => ⟨S8, .i32⟩
  | .hbm, ⟨38, _⟩ => ⟨S4376, .i32⟩
  | .hbm, ⟨39, _⟩ => ⟨S_, .i32⟩
  | .hbm, ⟨40, _⟩ => ⟨S_, .i32⟩
  | .hbm, ⟨41, _⟩ => ⟨S4376, .i32⟩
  | .hbm, ⟨42, _⟩ => ⟨S_, .i32⟩
  | .hbm, ⟨43, _⟩ => ⟨S4376, .i32⟩
  | .hbm, ⟨44, _⟩ => ⟨S4376, .i32⟩
  | .hbm, ⟨45, _⟩ => ⟨S_, .i32⟩
  | .hbm, ⟨46, _⟩ => ⟨S4376, .i32⟩
  | .hbm, ⟨47, _⟩ => ⟨S4376, .i1⟩
  | .hbm, ⟨48, _⟩ => ⟨S_, .i32⟩
  | .hbm, ⟨49, _⟩ => ⟨S4376, .i32⟩
  | .hbm, ⟨50, _⟩ => ⟨S4376, .i32⟩
  | .hbm, ⟨51, _⟩ => ⟨S4376, .i32⟩
  | .hbm, ⟨52, _⟩ => ⟨S4376x1, .i32⟩
  | .hbm, ⟨53, _⟩ => ⟨S1, .i32⟩
  | .hbm, ⟨54, _⟩ => ⟨S_, .i32⟩
  | .hbm, ⟨55, _⟩ => ⟨S4376x1, .i32⟩
  | .hbm, ⟨56, _⟩ => ⟨S4376x1, .i1⟩
  | .hbm, ⟨57, _⟩ => ⟨S1x1, .i32⟩
  | .hbm, ⟨58, _⟩ => ⟨S4376x1, .i32⟩
  | .hbm, ⟨59, _⟩ => ⟨S4376x1, .i1⟩
  | .hbm, ⟨60, _⟩ => ⟨S4376x1, .i1⟩
  | .hbm, ⟨61, _⟩ => ⟨S_, .i1⟩
  | .hbm, ⟨62, _⟩ => ⟨S4376, .i1⟩
  | .hbm, ⟨63, _⟩ => ⟨S4376, .f32⟩
  | .hbm, ⟨64, _⟩ => ⟨S_, .f32⟩
  | .hbm, ⟨65, _⟩ => ⟨S4376, .f32⟩
  | .hbm, ⟨66, _⟩ => ⟨S4376, .f32⟩
  | .hbm, ⟨67, _⟩ => ⟨S5x256x1024, .bf16⟩
  | .hbm, ⟨68, _⟩ => ⟨S5x256x32, .f32⟩
  | .hbm, ⟨69, _⟩ => ⟨S5x256x32, .f32⟩
  | .hbm, ⟨70, _⟩ => ⟨S5x256x1024, .i8⟩
  | .hbm, ⟨71, _⟩ => ⟨S5x256x1, .f32⟩
  | .hbm, ⟨72, _⟩ => ⟨S5x256x512, .bf16⟩
  | .hbm, ⟨73, _⟩ => ⟨S5x256x128, .fp8e4m3⟩
  | .hbm, ⟨74, _⟩ => ⟨S5x256x128, .fp8e4m3⟩
  | .hbm, ⟨75, _⟩ => ⟨S5x256x1536, .f32⟩
  | .hbm, ⟨76, _⟩ => ⟨S5x256x2048, .bf16⟩
  | .local _ .vmem, ⟨0, _⟩ => ⟨S5x256x1024, .bf16⟩
  | .local _ .vmem, ⟨1, _⟩ => ⟨S1024, .f32⟩
  | .local _ .vmem, ⟨2, _⟩ => ⟨S1024x4376, .i8⟩
  | .local _ .vmem, ⟨3, _⟩ => ⟨S4376, .f32⟩
  | .local _ .vmem, ⟨4, _⟩ => ⟨S4376, .f32⟩
  | .local _ .vmem, ⟨5, _⟩ => ⟨S5x256x32, .f32⟩
  | .local _ .vmem, ⟨6, _⟩ => ⟨S5x256x32, .f32⟩
  | .local _ .vmem, ⟨7, _⟩ => ⟨S2, .f32⟩
  | .local _ .vmem, ⟨8, _⟩ => ⟨S2, .f32⟩
  | .local _ .vmem, ⟨9, _⟩ => ⟨S5x256x1024, .i8⟩
  | .local _ .vmem, ⟨10, _⟩ => ⟨S5x256x1, .f32⟩
  | .local _ .vmem, ⟨11, _⟩ => ⟨S5x256x512, .bf16⟩
  | .local _ .vmem, ⟨12, _⟩ => ⟨S5x256x128, .fp8e4m3⟩
  | .local _ .vmem, ⟨13, _⟩ => ⟨S5x256x128, .fp8e4m3⟩
  | .local _ .vmem, ⟨14, _⟩ => ⟨S5x256x1536, .f32⟩
  | .local _ .vmem, ⟨15, _⟩ => ⟨S5x256x2048, .bf16⟩
  | _, _ => ⟨S256x5x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_v0 : Ref sig .tc := ⟨.hbm, 18, rfl⟩
abbrev main_c_0 : Ref sig .tc := ⟨.hbm, 19, rfl⟩
abbrev main_v1 : Ref sig .tc := ⟨.hbm, 20, rfl⟩
abbrev main_c_1 : Ref sig .tc := ⟨.hbm, 21, rfl⟩
abbrev main_v2 : Ref sig .tc := ⟨.hbm, 22, rfl⟩
abbrev main_call1_call0_c : Ref sig .tc := ⟨.hbm, 23, rfl⟩
abbrev main_call1_call0_v0 : Ref sig .tc := ⟨.hbm, 24, rfl⟩
abbrev main_v3 : Ref sig .tc := ⟨.hbm, 25, rfl⟩
abbrev main_c_2 : Ref sig .tc := ⟨.hbm, 26, rfl⟩
abbrev main_v4 : Ref sig .tc := ⟨.hbm, 27, rfl⟩
abbrev main_c_3 : Ref sig .tc := ⟨.hbm, 28, rfl⟩
abbrev main_v5 : Ref sig .tc := ⟨.hbm, 29, rfl⟩
abbrev main_v6 : Ref sig .tc := ⟨.hbm, 30, rfl⟩
abbrev main_c_4 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_5 : Ref sig .tc := ⟨.hbm, 36, rfl⟩
abbrev main_v11 : Ref sig .tc := ⟨.hbm, 37, rfl⟩
abbrev main_v12 : Ref sig .tc := ⟨.hbm, 38, rfl⟩
abbrev main_call2_call0_c : Ref sig .tc := ⟨.hbm, 39, rfl⟩
abbrev main_call2_call0_v0 : Ref sig .tc := ⟨.hbm, 40, rfl⟩
abbrev main_v13 : Ref sig .tc := ⟨.hbm, 41, rfl⟩
abbrev main_c_6 : Ref sig .tc := ⟨.hbm, 42, rfl⟩
abbrev main_v14 : Ref sig .tc := ⟨.hbm, 43, rfl⟩
abbrev main_v15 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_cst : Ref sig .tc := ⟨.hbm, 64, rfl⟩
abbrev main_call3_v14 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20_0 : Ref sig .tc := ⟨.hbm, 70, rfl⟩
abbrev main_v20_1 : Ref sig .tc := ⟨.hbm, 71, rfl⟩
abbrev main_v20_2 : Ref sig .tc := ⟨.hbm, 72, rfl⟩
abbrev main_v20_3 : Ref sig .tc := ⟨.hbm, 73, rfl⟩
abbrev main_v20_4 : Ref sig .tc := ⟨.hbm, 74, rfl⟩
abbrev main_v20_5 : Ref sig .tc := ⟨.hbm, 75, rfl⟩
abbrev main_v20_6 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S5x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4376 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x256x1024 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x256x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x256x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x256x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x256x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Ssm.lean ====
abbrev S5x256x1536 : Shape := ⟨3, ![5, 256, 1536]⟩
abbrev S5x256x512 : Shape := ⟨3, ![5, 256, 512]⟩
abbrev S5x256x64 : Shape := ⟨3, ![5, 256, 64]⟩
abbrev S256x1536x128 : Shape := ⟨3, ![256, 1536, 128]⟩
abbrev S256x1536 : Shape := ⟨2, ![256, 1536]⟩
abbrev S24 : Shape := ⟨1, ![24]⟩
abbrev S1536 : Shape := ⟨1, ![1536]⟩
abbrev S1536x1024 : Shape := ⟨2, ![1536, 1024]⟩
abbrev S1024 : Shape := ⟨1, ![1024]⟩
abbrev S5x256x256 : Shape := ⟨3, ![5, 256, 256]⟩
abbrev S5x256x2x1x128 : Shape := ⟨5, ![5, 256, 2, 1, 128]⟩
abbrev S256x2x768x128 : Shape := ⟨4, ![256, 2, 768, 128]⟩
abbrev S1x256x2x768x128 : Shape := ⟨5, ![1, 256, 2, 768, 128]⟩
abbrev S5x256x2x768x128 : Shape := ⟨5, ![5, 256, 2, 768, 128]⟩
abbrev S_ : Shape := ⟨0, ![]⟩
abbrev S5x256x2x768 : Shape := ⟨4, ![5, 256, 2, 768]⟩
abbrev S256x5x1536 : Shape := ⟨3, ![256, 5, 1536]⟩
abbrev S256x8x1664 : Shape := ⟨3, ![256, 8, 1664]⟩
abbrev S24x64 : Shape := ⟨2, ![24, 64]⟩
abbrev S1x1536 : Shape := ⟨2, ![1, 1536]⟩
abbrev S24x1536 : Shape := ⟨2, ![24, 1536]⟩
abbrev S24x384 : Shape := ⟨2, ![24, 384]⟩
abbrev S512x512 : Shape := ⟨2, ![512, 512]⟩
abbrev S1x1024 : Shape := ⟨2, ![1, 1024]⟩
abbrev S5x256x1024 : Shape := ⟨3, ![5, 256, 1024]⟩
abbrev S5x256x1 : Shape := ⟨3, ![5, 256, 1]⟩
abbrev S5x64x1536 : Shape := ⟨3, ![5, 64, 1536]⟩
abbrev S5x64x512 : Shape := ⟨3, ![5, 64, 512]⟩
abbrev S5x64x64 : Shape := ⟨3, ![5, 64, 64]⟩
abbrev S64x8x1664 : Shape := ⟨3, ![64, 8, 1664]⟩
abbrev S64x1536 : Shape := ⟨2, ![64, 1536]⟩
abbrev S5x64x1024 : Shape := ⟨3, ![5, 64, 1024]⟩
abbrev S5x64x1 : Shape := ⟨3, ![5, 64, 1]⟩
abbrev S1x64x1536 : Shape := ⟨3, ![1, 64, 1536]⟩
abbrev S1x64x24 : Shape := ⟨3, ![1, 64, 24]⟩
abbrev S64x24 : Shape := ⟨2, ![64, 24]⟩
abbrev S1x64x256 : Shape := ⟨3, ![1, 64, 256]⟩
abbrev S64x256 : Shape := ⟨2, ![64, 256]⟩
abbrev S64x1x1536 : Shape := ⟨3, ![64, 1, 1536]⟩
abbrev S64x128 : Shape := ⟨2, ![64, 128]⟩
abbrev S64 : Shape := ⟨1, ![64]⟩
abbrev S64x1 : Shape := ⟨2, ![64, 1]⟩
abbrev S64x768 : Shape := ⟨2, ![64, 768]⟩
abbrev S1x768 : Shape := ⟨2, ![1, 768]⟩
abbrev S1x64x1 : Shape := ⟨3, ![1, 64, 1]⟩
abbrev S64x1024 : Shape := ⟨2, ![64, 1024]⟩
abbrev S1x64x1024 : Shape := ⟨3, ![1, 64, 1024]⟩

abbrev nBuf : Space → Nat
  | .hbm => 61
  | .vmem => 25
  | .smem => 0
  | _ => 0

abbrev bufTy : (tb : Table) → Fin (tcTables nBuf tb) → BufTy
  | .hbm, ⟨0, _⟩ => ⟨S5x256x1536, .f32⟩
  | .hbm, ⟨1, _⟩ => ⟨S5x256x512, .f32⟩
  | .hbm, ⟨2, _⟩ => ⟨S5x256x64, .f32⟩
  | .hbm, ⟨3, _⟩ => ⟨S5x256x1536, .f32⟩
  | .hbm, ⟨4, _⟩ => ⟨S256x1536x128, .f32⟩
  | .hbm, ⟨5, _⟩ => ⟨S256x1536, .f32⟩
  | .hbm, ⟨6, _⟩ => ⟨S24, .f32⟩
  | .hbm, ⟨7, _⟩ => ⟨S1536, .f32⟩
  | .hbm, ⟨8, _⟩ => ⟨S1536x1024, .i8⟩
  | .hbm, ⟨9, _⟩ => ⟨S1024, .f32⟩
  | .hbm, ⟨10, _⟩ => ⟨S5x256x256, .f32⟩
  | .hbm, ⟨11, _⟩ => ⟨S5x256x2x1x128, .f32⟩
  | .hbm, ⟨12, _⟩ => ⟨S256x2x768x128, .f32⟩
  | .hbm, ⟨13, _⟩ => ⟨S1x256x2x768x128, .f32⟩
  | .hbm, ⟨14, _⟩ => ⟨S5x256x2x768x128, .f32⟩
  | .hbm, ⟨15, _⟩ => ⟨S5x256x2x768x128, .f32⟩
  | .hbm, ⟨16, _⟩ => ⟨S5x256x2x768x128, .f32⟩
  | .hbm, ⟨17, _⟩ => ⟨S_, .f32⟩
  | .hbm, ⟨18, _⟩ => ⟨S5x256x2x768, .f32⟩
  | .hbm, ⟨19, _⟩ => ⟨S5x256x1536, .f32⟩
  | .hbm, ⟨20, _⟩ => ⟨S256x5x1536, .f32⟩
  | .hbm, ⟨21, _⟩ => ⟨S_, .i32⟩
  | .hbm, ⟨22, _⟩ => ⟨S_, .f32⟩
  | .hbm, ⟨23, _⟩ => ⟨S256x8x1664, .f32⟩
  | .hbm, ⟨24, _⟩ => ⟨S24x64, .f32⟩
  | .hbm, ⟨25, _⟩ => ⟨S1536, .f32⟩
  | .hbm, ⟨26, _⟩ => ⟨S1x1536, .f32⟩
  | .hbm, ⟨27, _⟩ => ⟨S1x1536, .f32⟩
  | .hbm, ⟨28, _⟩ => ⟨S24x1536, .i32⟩
  | .hbm, ⟨29, _⟩ => ⟨S24x1536, .i32⟩
  | .hbm, ⟨30, _⟩ => ⟨S_, .i32⟩
  | .hbm, ⟨31, _⟩ => ⟨S24x1536, .i32⟩
  | .hbm, ⟨32, _⟩ => ⟨S24x1536, .i32⟩
  | .hbm, ⟨33, _⟩ => ⟨S24x1536, .i1⟩
  | .hbm, ⟨34, _⟩ => ⟨S24x1536, .f32⟩
  | .hbm, ⟨35, _⟩ => ⟨S24x384, .i32⟩
  | .hbm, ⟨36, _⟩ => ⟨S24x384, .i32⟩
  | .hbm, ⟨37, _⟩ => ⟨S_, .i32⟩
  | .hbm, ⟨38, _⟩ => ⟨S24x384, .i32⟩
  | .hbm, ⟨39, _⟩ => ⟨S24x384, .i32⟩
  | .hbm, ⟨40, _⟩ => ⟨S24x384, .i1⟩
  | .hbm, ⟨41, _⟩ => ⟨S24x384, .f32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S_, .i32⟩
  | .hbm, ⟨51, _⟩ => ⟨S512x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S512x512, .f32⟩
  | .hbm, ⟨56, _⟩ => ⟨S1x1024, .f32⟩
  | .hbm, ⟨57, _⟩ => ⟨S5x256x1536, .f32⟩
  | .hbm, ⟨58, _⟩ => ⟨S5x256x1024, .f32⟩
  | .hbm, ⟨59, _⟩ => ⟨S5x256x1536, .i8⟩
  | .hbm, ⟨60, _⟩ => ⟨S5x256x1, .f32⟩
  | .local _ .vmem, ⟨0, _⟩ => ⟨S5x64x1536, .f32⟩
  | .local _ .vmem, ⟨1, _⟩ => ⟨S5x64x1536, .f32⟩
  | .local _ .vmem, ⟨2, _⟩ => ⟨S5x64x512, .f32⟩
  | .local _ .vmem, ⟨3, _⟩ => ⟨S5x64x512, .f32⟩
  | .local _ .vmem, ⟨4, _⟩ => ⟨S5x64x64, .f32⟩
  | .local _ .vmem, ⟨5, _⟩ => ⟨S5x64x64, .f32⟩
  | .local _ .vmem, ⟨6, _⟩ => ⟨S5x64x1536, .f32⟩
  | .local _ .vmem, ⟨7, _⟩ => ⟨S5x64x1536, .f32⟩
  | .local _ .vmem, ⟨8, _⟩ => ⟨S64x8x1664, .f32⟩
  | .local _ .vmem, ⟨9, _⟩ => ⟨S64x8x1664, .f32⟩
  | .local _ .vmem, ⟨10, _⟩ => ⟨S64x1536, .f32⟩
  | .local _ .vmem, ⟨11, _⟩ => ⟨S64x1536, .f32⟩
  | .local _ .vmem, ⟨12, _⟩ => ⟨S1x1536, .f32⟩
  | .local _ .vmem, ⟨13, _⟩ => ⟨S1x1536, .f32⟩
  | .local _ .vmem, ⟨14, _⟩ => ⟨S24x1536, .f32⟩
  | .local _ .vmem, ⟨15, _⟩ => ⟨S1536x1024, .i8⟩
  | .local _ .vmem, ⟨16, _⟩ => ⟨S1x1024, .f32⟩
  | .local _ .vmem, ⟨17, _⟩ => ⟨S5x64x1536, .f32⟩
  | .local _ .vmem, ⟨18, _⟩ => ⟨S5x64x1536, .f32⟩
  | .local _ .vmem, ⟨19, _⟩ => ⟨S5x64x1024, .f32⟩
  | .local _ .vmem, ⟨20, _⟩ => ⟨S5x64x1024, .f32⟩
  | .local _ .vmem, ⟨21, _⟩ => ⟨S5x64x1536, .i8⟩
  | .local _ .vmem, ⟨22, _⟩ => ⟨S5x64x1536, .i8⟩
  | .local _ .vmem, ⟨23, _⟩ => ⟨S5x64x1, .f32⟩
  | .local _ .vmem, ⟨24, _⟩ => ⟨S5x64x1, .f32⟩
  | _, _ => ⟨S5x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev main_v39_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x1024 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5x64x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5x64x1536 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5x64x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SsmRefIdeal.lean ====
abbrev S5x256x1536 : Shape := ⟨3, ![5, 256, 1536]⟩
abbrev S5x256x512 : Shape := ⟨3, ![5, 256, 512]⟩
abbrev S5x256x64 : Shape := ⟨3, ![5, 256, 64]⟩
abbrev S256x1536x128 : Shape := ⟨3, ![256, 1536, 128]⟩
abbrev S256x1536 : Shape := ⟨2, ![256, 1536]⟩
abbrev S24 : Shape := ⟨1, ![24]⟩
abbrev S1536 : Shape := ⟨1, ![1536]⟩
abbrev S1536x1024 : Shape := ⟨2, ![1536, 1024]⟩
abbrev S1024 : Shape := ⟨1, ![1024]⟩
abbrev S5x256x2x768 : Shape := ⟨4, ![5, 256, 2, 768]⟩
abbrev S5x256x256 : Shape := ⟨3, ![5, 256, 256]⟩
abbrev S5x256x2x128 : Shape := ⟨4, ![5, 256, 2, 128]⟩
abbrev S5x256x24 : Shape := ⟨3, ![5, 256, 24]⟩
abbrev S5x256x24x64 : Shape := ⟨4, ![5, 256, 24, 64]⟩
abbrev S256x2x768x128 : Shape := ⟨4, ![256, 2, 768, 128]⟩
abbrev S256x2x768 : Shape := ⟨3, ![256, 2, 768]⟩
abbrev S24x64 : Shape := ⟨2, ![24, 64]⟩
abbrev S2x768 : Shape := ⟨2, ![2, 768]⟩
abbrev S5x256x1024 : Shape := ⟨3, ![5, 256, 1024]⟩
abbrev S5x256x1 : Shape := ⟨3, ![5, 256, 1]⟩
abbrev S256x2x768x1 : Shape := ⟨4, ![256, 2, 768, 1]⟩
abbrev S1x256x2x768 : Shape := ⟨4, ![1, 256, 2, 768]⟩
abbrev S1x256x2x128 : Shape := ⟨4, ![1, 256, 2, 128]⟩
abbrev S256x2x128 : Shape := ⟨3, ![256, 2, 128]⟩
abbrev S256x2x1x128 : Shape := ⟨4, ![256, 2, 1, 128]⟩
abbrev S1x2x768 : Shape := ⟨3, ![1, 2, 768]⟩
abbrev S256x2 : Shape := ⟨2, ![256, 2]⟩
abbrev S256x2x1 : Shape := ⟨3, ![256, 2, 1]⟩
abbrev S256 : Shape := ⟨1, ![256]⟩
abbrev S256x1 : Shape := ⟨2, ![256, 1]⟩
abbrev S1x256x1536 : Shape := ⟨3, ![1, 256, 1536]⟩
abbrev S256x1024 : Shape := ⟨2, ![256, 1024]⟩
abbrev S1x1024 : Shape := ⟨2, ![1, 1024]⟩
abbrev S1x256x1024 : Shape := ⟨3, ![1, 256, 1024]⟩
abbrev S1x256x1 : Shape := ⟨3, ![1, 256, 1]⟩

abbrev nBuf : Space → Nat
  | .hbm => 34
  | .vmem => 16
  | .smem => 0
  | _ => 0

abbrev bufTy : (tb : Table) → Fin (tcTables nBuf tb) → BufTy
  | .hbm, ⟨0, _⟩ => ⟨S5x256x1536, .f32⟩
  | .hbm, ⟨1, _⟩ => ⟨S5x256x512, .f32⟩
  | .hbm, ⟨2, _⟩ => ⟨S5x256x64, .f32⟩
  | .hbm, ⟨3, _⟩ => ⟨S5x256x1536, .f32⟩
  | .hbm, ⟨4, _⟩ => ⟨S256x1536x128, .f32⟩
  | .hbm, ⟨5, _⟩ => ⟨S256x1536, .f32⟩
  | .hbm, ⟨6, _⟩ => ⟨S24, .f32⟩
  | .hbm, ⟨7, _⟩ => ⟨S1536, .f32⟩
  | .hbm, ⟨8, _⟩ => ⟨S1536x1024, .i8⟩
  | .hbm, ⟨9, _⟩ => ⟨S1024, .f32⟩
  | .hbm, ⟨10, _⟩ => ⟨S5x256x2x768, .f32⟩
  | .hbm, ⟨11, _⟩ => ⟨S5x256x256, .f32⟩
  | .hbm, ⟨12, _⟩ => ⟨S5x256x2x128, .f32⟩
  | .hbm, ⟨13, _⟩ => ⟨S5x256x256, .f32⟩
  | .hbm, ⟨14, _⟩ => ⟨S5x256x2x128, .f32⟩
  | .hbm, ⟨15, _⟩ => ⟨S5x256x24, .f32⟩
  | .hbm, ⟨16, _⟩ => ⟨S5x256x24x64, .f32⟩
  | .hbm, ⟨17, _⟩ => ⟨S5x256x1536, .f32⟩
  | .hbm, ⟨18, _⟩ => ⟨S5x256x2x768, .f32⟩
  | .hbm, ⟨19, _⟩ => ⟨S5x256x24, .f32⟩
  | .hbm, ⟨20, _⟩ => ⟨S5x256x24x64, .f32⟩
  | .hbm, ⟨21, _⟩ => ⟨S5x256x1536, .f32⟩
  | .hbm, ⟨22, _⟩ => ⟨S5x256x2x768, .f32⟩
  | .hbm, ⟨23, _⟩ => ⟨S5x256x2x768, .f32⟩
  | .hbm, ⟨24, _⟩ => ⟨S256x2x768x128, .f32⟩
  | .hbm, ⟨25, _⟩ => ⟨S256x2x768, .f32⟩
  | .hbm, ⟨26, _⟩ => ⟨S24x64, .f32⟩
  | .hbm, ⟨27, _⟩ => ⟨S1536, .f32⟩
  | .hbm, ⟨28, _⟩ => ⟨S2x768, .f32⟩
  | .hbm, ⟨29, _⟩ => ⟨S2x768, .f32⟩
  | .hbm, ⟨30, _⟩ => ⟨S5x256x1536, .f32⟩
  | .hbm, ⟨31, _⟩ => ⟨S5x256x1024, .f32⟩
  | .hbm, ⟨32, _⟩ => ⟨S5x256x1536, .i8⟩
  | .hbm, ⟨33, _⟩ => ⟨S5x256x1, .f32⟩
  | .local _ .vmem, ⟨0, _⟩ => ⟨S5x256x2x768, .f32⟩
  | .local _ .vmem, ⟨1, _⟩ => ⟨S5x256x2x128, .f32⟩
  | .local _ .vmem, ⟨2, _⟩ => ⟨S5x256x2x128, .f32⟩
  | .local _ .vmem, ⟨3, _⟩ => ⟨S5x256x2x768, .f32⟩
  | .local _ .vmem, ⟨4, _⟩ => ⟨S5x256x2x768, .f32⟩
  | .local _ .vmem, ⟨5, _⟩ => ⟨S5x256x2x768, .f32⟩
  | .local _ .vmem, ⟨6, _⟩ => ⟨S256x2x768x128, .f32⟩
  | .local _ .vmem, ⟨7, _⟩ => ⟨S256x2x768, .f32⟩
  | .local _ .vmem, ⟨8, _⟩ => ⟨S2x768, .f32⟩
  | .local _ .vmem, ⟨9, _⟩ => ⟨S2x768, .f32⟩
  | .local _ .vmem, ⟨10, _⟩ => ⟨S1536x1024, .i8⟩
  | .local _ .vmem, ⟨11, _⟩ => ⟨S1024, .f32⟩
  | .local _ .vmem, ⟨12, _⟩ => ⟨S5x256x1536, .f32⟩
  | .local _ .vmem, ⟨13, _⟩ => ⟨S5x256x1024, .f32⟩
  | .local _ .vmem, ⟨14, _⟩ => ⟨S5x256x1536, .i8⟩
  | .local _ .vmem, ⟨15, _⟩ => ⟨S5x256x1, .f32⟩
  | _, _ => ⟨S5x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S5x256x2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x256x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x256x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x256x2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x256x2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x256x2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2x768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x256x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x256x1536 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Slot.lean ====
abbrev S256 : Shape := ⟨1, ![256]⟩
abbrev S387x24x64 : Shape := ⟨3, ![387, 24, 64]⟩
abbrev S256x1 : Shape := ⟨2, ![256, 1]⟩
abbrev S387x1536 : Shape := ⟨2, ![387, 1536]⟩
abbrev S256x1536 : Shape := ⟨2, ![256, 1536]⟩
abbrev S256x387 : Shape := ⟨2, ![256, 387]⟩

abbrev nBuf : Space → Nat
  | .hbm => 5
  | .vmem => 3
  | .smem => 0
  | _ => 0

abbrev bufTy : (tb : Table) → Fin (tcTables nBuf tb) → BufTy
  | .hbm, ⟨0, _⟩ => ⟨S256, .i32⟩
  | .hbm, ⟨1, _⟩ => ⟨S387x24x64, .f32⟩
  | .hbm, ⟨2, _⟩ => ⟨S256x1, .i32⟩
  | .hbm, ⟨3, _⟩ => ⟨S387x1536, .f32⟩
  | .hbm, ⟨4, _⟩ => ⟨S256x1536, .f32⟩
  | .local _ .vmem, ⟨0, _⟩ => ⟨S256x1, .i32⟩
  | .local _ .vmem, ⟨1, _⟩ => ⟨S387x1536, .f32⟩
  | .local _ .vmem, ⟨2, _⟩ => ⟨S256x1536, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S387x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SlotRefIdeal.lean ====
abbrev S256 : Shape := ⟨1, ![256]⟩
abbrev S387x24x64 : Shape := ⟨3, ![387, 24, 64]⟩
abbrev S_ : Shape := ⟨0, ![]⟩
abbrev S256x1 : Shape := ⟨2, ![256, 1]⟩
abbrev S256x24x64 : Shape := ⟨3, ![256, 24, 64]⟩
abbrev S256x1536 : Shape := ⟨2, ![256, 1536]⟩

abbrev nBuf : Space → Nat
  | .hbm => 12
  | .vmem => 0
  | .smem => 0
  | _ => 0

abbrev bufTy : (tb : Table) → Fin (tcTables nBuf tb) → BufTy
  | .hbm, ⟨0, _⟩ => ⟨S256, .i32⟩
  | .hbm, ⟨1, _⟩ => ⟨S387x24x64, .f32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S256x24x64, .f32⟩
  | .hbm, ⟨11, _⟩ => ⟨S256x1536, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.RowSpec.lean ====
/- The mathematics of one row, over the extended reals: the symmetric int8 quantiser (scale, rounding, clipping), the
   product of a quantised row with an int8 weight matrix, the root-mean-square normalisation and the gated activation.
   Both programs' payloads are read as these functions of rows; nothing here mentions a tile or a memory. -/
module

public import Idealize.ShloMosaic.Lib.Pointwise

@[expose] public section

noncomputable section

namespace Cert.Proof.Row

open Idealize.ShloMosaic

/-- The greatest absolute value of a row (from `-∞`, as both programs start the maximum). -/
def absMax {n : Nat} (v : Fin n → EReal) : EReal :=
  Finset.univ.fold max (Ideal.ofBits .f32 4286578688#32) fun x => FloatOps.absf (F := Ideal) (φ := .f32) (v x)

/-- The scale of a row: its greatest absolute value over 127, and 1 for a row of zeros. -/
def scale {n : Nat} (v : Fin n → EReal) : EReal :=
  if absMax v = 0 then 1 else Ideal.div (absMax v) (Ideal.ofBits .f32 1123942400#32)

/-- One entry rounded to the nearest integer, ties to even, and clipped to [-127, 127], still as a number. -/
def clip (x : EReal) : EReal :=
  min (((127#32).toInt : ℝ) : EReal) (max (((4294967169#32).toInt : ℝ) : EReal) (Ideal.liftRound Ideal.roundHalfEven x))

/-- The code of entry `j` of a row, as a number. -/
def code {n : Nat} (v : Fin n → EReal) (j : Fin n) : EReal := clip (Ideal.div (v j) (scale v))

/-- The code of entry `j` of a row, as the stored byte. -/
def code8 {n : Nat} (v : Fin n → EReal) (j : Fin n) : BitVec 8 := FloatOps.fptosi (F := Ideal) (φ := .f32) 8 (code v j)

/-- A clipped rounding is an integer of the byte's range. -/
theorem clip_int (x : EReal) : ∃ k : ℤ, -127 ≤ k ∧ k ≤ 127 ∧ clip x = ((k : ℝ) : EReal) := by
  have h1 : ((127#32).toInt : ℤ) = 127 := by decide
  have h2 : ((4294967169#32).toInt : ℤ) = -127 := by decide
  unfold clip
  rw [h1, h2]
  induction x with
  | bot => exact ⟨-127, by norm_num, by norm_num, by
      rw [Ideal.liftRound_bot, max_eq_left bot_le, min_eq_right]; exact EReal.coe_le_coe_iff.2 (by norm_num)⟩
  | top => exact ⟨127, by norm_num, by norm_num, by
      rw [Ideal.liftRound_top, max_eq_right le_top, min_eq_left le_top]⟩
  | coe r =>
    refine ⟨min 127 (max (-127) (Ideal.roundHalfEven r)), le_min (by norm_num) (le_max_left _ _), min_le_left _ _, ?_⟩
    rw [Ideal.liftRound_coe]
    rw [Int.cast_min, Int.cast_max, EReal.coe_strictMono.monotone.map_min, EReal.coe_strictMono.monotone.map_max]

/-- The byte of a clipped rounding reads back as that number: storing a code loses nothing. -/
theorem sitofp_fptosi_clip (ψ : FTy) (x : EReal) :
    FloatOps.sitofp (F := Ideal) ψ (FloatOps.fptosi (F := Ideal) (φ := .f32) 8 (clip x)) = clip x := by
  obtain ⟨k, h0, h1, hk⟩ := clip_int x
  rw [hk]
  show (((BitVec.ofInt 8 (Ideal.toIntClamped (-(2 ^ (8 - 1) : Nat)) ((2 ^ (8 - 1) : Nat) - 1) ((k : ℝ) : EReal))).toInt : ℝ) : EReal) = _
  have hk' : Ideal.toIntClamped (-(2 ^ (8 - 1) : Nat)) ((2 ^ (8 - 1) : Nat) - 1) ((k : ℝ) : EReal) = k := by
    rw [Ideal.toIntClamped_coe]
    simp only [Int.floor_intCast, Int.ceil_intCast, ite_self]
    norm_num
    omega
  rw [hk', BitVec.toInt_ofInt]
  congr 2
  simp only [Int.bmod]
  omega

theorem sitofp_code8 {n : Nat} (ψ : FTy) (v : Fin n → EReal) (j : Fin n) :
    FloatOps.sitofp (F := Ideal) ψ (code8 v j) = code v j := sitofp_fptosi_clip ψ _

/-- A quantised row times an int8 matrix, scaled back by the row's scale and the column's. -/
def proj {n p : Nat} (v : Fin n → EReal) (w : Fin n → Fin p → BitVec 8) (ws : Fin p → EReal) (l : Fin p) : EReal :=
  (∑ x, code v x * FloatOps.sitofp (F := Ideal) .bf16 (w x l)) * scale v * ws l

/-- The residual stream after the two branches: `x + b₀ · a + b₁ · s`. -/
def resid {n : Nat} (x a s : Fin n → EReal) (b0 b1 : EReal) (l : Fin n) : EReal := x l + b0 * a l + b1 * s l

/-- The root-mean-square normalisation of a row of 1024 entries, times a weight. -/
def rms (v w : Fin 1024 → EReal) (l : Fin 1024) : EReal :=
  Ideal.div (v l) (Ideal.sqrt (Ideal.div (∑ x, v x * v x) (Ideal.ofBits .f32 1149239296#32) + Ideal.ofBits .f32 925353388#32)) * w l

/-- The gated activation: `silu gate · up` of the two halves of a row. -/
def act (g : Fin 4096 → EReal) (l : Fin 2048) : EReal :=
  g ⟨l, by omega⟩ * Ideal.logistic (g ⟨l, by omega⟩) * g ⟨2048 + l, by omega⟩

end Cert.Proof.Row

end
-- ==== Proof.SlotClaim.lean ====
/- The slot rows of the scale table: the kernel multiplies the table by a matrix that has a one at each row's slot and zeros
   elsewhere, the reference reads the slot's row; the two leave the same array when every slot is a row of the table. -/
module

public import proofs.«01_k».proof.Defs
public import proofs.«01_k».proof.Proof.RowSpec
public import proofs.«01_k».proof.Proof.Gen.Pre_slots_of_table
public import proofs.«01_k».proof.Proof.Gen.SlotIdeal.Value
public import proofs.«01_k».proof.Proof.Gen.SlotRefIdeal
public import proofs.«01_k».proof.Proof.Gen.SlotRefIdeal.Run
public import Idealize.ShloMosaic.Lib.Claim
public import Idealize.ShloMosaic.Lib.ValueLayout
public import Idealize.ShloMosaic.Lib.KernelVsHost
public import Idealize.ShloMosaic.Lib.StableHlo.Run
public import Idealize.ShloMosaic.Lib.Pipeline.ValueKit.Tiles

@[expose] public section

set_option maxRecDepth 16384

noncomputable section

namespace Cert.Proof.SlotClaim

open Idealize.ShloMosaic Idealize.ShloMosaic.TcCoe Idealize.SL.Sem Cert.Proof

/-- The row of the table a slot word names, cut off at the last row. -/
def slot (w : BitVec 32) : Fin 387 := ⟨min w.toInt.toNat 386, by omega⟩

/-- Lane `l` of a row of 24 heads of 64 lanes. -/
abbrev head (l : Fin 1536) : Fin 24 := ⟨l / 64, by omega⟩
abbrev lane (l : Fin 1536) : Fin 64 := ⟨l % 64, by omega⟩

/-! ## The kernel -/

namespace Kernel

open Cert.SlotIdeal Cert.SlotIdeal.Gen

/-- A slot word of the table's range is the word of its row. -/
theorem word_eq (w : BitVec 32) (h0 : 0 ≤ w.toInt) (h1 : w.toInt < 387) : w = BitVec.ofNat 32 (slot w).val := by
  have hs : (slot w).val = w.toInt.toNat := by
    show min w.toInt.toNat 386 = w.toInt.toNat
    omega
  rw [hs]
  apply BitVec.eq_of_toInt_eq
  have hb : (BitVec.ofNat 32 w.toInt.toNat).toInt = ((w.toInt.toNat : Nat) : Int) := by
    rw [BitVec.toInt_eq_toNat_cond, BitVec.toNat_ofNat, Nat.mod_eq_of_lt (by omega), if_pos (by omega)]
  omega

/-- An entry of the hot row: one at the slot, zero elsewhere. -/
theorem hot_eq (w : BitVec 32) (k : Fin 387) (h0 : 0 ≤ w.toInt) (h1 : w.toInt < 387) :
    FloatOps.sitofp (F := Ideal) FTy.f32 (BitVec.setWidth 32 (IntOp.cmpi CmpIPredicate.eq w (BitVec.ofNat 32 k.val)))
      = if k = slot w then (1 : EReal) else 0 := by
  by_cases h : k = slot w
  · rw [if_pos h, h, ← word_eq w h0 h1]
    have e : IntOp.cmpi CmpIPredicate.eq w w = 1#1 := by simp [IntOp.cmpi]
    rw [e]
    show (((BitVec.setWidth 32 1#1).toInt : ℝ) : EReal) = 1
    norm_num
  · rw [if_neg h]
    have hne : w ≠ BitVec.ofNat 32 k.val := fun e => h (Fin.ext (by
      have e' := congrArg BitVec.toNat ((word_eq w h0 h1).symm.trans e)
      rw [BitVec.toNat_ofNat, BitVec.toNat_ofNat, Nat.mod_eq_of_lt (by omega), Nat.mod_eq_of_lt (by omega)] at e'
      exact e'.symm))
    have e : IntOp.cmpi CmpIPredicate.eq w (BitVec.ofNat 32 k.val) = 0#1 := by
      show BitVec.ofBool (w == BitVec.ofNat 32 k.val) = 0#1
      rw [beq_eq_false_iff_ne.2 hne]
      rfl
    rw [e]
    show (((BitVec.setWidth 32 0#1).toInt : ℝ) : EReal) = 0
    norm_num

/-- The product of the hot row and the table is the slot's row. -/
theorem pay_eq (v : Vec Ideal S256x1 .i32) (t : Vec Ideal S387x1536 .f32) (r : Fin 256) (l : Fin 1536)
    (h0 : 0 ≤ (v (ix2 r 0) : BitVec 32).toInt) (h1 : (v (ix2 r 0) : BitVec 32).toInt < 387) :
    k0_pay1 v t (ix2 r l) = t (ix2 (slot (v (ix2 r 0))) l) := by
  pointwise [k0_pay1]
  refine (Finset.sum_eq_single (slot (v (ix2 r 0))) (fun k _ hk => ?_) (fun h => absurd (Finset.mem_univ _) h)).trans ?_
  · rw [hot_eq _ _ h0 h1, if_neg hk, zero_mul]
  · rw [hot_eq _ _ h0 h1, if_pos rfl, one_mul]

variable (m : (ℓ : Loc nD τ sig) → Buf (Elt Ideal) ℓ) (c : Dev nD)

abbrev slots : Vec Ideal S256 .i32 := m ((c : Thread nD τ).loc main_arg0)
abbrev table : Vec Ideal S387x24x64 .f32 := m ((c : Thread nD τ).loc main_arg1)

theorem V_v0 : (V m c main_v0 : Vec Ideal S256x1 .i32) = shapeCast S256x1 (slots m c) shapeCasts_S256_S256x1 := by
  unfold_abbrev_sides
  simp only [hostOps0, List.flatten_cons, List.flatten_nil, List.cons_append, List.nil_append, List.append_nil]
  after_results
  first | done | rfl

theorem V_v1 : (V m c main_v1 : Vec Ideal S387x1536 .f32) = shapeCast S387x1536 (table m c) shapeCasts_S387x24x64_S387x1536 := by
  unfold_abbrev_sides
  simp only [hostOps0, List.flatten_cons, List.flatten_nil, List.cons_append, List.nil_append, List.append_nil]
  after_results
  first | done | rfl

/-- The one point of the kernel's grid. -/
abbrev pt : Fin cfg0.N := ⟨0, by decide⟩

theorem in0 (r : Fin 256) : iblk m c 0 pt (ix2 r 0 : S256x1.Idx) = slots m c (ix1 r) := by
  have e : ((cfg0.win 0).blk pt).view.emb (ix2 r 0 : S256x1.Idx) = (ix2 r 0 : S256x1.Idx) := by
    funext a; apply Fin.ext
    match a with
    | ⟨0, _⟩ => show 0 * 256 + 1 * r.val = r.val; omega
    | ⟨1, _⟩ => rfl
  show (V m c main_v0 : Vec Ideal S256x1 .i32) (((cfg0.win 0).blk pt).view.emb (ix2 r 0 : S256x1.Idx)) = _
  rw [e, V_v0]
  exact shapeCast_apply _ _ _ _ (by rw [Shape.rowMajor_val_one, Shape.rowMajor_val_two]; show r.val = r.val * 1 + 0; omega)

theorem in1 (k : Fin 387) (l : Fin 1536) : iblk m c 1 pt (ix2 k l : S387x1536.Idx) = table m c (ix3 k (head l) (lane l)) := by
  have e : ((cfg0.win 1).blk pt).view.emb (ix2 k l : S387x1536.Idx) = (ix2 k l : S387x1536.Idx) := by
    funext a; apply Fin.ext
    match a with
    | ⟨0, _⟩ => show 0 * 387 + 1 * k.val = k.val; omega
    | ⟨1, _⟩ => show 0 * 1536 + 1 * l.val = l.val; omega
  show (V m c main_v1 : Vec Ideal S387x1536 .f32) (((cfg0.win 1).blk pt).view.emb (ix2 k l : S387x1536.Idx)) = _
  rw [e, V_v1]
  exact shapeCast_apply _ _ _ _ (by
    rw [Shape.rowMajor_val_two, Shape.rowMajor_val_three]
    show (k.val * 24 + l.val / 64) * 64 + l.val % 64 = k.val * 1536 + l.val
    omega)

/-- The kernel's result array, where the row's slot is a row of the table. -/
theorem arr2 (r : Fin 256) (l : Fin 1536) (h0 : 0 ≤ (slots m c (ix1 r) : BitVec 32).toInt)
    (h1 : (slots m c (ix1 r) : BitVec 32).toInt < 387) :
    (dats m 0 c).arrAt 2 cfg0.N (ix2 r l : S256x1536.Idx) = table m c (ix3 (slot (slots m c (ix1 r))) (head l) (lane l)) := by
  have b := congrFun (Value.blocks2 m c pt (by decide)) (ix2 r l : S256x1536.Idx)
  rw [Value.flushed2] at b
  have b' : (dats m 0 c).arrAt 2 cfg0.N (((cfg0.win 2).blk pt).view.emb (ix2 r l : S256x1536.Idx))
      = out0_2 (iblk m c 0 pt) (iblk m c 1 pt) (ix2 r l) := b
  have e : ((cfg0.win 2).blk pt).view.emb (ix2 r l : S256x1536.Idx) = (ix2 r l : S256x1536.Idx) := by
    funext a; apply Fin.ext
    match a with
    | ⟨0, _⟩ => show 0 * 256 + 1 * r.val = r.val; omega
    | ⟨1, _⟩ => show 0 * 1536 + 1 * l.val = l.val; omega
  rw [e] at b'
  rw [b']
  unfold out0_2
  rw [View.canon_unit_zero (by funext a; match a with | ⟨0, _⟩ => rfl | ⟨1, _⟩ => rfl)]
  have z : ∀ r : Fin 256, View.ld (iblk m c 0 pt) r0_0 (ix2 r 0 : S256x1.Idx) = slots m c (ix1 r) := fun r =>
    (congrArg (iblk m c 0 pt) (by funext a; match a with | ⟨0, _⟩ => exact Fin.ext (by show 0 + 1 * r.val = r.val; omega) | ⟨1, _⟩ => rfl)).trans (in0 m c r)
  have z1 : ∀ (k : Fin 387) (l : Fin 1536), View.ld (iblk m c 1 pt) r0_1 (ix2 k l : S387x1536.Idx) = table m c (ix3 k (head l) (lane l)) := fun k l =>
    (congrArg (iblk m c 1 pt) (by funext a; match a with | ⟨0, _⟩ => exact Fin.ext (by show 0 + 1 * k.val = k.val; omega) | ⟨1, _⟩ => exact Fin.ext (by show 0 + 1 * l.val = l.val; omega))).trans (in1 m c k l)
  refine (pay_eq _ _ r l (by rw [z]; exact h0) (by rw [z]; exact h1)).trans ?_
  rw [z, z1]

end Kernel

/-! ## The reference -/

namespace Ref

open Cert.SlotRefIdeal Cert.SlotRefIdeal.Gen

/-- The dimensions of a read of rows. -/
abbrev G := gather_S387x24x64_S256x1_S256x24x64_12_0_n_n_0_1_12464

/-- A row read at a start index. -/
theorem gather_eq (x : Vec Ideal S387x24x64 .f32) (i : IVec S256x1 32) (r : Fin 256) (a : Fin 24) (b : Fin 64) :
    Host.gather G x i (ix3 r a b) = x (ix3 (slot (i (ix2 r 0))) a b) := by
  unfold Host.gather
  congr 1
  funext q
  refine Fin.ext ?_
  show G.start (ix3 r a b) i q + G.batchCoord (ix3 r a b) q + G.offCoord (ix3 r a b) q = _
  rw [GatherDims.batchCoord_eq_zero _ _ _ List.not_mem_nil]
  match q with
  | ⟨0, _⟩ =>
    rw [GatherDims.offCoord_eq_zero _ _ _ (fun h => ((GatherDims.mem_sKept _ _).mp h).1 (List.mem_singleton.mpr rfl))]
    simp only [Nat.add_zero]
    have hm : (0 : Fin 3) ∈ G.startIndexMap := List.mem_singleton.mpr rfl
    have hsi : G.siIdx (ix3 r a b) ⟨List.idxOf (0 : Fin 3) G.startIndexMap, List.idxOf_lt_length_iff.2 hm⟩ = ix2 r 0 := by
      funext b; refine Fin.ext ?_
      match b with
      | ⟨0, _⟩ => rfl
      | ⟨1, _⟩ => rfl
    have hs : G.start (ix3 r a b) i (0 : Fin 3) = min (i (ix2 r 0)).toInt.toNat 386 := by
      unfold GatherDims.start
      exact (dif_pos hm).trans (congrArg (fun w : S256x1.Idx => min (i w).toInt.toNat 386) hsi)
    exact hs
  | ⟨1, _⟩ =>
    have hs : G.start (ix3 r a b) i (1 : Fin 3) = 0 := by
      unfold GatherDims.start
      exact dif_neg (by decide)
    show G.start (ix3 r a b) i (1 : Fin 3) + 0 + a.val = a.val
    omega
  | ⟨2, _⟩ =>
    have hs : G.start (ix3 r a b) i (2 : Fin 3) = 0 := by
      unfold GatherDims.start
      exact dif_neg (by decide)
    show G.start (ix3 r a b) i (2 : Fin 3) + 0 + b.val = b.val
    omega

theorem val_eq (v : Vec Ideal S256 .i32) (t : Vec Ideal S387x24x64 .f32) (r : Fin 256) (l : Fin 1536)
    (h0 : 0 ≤ (v (ix1 r) : BitVec 32).toInt) :
    shapeCast S256x1536 (Host.gather G t (broadcastInDim S256x1 ![0] bcast_S256_S256x1_0
      (select (cmpi .slt v (broadcastInDim S256 ![] bcast_S_S256 (constantI S_ 32 0#32)))
        (addi v (broadcastInDim S256 ![] bcast_S_S256 (constantI S_ 32 387#32))) v))) shapeCasts_S256x24x64_S256x1536 (ix2 r l)
      = t (ix3 (slot (v (ix1 r))) (head l) (lane l)) := by
  refine (shapeCast_apply _ _ _ (ix3 r (head l) (lane l)) (by
    rw [Shape.rowMajor_val_two, Shape.rowMajor_val_three]
    show (r.val * 24 + l.val / 64) * 64 + l.val % 64 = r.val * 1536 + l.val
    omega)).trans ((gather_eq _ _ _ _ _).trans ?_)
  have e : broadcastInDim S256x1 ![0] bcast_S256_S256x1_0
      (select (cmpi .slt v (broadcastInDim S256 ![] bcast_S_S256 (constantI S_ 32 0#32)))
        (addi v (broadcastInDim S256 ![] bcast_S_S256 (constantI S_ 32 387#32))) v) (ix2 r 0) = v (ix1 r) := by
    pointwise
    have hc : IntOp.cmpi CmpIPredicate.slt (v (ix1 r) : BitVec 32) 0#32 = 0#1 := by
      show BitVec.ofBool (decide ((v (ix1 r) : BitVec 32).toInt < (0#32 : BitVec 32).toInt)) = 0#1
      rw [decide_eq_false (by rw [show (0#32 : BitVec 32).toInt = 0 from rfl]; omega)]
      rfl
    rw [hc]
    rfl
  rw [e]

end Ref

/-! ## The claims -/

/-- The reference runs, leaves its arguments unchanged and every counter at zero. -/
theorem frame_ref (m : (ℓ : Loc SlotRefIdeal.nD SlotRefIdeal.τ SlotRefIdeal.sig) → Buf (Elt Ideal) ℓ)
    (ρ : Dev SlotRefIdeal.nD → PrngReg) :
    θ_run (SlotRefIdeal.defs (F := Ideal)) (onTc (τ := SlotRefIdeal.τ) (SlotRefIdeal.main (F := Ideal))) ⟨m, fun _ => 0, ρ⟩
      (fun r => (∀ c : Dev SlotRefIdeal.nD,
        r.2.mem ((c.tc : Thread SlotRefIdeal.nD SlotRefIdeal.τ).loc SlotRefIdeal.main_arg0) = m ((c.tc : Thread SlotRefIdeal.nD SlotRefIdeal.τ).loc SlotRefIdeal.main_arg0)
        ∧ r.2.mem ((c.tc : Thread SlotRefIdeal.nD SlotRefIdeal.τ).loc SlotRefIdeal.main_arg1) = m ((c.tc : Thread SlotRefIdeal.nD SlotRefIdeal.τ).loc SlotRefIdeal.main_arg1))
        ∧ r.2.sem = fun _ => 0) :=
  (θ_run SlotRefIdeal.defs _ _).mono (fun r h => ⟨fun c => (h c).2, sem_eq_zero_of_no_sems (by decide) r.2⟩)
    (SlotRefIdeal.Value.run m ρ)

/-- The precondition says of each slot that it is a row of the table. -/
theorem range (m : (ℓ : Loc SlotIdeal.nD SlotIdeal.τ SlotIdeal.sig) → Buf (Elt Ideal) ℓ)
    (h : Pre_SlotIdeal_slots_of_table (hPre_slots_of_table := Cert.Pre_slots_of_table.Gen.facts) m)
    (c : Dev Cert.SlotIdeal.nD) (r : Fin 256) :
    0 ≤ (Kernel.slots m c (ix1 r) : BitVec 32).toInt ∧ (Kernel.slots m c (ix1 r) : BitVec 32).toInt < 387 := by
  have e : IntOp.andi (IntOp.cmpi .sge (Kernel.slots m c (ix1 r) : BitVec 32) 0#32)
      (IntOp.cmpi .slt (Kernel.slots m c (ix1 r) : BitVec 32) 387#32) = 1#1 := congrFun (h c) (ix1 r)
  generalize (Kernel.slots m c (ix1 r) : BitVec 32) = w at e
  have e' : BitVec.ofBool (decide ((0#32 : BitVec 32).toInt ≤ w.toInt)) &&& BitVec.ofBool (decide (w.toInt < (387#32 : BitVec 32).toInt)) = 1#1 := e
  rw [show (0#32 : BitVec 32).toInt = 0 from rfl, show (387#32 : BitVec 32).toInt = 387 from rfl] at e'
  by_cases a : 0 ≤ w.toInt
  · by_cases b : w.toInt < 387
    · exact ⟨a, b⟩
    · rw [decide_eq_true a, decide_eq_false b] at e'
      exact absurd e' (by decide)
  · rw [decide_eq_false a] at e'
    by_cases b : w.toInt < 387
    · rw [decide_eq_true b] at e'
      exact absurd e' (by decide)
    · rw [decide_eq_false b] at e'
      exact absurd e' (by decide)

/-- Two arrays of rank 2 are equal when they agree at every pair of coordinates. -/
theorem ext2 {a b : Nat} {α : Type} {f g : (⟨2, ![a, b]⟩ : Shape).Idx → α}
    (h : ∀ (i : Fin a) (j : Fin b), f (ix2 i j) = g (ix2 i j)) : f = g := by
  funext i
  have e : i = ix2 (i 0) (i 1) := by
    funext q
    match q with
    | ⟨0, _⟩ => rfl
    | ⟨1, _⟩ => rfl
  rw [e]
  exact h (i 0) (i 1)

theorem algebraic : Cert.algebraic_SlotIdeal_SlotRefIdeal_pre_slots_of_table (hSlotIdeal := Cert.SlotIdeal.Gen.facts)
    (hSlotRefIdeal := Cert.SlotRefIdeal.Gen.facts) (hPre_slots_of_table := Cert.Pre_slots_of_table.Gen.facts) := by
  intro m ρ m' ρ' hpre hag
  refine ⟨fun c => (SlotIdeal.Gen.dats m 0 c).arrAt 2 SlotIdeal.cfg0.N, SlotIdeal.Value.run_blocks m ρ,
    (θ_run SlotRefIdeal.defs _ _).mono (fun r h c => ?_) (SlotRefIdeal.Value.run m' ρ')⟩
  obtain ⟨a0, k⟩ := h c
  obtain ⟨h0, h1⟩ := hag c
  refine ⟨a0.trans ?_, k⟩
  rw [h0, h1]
  exact ext2 (a := 256) (b := 1536) fun r l => by
    obtain ⟨p0, p1⟩ := range m hpre c r
    exact (Ref.val_eq (Kernel.slots m c) (Kernel.table m c) r l p0).trans (Kernel.arr2 m c r l p0 p1).symm

end Cert.Proof.SlotClaim

end
-- ==== Proof.TailSpec.lean ====
/- The block's tail as mathematics: each result of the two programs as a function of the argument arrays, by rows
   (RowSpec.lean). -/
module

public import proofs.«01_k».proof.Proof.RowSpec

@[expose] public section

noncomputable section

namespace Cert.Proof.TailSpec

open Idealize.ShloMosaic

/-- The argument arrays, by coordinates. -/
structure Args where
  x : Fin 256 → Fin 5 → Fin 1024 → EReal
  att : Fin 5 → Fin 256 → Fin 512 → EReal
  sp : Fin 5 → Fin 256 → Fin 1024 → EReal
  bm : Fin 2 → EReal
  n2 : Fin 1024 → EReal
  wa : Fin 512 → Fin 1024 → BitVec 8
  was : Fin 1024 → EReal
  wg : Fin 1024 → Fin 4096 → BitVec 8
  wgs : Fin 4096 → EReal
  wd : Fin 2048 → Fin 1024 → BitVec 8
  wds : Fin 1024 → EReal

variable (A : Args) (s : Fin 5) (r : Fin 256)

/-- The attention branch's output projection. -/
def attnProj : Fin 1024 → EReal := Row.proj (A.att s r) A.wa A.was
/-- The residual stream after both branches. -/
def h1 : Fin 1024 → EReal := Row.resid (A.x r s) (attnProj A s r) (A.sp s r) (A.bm 0) (A.bm 1)
/-- Its normalisation, the input of the feed-forward block. -/
def mid : Fin 1024 → EReal := Row.rms (h1 A s r) A.n2
/-- The gated activation. -/
def gated : Fin 2048 → EReal := Row.act (Row.proj (mid A s r) A.wg A.wgs)
/-- The block's output. -/
def hidden (l : Fin 1024) : EReal := h1 A s r l + Row.proj (gated A s r) A.wd A.wds l

end Cert.Proof.TailSpec

end
-- ==== Proof.TailPay.lean ====
/- What the kernel's step computes, payload by payload, read at a row and a column as the row mathematics of RowSpec.lean. -/
module

public import proofs.«01_k».proof.Proof.RowSpec
public import proofs.«01_k».proof.Proof.Gen.TailIdeal.Skeleton

@[expose] public section

set_option maxRecDepth 16384

noncomputable section

namespace Cert.Proof.TailPay

open Idealize.ShloMosaic Cert.TailIdeal Cert.TailIdeal.Gen Cert.Proof

/-- The scale payload of a row of attention values. -/
theorem pay6 (v : Vec Ideal S1x256x512 .f32) (r : Fin 256) (z : Fin 1) :
    k0_pay6 v (ix2 r z) = Row.scale fun x => v (ix3 0 r x) := by
  pointwise [k0_pay6, k0_pay5]
  rfl

theorem pay7 (v : Vec Ideal S1x256x512 .f32) (r : Fin 256) (l : Fin 512) :
    k0_pay7 v (ix2 r l) = Row.code (fun x => v (ix3 0 r x)) l := by
  pointwise [k0_pay7, k0_pay5]
  rw [pay6]
  rfl

theorem pay8 (v : Vec Ideal S1x256x512 .f32) (z : Fin 1) (r : Fin 256) (l : Fin 512) :
    k0_pay8 v (ix3 z r l) = Row.code8 (fun x => v (ix3 0 r x)) l := by
  pointwise [k0_pay8]
  rw [pay7]
  rfl

theorem pay9 (v : Vec Ideal S1x256x512 .f32) (z : Fin 1) (r : Fin 256) (l : Fin 1) :
    k0_pay9 v (ix3 z r l) = Row.scale fun x => v (ix3 0 r x) := by
  pointwise [k0_pay9]
  rw [pay6]

theorem pay10 (v : Vec Ideal S1x256x512 .f32) (w : Vec Ideal S512x1024 .i8) (ws : Vec Ideal S1x1024 .f32) (r : Fin 256)
    (l : Fin 1024) :
    k0_pay10 v w ws (ix2 r l)
      = Row.proj (fun x => v (ix3 0 r x)) (fun x y => w (ix2 x y)) (fun y => ws (ix2 0 y)) l := by
  pointwise [k0_pay10]
  simp only [pay6, pay7]
  rfl

theorem pay11 (v : FVec Ideal S256x1024 .f32) (z : Fin 1) (r : Fin 256) (l : Fin 1024) :
    k0_pay11 v (ix3 z r l) = v (ix2 r l) := by
  pointwise [k0_pay11]

theorem pay12 (a : FVec Ideal S256x1024 .f32) (x : Vec Ideal S1x256x1024 .bf16) (b0 b1 : Elt Ideal .f32)
    (s : Vec Ideal S1x256x1024 .f32) (r : Fin 256) (l : Fin 1024) :
    k0_pay12 a x b0 b1 s (ix2 r l)
      = Row.resid (fun y => x (ix3 0 r y)) (fun y => a (ix2 r y)) (fun y => s (ix3 0 r y)) b0 b1 l := by
  pointwise [k0_pay12]
  rfl

theorem pay13 (a : FVec Ideal S256x1024 .f32) (x : Vec Ideal S1x256x1024 .bf16) (b0 b1 : Elt Ideal .f32)
    (s : Vec Ideal S1x256x1024 .f32) (n : Vec Ideal S1x1024 .f32) (r : Fin 256) (l : Fin 1024) :
    k0_pay13 a x b0 b1 s n (ix2 r l)
      = Row.rms (fun y => k0_pay12 a x b0 b1 s (ix2 r y)) (fun y => n (ix2 0 y)) l := by
  pointwise [k0_pay13]
  rfl

theorem pay14 (a : FVec Ideal S256x1024 .f32) (x : Vec Ideal S1x256x1024 .bf16) (b0 b1 : Elt Ideal .f32)
    (s : Vec Ideal S1x256x1024 .f32) (n : Vec Ideal S1x1024 .f32) (r : Fin 256) (z : Fin 1) :
    k0_pay14 a x b0 b1 s n (ix2 r z) = Row.scale fun y => k0_pay13 a x b0 b1 s n (ix2 r y) := by
  pointwise [k0_pay14]
  rfl

/-- The codes of a normalised row, given that `sc` holds its scale. -/
theorem pay15 (v : FVec Ideal S256x1024 .f32) (sc : FVec Ideal S256x1 .f32)
    (h : ∀ r, sc (ix2 r 0) = Row.scale fun y => v (ix2 r y)) (r : Fin 256) (l : Fin 1024) :
    k0_pay15 v sc (ix2 r l) = Row.code (fun y => v (ix2 r y)) l := by
  pointwise [k0_pay15]
  rw [h]
  rfl

theorem pay16 (v : FVec Ideal S256x1024 .f32) (sc : FVec Ideal S256x1 .f32)
    (h : ∀ r, sc (ix2 r 0) = Row.scale fun y => v (ix2 r y)) (z : Fin 1) (r : Fin 256) (l : Fin 1024) :
    k0_pay16 v sc (ix3 z r l) = Row.code8 (fun y => v (ix2 r y)) l := by
  pointwise [k0_pay16]
  rw [pay15 v sc h]
  rfl

theorem pay17 (sc : FVec Ideal S256x1 .f32) (z : Fin 1) (r : Fin 256) (l : Fin 1) :
    k0_pay17 sc (ix3 z r l) = sc (ix2 r 0) := by
  pointwise [k0_pay17]

theorem pay18 (v : FVec Ideal S256x1024 .f32) (sc : FVec Ideal S256x1 .f32)
    (h : ∀ r, sc (ix2 r 0) = Row.scale fun y => v (ix2 r y)) (w : Vec Ideal S1024x4096 .i8) (ws : Vec Ideal S1x4096 .f32)
    (r : Fin 256) (l : Fin 2048) :
    k0_pay18 v sc w ws (ix2 r l)
      = Row.act (Row.proj (fun y => v (ix2 r y)) (fun x y => w (ix2 x y)) (fun y => ws (ix2 0 y))) l := by
  pointwise [k0_pay18]
  simp only [pay15 v sc h, h]
  rfl

theorem pay19 (v : FVec Ideal S256x1024 .f32) (sc : FVec Ideal S256x1 .f32) (w : Vec Ideal S1024x4096 .i8)
    (ws : Vec Ideal S1x4096 .f32) (r : Fin 256) (z : Fin 1) :
    k0_pay19 v sc w ws (ix2 r z) = Row.scale fun y => k0_pay18 v sc w ws (ix2 r y) := by
  pointwise [k0_pay19]
  rfl

theorem pay20 (v : FVec Ideal S256x1024 .f32) (sc : FVec Ideal S256x1 .f32) (w : Vec Ideal S1024x4096 .i8)
    (ws : Vec Ideal S1x4096 .f32) (r : Fin 256) (l : Fin 2048) :
    k0_pay20 v sc w ws (ix2 r l) = k0_pay19 v sc w ws (ix2 r 0) := by
  pointwise [k0_pay20]

theorem pay1 (v : FVec Ideal S256x2048 .f32) (sc : FVec Ideal S256x2048 .f32)
    (h : ∀ r l, sc (ix2 r l) = Row.scale fun y => v (ix2 r y)) (r : Fin 256) (l : Fin 2048) :
    k0_pay1 v sc (ix2 r l) = Row.code (fun y => v (ix2 r y)) l := by
  pointwise [k0_pay1]
  rw [h]
  rfl

theorem pay2 (v : FVec Ideal S256x2048 .f32) (sc : FVec Ideal S256x2048 .f32)
    (h : ∀ r l, sc (ix2 r l) = Row.scale fun y => v (ix2 r y)) (z : Fin 1) (r : Fin 256) (l : Fin 2048) :
    k0_pay2 v sc (ix3 z r l) = Row.code8 (fun y => v (ix2 r y)) l := by
  pointwise [k0_pay2]
  rw [pay1 v sc h]
  rfl

theorem pay3 (sc : FVec Ideal S256x1 .f32) (z : Fin 1) (r : Fin 256) (l : Fin 1) :
    k0_pay3 sc (ix3 z r l) = sc (ix2 r 0) := by
  pointwise [k0_pay3]

theorem pay4 (h1 : FVec Ideal S256x1024 .f32) (v : FVec Ideal S256x2048 .f32) (s : FVec Ideal S256x1 .f32)
    (sc : FVec Ideal S256x2048 .f32) (hs : ∀ r, s (ix2 r 0) = Row.scale fun y => v (ix2 r y))
    (h : ∀ r l, sc (ix2 r l) = Row.scale fun y => v (ix2 r y))
    (w : Vec Ideal S2048x1024 .i8) (ws : Vec Ideal S1x1024 .f32) (z : Fin 1) (r : Fin 256) (l : Fin 1024) :
    k0_pay4 h1 v s sc w ws (ix3 z r l)
      = h1 (ix2 r l) + Row.proj (fun y => v (ix2 r y)) (fun x y => w (ix2 x y)) (fun y => ws (ix2 0 y)) l := by
  pointwise [k0_pay4]
  simp only [pay1 v sc h, hs]
  rfl

end Cert.Proof.TailPay

end
-- ==== Proof.TailOut.lean ====
/- What one step of the kernel's pipeline leaves in each output block, as a payload of the step's input blocks: every load
   reads a whole buffer and every store writes a whole block. -/
module

public import proofs.«01_k».proof.Proof.Gen.TailIdeal.Value
public import Idealize.ShloMosaic.Lib.Pointwise

@[expose] public section

set_option maxRecDepth 16384

noncomputable section

namespace Cert.Proof.TailOut

open Idealize.ShloMosaic Idealize.ShloMosaic.TcCoe Idealize.SL.Sem Cert.TailIdeal Cert.TailIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole buffer reads what the buffer holds. -/
theorem load {sp : Space} {S : Shape} {e : EltTy} (a : Memref sig .tc sp S e) (h : a.IsWhole) {off : Fin S.rank → Nat}
    (ho : off = fun _ => 0) {inb : ∀ i, off i + S.size i ≤ S.size i} {x : Vec F S e} :
    View.readAt (Elt F) a.view (Rect.unit (s := S) off S.size inb).toLoadRect (h.unread x) = x := by
  rw [View.readAt_eq_ld, h.read_unread, View.ld_unit_zero ho]

/-- The two words of the scalar buffer. -/
theorem word0 {a : Memref sig .tc .smem S2 .f32} {h : a.IsWhole} {x : Vec F S2 .f32} {j : S1.Idx} :
    View.readAt (Elt F) a.view (Rect.unit (s := S2) ![0] S1.size inb_S2_S1_0).toLoadRect (h.unread x) j = x (ix1 0) := by
  rw [View.readAt_eq_ld, h.read_unread]
  exact congrArg x (funext fun a => by match a with | ⟨0, _⟩ => exact Fin.ext (by show 0 + 1 * (j 0).val = 0; have := (j 0).isLt; have : (j 0).val < 1 := this; omega))

theorem word1 {a : Memref sig .tc .smem S2 .f32} {h : a.IsWhole} {x : Vec F S2 .f32} {j : S1.Idx} :
    View.readAt (Elt F) a.view (Rect.unit (s := S2) ![1] S1.size inb_S2_S1_1).toLoadRect (h.unread x) j = x (ix1 1) := by
  rw [View.readAt_eq_ld, h.read_unread]
  exact congrArg x (funext fun a => by match a with | ⟨0, _⟩ => exact Fin.ext (by show 1 + 1 * (j 0).val = 1; have := (j 0).isLt; have : (j 0).val < 1 := this; omega))

variable (c : Dev nD) (i : grid0.Coords) (arg1 : Memref sig .tc .smem S2 .f32) (harg1 : arg1.IsWhole) (arg2 : Memref sig .tc .vmem S1x256x1024 .bf16) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S512x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x4096 .i8) (harg8 : arg8.IsWhole) (arg9 : Memref sig .tc .vmem S1x4096 .f32) (harg9 : arg9.IsWhole) (arg10 : Memref sig .tc .vmem S2048x1024 .i8) (harg10 : arg10.IsWhole) (arg11 : Memref sig .tc .vmem S1x1024 .f32) (harg11 : arg11.IsWhole) (arg12 : Memref sig .tc .vmem S1x256x1024 .bf16) (harg12 : arg12.IsWhole) (arg13 : Memref sig .tc .vmem S1x256x1024 .f32) (harg13 : arg13.IsWhole) (arg14 : Memref sig .tc .vmem S1x256x512 .i8) (harg14 : arg14.IsWhole) (arg15 : Memref sig .tc .vmem S1x256x1 .f32) (harg15 : arg15.IsWhole) (arg16 : Memref sig .tc .vmem S1x256x1024 .i8) (harg16 : arg16.IsWhole) (arg17 : Memref sig .tc .vmem S1x256x1 .f32) (harg17 : arg17.IsWhole) (arg18 : Memref sig .tc .vmem S1x256x2048 .i8) (harg18 : arg18.IsWhole) (arg19 : Memref sig .tc .vmem S1x256x1 .f32)

theorem out11 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay4 (k0_pay12 (k0_pay10 x2 x4 x5) x1 (x0 (ix1 0)) (x0 (ix1 1)) x3) (k0_pay18 (k0_pay13 (k0_pay10 x2 x4 x5) x1 (x0 (ix1 0)) (x0 (ix1 1)) x3 x6) (k0_pay14 (k0_pay10 x2 x4 x5) x1 (x0 (ix1 0)) (x0 (ix1 1)) x3 x6) x7 x8) (k0_pay19 (k0_pay13 (k0_pay10 x2 x4 x5) x1 (x0 (ix1 0)) (x0 (ix1 1)) x3 x6) (k0_pay14 (k0_pay10 x2 x4 x5) x1 (x0 (ix1 0)) (x0 (ix1 1)) x3 x6) x7 x8) (k0_pay20 (k0_pay13 (k0_pay10 x2 x4 x5) x1 (x0 (ix1 0)) (x0 (ix1 1)) x3 x6) (k0_pay14 (k0_pay10 x2 x4 x5) x1 (x0 (ix1 0)) (x0 (ix1 1)) x3 x6) x7 x8) x9 x10 := by
  unfold out0_A_11
  rw [View.read_writes_junk_eq_canon]
  show View.canon ([⟨Rect.unit ![0, 0, 0] S1x256x1024.size inb_S1x256x1024_S1x256x1024_0_0_0,
      k0_pay4 (k0_pay12 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3))) (k0_pay18 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (View.readAt (Elt F) arg8.view (Rect.unit (s := S1024x4096) ![0, 0] S1024x4096.size inb_S1024x4096_S1024x4096_0_0).toLoadRect (harg8.unread x7)) (View.readAt (Elt F) arg9.view (Rect.unit (s := S1x4096) ![0, 0] S1x4096.size inb_S1x4096_S1x4096_0_0).toLoadRect (harg9.unread x8))) (k0_pay19 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (View.readAt (Elt F) arg8.view (Rect.unit (s := S1024x4096) ![0, 0] S1024x4096.size inb_S1024x4096_S1024x4096_0_0).toLoadRect (harg8.unread x7)) (View.readAt (Elt F) arg9.view (Rect.unit (s := S1x4096) ![0, 0] S1x4096.size inb_S1x4096_S1x4096_0_0).toLoadRect (harg9.unread x8))) (k0_pay20 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (View.readAt (Elt F) arg8.view (Rect.unit (s := S1024x4096) ![0, 0] S1024x4096.size inb_S1024x4096_S1024x4096_0_0).toLoadRect (harg8.unread x7)) (View.readAt (Elt F) arg9.view (Rect.unit (s := S1x4096) ![0, 0] S1x4096.size inb_S1x4096_S1x4096_0_0).toLoadRect (harg9.unread x8))) (View.readAt (Elt F) arg10.view (Rect.unit (s := S2048x1024) ![0, 0] S2048x1024.size inb_S2048x1024_S2048x1024_0_0).toLoadRect (harg10.unread x9)) (View.readAt (Elt F) arg11.view (Rect.unit (s := S1x1024) ![0, 0] S1x1024.size inb_S1x1024_S1x1024_0_0).toLoadRect (harg11.unread x10))⟩] :
      List (View.Piece (Elt F) S1x256x1024 .bf16)) = _
  rw [View.canon_unit_zero hz3]
  rw [load arg2 harg2 hz3, load arg3 harg3 hz3, load arg4 harg4 hz3, load arg5 harg5 hz2, load arg6 harg6 hz2, load arg7 harg7 hz2, load arg8 harg8 hz2, load arg9 harg9 hz2, load arg10 harg10 hz2, load arg11 harg11 hz2, word0, word1]

theorem out12 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay11 (k0_pay10 x2 x4 x5) := by
  unfold out0_A_12
  rw [View.read_writes_junk_eq_canon]
  show View.canon ([⟨Rect.unit ![0, 0, 0] S1x256x1024.size inb_S1x256x1024_S1x256x1024_0_0_0,
      k0_pay11 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5)))⟩] :
      List (View.Piece (Elt F) S1x256x1024 .f32)) = _
  rw [View.canon_unit_zero hz3]
  rw [load arg3 harg3 hz3, load arg5 harg5 hz2, load arg6 harg6 hz2]

theorem out13 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay8 x2 := by
  unfold out0_A_13
  rw [View.read_writes_junk_eq_canon]
  show View.canon ([⟨Rect.unit ![0, 0, 0] S1x256x512.size inb_S1x256x512_S1x256x512_0_0_0,
      k0_pay8 (View.readAt (Elt F) arg3.view (Rect.unit (s := S1x256x512) ![0, 0, 0] S1x256x512.size inb_S1x256x512_S1x256x512_0_0_0).toLoadRect (harg3.unread x2))⟩] :
      List (View.Piece (Elt F) S1x256x512 .i8)) = _
  rw [View.canon_unit_zero hz3]
  rw [load arg3 harg3 hz3]

theorem out14 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay9 x2 := by
  unfold out0_A_14
  rw [View.read_writes_junk_eq_canon]
  show View.canon ([⟨Rect.unit ![0, 0, 0] S1x256x1.size inb_S1x256x1_S1x256x1_0_0_0,
      k0_pay9 (View.readAt (Elt F) arg3.view (Rect.unit (s := S1x256x512) ![0, 0, 0] S1x256x512.size inb_S1x256x512_S1x256x512_0_0_0).toLoadRect (harg3.unread x2))⟩] :
      List (View.Piece (Elt F) S1x256x1 .f32)) = _
  rw [View.canon_unit_zero hz3]
  rw [load arg3 harg3 hz3]

theorem out15 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay16 (k0_pay13 (k0_pay10 x2 x4 x5) x1 (x0 (ix1 0)) (x0 (ix1 1)) x3 x6) (k0_pay14 (k0_pay10 x2 x4 x5) x1 (x0 (ix1 0)) (x0 (ix1 1)) x3 x6) := by
  unfold out0_A_15
  rw [View.read_writes_junk_eq_canon]
  show View.canon ([⟨Rect.unit ![0, 0, 0] S1x256x1024.size inb_S1x256x1024_S1x256x1024_0_0_0,
      k0_pay16 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6)))⟩] :
      List (View.Piece (Elt F) S1x256x1024 .i8)) = _
  rw [View.canon_unit_zero hz3]
  rw [load arg2 harg2 hz3, load arg3 harg3 hz3, load arg4 harg4 hz3, load arg5 harg5 hz2, load arg6 harg6 hz2, load arg7 harg7 hz2, word0, word1]

theorem out16 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay17 (k0_pay14 (k0_pay10 x2 x4 x5) x1 (x0 (ix1 0)) (x0 (ix1 1)) x3 x6) := by
  unfold out0_A_16
  rw [View.read_writes_junk_eq_canon]
  show View.canon ([⟨Rect.unit ![0, 0, 0] S1x256x1.size inb_S1x256x1_S1x256x1_0_0_0,
      k0_pay17 (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6)))⟩] :
      List (View.Piece (Elt F) S1x256x1 .f32)) = _
  rw [View.canon_unit_zero hz3]
  rw [load arg2 harg2 hz3, load arg3 harg3 hz3, load arg4 harg4 hz3, load arg5 harg5 hz2, load arg6 harg6 hz2, load arg7 harg7 hz2, word0, word1]

theorem out17 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay2 (k0_pay18 (k0_pay13 (k0_pay10 x2 x4 x5) x1 (x0 (ix1 0)) (x0 (ix1 1)) x3 x6) (k0_pay14 (k0_pay10 x2 x4 x5) x1 (x0 (ix1 0)) (x0 (ix1 1)) x3 x6) x7 x8) (k0_pay20 (k0_pay13 (k0_pay10 x2 x4 x5) x1 (x0 (ix1 0)) (x0 (ix1 1)) x3 x6) (k0_pay14 (k0_pay10 x2 x4 x5) x1 (x0 (ix1 0)) (x0 (ix1 1)) x3 x6) x7 x8) := by
  unfold out0_A_17
  rw [View.read_writes_junk_eq_canon]
  show View.canon ([⟨Rect.unit ![0, 0, 0] S1x256x2048.size inb_S1x256x2048_S1x256x2048_0_0_0,
      k0_pay2 (k0_pay18 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (View.readAt (Elt F) arg8.view (Rect.unit (s := S1024x4096) ![0, 0] S1024x4096.size inb_S1024x4096_S1024x4096_0_0).toLoadRect (harg8.unread x7)) (View.readAt (Elt F) arg9.view (Rect.unit (s := S1x4096) ![0, 0] S1x4096.size inb_S1x4096_S1x4096_0_0).toLoadRect (harg9.unread x8))) (k0_pay20 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (View.readAt (Elt F) arg8.view (Rect.unit (s := S1024x4096) ![0, 0] S1024x4096.size inb_S1024x4096_S1024x4096_0_0).toLoadRect (harg8.unread x7)) (View.readAt (Elt F) arg9.view (Rect.unit (s := S1x4096) ![0, 0] S1x4096.size inb_S1x4096_S1x4096_0_0).toLoadRect (harg9.unread x8)))⟩] :
      List (View.Piece (Elt F) S1x256x2048 .i8)) = _
  rw [View.canon_unit_zero hz3]
  rw [load arg2 harg2 hz3, load arg3 harg3 hz3, load arg4 harg4 hz3, load arg5 harg5 hz2, load arg6 harg6 hz2, load arg7 harg7 hz2, load arg8 harg8 hz2, load arg9 harg9 hz2, word0, word1]

theorem out18 (harg19 : arg19.IsWhole)
    (x0 : Vec F S2 .f32) (x1 : Vec F S1x256x1024 .bf16) (x2 : Vec F S1x256x512 .f32) (x3 : Vec F S1x256x1024 .f32) (x4 : Vec F S512x1024 .i8) (x5 : Vec F S1x1024 .f32) (x6 : Vec F S1x1024 .f32) (x7 : Vec F S1024x4096 .i8) (x8 : Vec F S1x4096 .f32) (x9 : Vec F S2048x1024 .i8) (x10 : Vec F S1x1024 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = k0_pay3 (k0_pay19 (k0_pay13 (k0_pay10 x2 x4 x5) x1 (x0 (ix1 0)) (x0 (ix1 1)) x3 x6) (k0_pay14 (k0_pay10 x2 x4 x5) x1 (x0 (ix1 0)) (x0 (ix1 1)) x3 x6) x7 x8) := by
  unfold out0_A_18
  rw [View.read_writes_junk_eq_canon]
  show View.canon ([⟨Rect.unit ![0, 0, 0] S1x256x1.size inb_S1x256x1_S1x256x1_0_0_0,
      k0_pay3 (k0_pay19 (k0_pay13 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (k0_pay14 (k0_pay10 (View.readAt (Elt F) arg3.view (Rect.unit (s := S1x256x512) ![0, 0, 0] S1x256x512.size inb_S1x256x512_S1x256x512_0_0_0).toLoadRect (harg3.unread x2)) (View.readAt (Elt F) arg5.view (Rect.unit (s := S512x1024) ![0, 0] S512x1024.size inb_S512x1024_S512x1024_0_0).toLoadRect (harg5.unread x4)) (View.readAt (Elt F) arg6.view (Rect.unit (s := S1x1024) ![0, 0] S1x1024.size inb_S1x1024_S1x1024_0_0).toLoadRect (harg6.unread x5))) (View.readAt (Elt F) arg2.view (Rect.unit (s := S1x256x1024) ![0, 0, 0] S1x256x1024.size inb_S1x256x1024_S1x256x1024_0_0_0).toLoadRect (harg2.unread x1)) (View.readAt (Elt F) arg1.view (Rect.unit (s := S2) ![0] S1.size inb_S2_S1_0).toLoadRect (harg1.unread x0) _) (View.readAt (Elt F) arg1.view (Rect.unit (s := S2) ![1] S1.size inb_S2_S1_1).toLoadRect (harg1.unread x0) _) (View.readAt (Elt F) arg4.view (Rect.unit (s := S1x256x1024) ![0, 0, 0] S1x256x1024.size inb_S1x256x1024_S1x256x1024_0_0_0).toLoadRect (harg4.unread x3)) (View.readAt (Elt F) arg7.view (Rect.unit (s := S1x1024) ![0, 0] S1x1024.size inb_S1x1024_S1x1024_0_0).toLoadRect (harg7.unread x6))) (View.readAt (Elt F) arg8.view (Rect.unit (s := S1024x4096) ![0, 0] S1024x4096.size inb_S1024x4096_S1024x4096_0_0).toLoadRect (harg8.unread x7)) (View.readAt (Elt F) arg9.view (Rect.unit (s := S1x4096) ![0, 0] S1x4096.size inb_S1x4096_S1x4096_0_0).toLoadRect (harg9.unread x8)))⟩] :
      List (View.Piece (Elt F) S1x256x1 .f32)) = _
  rw [View.canon_unit_zero hz3]
  rw [load arg2 harg2 hz3, load arg3 harg3 hz3, load arg4 harg4 hz3, load arg5 harg5 hz2, load arg6 harg6 hz2, load arg7 harg7 hz2, load arg8 harg8 hz2, load arg9 harg9 hz2, word0, word1]

end Cert.Proof.TailOut

end
-- ==== Proof.TailFinal.lean ====
/- The kernel's result arrays after the run, at every index, as the tail's mathematics (TailSpec.lean) of the argument
   arrays: block `t` of each result is the payload of the blocks of step `t` (TailOut.lean), the payloads are read by rows
   (TailPay.lean), and the blocks are placed in the arrays by the index maps. -/
module

public import proofs.«01_k».proof.Proof.TailSpec
public import proofs.«01_k».proof.Proof.TailPay
public import proofs.«01_k».proof.Proof.TailOut
public import Idealize.ShloMosaic.Lib.ValueLayout

@[expose] public section

set_option maxRecDepth 16384

noncomputable section

namespace Cert.Proof.TailFinal

open Idealize.ShloMosaic Idealize.ShloMosaic.TcCoe Idealize.SL.Sem Cert.TailIdeal Cert.TailIdeal.Gen Cert.Proof
open Cert.Proof.TailOut Cert.Proof.TailPay

/-! ## Where the blocks lie in the arrays -/

/-- A time step as a point of the kernel's grid. -/
def pt (t : Fin 5) : Fin cfg0.N := t

theorem idx0 : ∀ t : Fin cfg0.N, win0_0.index t (0 : Fin 1) = 0 :=
  (by decide +kernel : ∀ t : Fin grid0.N, _)

theorem emb0 (t : Fin cfg0.N) (y : S2.Idx) : ((cfg0.win 0).blk t).view.emb y = y := by
  have e0 := idx0 t
  funext a; apply Fin.ext
  match a with
  | ⟨0, _⟩ => show win0_0.index t (0 : Fin 1) * 2 + 1 * (y 0).val = (y 0).val; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem emb1 (t : Fin 5) (z : Fin 1) (r : Fin 256) (l : Fin 1024) :
    ((cfg0.win 1).blk (pt t)).view.emb (ix3 z r l : S1x256x1024.Idx) = (ix3 t r l : S5x256x1024.Idx) := by
  obtain ⟨e0, e1, e2⟩ := idx1 (pt t)
  have ht : (pt t).val = t.val := rfl
  funext a; apply Fin.ext
  match a with
  | ⟨0, _⟩ => show win0_1.index (pt t) (0 : Fin 3) * 1 + 1 * z.val = t.val; omega
  | ⟨1, _⟩ => show win0_1.index (pt t) (1 : Fin 3) * 256 + 1 * r.val = r.val; omega
  | ⟨2, _⟩ => show win0_1.index (pt t) (2 : Fin 3) * 1024 + 1 * l.val = l.val; omega

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2 (t : Fin 5) (z : Fin 1) (r : Fin 256) (l : Fin 512) :
    ((cfg0.win 2).blk (pt t)).view.emb (ix3 z r l : S1x256x512.Idx) = (ix3 t r l : S5x256x512.Idx) := by
  obtain ⟨e0, e1, e2⟩ := idx2 (pt t)
  have ht : (pt t).val = t.val := rfl
  funext a; apply Fin.ext
  match a with
  | ⟨0, _⟩ => show win0_2.index (pt t) (0 : Fin 3) * 1 + 1 * z.val = t.val; omega
  | ⟨1, _⟩ => show win0_2.index (pt t) (1 : Fin 3) * 256 + 1 * r.val = r.val; omega
  | ⟨2, _⟩ => show win0_2.index (pt t) (2 : Fin 3) * 512 + 1 * l.val = l.val; omega

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb3 (t : Fin 5) (z : Fin 1) (r : Fin 256) (l : Fin 1024) :
    ((cfg0.win 3).blk (pt t)).view.emb (ix3 z r l : S1x256x1024.Idx) = (ix3 t r l : S5x256x1024.Idx) := by
  obtain ⟨e0, e1, e2⟩ := idx3 (pt t)
  have ht : (pt t).val = t.val := rfl
  funext a; apply Fin.ext
  match a with
  | ⟨0, _⟩ => show win0_3.index (pt t) (0 : Fin 3) * 1 + 1 * z.val = t.val; omega
  | ⟨1, _⟩ => show win0_3.index (pt t) (1 : Fin 3) * 256 + 1 * r.val = r.val; omega
  | ⟨2, _⟩ => show win0_3.index (pt t) (2 : Fin 3) * 1024 + 1 * l.val = l.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (y : S512x1024.Idx) : ((cfg0.win 4).blk t).view.emb y = y := by
  obtain ⟨e0, e1⟩ := idx4 t
  funext a; apply Fin.ext
  match a with
  | ⟨0, _⟩ => show win0_4.index t (0 : Fin 2) * 512 + 1 * (y 0).val = (y 0).val; omega
  | ⟨1, _⟩ => show win0_4.index t (1 : Fin 2) * 1024 + 1 * (y 1).val = (y 1).val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (y : S1x1024.Idx) : ((cfg0.win 5).blk t).view.emb y = y := by
  obtain ⟨e0, e1⟩ := idx5 t
  funext a; apply Fin.ext
  match a with
  | ⟨0, _⟩ => show win0_5.index t (0 : Fin 2) * 1 + 1 * (y 0).val = (y 0).val; omega
  | ⟨1, _⟩ => show win0_5.index t (1 : Fin 2) * 1024 + 1 * (y 1).val = (y 1).val; omega

theorem idx6 : ∀ t : Fin cfg0.N, win0_6.index t (0 : Fin 2) = 0 ∧ win0_6.index t (1 : Fin 2) = 0 :=
  (by decide +kernel : ∀ t : Fin grid0.N, _)

theorem emb6 (t : Fin cfg0.N) (y : S1x1024.Idx) : ((cfg0.win 6).blk t).view.emb y = y := by
  obtain ⟨e0, e1⟩ := idx6 t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (y : S1024x4096.Idx) : ((cfg0.win 7).blk t).view.emb y = y := by
  obtain ⟨e0, e1⟩ := idx7 t
  funext a; apply Fin.ext
  match a with
  | ⟨0, _⟩ => show win0_7.index t (0 : Fin 2) * 1024 + 1 * (y 0).val = (y 0).val; omega
  | ⟨1, _⟩ => show win0_7.index t (1 : Fin 2) * 4096 + 1 * (y 1).val = (y 1).val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (y : S1x4096.Idx) : ((cfg0.win 8).blk t).view.emb y = y := by
  obtain ⟨e0, e1⟩ := idx8 t
  funext a; apply Fin.ext
  match a with
  | ⟨0, _⟩ => show win0_8.index t (0 : Fin 2) * 1 + 1 * (y 0).val = (y 0).val; omega
  | ⟨1, _⟩ => show win0_8.index t (1 : Fin 2) * 4096 + 1 * (y 1).val = (y 1).val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (y : S2048x1024.Idx) : ((cfg0.win 9).blk t).view.emb y = y := by
  obtain ⟨e0, e1⟩ := idx9 t
  funext a; apply Fin.ext
  match a with
  | ⟨0, _⟩ => show win0_9.index t (0 : Fin 2) * 2048 + 1 * (y 0).val = (y 0).val; omega
  | ⟨1, _⟩ => show win0_9.index t (1 : Fin 2) * 1024 + 1 * (y 1).val = (y 1).val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (y : S1x1024.Idx) : ((cfg0.win 10).blk t).view.emb y = y := by
  obtain ⟨e0, e1⟩ := idx10 t
  funext a; apply Fin.ext
  match a with
  | ⟨0, _⟩ => show win0_10.index t (0 : Fin 2) * 1 + 1 * (y 0).val = (y 0).val; omega
  | ⟨1, _⟩ => show win0_10.index t (1 : Fin 2) * 1024 + 1 * (y 1).val = (y 1).val; omega

theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

theorem emb11 (t : Fin 5) (z : Fin 1) (r : Fin 256) (l : Fin 1024) :
    ((cfg0.win 11).blk (pt t)).view.emb (ix3 z r l : S1x256x1024.Idx) = (ix3 t r l : S5x256x1024.Idx) := by
  obtain ⟨e0, e1, e2⟩ := idx11 (pt t)
  have ht : (pt t).val = t.val := rfl
  funext a; apply Fin.ext
  match a with
  | ⟨0, _⟩ => show win0_11.index (pt t) (0 : Fin 3) * 1 + 1 * z.val = t.val; omega
  | ⟨1, _⟩ => show win0_11.index (pt t) (1 : Fin 3) * 256 + 1 * r.val = r.val; omega
  | ⟨2, _⟩ => show win0_11.index (pt t) (2 : Fin 3) * 1024 + 1 * l.val = l.val; omega

theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

theorem emb12 (t : Fin 5) (z : Fin 1) (r : Fin 256) (l : Fin 1024) :
    ((cfg0.win 12).blk (pt t)).view.emb (ix3 z r l : S1x256x1024.Idx) = (ix3 t r l : S5x256x1024.Idx) := by
  obtain ⟨e0, e1, e2⟩ := idx12 (pt t)
  have ht : (pt t).val = t.val := rfl
  funext a; apply Fin.ext
  match a with
  | ⟨0, _⟩ => show win0_12.index (pt t) (0 : Fin 3) * 1 + 1 * z.val = t.val; omega
  | ⟨1, _⟩ => show win0_12.index (pt t) (1 : Fin 3) * 256 + 1 * r.val = r.val; omega
  | ⟨2, _⟩ => show win0_12.index (pt t) (2 : Fin 3) * 1024 + 1 * l.val = l.val; omega

theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

theorem emb13 (t : Fin 5) (z : Fin 1) (r : Fin 256) (l : Fin 512) :
    ((cfg0.win 13).blk (pt t)).view.emb (ix3 z r l : S1x256x512.Idx) = (ix3 t r l : S5x256x512.Idx) := by
  obtain ⟨e0, e1, e2⟩ := idx13 (pt t)
  have ht : (pt t).val = t.val := rfl
  funext a; apply Fin.ext
  match a with
  | ⟨0, _⟩ => show win0_13.index (pt t) (0 : Fin 3) * 1 + 1 * z.val = t.val; omega
  | ⟨1, _⟩ => show win0_13.index (pt t) (1 : Fin 3) * 256 + 1 * r.val = r.val; omega
  | ⟨2, _⟩ => show win0_13.index (pt t) (2 : Fin 3) * 512 + 1 * l.val = l.val; omega

theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)

theorem emb14 (t : Fin 5) (z : Fin 1) (r : Fin 256) (l : Fin 1) :
    ((cfg0.win 14).blk (pt t)).view.emb (ix3 z r l : S1x256x1.Idx) = (ix3 t r l : S5x256x1.Idx) := by
  obtain ⟨e0, e1, e2⟩ := idx14 (pt t)
  have ht : (pt t).val = t.val := rfl
  funext a; apply Fin.ext
  match a with
  | ⟨0, _⟩ => show win0_14.index (pt t) (0 : Fin 3) * 1 + 1 * z.val = t.val; omega
  | ⟨1, _⟩ => show win0_14.index (pt t) (1 : Fin 3) * 256 + 1 * r.val = r.val; omega
  | ⟨2, _⟩ => show win0_14.index (pt t) (2 : Fin 3) * 1 + 1 * l.val = l.val; omega

theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)

theorem emb15 (t : Fin 5) (z : Fin 1) (r : Fin 256) (l : Fin 1024) :
    ((cfg0.win 15).blk (pt t)).view.emb (ix3 z r l : S1x256x1024.Idx) = (ix3 t r l : S5x256x1024.Idx) := by
  obtain ⟨e0, e1, e2⟩ := idx15 (pt t)
  have ht : (pt t).val = t.val := rfl
  funext a; apply Fin.ext
  match a with
  | ⟨0, _⟩ => show win0_15.index (pt t) (0 : Fin 3) * 1 + 1 * z.val = t.val; omega
  | ⟨1, _⟩ => show win0_15.index (pt t) (1 : Fin 3) * 256 + 1 * r.val = r.val; omega
  | ⟨2, _⟩ => show win0_15.index (pt t) (2 : Fin 3) * 1024 + 1 * l.val = l.val; omega

theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)

theorem emb16 (t : Fin 5) (z : Fin 1) (r : Fin 256) (l : Fin 1) :
    ((cfg0.win 16).blk (pt t)).view.emb (ix3 z r l : S1x256x1.Idx) = (ix3 t r l : S5x256x1.Idx) := by
  obtain ⟨e0, e1, e2⟩ := idx16 (pt t)
  have ht : (pt t).val = t.val := rfl
  funext a; apply Fin.ext
  match a with
  | ⟨0, _⟩ => show win0_16.index (pt t) (0 : Fin 3) * 1 + 1 * z.val = t.val; omega
  | ⟨1, _⟩ => show win0_16.index (pt t) (1 : Fin 3) * 256 + 1 * r.val = r.val; omega
  | ⟨2, _⟩ => show win0_16.index (pt t) (2 : Fin 3) * 1 + 1 * l.val = l.val; omega

theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)

theorem emb17 (t : Fin 5) (z : Fin 1) (r : Fin 256) (l : Fin 2048) :
    ((cfg0.win 17).blk (pt t)).view.emb (ix3 z r l : S1x256x2048.Idx) = (ix3 t r l : S5x256x2048.Idx) := by
  obtain ⟨e0, e1, e2⟩ := idx17 (pt t)
  have ht : (pt t).val = t.val := rfl
  funext a; apply Fin.ext
  match a with
  | ⟨0, _⟩ => show win0_17.index (pt t) (0 : Fin 3) * 1 + 1 * z.val = t.val; omega
  | ⟨1, _⟩ => show win0_17.index (pt t) (1 : Fin 3) * 256 + 1 * r.val = r.val; omega
  | ⟨2, _⟩ => show win0_17.index (pt t) (2 : Fin 3) * 2048 + 1 * l.val = l.val; omega

theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)

theorem emb18 (t : Fin 5) (z : Fin 1) (r : Fin 256) (l : Fin 1) :
    ((cfg0.win 18).blk (pt t)).view.emb (ix3 z r l : S1x256x1.Idx) = (ix3 t r l : S5x256x1.Idx) := by
  obtain ⟨e0, e1, e2⟩ := idx18 (pt t)
  have ht : (pt t).val = t.val := rfl
  funext a; apply Fin.ext
  match a with
  | ⟨0, _⟩ => show win0_18.index (pt t) (0 : Fin 3) * 1 + 1 * z.val = t.val; omega
  | ⟨1, _⟩ => show win0_18.index (pt t) (1 : Fin 3) * 256 + 1 * r.val = r.val; omega
  | ⟨2, _⟩ => show win0_18.index (pt t) (2 : Fin 3) * 1 + 1 * l.val = l.val; omega

/-! ## The arrays that the host lines prepare -/

variable (m : (ℓ : Loc nD τ sig) → Buf (Elt Ideal) ℓ)

theorem V_v0 (c : Dev nD) : (V m c main_v0 : Vec Ideal S5x256x1024 .bf16)
    = transpose S5x256x1024 [1, 0, 2] (m ((c : Thread nD τ).loc main_arg0)) transposes_S256x5x1024_S5x256x1024_1_0_2 := by
  unfold_abbrev_sides
  after_results

theorem V_v1 (c : Dev nD) : (V m c main_v1 : Vec Ideal S1x1024 .f32)
    = shapeCast S1x1024 (m ((c : Thread nD τ).loc main_arg6) : Vec Ideal S1024 .f32) shapeCasts_S1024_S1x1024 := by
  unfold_abbrev_sides
  after_results
  rfl

theorem V_v2 (c : Dev nD) : (V m c main_v2 : Vec Ideal S1x1024 .f32)
    = shapeCast S1x1024 (m ((c : Thread nD τ).loc main_arg4) : Vec Ideal S1024 .f32) shapeCasts_S1024_S1x1024 := by
  unfold_abbrev_sides
  after_results
  rfl

theorem V_v3 (c : Dev nD) : (V m c main_v3 : Vec Ideal S1x4096 .f32)
    = shapeCast S1x4096 (m ((c : Thread nD τ).loc main_arg8) : Vec Ideal S4096 .f32) shapeCasts_S4096_S1x4096 := by
  unfold_abbrev_sides
  after_results
  rfl

theorem V_v4 (c : Dev nD) : (V m c main_v4 : Vec Ideal S1x1024 .f32)
    = shapeCast S1x1024 (m ((c : Thread nD τ).loc main_arg10) : Vec Ideal S1024 .f32) shapeCasts_S1024_S1x1024 := by
  unfold_abbrev_sides
  after_results
  rfl

/-! ## The input blocks at an index -/

/-- The argument arrays of a launch, by coordinates. -/
def args (c : Dev nD) : TailSpec.Args where
  x r s l := m ((c : Thread nD τ).loc main_arg0) (ix3 r s l)
  att s r l := m ((c : Thread nD τ).loc main_arg1) (ix3 s r l)
  sp s r l := m ((c : Thread nD τ).loc main_arg2) (ix3 s r l)
  bm j := m ((c : Thread nD τ).loc main_arg3) (ix1 j)
  n2 l := m ((c : Thread nD τ).loc main_arg4) (ix1 l)
  wa x y := m ((c : Thread nD τ).loc main_arg5) (ix2 x y)
  was l := m ((c : Thread nD τ).loc main_arg6) (ix1 l)
  wg x y := m ((c : Thread nD τ).loc main_arg7) (ix2 x y)
  wgs l := m ((c : Thread nD τ).loc main_arg8) (ix1 l)
  wd x y := m ((c : Thread nD τ).loc main_arg9) (ix2 x y)
  wds l := m ((c : Thread nD τ).loc main_arg10) (ix1 l)

variable (c : Dev nD) (t : Fin 5)

theorem in0 (j : Fin 2) : iblk m c 0 (pt t) (ix1 j) = (args m c).bm j := by
  show V m c main_arg3 (((cfg0.win 0).blk (pt t)).view.emb (ix1 j)) = _
  rw [emb0, V_main_arg3]; rfl
theorem in1 (r : Fin 256) (l : Fin 1024) : iblk m c 1 (pt t) (ix3 0 r l) = (args m c).x r t l := by
  show V m c main_v0 (((cfg0.win 1).blk (pt t)).view.emb (ix3 0 r l)) = _
  rw [emb1, V_v0]; pointwise; rfl
theorem in2 (r : Fin 256) (l : Fin 512) : iblk m c 2 (pt t) (ix3 0 r l) = (args m c).att t r l := by
  show V m c main_arg1 (((cfg0.win 2).blk (pt t)).view.emb (ix3 0 r l)) = _
  rw [emb2, V_main_arg1]; rfl
theorem in3 (r : Fin 256) (l : Fin 1024) : iblk m c 3 (pt t) (ix3 0 r l) = (args m c).sp t r l := by
  show V m c main_arg2 (((cfg0.win 3).blk (pt t)).view.emb (ix3 0 r l)) = _
  rw [emb3, V_main_arg2]; rfl

theorem in4 (x : Fin 512) (y : Fin 1024) : iblk m c 4 (pt t) (ix2 x y) = (args m c).wa x y := by
  show V m c main_arg5 (((cfg0.win 4).blk (pt t)).view.emb (ix2 x y)) = _
  rw [emb4, V_main_arg5]; rfl
theorem in7 (x : Fin 1024) (y : Fin 4096) : iblk m c 7 (pt t) (ix2 x y) = (args m c).wg x y := by
  show V m c main_arg7 (((cfg0.win 7).blk (pt t)).view.emb (ix2 x y)) = _
  rw [emb7, V_main_arg7]; rfl
theorem in9 (x : Fin 2048) (y : Fin 1024) : iblk m c 9 (pt t) (ix2 x y) = (args m c).wd x y := by
  show V m c main_arg9 (((cfg0.win 9).blk (pt t)).view.emb (ix2 x y)) = _
  rw [emb9, V_main_arg9]; rfl
theorem in5 (y : Fin 1024) : iblk m c 5 (pt t) (ix2 0 y) = (args m c).was y := by
  show V m c main_v1 (((cfg0.win 5).blk (pt t)).view.emb (ix2 0 y)) = _
  rw [emb5, V_v1]; exact ValueIdx.shapeCast_a_1a_apply _ _ _ _
theorem in6 (y : Fin 1024) : iblk m c 6 (pt t) (ix2 0 y) = (args m c).n2 y := by
  show V m c main_v2 (((cfg0.win 6).blk (pt t)).view.emb (ix2 0 y)) = _
  rw [emb6, V_v2]; exact ValueIdx.shapeCast_a_1a_apply _ _ _ _
theorem in8 (y : Fin 4096) : iblk m c 8 (pt t) (ix2 0 y) = (args m c).wgs y := by
  show V m c main_v3 (((cfg0.win 8).blk (pt t)).view.emb (ix2 0 y)) = _
  rw [emb8, V_v3]; exact ValueIdx.shapeCast_a_1a_apply _ _ _ _
theorem in10 (y : Fin 1024) : iblk m c 10 (pt t) (ix2 0 y) = (args m c).wds y := by
  show V m c main_v4 (((cfg0.win 10).blk (pt t)).view.emb (ix2 0 y)) = _
  rw [emb10, V_v4]; exact ValueIdx.shapeCast_a_1a_apply _ _ _ _

/-! ## The payloads of a step, as the mathematics -/

theorem ap_eq (r : Fin 256) (l : Fin 1024) :
    k0_pay10 (iblk m c 2 (pt t)) (iblk m c 4 (pt t)) (iblk m c 5 (pt t)) (ix2 r l) = TailSpec.attnProj (args m c) t r l := by
  rw [pay10]
  simp only [in2, in4, in5]
  rfl

/-- The residual payload of step `t`. -/
abbrev resP : FVec Ideal S256x1024 .f32 :=
  k0_pay12 (k0_pay10 (iblk m c 2 (pt t)) (iblk m c 4 (pt t)) (iblk m c 5 (pt t))) (iblk m c 1 (pt t)) (iblk m c 0 (pt t) (ix1 0)) (iblk m c 0 (pt t) (ix1 1)) (iblk m c 3 (pt t))
/-- Its normalisation. -/
abbrev midP : FVec Ideal S256x1024 .f32 :=
  k0_pay13 (k0_pay10 (iblk m c 2 (pt t)) (iblk m c 4 (pt t)) (iblk m c 5 (pt t))) (iblk m c 1 (pt t)) (iblk m c 0 (pt t) (ix1 0)) (iblk m c 0 (pt t) (ix1 1)) (iblk m c 3 (pt t)) (iblk m c 6 (pt t))
/-- The scale of the normalised rows. -/
abbrev midS : FVec Ideal S256x1 .f32 :=
  k0_pay14 (k0_pay10 (iblk m c 2 (pt t)) (iblk m c 4 (pt t)) (iblk m c 5 (pt t))) (iblk m c 1 (pt t)) (iblk m c 0 (pt t) (ix1 0)) (iblk m c 0 (pt t) (ix1 1)) (iblk m c 3 (pt t)) (iblk m c 6 (pt t))

theorem res_eq (r : Fin 256) (l : Fin 1024) : resP m c t (ix2 r l) = TailSpec.h1 (args m c) t r l := by
  refine (pay12 _ _ _ _ _ r l).trans ?_
  simp only [in0, in1, in3, ap_eq]
  rfl
theorem mid_eq (r : Fin 256) (l : Fin 1024) : midP m c t (ix2 r l) = TailSpec.mid (args m c) t r l := by
  refine (pay13 _ _ _ _ _ _ r l).trans ?_
  simp only [res_eq, in6]
  rfl
theorem midS_eq (r : Fin 256) (z : Fin 1) : midS m c t (ix2 r z) = Row.scale fun y => midP m c t (ix2 r y) := pay14 ..

/-- The gated activation's payload of step `t`. -/
abbrev actP : FVec Ideal S256x2048 .f32 := k0_pay18 (midP m c t) (midS m c t) (iblk m c 7 (pt t)) (iblk m c 8 (pt t))
/-- Its scale. -/
abbrev actS : FVec Ideal S256x1 .f32 := k0_pay19 (midP m c t) (midS m c t) (iblk m c 7 (pt t)) (iblk m c 8 (pt t))
/-- Its scale along the columns. -/
abbrev actB : FVec Ideal S256x2048 .f32 := k0_pay20 (midP m c t) (midS m c t) (iblk m c 7 (pt t)) (iblk m c 8 (pt t))

theorem act_eq (r : Fin 256) (l : Fin 2048) : actP m c t (ix2 r l) = TailSpec.gated (args m c) t r l := by
  refine (pay18 _ _ (fun r => midS_eq m c t r 0) _ _ r l).trans ?_
  simp only [mid_eq, in7, in8]
  rfl
theorem actS_eq (r : Fin 256) (z : Fin 1) : actS m c t (ix2 r z) = Row.scale fun y => actP m c t (ix2 r y) := pay19 ..
theorem actB_eq (r : Fin 256) (l : Fin 2048) : actB m c t (ix2 r l) = Row.scale fun y => actP m c t (ix2 r y) :=
  (pay20 ..).trans (actS_eq m c t r 0)

/-! ## The result arrays -/

theorem arr11 (r : Fin 256) (l : Fin 1024) :
    (dats m 0 c).arrAt 11 cfg0.N (ix3 t r l : S5x256x1024.Idx) = TailSpec.hidden (args m c) t r l := by
  have b := congrFun (Value.blocks11 m c (pt t) (flush0_11 (pt t))) (ix3 0 r l : S1x256x1024.Idx)
  rw [Value.flushed11_A, out11] at b
  have b' : (dats m 0 c).arrAt 11 cfg0.N (((cfg0.win 11).blk (pt t)).view.emb (ix3 0 r l : S1x256x1024.Idx))
      = k0_pay4 (resP m c t) (actP m c t) (actS m c t) (actB m c t) (iblk m c 9 (pt t)) (iblk m c 10 (pt t)) (ix3 0 r l) := b
  rw [emb11] at b'
  refine b'.trans ?_
  rw [pay4 _ _ _ _ (fun r => actS_eq m c t r 0) (actB_eq m c t)]
  simp only [res_eq, act_eq, in9, in10]
  rfl

theorem arr12 (r : Fin 256) (l : Fin 1024) :
    (dats m 0 c).arrAt 12 cfg0.N (ix3 t r l : S5x256x1024.Idx) = TailSpec.attnProj (args m c) t r l := by
  have b := congrFun (Value.blocks12 m c (pt t) (flush0_12 (pt t))) (ix3 0 r l : S1x256x1024.Idx)
  rw [Value.flushed12_A, out12] at b
  have b' : (dats m 0 c).arrAt 12 cfg0.N (((cfg0.win 12).blk (pt t)).view.emb (ix3 0 r l : S1x256x1024.Idx))
      = k0_pay11 (k0_pay10 (iblk m c 2 (pt t)) (iblk m c 4 (pt t)) (iblk m c 5 (pt t))) (ix3 0 r l) := b
  rw [emb12] at b'
  refine b'.trans ?_
  rw [pay11, ap_eq]

theorem arr13 (r : Fin 256) (l : Fin 512) :
    (dats m 0 c).arrAt 13 cfg0.N (ix3 t r l : S5x256x512.Idx) = Row.code8 ((args m c).att t r) l := by
  have b := congrFun (Value.blocks13 m c (pt t) (flush0_13 (pt t))) (ix3 0 r l : S1x256x512.Idx)
  rw [Value.flushed13_A, out13] at b
  have b' : (dats m 0 c).arrAt 13 cfg0.N (((cfg0.win 13).blk (pt t)).view.emb (ix3 0 r l : S1x256x512.Idx))
      = k0_pay8 (iblk m c 2 (pt t)) (ix3 0 r l) := b
  rw [emb13] at b'
  refine b'.trans ?_
  rw [pay8]
  simp only [in2]

theorem arr14 (r : Fin 256) (l : Fin 1) :
    (dats m 0 c).arrAt 14 cfg0.N (ix3 t r l : S5x256x1.Idx) = Row.scale ((args m c).att t r) := by
  have b := congrFun (Value.blocks14 m c (pt t) (flush0_14 (pt t))) (ix3 0 r l : S1x256x1.Idx)
  rw [Value.flushed14_A, out14] at b
  have b' : (dats m 0 c).arrAt 14 cfg0.N (((cfg0.win 14).blk (pt t)).view.emb (ix3 0 r l : S1x256x1.Idx))
      = k0_pay9 (iblk m c 2 (pt t)) (ix3 0 r l) := b
  rw [emb14] at b'
  refine b'.trans ?_
  rw [pay9]
  simp only [in2]

theorem arr15 (r : Fin 256) (l : Fin 1024) :
    (dats m 0 c).arrAt 15 cfg0.N (ix3 t r l : S5x256x1024.Idx) = Row.code8 (TailSpec.mid (args m c) t r) l := by
  have b := congrFun (Value.blocks15 m c (pt t) (flush0_15 (pt t))) (ix3 0 r l : S1x256x1024.Idx)
  rw [Value.flushed15_A, out15] at b
  have b' : (dats m 0 c).arrAt 15 cfg0.N (((cfg0.win 15).blk (pt t)).view.emb (ix3 0 r l : S1x256x1024.Idx))
      = k0_pay16 (midP m c t) (midS m c t) (ix3 0 r l) := b
  rw [emb15] at b'
  refine b'.trans ?_
  rw [pay16 _ _ fun r => midS_eq m c t r 0]
  simp only [mid_eq]

theorem arr16 (r : Fin 256) (l : Fin 1) :
    (dats m 0 c).arrAt 16 cfg0.N (ix3 t r l : S5x256x1.Idx) = Row.scale (TailSpec.mid (args m c) t r) := by
  have b := congrFun (Value.blocks16 m c (pt t) (flush0_16 (pt t))) (ix3 0 r l : S1x256x1.Idx)
  rw [Value.flushed16_A, out16] at b
  have b' : (dats m 0 c).arrAt 16 cfg0.N (((cfg0.win 16).blk (pt t)).view.emb (ix3 0 r l : S1x256x1.Idx))
      = k0_pay17 (midS m c t) (ix3 0 r l) := b
  rw [emb16] at b'
  refine b'.trans ?_
  rw [pay17, midS_eq]
  simp only [mid_eq]

theorem arr17 (r : Fin 256) (l : Fin 2048) :
    (dats m 0 c).arrAt 17 cfg0.N (ix3 t r l : S5x256x2048.Idx) = Row.code8 (TailSpec.gated (args m c) t r) l := by
  have b := congrFun (Value.blocks17 m c (pt t) (flush0_17 (pt t))) (ix3 0 r l : S1x256x2048.Idx)
  rw [Value.flushed17_A, out17] at b
  have b' : (dats m 0 c).arrAt 17 cfg0.N (((cfg0.win 17).blk (pt t)).view.emb (ix3 0 r l : S1x256x2048.Idx))
      = k0_pay2 (actP m c t) (actB m c t) (ix3 0 r l) := b
  rw [emb17] at b'
  refine b'.trans ?_
  rw [pay2 _ _ (actB_eq m c t)]
  simp only [act_eq]

theorem arr18 (r : Fin 256) (l : Fin 1) :
    (dats m 0 c).arrAt 18 cfg0.N (ix3 t r l : S5x256x1.Idx) = Row.scale (TailSpec.gated (args m c) t r) := by
  have b := congrFun (Value.blocks18 m c (pt t) (flush0_18 (pt t))) (ix3 0 r l : S1x256x1.Idx)
  rw [Value.flushed18_A, out18] at b
  have b' : (dats m 0 c).arrAt 18 cfg0.N (((cfg0.win 18).blk (pt t)).view.emb (ix3 0 r l : S1x256x1.Idx))
      = k0_pay3 (actS m c t) (ix3 0 r l) := b
  rw [emb18] at b'
  refine b'.trans ?_
  rw [pay3, actS_eq]
  simp only [act_eq]

end Cert.Proof.TailFinal

end
-- ==== Proof.TailRefPay.lean ====
/- What the reference computes, payload by payload, read at a time step, a row and a column as the row mathematics of
   RowSpec.lean. -/
module

public import proofs.«01_k».proof.Proof.RowSpec
public import proofs.«01_k».proof.Proof.Gen.TailRefIdeal.Skeleton

@[expose] public section

set_option maxRecDepth 16384

noncomputable section

namespace Cert.Proof.TailRefPay

open Idealize.ShloMosaic Cert.TailRefIdeal Cert.TailRefIdeal.Gen Cert.Proof

theorem pay3 (v : Vec Ideal S5x256x512 .f32) (s : Fin 5) (r : Fin 256) :
    k0_pay3 v (ix2 s r) = Row.scale fun x => v (ix3 s r x) := by
  pointwise [k0_pay3]
  rfl

theorem pay4 (v : Vec Ideal S5x256x512 .f32) (s : Fin 5) (r : Fin 256) (l : Fin 512) :
    k0_pay4 v (ix3 s r l) = Row.code8 (fun x => v (ix3 s r x)) l := by
  pointwise [k0_pay4]
  rw [pay3]
  rfl

theorem pay5 (v : Vec Ideal S5x256x512 .f32) (w : Vec Ideal S512x1024 .i8) (ws : Vec Ideal S1024 .f32) (s : Fin 5)
    (r : Fin 256) (l : Fin 1024) :
    k0_pay5 v w ws (ix3 s r l)
      = Row.proj (fun x => v (ix3 s r x)) (fun x y => w (ix2 x y)) (fun y => ws (ix1 y)) l := by
  pointwise [k0_pay5]
  simp only [pay3, pay4, Row.sitofp_code8]
  rfl

theorem pay17 (v : FVec Ideal S5x256 .f32) (s : Fin 5) (r : Fin 256) (z : Fin 1) :
    k0_pay17 v (ix3 s r z) = v (ix2 s r) := by
  pointwise [k0_pay17]

theorem pay1 (v : FVec Ideal S5x256 .f32) (s : Fin 5) (r : Fin 256) (z : Fin 1) :
    k0_pay1 v (ix3 s r z) = v (ix2 s r) := by
  pointwise [k0_pay1]

theorem pay2 (v : FVec Ideal S5x256 .f32) (s : Fin 5) (r : Fin 256) (z : Fin 1) :
    k0_pay2 v (ix3 s r z) = v (ix2 s r) := by
  pointwise [k0_pay2]

/-- The residual stream: the two payloads that add the branches. -/
theorem pay7 (x : Vec Ideal S5x256x1024 .bf16) (v : Vec Ideal S5x256x512 .f32) (w : Vec Ideal S512x1024 .i8)
    (ws : Vec Ideal S1024 .f32) (b0 b1 : Elt Ideal .f32) (sp : Vec Ideal S5x256x1024 .f32) (s : Fin 5) (r : Fin 256)
    (l : Fin 1024) :
    k0_pay7 (k0_pay6 x v w ws b0) b1 sp (ix3 s r l)
      = Row.resid (fun y => x (ix3 s r y)) (fun y => k0_pay5 v w ws (ix3 s r y)) (fun y => sp (ix3 s r y)) b0 b1 l := by
  pointwise [k0_pay7, k0_pay6]
  rfl

theorem pay8 (h : FVec Ideal S5x256x1024 .f32) (b1 : Elt Ideal .f32) (sp : Vec Ideal S5x256x1024 .f32)
    (n : Vec Ideal S1024 .f32) (s : Fin 5) (r : Fin 256) (l : Fin 1024) :
    k0_pay8 h b1 sp n (ix3 s r l)
      = Row.rms (fun y => k0_pay7 h b1 sp (ix3 s r y)) (fun y => n (ix1 y)) l := by
  pointwise [k0_pay8]
  rfl

theorem pay9 (h : FVec Ideal S5x256x1024 .f32) (b1 : Elt Ideal .f32) (sp : Vec Ideal S5x256x1024 .f32)
    (n : Vec Ideal S1024 .f32) (s : Fin 5) (r : Fin 256) :
    k0_pay9 h b1 sp n (ix2 s r) = Row.scale fun y => k0_pay8 h b1 sp n (ix3 s r y) := by
  pointwise [k0_pay9]
  rfl

theorem pay10 (h : FVec Ideal S5x256x1024 .f32) (b1 : Elt Ideal .f32) (sp : Vec Ideal S5x256x1024 .f32)
    (n : Vec Ideal S1024 .f32) (s : Fin 5) (r : Fin 256) (l : Fin 1024) :
    k0_pay10 h b1 sp n (ix3 s r l) = Row.code8 (fun y => k0_pay8 h b1 sp n (ix3 s r y)) l := by
  pointwise [k0_pay10]
  rw [pay9]
  rfl

/-- The product with the gate and up weights, scaled by the row; the payload after it scales by the column. -/
theorem pay13 (h : FVec Ideal S5x256x1024 .f32) (b1 : Elt Ideal .f32) (sp : Vec Ideal S5x256x1024 .f32)
    (n : Vec Ideal S1024 .f32) (w : Vec Ideal S1024x4096 .i8) (ws : Vec Ideal S4096 .f32) (s : Fin 5) (r : Fin 256)
    (l : Fin 2048) :
    k0_pay13 (k0_pay11 h b1 sp n w) (k0_pay12 ws) (ix3 s r l)
      = Row.act (Row.proj (fun y => k0_pay8 h b1 sp n (ix3 s r y)) (fun x y => w (ix2 x y)) (fun y => ws (ix1 y))) l := by
  pointwise [k0_pay13, k0_pay11, k0_pay12]
  simp only [pay9, pay10, Row.sitofp_code8]
  rfl

theorem pay14 (p : FVec Ideal S5x256x4096 .f32) (ws : FVec Ideal S1x1x4096 .f32) (s : Fin 5) (r : Fin 256) :
    k0_pay14 p ws (ix2 s r) = Row.scale fun y => k0_pay13 p ws (ix3 s r y) := by
  pointwise [k0_pay14]
  rfl

theorem pay15 (p : FVec Ideal S5x256x4096 .f32) (ws : FVec Ideal S1x1x4096 .f32) (s : Fin 5) (r : Fin 256)
    (l : Fin 2048) :
    k0_pay15 p ws (ix3 s r l) = Row.code8 (fun y => k0_pay13 p ws (ix3 s r y)) l := by
  pointwise [k0_pay15]
  rw [pay14]
  rfl

theorem pay16 (h1 : FVec Ideal S5x256x1024 .f32) (p : FVec Ideal S5x256x4096 .f32) (gs : FVec Ideal S1x1x4096 .f32)
    (w : Vec Ideal S2048x1024 .i8) (ws : Vec Ideal S1024 .f32) (s : Fin 5) (r : Fin 256) (l : Fin 1024) :
    k0_pay16 h1 p gs w ws (ix3 s r l)
      = h1 (ix3 s r l)
        + Row.proj (fun y => k0_pay13 p gs (ix3 s r y)) (fun x y => w (ix2 x y)) (fun y => ws (ix1 y)) l := by
  pointwise [k0_pay16]
  simp only [pay14, pay15, Row.sitofp_code8]
  rfl

end Cert.Proof.TailRefPay

end
-- ==== Proof.TailRefOut.lean ====
/- What the reference leaves in each output array, as a payload of its input arrays: every load
   reads a whole buffer and every store writes a whole array. -/
module

public import proofs.«01_k».proof.Proof.Gen.TailRefIdeal.Value
public import Idealize.ShloMosaic.Lib.Pointwise

@[expose] public section

set_option maxRecDepth 16384

noncomputable section

namespace Cert.Proof.TailRefOut

open Idealize.ShloMosaic Idealize.ShloMosaic.TcCoe Idealize.SL.Sem Cert.TailRefIdeal Cert.TailRefIdeal.Gen

variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a; rfl
theorem hz2 : (![0, 0] : Fin 2 → Nat) = fun _ => 0 := funext fun a => by fin_cases a <;> rfl

/-- A load of a whole buffer reads what the buffer holds. -/
theorem load {sp : Space} {S : Shape} {e : EltTy} (a : Memref sig .tc sp S e) (h : a.IsWhole) {off : Fin S.rank → Nat}
    (ho : off = fun _ => 0) {inb : ∀ i, off i + S.size i ≤ S.size i} {x : Vec F S e} :
    View.readAt (Elt F) a.view (Rect.unit (s := S) off S.size inb).toLoadRect (h.unread x) = x := by
  rw [View.readAt_eq_ld, h.read_unread, View.ld_unit_zero ho]

/-- The two words of the scalar buffer. -/
theorem word0 {a : Memref sig .tc .smem S2 .f32} {h : a.IsWhole} {x : Vec F S2 .f32} {j : S1.Idx} :
    View.readAt (Elt F) a.view (Rect.unit (s := S2) ![0] S1.size inb_S2_S1_0).toLoadRect (h.unread x) j = x (ix1 0) := by
  rw [View.readAt_eq_ld, h.read_unread]
  exact congrArg x (funext fun a => by match a with | ⟨0, _⟩ => exact Fin.ext (by show 0 + 1 * (j 0).val = 0; have := (j 0).isLt; have : (j 0).val < 1 := this; omega))

theorem word1 {a : Memref sig .tc .smem S2 .f32} {h : a.IsWhole} {x : Vec F S2 .f32} {j : S1.Idx} :
    View.readAt (Elt F) a.view (Rect.unit (s := S2) ![1] S1.size inb_S2_S1_1).toLoadRect (h.unread x) j = x (ix1 1) := by
  rw [View.readAt_eq_ld, h.read_unread]
  exact congrArg x (funext fun a => by match a with | ⟨0, _⟩ => exact Fin.ext (by show 1 + 1 * (j 0).val = 1; have := (j 0).isLt; have : (j 0).val < 1 := this; omega))

variable (c : Dev nD) (arg0 : Memref sig .tc .vmem S5x256x1024 .bf16) (harg0 : arg0.IsWhole) (arg1 : Memref sig .tc .vmem S5x256x512 .f32) (harg1 : arg1.IsWhole) (arg2 : Memref sig .tc .vmem S5x256x1024 .f32) (harg2 : arg2.IsWhole) (arg3 : Memref sig .tc .smem S2 .f32) (harg3 : arg3.IsWhole) (arg4 : Memref sig .tc .vmem S1024 .f32) (harg4 : arg4.IsWhole) (arg5 : Memref sig .tc .vmem S512x1024 .i8) (harg5 : arg5.IsWhole) (arg6 : Memref sig .tc .vmem S1024 .f32) (harg6 : arg6.IsWhole) (arg7 : Memref sig .tc .vmem S1024x4096 .i8) (harg7 : arg7.IsWhole) (arg8 : Memref sig .tc .vmem S4096 .f32) (harg8 : arg8.IsWhole) (arg9 : Memref sig .tc .vmem S2048x1024 .i8) (harg9 : arg9.IsWhole) (arg10 : Memref sig .tc .vmem S1024 .f32) (harg10 : arg10.IsWhole) (arg11 : Memref sig .tc .vmem S5x256x1024 .bf16) (harg11 : arg11.IsWhole) (arg12 : Memref sig .tc .vmem S5x256x1024 .f32) (harg12 : arg12.IsWhole) (arg13 : Memref sig .tc .vmem S5x256x512 .i8) (harg13 : arg13.IsWhole) (arg14 : Memref sig .tc .vmem S5x256x1 .f32) (harg14 : arg14.IsWhole) (arg15 : Memref sig .tc .vmem S5x256x1024 .i8) (harg15 : arg15.IsWhole) (arg16 : Memref sig .tc .vmem S5x256x1 .f32) (harg16 : arg16.IsWhole) (arg17 : Memref sig .tc .vmem S5x256x2048 .i8) (harg17 : arg17.IsWhole) (arg18 : Memref sig .tc .vmem S5x256x1 .f32)

theorem out11 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay16 (k0_pay7 (k0_pay6 x0 x1 x5 x6 (x3 (ix1 0))) (x3 (ix1 1)) x2) (k0_pay11 (k0_pay6 x0 x1 x5 x6 (x3 (ix1 0))) (x3 (ix1 1)) x2 x4 x7) (k0_pay12 x8) x9 x10 := by
  unfold out0_A_11
  rw [View.read_writes_junk_eq_canon]
  show View.canon ([⟨Rect.unit ![0, 0, 0] S5x256x1024.size inb_S5x256x1024_S5x256x1024_0_0_0,
      k0_pay16 (k0_pay7 (k0_pay6 (View.readAt (Elt F) arg0.view (Rect.unit (s := S5x256x1024) ![0, 0, 0] S5x256x1024.size inb_S5x256x1024_S5x256x1024_0_0_0).toLoadRect (harg0.unread x0)) (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6)) (View.readAt (Elt F) arg3.view (Rect.unit (s := S2) ![0] S1.size inb_S2_S1_0).toLoadRect (harg3.unread x3) _)) (View.readAt (Elt F) arg3.view (Rect.unit (s := S2) ![1] S1.size inb_S2_S1_1).toLoadRect (harg3.unread x3) _) (View.readAt (Elt F) arg2.view (Rect.unit (s := S5x256x1024) ![0, 0, 0] S5x256x1024.size inb_S5x256x1024_S5x256x1024_0_0_0).toLoadRect (harg2.unread x2))) (k0_pay11 (k0_pay6 (View.readAt (Elt F) arg0.view (Rect.unit (s := S5x256x1024) ![0, 0, 0] S5x256x1024.size inb_S5x256x1024_S5x256x1024_0_0_0).toLoadRect (harg0.unread x0)) (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6)) (View.readAt (Elt F) arg3.view (Rect.unit (s := S2) ![0] S1.size inb_S2_S1_0).toLoadRect (harg3.unread x3) _)) (View.readAt (Elt F) arg3.view (Rect.unit (s := S2) ![1] S1.size inb_S2_S1_1).toLoadRect (harg3.unread x3) _) (View.readAt (Elt F) arg2.view (Rect.unit (s := S5x256x1024) ![0, 0, 0] S5x256x1024.size inb_S5x256x1024_S5x256x1024_0_0_0).toLoadRect (harg2.unread x2)) (View.readAt (Elt F) arg4.view (Rect.unit (s := S1024) ![0] S1024.size inb_S1024_S1024_0).toLoadRect (harg4.unread x4)) (View.readAt (Elt F) arg7.view (Rect.unit (s := S1024x4096) ![0, 0] S1024x4096.size inb_S1024x4096_S1024x4096_0_0).toLoadRect (harg7.unread x7))) (k0_pay12 (View.readAt (Elt F) arg8.view (Rect.unit (s := S4096) ![0] S4096.size inb_S4096_S4096_0).toLoadRect (harg8.unread x8))) (View.readAt (Elt F) arg9.view (Rect.unit (s := S2048x1024) ![0, 0] S2048x1024.size inb_S2048x1024_S2048x1024_0_0).toLoadRect (harg9.unread x9)) (View.readAt (Elt F) arg10.view (Rect.unit (s := S1024) ![0] S1024.size inb_S1024_S1024_0).toLoadRect (harg10.unread x10))⟩] :
      List (View.Piece (Elt F) S5x256x1024 .bf16)) = _
  rw [View.canon_unit_zero hz3]
  rw [load arg0 harg0 hz3, load arg1 harg1 hz3, load arg2 harg2 hz3, load arg4 harg4 hz1, load arg5 harg5 hz2, load arg6 harg6 hz1, load arg7 harg7 hz2, load arg8 harg8 hz1, load arg9 harg9 hz2, load arg10 harg10 hz1, word0, word1]

theorem out12 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay5 x1 x5 x6 := by
  unfold out0_A_12
  rw [View.read_writes_junk_eq_canon]
  show View.canon ([⟨Rect.unit ![0, 0, 0] S5x256x1024.size inb_S5x256x1024_S5x256x1024_0_0_0,
      k0_pay5 (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6))⟩] :
      List (View.Piece (Elt F) S5x256x1024 .f32)) = _
  rw [View.canon_unit_zero hz3]
  rw [load arg1 harg1 hz3, load arg5 harg5 hz2, load arg6 harg6 hz1]

theorem out13 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay4 x1 := by
  unfold out0_A_13
  rw [View.read_writes_junk_eq_canon]
  show View.canon ([⟨Rect.unit ![0, 0, 0] S5x256x512.size inb_S5x256x512_S5x256x512_0_0_0,
      k0_pay4 (View.readAt (Elt F) arg1.view (Rect.unit (s := S5x256x512) ![0, 0, 0] S5x256x512.size inb_S5x256x512_S5x256x512_0_0_0).toLoadRect (harg1.unread x1))⟩] :
      List (View.Piece (Elt F) S5x256x512 .i8)) = _
  rw [View.canon_unit_zero hz3]
  rw [load arg1 harg1 hz3]

theorem out14 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay17 (k0_pay3 x1) := by
  unfold out0_A_14
  rw [View.read_writes_junk_eq_canon]
  show View.canon ([⟨Rect.unit ![0, 0, 0] S5x256x1.size inb_S5x256x1_S5x256x1_0_0_0,
      k0_pay17 (k0_pay3 (View.readAt (Elt F) arg1.view (Rect.unit (s := S5x256x512) ![0, 0, 0] S5x256x512.size inb_S5x256x512_S5x256x512_0_0_0).toLoadRect (harg1.unread x1)))⟩] :
      List (View.Piece (Elt F) S5x256x1 .f32)) = _
  rw [View.canon_unit_zero hz3]
  rw [load arg1 harg1 hz3]

theorem out15 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay10 (k0_pay6 x0 x1 x5 x6 (x3 (ix1 0))) (x3 (ix1 1)) x2 x4 := by
  unfold out0_A_15
  rw [View.read_writes_junk_eq_canon]
  show View.canon ([⟨Rect.unit ![0, 0, 0] S5x256x1024.size inb_S5x256x1024_S5x256x1024_0_0_0,
      k0_pay10 (k0_pay6 (View.readAt (Elt F) arg0.view (Rect.unit (s := S5x256x1024) ![0, 0, 0] S5x256x1024.size inb_S5x256x1024_S5x256x1024_0_0_0).toLoadRect (harg0.unread x0)) (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6)) (View.readAt (Elt F) arg3.view (Rect.unit (s := S2) ![0] S1.size inb_S2_S1_0).toLoadRect (harg3.unread x3) _)) (View.readAt (Elt F) arg3.view (Rect.unit (s := S2) ![1] S1.size inb_S2_S1_1).toLoadRect (harg3.unread x3) _) (View.readAt (Elt F) arg2.view (Rect.unit (s := S5x256x1024) ![0, 0, 0] S5x256x1024.size inb_S5x256x1024_S5x256x1024_0_0_0).toLoadRect (harg2.unread x2)) (View.readAt (Elt F) arg4.view (Rect.unit (s := S1024) ![0] S1024.size inb_S1024_S1024_0).toLoadRect (harg4.unread x4))⟩] :
      List (View.Piece (Elt F) S5x256x1024 .i8)) = _
  rw [View.canon_unit_zero hz3]
  rw [load arg0 harg0 hz3, load arg1 harg1 hz3, load arg2 harg2 hz3, load arg4 harg4 hz1, load arg5 harg5 hz2, load arg6 harg6 hz1, word0, word1]

theorem out16 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay1 (k0_pay9 (k0_pay6 x0 x1 x5 x6 (x3 (ix1 0))) (x3 (ix1 1)) x2 x4) := by
  unfold out0_A_16
  rw [View.read_writes_junk_eq_canon]
  show View.canon ([⟨Rect.unit ![0, 0, 0] S5x256x1.size inb_S5x256x1_S5x256x1_0_0_0,
      k0_pay1 (k0_pay9 (k0_pay6 (View.readAt (Elt F) arg0.view (Rect.unit (s := S5x256x1024) ![0, 0, 0] S5x256x1024.size inb_S5x256x1024_S5x256x1024_0_0_0).toLoadRect (harg0.unread x0)) (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6)) (View.readAt (Elt F) arg3.view (Rect.unit (s := S2) ![0] S1.size inb_S2_S1_0).toLoadRect (harg3.unread x3) _)) (View.readAt (Elt F) arg3.view (Rect.unit (s := S2) ![1] S1.size inb_S2_S1_1).toLoadRect (harg3.unread x3) _) (View.readAt (Elt F) arg2.view (Rect.unit (s := S5x256x1024) ![0, 0, 0] S5x256x1024.size inb_S5x256x1024_S5x256x1024_0_0_0).toLoadRect (harg2.unread x2)) (View.readAt (Elt F) arg4.view (Rect.unit (s := S1024) ![0] S1024.size inb_S1024_S1024_0).toLoadRect (harg4.unread x4)))⟩] :
      List (View.Piece (Elt F) S5x256x1 .f32)) = _
  rw [View.canon_unit_zero hz3]
  rw [load arg0 harg0 hz3, load arg1 harg1 hz3, load arg2 harg2 hz3, load arg4 harg4 hz1, load arg5 harg5 hz2, load arg6 harg6 hz1, word0, word1]

theorem out17 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay15 (k0_pay11 (k0_pay6 x0 x1 x5 x6 (x3 (ix1 0))) (x3 (ix1 1)) x2 x4 x7) (k0_pay12 x8) := by
  unfold out0_A_17
  rw [View.read_writes_junk_eq_canon]
  show View.canon ([⟨Rect.unit ![0, 0, 0] S5x256x2048.size inb_S5x256x2048_S5x256x2048_0_0_0,
      k0_pay15 (k0_pay11 (k0_pay6 (View.readAt (Elt F) arg0.view (Rect.unit (s := S5x256x1024) ![0, 0, 0] S5x256x1024.size inb_S5x256x1024_S5x256x1024_0_0_0).toLoadRect (harg0.unread x0)) (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6)) (View.readAt (Elt F) arg3.view (Rect.unit (s := S2) ![0] S1.size inb_S2_S1_0).toLoadRect (harg3.unread x3) _)) (View.readAt (Elt F) arg3.view (Rect.unit (s := S2) ![1] S1.size inb_S2_S1_1).toLoadRect (harg3.unread x3) _) (View.readAt (Elt F) arg2.view (Rect.unit (s := S5x256x1024) ![0, 0, 0] S5x256x1024.size inb_S5x256x1024_S5x256x1024_0_0_0).toLoadRect (harg2.unread x2)) (View.readAt (Elt F) arg4.view (Rect.unit (s := S1024) ![0] S1024.size inb_S1024_S1024_0).toLoadRect (harg4.unread x4)) (View.readAt (Elt F) arg7.view (Rect.unit (s := S1024x4096) ![0, 0] S1024x4096.size inb_S1024x4096_S1024x4096_0_0).toLoadRect (harg7.unread x7))) (k0_pay12 (View.readAt (Elt F) arg8.view (Rect.unit (s := S4096) ![0] S4096.size inb_S4096_S4096_0).toLoadRect (harg8.unread x8)))⟩] :
      List (View.Piece (Elt F) S5x256x2048 .i8)) = _
  rw [View.canon_unit_zero hz3]
  rw [load arg0 harg0 hz3, load arg1 harg1 hz3, load arg2 harg2 hz3, load arg4 harg4 hz1, load arg5 harg5 hz2, load arg6 harg6 hz1, load arg7 harg7 hz2, load arg8 harg8 hz1, word0, word1]

theorem out18 (harg18 : arg18.IsWhole)
    (x0 : Vec F S5x256x1024 .bf16) (x1 : Vec F S5x256x512 .f32) (x2 : Vec F S5x256x1024 .f32) (x3 : Vec F S2 .f32) (x4 : Vec F S1024 .f32) (x5 : Vec F S512x1024 .i8) (x6 : Vec F S1024 .f32) (x7 : Vec F S1024x4096 .i8) (x8 : Vec F S4096 .f32) (x9 : Vec F S2048x1024 .i8) (x10 : Vec F S1024 .f32) :
    out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10
      = k0_pay2 (k0_pay14 (k0_pay11 (k0_pay6 x0 x1 x5 x6 (x3 (ix1 0))) (x3 (ix1 1)) x2 x4 x7) (k0_pay12 x8)) := by
  unfold out0_A_18
  rw [View.read_writes_junk_eq_canon]
  show View.canon ([⟨Rect.unit ![0, 0, 0] S5x256x1.size inb_S5x256x1_S5x256x1_0_0_0,
      k0_pay2 (k0_pay14 (k0_pay11 (k0_pay6 (View.readAt (Elt F) arg0.view (Rect.unit (s := S5x256x1024) ![0, 0, 0] S5x256x1024.size inb_S5x256x1024_S5x256x1024_0_0_0).toLoadRect (harg0.unread x0)) (View.readAt (Elt F) arg1.view (Rect.unit (s := S5x256x512) ![0, 0, 0] S5x256x512.size inb_S5x256x512_S5x256x512_0_0_0).toLoadRect (harg1.unread x1)) (View.readAt (Elt F) arg5.view (Rect.unit (s := S512x1024) ![0, 0] S512x1024.size inb_S512x1024_S512x1024_0_0).toLoadRect (harg5.unread x5)) (View.readAt (Elt F) arg6.view (Rect.unit (s := S1024) ![0] S1024.size inb_S1024_S1024_0).toLoadRect (harg6.unread x6)) (View.readAt (Elt F) arg3.view (Rect.unit (s := S2) ![0] S1.size inb_S2_S1_0).toLoadRect (harg3.unread x3) _)) (View.readAt (Elt F) arg3.view (Rect.unit (s := S2) ![1] S1.size inb_S2_S1_1).toLoadRect (harg3.unread x3) _) (View.readAt (Elt F) arg2.view (Rect.unit (s := S5x256x1024) ![0, 0, 0] S5x256x1024.size inb_S5x256x1024_S5x256x1024_0_0_0).toLoadRect (harg2.unread x2)) (View.readAt (Elt F) arg4.view (Rect.unit (s := S1024) ![0] S1024.size inb_S1024_S1024_0).toLoadRect (harg4.unread x4)) (View.readAt (Elt F) arg7.view (Rect.unit (s := S1024x4096) ![0, 0] S1024x4096.size inb_S1024x4096_S1024x4096_0_0).toLoadRect (harg7.unread x7))) (k0_pay12 (View.readAt (Elt F) arg8.view (Rect.unit (s := S4096) ![0] S4096.size inb_S4096_S4096_0).toLoadRect (harg8.unread x8))))⟩] :
      List (View.Piece (Elt F) S5x256x1 .f32)) = _
  rw [View.canon_unit_zero hz3]
  rw [load arg0 harg0 hz3, load arg1 harg1 hz3, load arg2 harg2 hz3, load arg4 harg4 hz1, load arg5 harg5 hz2, load arg6 harg6 hz1, load arg7 harg7 hz2, load arg8 harg8 hz1, word0, word1]

end Cert.Proof.TailRefOut

end
-- ==== Proof.TailRefFinal.lean ====
/- The reference's result arrays after the run, at every index, as the tail's mathematics (TailSpec.lean) of the argument
   arrays: its one grid point reads and writes whole arrays (TailRefOut.lean), and the payloads are read by rows
   (TailRefPay.lean). -/
module

public import proofs.«01_k».proof.Proof.TailSpec
public import proofs.«01_k».proof.Proof.TailRefPay
public import proofs.«01_k».proof.Proof.TailRefOut

@[expose] public section

set_option maxRecDepth 16384

noncomputable section

namespace Cert.Proof.TailRefFinal

open Idealize.ShloMosaic Idealize.ShloMosaic.TcCoe Idealize.SL.Sem Cert.TailRefIdeal Cert.TailRefIdeal.Gen Cert.Proof
open Cert.Proof.TailRefOut Cert.Proof.TailRefPay

/-! ## Where the blocks lie in the arrays -/

/-- The one grid point. -/
def pt : Fin cfg0.N := ⟨0, by decide⟩

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (y : S5x256x1024.Idx) : ((cfg0.win 0).blk t).view.emb y = y := by
  obtain ⟨e0, e1, e2⟩ := idx0 t
  funext a; apply Fin.ext
  match a with
  | ⟨0, _⟩ => show win0_0.index t (0 : Fin 3) * 5 + 1 * (y 0).val = (y 0).val; omega
  | ⟨1, _⟩ => show win0_0.index t (1 : Fin 3) * 256 + 1 * (y 1).val = (y 1).val; omega
  | ⟨2, _⟩ => show win0_0.index t (2 : Fin 3) * 1024 + 1 * (y 2).val = (y 2).val; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (y : S5x256x512.Idx) : ((cfg0.win 1).blk t).view.emb y = y := by
  obtain ⟨e0, e1, e2⟩ := idx1 t
  funext a; apply Fin.ext
  match a with
  | ⟨0, _⟩ => show win0_1.index t (0 : Fin 3) * 5 + 1 * (y 0).val = (y 0).val; omega
  | ⟨1, _⟩ => show win0_1.index t (1 : Fin 3) * 256 + 1 * (y 1).val = (y 1).val; omega
  | ⟨2, _⟩ => show win0_1.index t (2 : Fin 3) * 512 + 1 * (y 2).val = (y 2).val; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (y : S5x256x1024.Idx) : ((cfg0.win 2).blk t).view.emb y = y := by
  obtain ⟨e0, e1, e2⟩ := idx2 t
  funext a; apply Fin.ext
  match a with
  | ⟨0, _⟩ => show win0_2.index t (0 : Fin 3) * 5 + 1 * (y 0).val = (y 0).val; omega
  | ⟨1, _⟩ => show win0_2.index t (1 : Fin 3) * 256 + 1 * (y 1).val = (y 1).val; omega
  | ⟨2, _⟩ => show win0_2.index t (2 : Fin 3) * 1024 + 1 * (y 2).val = (y 2).val; omega

theorem idx3 : ∀ t : Fin cfg0.N, win0_3.index t (0 : Fin 1) = 0 :=
  (by decide +kernel : ∀ t : Fin grid0.N, _)

theorem emb3 (t : Fin cfg0.N) (y : S2.Idx) : ((cfg0.win 3).blk t).view.emb y = y := by
  have e0 := idx3 t
  funext a; apply Fin.ext
  match a with
  | ⟨0, _⟩ => show win0_3.index t (0 : Fin 1) * 2 + 1 * (y 0).val = (y 0).val; omega

theorem idx4 : ∀ t : Fin cfg0.N, win0_4.index t (0 : Fin 1) = 0 :=
  (by decide +kernel : ∀ t : Fin grid0.N, _)

theorem emb4 (t : Fin cfg0.N) (y : S1024.Idx) : ((cfg0.win 4).blk t).view.emb y = y := by
  have e0 := idx4 t
  funext a; apply Fin.ext
  match a with
  | ⟨0, _⟩ => show win0_4.index t (0 : Fin 1) * 1024 + 1 * (y 0).val = (y 0).val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (y : S512x1024.Idx) : ((cfg0.win 5).blk t).view.emb y = y := by
  obtain ⟨e0, e1⟩ := idx5 t
  funext a; apply Fin.ext
  match a with
  | ⟨0, _⟩ => show win0_5.index t (0 : Fin 2) * 512 + 1 * (y 0).val = (y 0).val; omega
  | ⟨1, _⟩ => show win0_5.index t (1 : Fin 2) * 1024 + 1 * (y 1).val = (y 1).val; omega

theorem idx6 : ∀ t : Fin cfg0.N, win0_6.index t (0 : Fin 1) = 0 :=
  (by decide +kernel : ∀ t : Fin grid0.N, _)

theorem emb6 (t : Fin cfg0.N) (y : S1024.Idx) : ((cfg0.win 6).blk t).view.emb y = y := by
  have e0 := idx6 t
  funext a; apply Fin.ext
  match a with
  | ⟨0, _⟩ => show win0_6.index t (0 : Fin 1) * 1024 + 1 * (y 0).val = (y 0).val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (y : S1024x4096.Idx) : ((cfg0.win 7).blk t).view.emb y = y := by
  obtain ⟨e0, e1⟩ := idx7 t
  funext a; apply Fin.ext
  match a with
  | ⟨0, _⟩ => show win0_7.index t (0 : Fin 2) * 1024 + 1 * (y 0).val = (y 0).val; omega
  | ⟨1, _⟩ => show win0_7.index t (1 : Fin 2) * 4096 + 1 * (y 1).val = (y 1).val; omega

theorem idx8 : ∀ t : Fin cfg0.N, win0_8.index t (0 : Fin 1) = 0 :=
  (by decide +kernel : ∀ t : Fin grid0.N, _)

theorem emb8 (t : Fin cfg0.N) (y : S4096.Idx) : ((cfg0.win 8).blk t).view.emb y = y := by
  have e0 := idx8 t
  funext a; apply Fin.ext
  match a with
  | ⟨0, _⟩ => show win0_8.index t (0 : Fin 1) * 4096 + 1 * (y 0).val = (y 0).val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (y : S2048x1024.Idx) : ((cfg0.win 9).blk t).view.emb y = y := by
  obtain ⟨e0, e1⟩ := idx9 t
  funext a; apply Fin.ext
  match a with
  | ⟨0, _⟩ => show win0_9.index t (0 : Fin 2) * 2048 + 1 * (y 0).val = (y 0).val; omega
  | ⟨1, _⟩ => show win0_9.index t (1 : Fin 2) * 1024 + 1 * (y 1).val = (y 1).val; omega

theorem idx10 : ∀ t : Fin cfg0.N, win0_10.index t (0 : Fin 1) = 0 :=
  (by decide +kernel : ∀ t : Fin grid0.N, _)

theorem emb10 (t : Fin cfg0.N) (y : S1024.Idx) : ((cfg0.win 10).blk t).view.emb y = y := by
  have e0 := idx10 t
  funext a; apply Fin.ext
  match a with
  | ⟨0, _⟩ => show win0_10.index t (0 : Fin 1) * 1024 + 1 * (y 0).val = (y 0).val; omega

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (y : S5x256x1024.Idx) : ((cfg0.win 11).blk t).view.emb y = y := by
  obtain ⟨e0, e1, e2⟩ := idx11 t
  funext a; apply Fin.ext
  match a with
  | ⟨0, _⟩ => show win0_11.index t (0 : Fin 3) * 5 + 1 * (y 0).val = (y 0).val; omega
  | ⟨1, _⟩ => show win0_11.index t (1 : Fin 3) * 256 + 1 * (y 1).val = (y 1).val; omega
  | ⟨2, _⟩ => show win0_11.index t (2 : Fin 3) * 1024 + 1 * (y 2).val = (y 2).val; omega

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (y : S5x256x1024.Idx) : ((cfg0.win 12).blk t).view.emb y = y := by
  obtain ⟨e0, e1, e2⟩ := idx12 t
  funext a; apply Fin.ext
  match a with
  | ⟨0, _⟩ => show win0_12.index t (0 : Fin 3) * 5 + 1 * (y 0).val = (y 0).val; omega
  | ⟨1, _⟩ => show win0_12.index t (1 : Fin 3) * 256 + 1 * (y 1).val = (y 1).val; omega
  | ⟨2, _⟩ => show win0_12.index t (2 : Fin 3) * 1024 + 1 * (y 2).val = (y 2).val; omega

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

theorem emb13 (t : Fin cfg0.N) (y : S5x256x512.Idx) : ((cfg0.win 13).blk t).view.emb y = y := by
  obtain ⟨e0, e1, e2⟩ := idx13 t
  funext a; apply Fin.ext
  match a with
  | ⟨0, _⟩ => show win0_13.index t (0 : Fin 3) * 5 + 1 * (y 0).val = (y 0).val; omega
  | ⟨1, _⟩ => show win0_13.index t (1 : Fin 3) * 256 + 1 * (y 1).val = (y 1).val; omega
  | ⟨2, _⟩ => show win0_13.index t (2 : Fin 3) * 512 + 1 * (y 2).val = (y 2).val; omega

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

theorem emb14 (t : Fin cfg0.N) (y : S5x256x1.Idx) : ((cfg0.win 14).blk t).view.emb y = y := by
  obtain ⟨e0, e1, e2⟩ := idx14 t
  funext a; apply Fin.ext
  match a with
  | ⟨0, _⟩ => show win0_14.index t (0 : Fin 3) * 5 + 1 * (y 0).val = (y 0).val; omega
  | ⟨1, _⟩ => show win0_14.index t (1 : Fin 3) * 256 + 1 * (y 1).val = (y 1).val; omega
  | ⟨2, _⟩ => show win0_14.index t (2 : Fin 3) * 1 + 1 * (y 2).val = (y 2).val; omega

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)

theorem emb15 (t : Fin cfg0.N) (y : S5x256x1024.Idx) : ((cfg0.win 15).blk t).view.emb y = y := by
  obtain ⟨e0, e1, e2⟩ := idx15 t
  funext a; apply Fin.ext
  match a with
  | ⟨0, _⟩ => show win0_15.index t (0 : Fin 3) * 5 + 1 * (y 0).val = (y 0).val; omega
  | ⟨1, _⟩ => show win0_15.index t (1 : Fin 3) * 256 + 1 * (y 1).val = (y 1).val; omega
  | ⟨2, _⟩ => show win0_15.index t (2 : Fin 3) * 1024 + 1 * (y 2).val = (y 2).val; omega

theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)

theorem emb16 (t : Fin cfg0.N) (y : S5x256x1.Idx) : ((cfg0.win 16).blk t).view.emb y = y := by
  obtain ⟨e0, e1, e2⟩ := idx16 t
  funext a; apply Fin.ext
  match a with
  | ⟨0, _⟩ => show win0_16.index t (0 : Fin 3) * 5 + 1 * (y 0).val = (y 0).val; omega
  | ⟨1, _⟩ => show win0_16.index t (1 : Fin 3) * 256 + 1 * (y 1).val = (y 1).val; omega
  | ⟨2, _⟩ => show win0_16.index t (2 : Fin 3) * 1 + 1 * (y 2).val = (y 2).val; omega

theorem idx17 : ∀ t : Fin cfg0.N, win0_17.index t (0 : Fin 3) = 0 ∧ win0_17.index t (1 : Fin 3) = 0 ∧ win0_17.index t (2 : Fin 3) = 0 :=
  (by decide +kernel : ∀ t : Fin grid0.N, _)

theorem emb17 (t : Fin cfg0.N) (y : S5x256x2048.Idx) : ((cfg0.win 17).blk t).view.emb y = y := by
  obtain ⟨e0, e1, e2⟩ := idx17 t
  funext a; apply Fin.ext
  match a with
  | ⟨0, _⟩ => show win0_17.index t (0 : Fin 3) * 5 + 1 * (y 0).val = (y 0).val; omega
  | ⟨1, _⟩ => show win0_17.index t (1 : Fin 3) * 256 + 1 * (y 1).val = (y 1).val; omega
  | ⟨2, _⟩ => show win0_17.index t (2 : Fin 3) * 2048 + 1 * (y 2).val = (y 2).val; omega

theorem idx18 : ∀ t : Fin cfg0.N, win0_18.index t (0 : Fin 3) = 0 ∧ win0_18.index t (1 : Fin 3) = 0 ∧ win0_18.index t (2 : Fin 3) = 0 :=
  (by decide +kernel : ∀ t : Fin grid0.N, _)

theorem emb18 (t : Fin cfg0.N) (y : S5x256x1.Idx) : ((cfg0.win 18).blk t).view.emb y = y := by
  obtain ⟨e0, e1, e2⟩ := idx18 t
  funext a; apply Fin.ext
  match a with
  | ⟨0, _⟩ => show win0_18.index t (0 : Fin 3) * 5 + 1 * (y 0).val = (y 0).val; omega
  | ⟨1, _⟩ => show win0_18.index t (1 : Fin 3) * 256 + 1 * (y 1).val = (y 1).val; omega
  | ⟨2, _⟩ => show win0_18.index t (2 : Fin 3) * 1 + 1 * (y 2).val = (y 2).val; omega

/-! ## The arrays before the call -/

variable (m : (ℓ : Loc nD τ sig) → Buf (Elt Ideal) ℓ)

theorem V_v0 (c : Dev nD) : (V m c main_v0 : Vec Ideal S5x256x1024 .bf16)
    = transpose S5x256x1024 [1, 0, 2] (m ((c : Thread nD τ).loc main_arg0)) transposes_S256x5x1024_S5x256x1024_1_0_2 := by
  unfold_abbrev_sides
  after_results

/-- The argument arrays of a launch, by coordinates. -/
def args (c : Dev nD) : TailSpec.Args where
  x r s l := m ((c : Thread nD τ).loc main_arg0) (ix3 r s l)
  att s r l := m ((c : Thread nD τ).loc main_arg1) (ix3 s r l)
  sp s r l := m ((c : Thread nD τ).loc main_arg2) (ix3 s r l)
  bm j := m ((c : Thread nD τ).loc main_arg3) (ix1 j)
  n2 l := m ((c : Thread nD τ).loc main_arg4) (ix1 l)
  wa x y := m ((c : Thread nD τ).loc main_arg5) (ix2 x y)
  was l := m ((c : Thread nD τ).loc main_arg6) (ix1 l)
  wg x y := m ((c : Thread nD τ).loc main_arg7) (ix2 x y)
  wgs l := m ((c : Thread nD τ).loc main_arg8) (ix1 l)
  wd x y := m ((c : Thread nD τ).loc main_arg9) (ix2 x y)
  wds l := m ((c : Thread nD τ).loc main_arg10) (ix1 l)

variable (c : Dev nD) (t : Fin 5)

theorem in0 (r : Fin 256) (l : Fin 1024) : iblk m c 0 pt (ix3 t r l) = (args m c).x r t l := by
  show V m c main_v0 (((cfg0.win 0).blk pt).view.emb (ix3 t r l)) = _
  rw [emb0, V_v0]; pointwise; rfl

theorem in1 (r : Fin 256) (l : Fin 512) : iblk m c 1 pt (ix3 t r l) = (args m c).att t r l := by
  show V m c main_arg1 (((cfg0.win 1).blk pt).view.emb (ix3 t r l)) = _
  rw [emb1, V_main_arg1]; rfl
theorem in2 (r : Fin 256) (l : Fin 1024) : iblk m c 2 pt (ix3 t r l) = (args m c).sp t r l := by
  show V m c main_arg2 (((cfg0.win 2).blk pt).view.emb (ix3 t r l)) = _
  rw [emb2, V_main_arg2]; rfl
theorem in5 (x : Fin 512) (y : Fin 1024) : iblk m c 5 pt (ix2 x y) = (args m c).wa x y := by
  show V m c main_arg5 (((cfg0.win 5).blk pt).view.emb (ix2 x y)) = _
  rw [emb5, V_main_arg5]; rfl
theorem in7 (x : Fin 1024) (y : Fin 4096) : iblk m c 7 pt (ix2 x y) = (args m c).wg x y := by
  show V m c main_arg7 (((cfg0.win 7).blk pt).view.emb (ix2 x y)) = _
  rw [emb7, V_main_arg7]; rfl
theorem in9 (x : Fin 2048) (y : Fin 1024) : iblk m c 9 pt (ix2 x y) = (args m c).wd x y := by
  show V m c main_arg9 (((cfg0.win 9).blk pt).view.emb (ix2 x y)) = _
  rw [emb9, V_main_arg9]; rfl
theorem in3 (y : Fin 2) : iblk m c 3 pt (ix1 y) = (args m c).bm y := by
  show V m c main_arg3 (((cfg0.win 3).blk pt).view.emb (ix1 y)) = _
  rw [emb3, V_main_arg3]; rfl
theorem in4 (y : Fin 1024) : iblk m c 4 pt (ix1 y) = (args m c).n2 y := by
  show V m c main_arg4 (((cfg0.win 4).blk pt).view.emb (ix1 y)) = _
  rw [emb4, V_main_arg4]; rfl
theorem in6 (y : Fin 1024) : iblk m c 6 pt (ix1 y) = (args m c).was y := by
  show V m c main_arg6 (((cfg0.win 6).blk pt).view.emb (ix1 y)) = _
  rw [emb6, V_main_arg6]; rfl
theorem in8 (y : Fin 4096) : iblk m c 8 pt (ix1 y) = (args m c).wgs y := by
  show V m c main_arg8 (((cfg0.win 8).blk pt).view.emb (ix1 y)) = _
  rw [emb8, V_main_arg8]; rfl
theorem in10 (y : Fin 1024) : iblk m c 10 pt (ix1 y) = (args m c).wds y := by
  show V m c main_arg10 (((cfg0.win 10).blk pt).view.emb (ix1 y)) = _
  rw [emb10, V_main_arg10]; rfl

/-! ## The payloads as the mathematics -/

theorem ap_eq (r : Fin 256) (l : Fin 1024) :
    k0_pay5 (iblk m c 1 pt) (iblk m c 5 pt) (iblk m c 6 pt) (ix3 t r l) = TailSpec.attnProj (args m c) t r l := by
  rw [pay5]
  simp only [in1, in5, in6]
  rfl

/-- The residual stream. -/
abbrev resP : FVec Ideal S5x256x1024 .f32 := k0_pay7 (k0_pay6 (iblk m c 0 pt) (iblk m c 1 pt) (iblk m c 5 pt) (iblk m c 6 pt) (iblk m c 3 pt (ix1 0))) (iblk m c 3 pt (ix1 1)) (iblk m c 2 pt)
/-- Its normalisation. -/
abbrev midP : FVec Ideal S5x256x1024 .f32 := k0_pay8 (k0_pay6 (iblk m c 0 pt) (iblk m c 1 pt) (iblk m c 5 pt) (iblk m c 6 pt) (iblk m c 3 pt (ix1 0))) (iblk m c 3 pt (ix1 1)) (iblk m c 2 pt) (iblk m c 4 pt)

theorem res_eq (r : Fin 256) (l : Fin 1024) : resP m c (ix3 t r l) = TailSpec.h1 (args m c) t r l := by
  refine (pay7 _ _ _ _ _ _ _ t r l).trans ?_
  simp only [in0, in2, in3, ap_eq]
  rfl
theorem mid_eq (r : Fin 256) (l : Fin 1024) : midP m c (ix3 t r l) = TailSpec.mid (args m c) t r l := by
  refine (pay8 _ _ _ _ t r l).trans ?_
  simp only [res_eq, in4]
  rfl

/-- The products with the gate and up weights, scaled by the row. -/
abbrev gu : FVec Ideal S5x256x4096 .f32 := k0_pay11 (k0_pay6 (iblk m c 0 pt) (iblk m c 1 pt) (iblk m c 5 pt) (iblk m c 6 pt) (iblk m c 3 pt (ix1 0))) (iblk m c 3 pt (ix1 1)) (iblk m c 2 pt) (iblk m c 4 pt) (iblk m c 7 pt)
/-- The column scales of the gate and up weights. -/
abbrev gus : FVec Ideal S1x1x4096 .f32 := k0_pay12 (iblk m c 8 pt)
/-- The gated activation. -/
abbrev actP : FVec Ideal S5x256x2048 .f32 := k0_pay13 (gu m c) (gus m c)

theorem act_eq (r : Fin 256) (l : Fin 2048) : actP m c (ix3 t r l) = TailSpec.gated (args m c) t r l := by
  refine (pay13 _ _ _ _ _ _ t r l).trans ?_
  simp only [mid_eq, in7, in8]
  rfl

/-! ## The result arrays -/

theorem arr11 (r : Fin 256) (l : Fin 1024) :
    (dats m 0 c).arrAt 11 cfg0.N (ix3 t r l : S5x256x1024.Idx) = TailSpec.hidden (args m c) t r l := by
  have b := congrFun (Value.blocks11 m c pt (flush0_11 pt)) (ix3 t r l : S5x256x1024.Idx)
  rw [Value.flushed11_A, out11] at b
  have b' : (dats m 0 c).arrAt 11 cfg0.N (((cfg0.win 11).blk pt).view.emb (ix3 t r l : S5x256x1024.Idx))
      = k0_pay16 (resP m c) (gu m c) (gus m c) (iblk m c 9 pt) (iblk m c 10 pt) (ix3 t r l) := b
  rw [emb11] at b'
  refine b'.trans ?_
  refine (pay16 _ _ _ _ _ t r l).trans ?_
  simp only [res_eq, act_eq, in9, in10]
  rfl

theorem arr12 (r : Fin 256) (l : Fin 1024) :
    (dats m 0 c).arrAt 12 cfg0.N (ix3 t r l : S5x256x1024.Idx) = TailSpec.attnProj (args m c) t r l := by
  have b := congrFun (Value.blocks12 m c pt (flush0_12 pt)) (ix3 t r l : S5x256x1024.Idx)
  rw [Value.flushed12_A, out12] at b
  have b' : (dats m 0 c).arrAt 12 cfg0.N (((cfg0.win 12).blk pt).view.emb (ix3 t r l : S5x256x1024.Idx))
      = k0_pay5 (iblk m c 1 pt) (iblk m c 5 pt) (iblk m c 6 pt) (ix3 t r l) := b
  rw [emb12] at b'
  refine b'.trans ?_
  exact ap_eq m c t r l

theorem arr13 (r : Fin 256) (l : Fin 512) :
    (dats m 0 c).arrAt 13 cfg0.N (ix3 t r l : S5x256x512.Idx) = Row.code8 ((args m c).att t r) l := by
  have b := congrFun (Value.blocks13 m c pt (flush0_13 pt)) (ix3 t r l : S5x256x512.Idx)
  rw [Value.flushed13_A, out13] at b
  have b' : (dats m 0 c).arrAt 13 cfg0.N (((cfg0.win 13).blk pt).view.emb (ix3 t r l : S5x256x512.Idx))
      = k0_pay4 (iblk m c 1 pt) (ix3 t r l) := b
  rw [emb13] at b'
  refine b'.trans ?_
  rw [pay4]
  simp only [in1]

theorem arr14 (r : Fin 256) (l : Fin 1) :
    (dats m 0 c).arrAt 14 cfg0.N (ix3 t r l : S5x256x1.Idx) = Row.scale ((args m c).att t r) := by
  have b := congrFun (Value.blocks14 m c pt (flush0_14 pt)) (ix3 t r l : S5x256x1.Idx)
  rw [Value.flushed14_A, out14] at b
  have b' : (dats m 0 c).arrAt 14 cfg0.N (((cfg0.win 14).blk pt).view.emb (ix3 t r l : S5x256x1.Idx))
      = k0_pay17 (k0_pay3 (iblk m c 1 pt)) (ix3 t r l) := b
  rw [emb14] at b'
  refine b'.trans ?_
  rw [pay17, pay3]
  simp only [in1]

theorem arr15 (r : Fin 256) (l : Fin 1024) :
    (dats m 0 c).arrAt 15 cfg0.N (ix3 t r l : S5x256x1024.Idx) = Row.code8 (TailSpec.mid (args m c) t r) l := by
  have b := congrFun (Value.blocks15 m c pt (flush0_15 pt)) (ix3 t r l : S5x256x1024.Idx)
  rw [Value.flushed15_A, out15] at b
  have b' : (dats m 0 c).arrAt 15 cfg0.N (((cfg0.win 15).blk pt).view.emb (ix3 t r l : S5x256x1024.Idx))
      = k0_pay10 (k0_pay6 (iblk m c 0 pt) (iblk m c 1 pt) (iblk m c 5 pt) (iblk m c 6 pt) (iblk m c 3 pt (ix1 0))) (iblk m c 3 pt (ix1 1)) (iblk m c 2 pt) (iblk m c 4 pt) (ix3 t r l) := b
  rw [emb15] at b'
  refine b'.trans ?_
  refine (pay10 _ _ _ _ t r l).trans ?_
  simp only [mid_eq]

theorem arr16 (r : Fin 256) (l : Fin 1) :
    (dats m 0 c).arrAt 16 cfg0.N (ix3 t r l : S5x256x1.Idx) = Row.scale (TailSpec.mid (args m c) t r) := by
  have b := congrFun (Value.blocks16 m c pt (flush0_16 pt)) (ix3 t r l : S5x256x1.Idx)
  rw [Value.flushed16_A, out16] at b
  have b' : (dats m 0 c).arrAt 16 cfg0.N (((cfg0.win 16).blk pt).view.emb (ix3 t r l : S5x256x1.Idx))
      = k0_pay1 (k0_pay9 (k0_pay6 (iblk m c 0 pt) (iblk m c 1 pt) (iblk m c 5 pt) (iblk m c 6 pt) (iblk m c 3 pt (ix1 0))) (iblk m c 3 pt (ix1 1)) (iblk m c 2 pt) (iblk m c 4 pt)) (ix3 t r l) := b
  rw [emb16] at b'
  refine b'.trans ?_
  rw [pay1]
  refine (pay9 _ _ _ _ t r).trans ?_
  simp only [mid_eq]

theorem arr17 (r : Fin 256) (l : Fin 2048) :
    (dats m 0 c).arrAt 17 cfg0.N (ix3 t r l : S5x256x2048.Idx) = Row.code8 (TailSpec.gated (args m c) t r) l := by
  have b := congrFun (Value.blocks17 m c pt (flush0_17 pt)) (ix3 t r l : S5x256x2048.Idx)
  rw [Value.flushed17_A, out17] at b
  have b' : (dats m 0 c).arrAt 17 cfg0.N (((cfg0.win 17).blk pt).view.emb (ix3 t r l : S5x256x2048.Idx))
      = k0_pay15 (gu m c) (gus m c) (ix3 t r l) := b
  rw [emb17] at b'
  refine b'.trans ?_
  refine (pay15 _ _ t r l).trans ?_
  simp only [act_eq]

theorem arr18 (r : Fin 256) (l : Fin 1) :
    (dats m 0 c).arrAt 18 cfg0.N (ix3 t r l : S5x256x1.Idx) = Row.scale (TailSpec.gated (args m c) t r) := by
  have b := congrFun (Value.blocks18 m c pt (flush0_18 pt)) (ix3 t r l : S5x256x1.Idx)
  rw [Value.flushed18_A, out18] at b
  have b' : (dats m 0 c).arrAt 18 cfg0.N (((cfg0.win 18).blk pt).view.emb (ix3 t r l : S5x256x1.Idx))
      = k0_pay2 (k0_pay14 (gu m c) (gus m c)) (ix3 t r l) := b
  rw [emb18] at b'
  refine b'.trans ?_
  rw [pay2]
  refine (pay14 _ _ t r).trans ?_
  simp only [act_eq]

end Cert.Proof.TailRefFinal

end
-- ==== Proof.TailClaim.lean ====
/- The tail kernel and its reference leave the same eight result arrays when their arguments agree: each array of either
   program is the same function (TailSpec.lean) of the arguments. -/
module

public import proofs.«01_k».proof.Defs
public import proofs.«01_k».proof.Proof.TailFinal
public import proofs.«01_k».proof.Proof.TailRefFinal

@[expose] public section

set_option maxRecDepth 16384

noncomputable section

namespace Cert.Proof.TailClaim

open Idealize.ShloMosaic Idealize.ShloMosaic.TcCoe Idealize.SL.Sem Cert.Proof

/-- Two arrays of rank 3 are equal when they agree at every triple of coordinates. -/
theorem ext3 {a b d : Nat} {α : Type} {f g : (⟨3, ![a, b, d]⟩ : Shape).Idx → α}
    (h : ∀ (i : Fin a) (j : Fin b) (k : Fin d), f (ix3 i j k) = g (ix3 i j k)) : f = g := by
  funext i
  have e : i = ix3 (i 0) (i 1) (i 2) := by
    funext q
    match q with
    | ⟨0, _⟩ => rfl
    | ⟨1, _⟩ => rfl
    | ⟨2, _⟩ => rfl
  rw [e]
  exact h (i 0) (i 1) (i 2)

variable (m : (ℓ : Loc TailIdeal.nD TailIdeal.τ TailIdeal.sig) → Buf (Elt Ideal) ℓ)
  (m' : (ℓ : Loc TailRefIdeal.nD TailRefIdeal.τ TailRefIdeal.sig) → Buf (Elt Ideal) ℓ)

/-- The arguments of the two launches agree. -/
def Agree : Prop :=
  ∀ c : Dev Cert.TailIdeal.nD,
    m' ((c.tc : Thread Cert.TailRefIdeal.nD Cert.TailRefIdeal.τ).loc Cert.TailRefIdeal.main_arg0) = m ((c.tc : Thread Cert.TailIdeal.nD Cert.TailIdeal.τ).loc Cert.TailIdeal.main_arg0)
    ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
    ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
    ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
    ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
    ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
    ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
    ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
    ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
    ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
    ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)

theorem args_eq (h : Agree m m') (c : Dev Cert.TailIdeal.nD) : TailRefFinal.args m' c = TailFinal.args m c := by
  obtain ⟨h0, h1, h2, h3, h4, h5, h6, h7, h8, h9, h10⟩ := h c
  unfold TailRefFinal.args TailFinal.args
  congr 1
  · funext r s l; exact congrFun h0 (ix3 r s l)
  · funext s r l; exact congrFun h1 (ix3 s r l)
  · funext s r l; exact congrFun h2 (ix3 s r l)
  · funext j; exact congrFun h3 (ix1 j)
  · funext j; exact congrFun h4 (ix1 j)
  · funext x y; exact congrFun h5 (ix2 x y)
  · funext j; exact congrFun h6 (ix1 j)
  · funext x y; exact congrFun h7 (ix2 x y)
  · funext j; exact congrFun h8 (ix1 j)
  · funext x y; exact congrFun h9 (ix2 x y)
  · funext j; exact congrFun h10 (ix1 j)

theorem eq11 (h : Agree m m') (c : Dev Cert.TailIdeal.nD) :
    (TailRefIdeal.Gen.dats m' 0 c).arrAt 11 TailRefIdeal.cfg0.N
      = (TailIdeal.Gen.dats m 0 c).arrAt 11 TailIdeal.cfg0.N :=
  ext3 (a := 5) (b := 256) (d := 1024) fun s r l => by
    refine (TailRefFinal.arr11 m' c s r l).trans (Eq.trans ?_ (TailFinal.arr11 m c s r l).symm)
    rw [args_eq m m' h c]

theorem eq12 (h : Agree m m') (c : Dev Cert.TailIdeal.nD) :
    (TailRefIdeal.Gen.dats m' 0 c).arrAt 12 TailRefIdeal.cfg0.N
      = (TailIdeal.Gen.dats m 0 c).arrAt 12 TailIdeal.cfg0.N :=
  ext3 (a := 5) (b := 256) (d := 1024) fun s r l => by
    refine (TailRefFinal.arr12 m' c s r l).trans (Eq.trans ?_ (TailFinal.arr12 m c s r l).symm)
    rw [args_eq m m' h c]

theorem eq13 (h : Agree m m') (c : Dev Cert.TailIdeal.nD) :
    (TailRefIdeal.Gen.dats m' 0 c).arrAt 13 TailRefIdeal.cfg0.N
      = (TailIdeal.Gen.dats m 0 c).arrAt 13 TailIdeal.cfg0.N :=
  ext3 (a := 5) (b := 256) (d := 512) fun s r l => by
    refine (TailRefFinal.arr13 m' c s r l).trans (Eq.trans ?_ (TailFinal.arr13 m c s r l).symm)
    rw [args_eq m m' h c]

theorem eq14 (h : Agree m m') (c : Dev Cert.TailIdeal.nD) :
    (TailRefIdeal.Gen.dats m' 0 c).arrAt 14 TailRefIdeal.cfg0.N
      = (TailIdeal.Gen.dats m 0 c).arrAt 14 TailIdeal.cfg0.N :=
  ext3 (a := 5) (b := 256) (d := 1) fun s r l => by
    refine (TailRefFinal.arr14 m' c s r l).trans (Eq.trans ?_ (TailFinal.arr14 m c s r l).symm)
    rw [args_eq m m' h c]

theorem eq15 (h : Agree m m') (c : Dev Cert.TailIdeal.nD) :
    (TailRefIdeal.Gen.dats m' 0 c).arrAt 15 TailRefIdeal.cfg0.N
      = (TailIdeal.Gen.dats m 0 c).arrAt 15 TailIdeal.cfg0.N :=
  ext3 (a := 5) (b := 256) (d := 1024) fun s r l => by
    refine (TailRefFinal.arr15 m' c s r l).trans (Eq.trans ?_ (TailFinal.arr15 m c s r l).symm)
    rw [args_eq m m' h c]

theorem eq16 (h : Agree m m') (c : Dev Cert.TailIdeal.nD) :
    (TailRefIdeal.Gen.dats m' 0 c).arrAt 16 TailRefIdeal.cfg0.N
      = (TailIdeal.Gen.dats m 0 c).arrAt 16 TailIdeal.cfg0.N :=
  ext3 (a := 5) (b := 256) (d := 1) fun s r l => by
    refine (TailRefFinal.arr16 m' c s r l).trans (Eq.trans ?_ (TailFinal.arr16 m c s r l).symm)
    rw [args_eq m m' h c]

theorem eq17 (h : Agree m m') (c : Dev Cert.TailIdeal.nD) :
    (TailRefIdeal.Gen.dats m' 0 c).arrAt 17 TailRefIdeal.cfg0.N
      = (TailIdeal.Gen.dats m 0 c).arrAt 17 TailIdeal.cfg0.N :=
  ext3 (a := 5) (b := 256) (d := 2048) fun s r l => by
    refine (TailRefFinal.arr17 m' c s r l).trans (Eq.trans ?_ (TailFinal.arr17 m c s r l).symm)
    rw [args_eq m m' h c]

theorem eq18 (h : Agree m m') (c : Dev Cert.TailIdeal.nD) :
    (TailRefIdeal.Gen.dats m' 0 c).arrAt 18 TailRefIdeal.cfg0.N
      = (TailIdeal.Gen.dats m 0 c).arrAt 18 TailIdeal.cfg0.N :=
  ext3 (a := 5) (b := 256) (d := 1) fun s r l => by
    refine (TailRefFinal.arr18 m' c s r l).trans (Eq.trans ?_ (TailFinal.arr18 m c s r l).symm)
    rw [args_eq m m' h c]

theorem algebraic : Cert.algebraic_TailIdeal_TailRefIdeal (hTailIdeal := Cert.TailIdeal.Gen.facts)
    (hTailRefIdeal := Cert.TailRefIdeal.Gen.facts) := by
  intro m ρ m' ρ' _ hag
  have hA : Agree m m' := hag
  refine ⟨fun c => (TailIdeal.Gen.dats m 0 c).arrAt 11 TailIdeal.cfg0.N, fun c => (TailIdeal.Gen.dats m 0 c).arrAt 12 TailIdeal.cfg0.N, fun c => (TailIdeal.Gen.dats m 0 c).arrAt 13 TailIdeal.cfg0.N, fun c => (TailIdeal.Gen.dats m 0 c).arrAt 14 TailIdeal.cfg0.N, fun c => (TailIdeal.Gen.dats m 0 c).arrAt 15 TailIdeal.cfg0.N, fun c => (TailIdeal.Gen.dats m 0 c).arrAt 16 TailIdeal.cfg0.N, fun c => (TailIdeal.Gen.dats m 0 c).arrAt 17 TailIdeal.cfg0.N, fun c => (TailIdeal.Gen.dats m 0 c).arrAt 18 TailIdeal.cfg0.N,
    TailIdeal.Value.run_blocks m ρ,
    (θ_run TailRefIdeal.defs _ _).mono (fun r h c => ?_) (TailRefIdeal.Value.run_blocks m' ρ')⟩
  obtain ⟨a0, a1, a2, a3, a4, a5, a6, a7, k⟩ := h c
  exact ⟨a0.trans (eq11 m m' hA c), a1.trans (eq12 m m' hA c), a2.trans (eq13 m m' hA c), a3.trans (eq14 m m' hA c),
    a4.trans (eq15 m m' hA c), a5.trans (eq16 m m' hA c), a6.trans (eq17 m m' hA c), a7.trans (eq18 m m' hA c), k⟩

end Cert.Proof.TailClaim

end
-- ==== Proof.ProjRunA.lean ====
/- The run of the input projection's kernel body at the first grid point, where the body starts the carried history and sums afresh.
   The body's printed functions are their skeletons, which `sl_exec` runs store by store. -/
module

public import proofs.«01_k».proof.Proof.Gen.Proj.Frame.Runs

@[expose] public section

set_option maxRecDepth 16384

noncomputable section

namespace Cert.Proj.Body

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 3000000 in
/-- The pieces each output's buffer and each scratch buffer ends with after the body at the first grid point, where the body starts the carried history and sums afresh, together with
    the proof that the body, given the inputs' buffers at their contents, ends with those pieces written and the
    inputs' buffers as they were. -/
noncomputable def kernelRun0_A (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S4376x1024 .i8) (harg3 : arg3.IsWhole) (arg4 : Memref sig .tc .vmem S1x4376 .f32) (harg4 : arg4.IsWhole) (arg5 : Memref sig .tc .vmem S1x4376 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .i32) (harg10 : arg10.IsWhole) (arg11 : Memref sig .tc .vmem S3x387x2048 .bf16) (harg11 : arg11.IsWhole) (arg12 : Memref sig .tc .vmem S4x2048 .f32) (harg12 : arg12.IsWhole) (arg13 : Memref sig .tc .vmem S1x2048 .f32) (harg13 : arg13.IsWhole) (arg14 : Memref sig .tc .vmem S1x24 .f32) (harg14 : arg14.IsWhole) (arg15 : Memref sig .tc .vmem S1x24 .f32) (harg15 : arg15.IsWhole) (arg16 : Memref sig .tc .vmem S24x1536 .f32) (harg16 : arg16.IsWhole) (arg17 : Memref sig .tc .vmem S24x384 .f32) (harg17 : arg17.IsWhole) (arg18 : Memref sig .tc .vmem S512x512 .f32) (harg18 : arg18.IsWhole) (arg19 : Memref sig .tc .vmem S1x256x1024 .i8) (harg19 : arg19.IsWhole) (arg20 : Memref sig .tc .vmem S1x256x1 .f32) (harg20 : arg20.IsWhole) (arg21 : Memref sig .tc .vmem S1x256x512 .bf16) (harg21 : arg21.IsWhole) (arg22 : Memref sig .tc .vmem S1x256x128 .fp8e4m3) (harg22 : arg22.IsWhole) (arg23 : Memref sig .tc .vmem S1x256x128 .fp8e4m3) (harg23 : arg23.IsWhole) (arg24 : Memref sig .tc .vmem S1x256x1536 .f32) (harg24 : arg24.IsWhole) (arg25 : Memref sig .tc .vmem S1x256x2048 .bf16) (harg25 : arg25.IsWhole) (arg26 : Memref sig .tc .vmem S1x256x1536 .f32) (harg26 : arg26.IsWhole) (arg27 : Memref sig .tc .vmem S1x256x512 .f32) (harg27 : arg27.IsWhole) (arg28 : Memref sig .tc .vmem S1x256x64 .f32) (harg28 : arg28.IsWhole) (arg29 : Memref sig .tc .vmem S256x1 .f32) (harg29 : arg29.IsWhole) (arg30 : Memref sig .tc .vmem S18x1x256x128 .f32) (harg30 : arg30.IsWhole) (arg31 : Memref sig .tc .vmem S3x256x2048 .bf16) (harg31 : arg31.IsWhole) (arg32 : Memref sig .tc .vmem S256x24 .f32) (harg32 : arg32.IsWhole) (hc0 : cond0_0 i)
    (x0 : Vec F S1x256x1024 .bf16) (x1 : Vec F S1x1024 .f32) (x2 : Vec F S4376x1024 .i8) (x3 : Vec F S1x4376 .f32) (x4 : Vec F S1x4376 .f32) (x5 : Vec F S1x256x128 .f32) (x6 : Vec F S1x256x128 .f32) (x7 : Vec F S1x128 .f32) (x8 : Vec F S1x128 .f32) (x9 : Vec F S256x1 .i32) (x10 : Vec F S3x387x2048 .bf16) (x11 : Vec F S4x2048 .f32) (x12 : Vec F S1x2048 .f32) (x13 : Vec F S1x24 .f32) (x14 : Vec F S1x24 .f32) (x15 : Vec F S24x1536 .f32) (x16 : Vec F S24x384 .f32) (x17 : Vec F S512x512 .f32) :
    Σ' (L18 : List (View.Piece (Elt F) S1x256x1024 .i8)), Σ' (L19 : List (View.Piece (Elt F) S1x256x1 .f32)), Σ' (L20 : List (View.Piece (Elt F) S1x256x512 .bf16)), Σ' (L21 : List (View.Piece (Elt F) S1x256x128 .fp8e4m3)), Σ' (L22 : List (View.Piece (Elt F) S1x256x128 .fp8e4m3)), Σ' (L23 : List (View.Piece (Elt F) S1x256x1536 .f32)), Σ' (L24 : List (View.Piece (Elt F) S1x256x2048 .bf16)), Σ' (L25 : List (View.Piece (Elt F) S1x256x1536 .f32)), Σ' (L26 : List (View.Piece (Elt F) S1x256x512 .f32)), Σ' (L27 : List (View.Piece (Elt F) S1x256x64 .f32)), Σ' (L28 : List (View.Piece (Elt F) S256x1 .f32)), Σ' (L29 : List (View.Piece (Elt F) S18x1x256x128 .f32)), Σ' (LS0 : List (View.Piece (Elt F) S3x256x2048 .bf16)), { LS1 : List (View.Piece (Elt F) S256x24 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LS0) ∗ (∃ f, arg32.view.loc (c : Thread nD τ) ↦[arg32.view.set]{fullShare} arg32.view.writes (Elt F) f LS1)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0_proj_eq_skeleton]; unfold cc0_proj_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.Proj.Body

end
-- ==== Proof.ProjRunB.lean ====
/- The run of the input projection's kernel body at a later grid point, where the body continues from the history and sums the point before left.
   The body's printed functions are their skeletons, which `sl_exec` runs store by store. -/
module

public import proofs.«01_k».proof.Proof.ProjRunA

@[expose] public section

set_option maxRecDepth 16384

noncomputable section

namespace Cert.Proj.Body

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 3000000 in
/-- The pieces each output's buffer and each scratch buffer ends with after the body at a later grid point, where the body continues from the history and sums the point before left, together with
    the proof that the body, given the inputs' buffers at their contents, ends with those pieces written and the
    inputs' buffers as they were. -/
noncomputable def kernelRun0_B (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S4376x1024 .i8) (harg3 : arg3.IsWhole) (arg4 : Memref sig .tc .vmem S1x4376 .f32) (harg4 : arg4.IsWhole) (arg5 : Memref sig .tc .vmem S1x4376 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .i32) (harg10 : arg10.IsWhole) (arg11 : Memref sig .tc .vmem S3x387x2048 .bf16) (harg11 : arg11.IsWhole) (arg12 : Memref sig .tc .vmem S4x2048 .f32) (harg12 : arg12.IsWhole) (arg13 : Memref sig .tc .vmem S1x2048 .f32) (harg13 : arg13.IsWhole) (arg14 : Memref sig .tc .vmem S1x24 .f32) (harg14 : arg14.IsWhole) (arg15 : Memref sig .tc .vmem S1x24 .f32) (harg15 : arg15.IsWhole) (arg16 : Memref sig .tc .vmem S24x1536 .f32) (harg16 : arg16.IsWhole) (arg17 : Memref sig .tc .vmem S24x384 .f32) (harg17 : arg17.IsWhole) (arg18 : Memref sig .tc .vmem S512x512 .f32) (harg18 : arg18.IsWhole) (arg19 : Memref sig .tc .vmem S1x256x1024 .i8) (harg19 : arg19.IsWhole) (arg20 : Memref sig .tc .vmem S1x256x1 .f32) (harg20 : arg20.IsWhole) (arg21 : Memref sig .tc .vmem S1x256x512 .bf16) (harg21 : arg21.IsWhole) (arg22 : Memref sig .tc .vmem S1x256x128 .fp8e4m3) (harg22 : arg22.IsWhole) (arg23 : Memref sig .tc .vmem S1x256x128 .fp8e4m3) (harg23 : arg23.IsWhole) (arg24 : Memref sig .tc .vmem S1x256x1536 .f32) (harg24 : arg24.IsWhole) (arg25 : Memref sig .tc .vmem S1x256x2048 .bf16) (harg25 : arg25.IsWhole) (arg26 : Memref sig .tc .vmem S1x256x1536 .f32) (harg26 : arg26.IsWhole) (arg27 : Memref sig .tc .vmem S1x256x512 .f32) (harg27 : arg27.IsWhole) (arg28 : Memref sig .tc .vmem S1x256x64 .f32) (harg28 : arg28.IsWhole) (arg29 : Memref sig .tc .vmem S256x1 .f32) (harg29 : arg29.IsWhole) (arg30 : Memref sig .tc .vmem S18x1x256x128 .f32) (harg30 : arg30.IsWhole) (arg31 : Memref sig .tc .vmem S3x256x2048 .bf16) (harg31 : arg31.IsWhole) (arg32 : Memref sig .tc .vmem S256x24 .f32) (harg32 : arg32.IsWhole) (hc0 : ¬cond0_0 i)
    (x0 : Vec F S1x256x1024 .bf16) (x1 : Vec F S1x1024 .f32) (x2 : Vec F S4376x1024 .i8) (x3 : Vec F S1x4376 .f32) (x4 : Vec F S1x4376 .f32) (x5 : Vec F S1x256x128 .f32) (x6 : Vec F S1x256x128 .f32) (x7 : Vec F S1x128 .f32) (x8 : Vec F S1x128 .f32) (x9 : Vec F S256x1 .i32) (x10 : Vec F S3x387x2048 .bf16) (x11 : Vec F S4x2048 .f32) (x12 : Vec F S1x2048 .f32) (x13 : Vec F S1x24 .f32) (x14 : Vec F S1x24 .f32) (x15 : Vec F S24x1536 .f32) (x16 : Vec F S24x384 .f32) (x17 : Vec F S512x512 .f32) (xs0 : Vec F S3x256x2048 .bf16) (xs1 : Vec F S256x24 .f32) :
    Σ' (L18 : List (View.Piece (Elt F) S1x256x1024 .i8)), Σ' (L19 : List (View.Piece (Elt F) S1x256x1 .f32)), Σ' (L20 : List (View.Piece (Elt F) S1x256x512 .bf16)), Σ' (L21 : List (View.Piece (Elt F) S1x256x128 .fp8e4m3)), Σ' (L22 : List (View.Piece (Elt F) S1x256x128 .fp8e4m3)), Σ' (L23 : List (View.Piece (Elt F) S1x256x1536 .f32)), Σ' (L24 : List (View.Piece (Elt F) S1x256x2048 .bf16)), Σ' (L25 : List (View.Piece (Elt F) S1x256x1536 .f32)), Σ' (L26 : List (View.Piece (Elt F) S1x256x512 .f32)), Σ' (L27 : List (View.Piece (Elt F) S1x256x64 .f32)), Σ' (L28 : List (View.Piece (Elt F) S256x1 .f32)), Σ' (L29 : List (View.Piece (Elt F) S18x1x256x128 .f32)), Σ' (LS0 : List (View.Piece (Elt F) S3x256x2048 .bf16)), { LS1 : List (View.Piece (Elt F) S256x24 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ owns (c : Thread nD τ) arg31 fullShare xs0 ∗ owns (c : Thread nD τ) arg32 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LS0) ∗ (∃ f, arg32.view.loc (c : Thread nD τ) ↦[arg32.view.set]{fullShare} arg32.view.writes (Elt F) f LS1)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0_proj_eq_skeleton]; unfold cc0_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg31.eq_unread hfs0; obtain rfl := harg32.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.Proj.Body

end
-- ==== Proof.ProjFrame.lean ====
/- The frame of the input projection's program: what each output and the carried scratch hold point by point,
   the pipeline's proof data, the body's obligation at every point, the run and the frame. -/
module

public import proofs.«01_k».proof.Proof.ProjRunB
public import Idealize.ShloMosaic.Lib.Claim

@[expose] public section

set_option maxRecDepth 16384

noncomputable section

namespace Cert.Proj.Body

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's run at the first grid point, at that point's buffers and input blocks. -/
def runA (c : Dev nD) (t : Fin cfg0.N) (h0 : t.val % 5 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The body's run at a later grid point, over the scratch contents the point before left. -/
def runB (c : Dev nD) (t : Fin cfg0.N) (h0 : ¬t.val % 5 = 0) (xs0 : Vec F S3x256x2048 .bf16) (xs1 : Vec F S256x24 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1

/-! ## What each output and each carried scratch buffer holds after the body; the pieces cover it -/

section
variable (c : Dev nD) (t : Fin cfg0.N) (h0 : t.val % 5 = 0)
theorem coverA_18 (y : S1x256x1024.Idx) : ∃ pc ∈ (runA m c t h0).1, y ∈ pc.1.set :=
  View.cover_of_tiledL (runA m c t h0).1 S1x256x1024.size (by sl_kernel_rfl) y
def outA_18 : Vec F S1x256x1024 .i8 := VO0_18.read (Elt F) (VO0_18.writes (Elt F) VO0_18.junk (runA m c t h0).1)
theorem coverA_19 (y : S1x256x1.Idx) : ∃ pc ∈ (runA m c t h0).2.1, y ∈ pc.1.set :=
  View.cover_of_tiledL (runA m c t h0).2.1 S1x256x1.size (by sl_kernel_rfl) y
def outA_19 : Vec F S1x256x1 .f32 := VO0_19.read (Elt F) (VO0_19.writes (Elt F) VO0_19.junk (runA m c t h0).2.1)
theorem coverA_20 (y : S1x256x512.Idx) : ∃ pc ∈ (runA m c t h0).2.2.1, y ∈ pc.1.set :=
  View.cover_of_tiledL (runA m c t h0).2.2.1 S1x256x128.size (by sl_kernel_rfl) y
def outA_20 : Vec F S1x256x512 .bf16 := VO0_20.read (Elt F) (VO0_20.writes (Elt F) VO0_20.junk (runA m c t h0).2.2.1)
theorem coverA_21 (y : S1x256x128.Idx) : ∃ pc ∈ (runA m c t h0).2.2.2.1, y ∈ pc.1.set :=
  View.cover_of_tiledL (runA m c t h0).2.2.2.1 S1x256x128.size (by sl_kernel_rfl) y
def outA_21 : Vec F S1x256x128 .fp8e4m3 := VO0_21.read (Elt F) (VO0_21.writes (Elt F) VO0_21.junk (runA m c t h0).2.2.2.1)
theorem coverA_22 (y : S1x256x128.Idx) : ∃ pc ∈ (runA m c t h0).2.2.2.2.1, y ∈ pc.1.set :=
  View.cover_of_tiledL (runA m c t h0).2.2.2.2.1 S1x256x128.size (by sl_kernel_rfl) y
def outA_22 : Vec F S1x256x128 .fp8e4m3 := VO0_22.read (Elt F) (VO0_22.writes (Elt F) VO0_22.junk (runA m c t h0).2.2.2.2.1)
theorem coverA_23 (y : S1x256x1536.Idx) : ∃ pc ∈ (runA m c t h0).2.2.2.2.2.1, y ∈ pc.1.set :=
  View.cover_of_tiledL (runA m c t h0).2.2.2.2.2.1 S1x256x1536.size (by sl_kernel_rfl) y
def outA_23 : Vec F S1x256x1536 .f32 := VO0_23.read (Elt F) (VO0_23.writes (Elt F) VO0_23.junk (runA m c t h0).2.2.2.2.2.1)
theorem coverA_24 (y : S1x256x2048.Idx) : ∃ pc ∈ (runA m c t h0).2.2.2.2.2.2.1, y ∈ pc.1.set :=
  View.cover_of_tiledL (runA m c t h0).2.2.2.2.2.2.1 S1x256x2048.size (by sl_kernel_rfl) y
def outA_24 : Vec F S1x256x2048 .bf16 := VO0_24.read (Elt F) (VO0_24.writes (Elt F) VO0_24.junk (runA m c t h0).2.2.2.2.2.2.1)
theorem coverA_25 (y : S1x256x1536.Idx) : ∃ pc ∈ (runA m c t h0).2.2.2.2.2.2.2.1, y ∈ pc.1.set :=
  View.cover_of_tiledL (runA m c t h0).2.2.2.2.2.2.2.1 S1x256x1536.size (by sl_kernel_rfl) y
def outA_25 : Vec F S1x256x1536 .f32 := VO0_25.read (Elt F) (VO0_25.writes (Elt F) VO0_25.junk (runA m c t h0).2.2.2.2.2.2.2.1)
theorem coverA_26 (y : S1x256x512.Idx) : ∃ pc ∈ (runA m c t h0).2.2.2.2.2.2.2.2.1, y ∈ pc.1.set :=
  View.cover_of_tiledL (runA m c t h0).2.2.2.2.2.2.2.2.1 S1x256x512.size (by sl_kernel_rfl) y
def outA_26 : Vec F S1x256x512 .f32 := VO0_26.read (Elt F) (VO0_26.writes (Elt F) VO0_26.junk (runA m c t h0).2.2.2.2.2.2.2.2.1)
theorem coverA_27 (y : S1x256x64.Idx) : ∃ pc ∈ (runA m c t h0).2.2.2.2.2.2.2.2.2.1, y ∈ pc.1.set :=
  View.cover_of_tiledL (runA m c t h0).2.2.2.2.2.2.2.2.2.1 S1x256x64.size (by sl_kernel_rfl) y
def outA_27 : Vec F S1x256x64 .f32 := VO0_27.read (Elt F) (VO0_27.writes (Elt F) VO0_27.junk (runA m c t h0).2.2.2.2.2.2.2.2.2.1)
theorem coverA_28 (y : S256x1.Idx) : ∃ pc ∈ (runA m c t h0).2.2.2.2.2.2.2.2.2.2.1, y ∈ pc.1.set :=
  View.cover_of_tiledL (runA m c t h0).2.2.2.2.2.2.2.2.2.2.1 S256x1.size (by sl_kernel_rfl) y
def outA_28 : Vec F S256x1 .f32 := VO0_28.read (Elt F) (VO0_28.writes (Elt F) VO0_28.junk (runA m c t h0).2.2.2.2.2.2.2.2.2.2.1)
theorem coverA_29 (y : S18x1x256x128.Idx) : ∃ pc ∈ (runA m c t h0).2.2.2.2.2.2.2.2.2.2.2.1, y ∈ pc.1.set :=
  View.cover_of_tiledL (runA m c t h0).2.2.2.2.2.2.2.2.2.2.2.1 S1x1x256x128.size (by sl_kernel_rfl) y
def outA_29 : Vec F S18x1x256x128 .f32 := VO0_29.read (Elt F) (VO0_29.writes (Elt F) VO0_29.junk (runA m c t h0).2.2.2.2.2.2.2.2.2.2.2.1)
theorem coverA_s0 (y : S3x256x2048.Idx) : ∃ pc ∈ (runA m c t h0).2.2.2.2.2.2.2.2.2.2.2.2.1, y ∈ pc.1.set :=
  View.cover_of_tiledL (runA m c t h0).2.2.2.2.2.2.2.2.2.2.2.2.1 S1x256x2048.size (by sl_kernel_rfl) y
def outA_s0 : Vec F S3x256x2048 .bf16 := VS0_0.read (Elt F) (VS0_0.writes (Elt F) VS0_0.junk (runA m c t h0).2.2.2.2.2.2.2.2.2.2.2.2.1)
theorem coverA_s1 (y : S256x24.Idx) : ∃ pc ∈ (runA m c t h0).2.2.2.2.2.2.2.2.2.2.2.2.2.1, y ∈ pc.1.set :=
  View.cover_of_tiledL (runA m c t h0).2.2.2.2.2.2.2.2.2.2.2.2.2.1 S256x24.size (by sl_kernel_rfl) y
def outA_s1 : Vec F S256x24 .f32 := VS0_1.read (Elt F) (VS0_1.writes (Elt F) VS0_1.junk (runA m c t h0).2.2.2.2.2.2.2.2.2.2.2.2.2.1)
end
section
variable (c : Dev nD) (t : Fin cfg0.N) (h0 : ¬t.val % 5 = 0) (xs0 : Vec F S3x256x2048 .bf16) (xs1 : Vec F S256x24 .f32)
theorem coverB_18 (y : S1x256x1024.Idx) : ∃ pc ∈ (runB m c t h0 xs0 xs1).1, y ∈ pc.1.set :=
  View.cover_of_tiledL (runB m c t h0 xs0 xs1).1 S1x256x1024.size (by sl_kernel_rfl) y
def outB_18 : Vec F S1x256x1024 .i8 := VO0_18.read (Elt F) (VO0_18.writes (Elt F) VO0_18.junk (runB m c t h0 xs0 xs1).1)
theorem coverB_19 (y : S1x256x1.Idx) : ∃ pc ∈ (runB m c t h0 xs0 xs1).2.1, y ∈ pc.1.set :=
  View.cover_of_tiledL (runB m c t h0 xs0 xs1).2.1 S1x256x1.size (by sl_kernel_rfl) y
def outB_19 : Vec F S1x256x1 .f32 := VO0_19.read (Elt F) (VO0_19.writes (Elt F) VO0_19.junk (runB m c t h0 xs0 xs1).2.1)
theorem coverB_20 (y : S1x256x512.Idx) : ∃ pc ∈ (runB m c t h0 xs0 xs1).2.2.1, y ∈ pc.1.set :=
  View.cover_of_tiledL (runB m c t h0 xs0 xs1).2.2.1 S1x256x128.size (by sl_kernel_rfl) y
def outB_20 : Vec F S1x256x512 .bf16 := VO0_20.read (Elt F) (VO0_20.writes (Elt F) VO0_20.junk (runB m c t h0 xs0 xs1).2.2.1)
theorem coverB_21 (y : S1x256x128.Idx) : ∃ pc ∈ (runB m c t h0 xs0 xs1).2.2.2.1, y ∈ pc.1.set :=
  View.cover_of_tiledL (runB m c t h0 xs0 xs1).2.2.2.1 S1x256x128.size (by sl_kernel_rfl) y
def outB_21 : Vec F S1x256x128 .fp8e4m3 := VO0_21.read (Elt F) (VO0_21.writes (Elt F) VO0_21.junk (runB m c t h0 xs0 xs1).2.2.2.1)
theorem coverB_22 (y : S1x256x128.Idx) : ∃ pc ∈ (runB m c t h0 xs0 xs1).2.2.2.2.1, y ∈ pc.1.set :=
  View.cover_of_tiledL (runB m c t h0 xs0 xs1).2.2.2.2.1 S1x256x128.size (by sl_kernel_rfl) y
def outB_22 : Vec F S1x256x128 .fp8e4m3 := VO0_22.read (Elt F) (VO0_22.writes (Elt F) VO0_22.junk (runB m c t h0 xs0 xs1).2.2.2.2.1)
theorem coverB_23 (y : S1x256x1536.Idx) : ∃ pc ∈ (runB m c t h0 xs0 xs1).2.2.2.2.2.1, y ∈ pc.1.set :=
  View.cover_of_tiledL (runB m c t h0 xs0 xs1).2.2.2.2.2.1 S1x256x1536.size (by sl_kernel_rfl) y
def outB_23 : Vec F S1x256x1536 .f32 := VO0_23.read (Elt F) (VO0_23.writes (Elt F) VO0_23.junk (runB m c t h0 xs0 xs1).2.2.2.2.2.1)
theorem coverB_24 (y : S1x256x2048.Idx) : ∃ pc ∈ (runB m c t h0 xs0 xs1).2.2.2.2.2.2.1, y ∈ pc.1.set :=
  View.cover_of_tiledL (runB m c t h0 xs0 xs1).2.2.2.2.2.2.1 S1x256x2048.size (by sl_kernel_rfl) y
def outB_24 : Vec F S1x256x2048 .bf16 := VO0_24.read (Elt F) (VO0_24.writes (Elt F) VO0_24.junk (runB m c t h0 xs0 xs1).2.2.2.2.2.2.1)
theorem coverB_25 (y : S1x256x1536.Idx) : ∃ pc ∈ (runB m c t h0 xs0 xs1).2.2.2.2.2.2.2.1, y ∈ pc.1.set :=
  View.cover_of_tiledL (runB m c t h0 xs0 xs1).2.2.2.2.2.2.2.1 S1x256x1536.size (by sl_kernel_rfl) y
def outB_25 : Vec F S1x256x1536 .f32 := VO0_25.read (Elt F) (VO0_25.writes (Elt F) VO0_25.junk (runB m c t h0 xs0 xs1).2.2.2.2.2.2.2.1)
theorem coverB_26 (y : S1x256x512.Idx) : ∃ pc ∈ (runB m c t h0 xs0 xs1).2.2.2.2.2.2.2.2.1, y ∈ pc.1.set :=
  View.cover_of_tiledL (runB m c t h0 xs0 xs1).2.2.2.2.2.2.2.2.1 S1x256x512.size (by sl_kernel_rfl) y
def outB_26 : Vec F S1x256x512 .f32 := VO0_26.read (Elt F) (VO0_26.writes (Elt F) VO0_26.junk (runB m c t h0 xs0 xs1).2.2.2.2.2.2.2.2.1)
theorem coverB_27 (y : S1x256x64.Idx) : ∃ pc ∈ (runB m c t h0 xs0 xs1).2.2.2.2.2.2.2.2.2.1, y ∈ pc.1.set :=
  View.cover_of_tiledL (runB m c t h0 xs0 xs1).2.2.2.2.2.2.2.2.2.1 S1x256x64.size (by sl_kernel_rfl) y
def outB_27 : Vec F S1x256x64 .f32 := VO0_27.read (Elt F) (VO0_27.writes (Elt F) VO0_27.junk (runB m c t h0 xs0 xs1).2.2.2.2.2.2.2.2.2.1)
theorem coverB_28 (y : S256x1.Idx) : ∃ pc ∈ (runB m c t h0 xs0 xs1).2.2.2.2.2.2.2.2.2.2.1, y ∈ pc.1.set :=
  View.cover_of_tiledL (runB m c t h0 xs0 xs1).2.2.2.2.2.2.2.2.2.2.1 S256x1.size (by sl_kernel_rfl) y
def outB_28 : Vec F S256x1 .f32 := VO0_28.read (Elt F) (VO0_28.writes (Elt F) VO0_28.junk (runB m c t h0 xs0 xs1).2.2.2.2.2.2.2.2.2.2.1)
theorem coverB_29 (y : S18x1x256x128.Idx) : ∃ pc ∈ (runB m c t h0 xs0 xs1).2.2.2.2.2.2.2.2.2.2.2.1, y ∈ pc.1.set :=
  View.cover_of_tiledL (runB m c t h0 xs0 xs1).2.2.2.2.2.2.2.2.2.2.2.1 S1x1x256x128.size (by sl_kernel_rfl) y
def outB_29 : Vec F S18x1x256x128 .f32 := VO0_29.read (Elt F) (VO0_29.writes (Elt F) VO0_29.junk (runB m c t h0 xs0 xs1).2.2.2.2.2.2.2.2.2.2.2.1)
theorem coverB_s0 (y : S3x256x2048.Idx) : ∃ pc ∈ (runB m c t h0 xs0 xs1).2.2.2.2.2.2.2.2.2.2.2.2.1, y ∈ pc.1.set :=
  View.cover_of_tiledL (runB m c t h0 xs0 xs1).2.2.2.2.2.2.2.2.2.2.2.2.1 S1x256x2048.size (by sl_kernel_rfl) y
def outB_s0 : Vec F S3x256x2048 .bf16 := VS0_0.read (Elt F) (VS0_0.writes (Elt F) VS0_0.junk (runB m c t h0 xs0 xs1).2.2.2.2.2.2.2.2.2.2.2.2.1)
theorem coverB_s1 (y : S256x24.Idx) : ∃ pc ∈ (runB m c t h0 xs0 xs1).2.2.2.2.2.2.2.2.2.2.2.2.2.1, y ∈ pc.1.set :=
  View.cover_of_tiledL (runB m c t h0 xs0 xs1).2.2.2.2.2.2.2.2.2.2.2.2.2.1 S256x24.size (by sl_kernel_rfl) y
def outB_s1 : Vec F S256x24 .f32 := VS0_1.read (Elt F) (VS0_1.writes (Elt F) VS0_1.junk (runB m c t h0 xs0 xs1).2.2.2.2.2.2.2.2.2.2.2.2.2.1)
end

/-- What the outputs' buffers and the carried scratch hold after the body at position `n`. -/
def outsAt0 (c : Dev nD) : (n : ℕ) → n < cfg0.N → Vec F S1x256x1024 .i8 × Vec F S1x256x1 .f32 × Vec F S1x256x512 .bf16 × Vec F S1x256x128 .fp8e4m3 × Vec F S1x256x128 .fp8e4m3 × Vec F S1x256x1536 .f32 × Vec F S1x256x2048 .bf16 × Vec F S1x256x1536 .f32 × Vec F S1x256x512 .f32 × Vec F S1x256x64 .f32 × Vec F S256x1 .f32 × Vec F S18x1x256x128 .f32 × Vec F S3x256x2048 .bf16 × Vec F S256x24 .f32
  | 0, hn => (outA_18 m c ⟨0, hn⟩ (Nat.zero_mod _), outA_19 m c ⟨0, hn⟩ (Nat.zero_mod _), outA_20 m c ⟨0, hn⟩ (Nat.zero_mod _), outA_21 m c ⟨0, hn⟩ (Nat.zero_mod _), outA_22 m c ⟨0, hn⟩ (Nat.zero_mod _), outA_23 m c ⟨0, hn⟩ (Nat.zero_mod _), outA_24 m c ⟨0, hn⟩ (Nat.zero_mod _), outA_25 m c ⟨0, hn⟩ (Nat.zero_mod _), outA_26 m c ⟨0, hn⟩ (Nat.zero_mod _), outA_27 m c ⟨0, hn⟩ (Nat.zero_mod _), outA_28 m c ⟨0, hn⟩ (Nat.zero_mod _), outA_29 m c ⟨0, hn⟩ (Nat.zero_mod _), outA_s0 m c ⟨0, hn⟩ (Nat.zero_mod _), outA_s1 m c ⟨0, hn⟩ (Nat.zero_mod _))
  | n + 1, hn =>
    if h0 : (n + 1) % 5 = 0 then
      (outA_18 m c ⟨n + 1, hn⟩ h0, outA_19 m c ⟨n + 1, hn⟩ h0, outA_20 m c ⟨n + 1, hn⟩ h0, outA_21 m c ⟨n + 1, hn⟩ h0, outA_22 m c ⟨n + 1, hn⟩ h0, outA_23 m c ⟨n + 1, hn⟩ h0, outA_24 m c ⟨n + 1, hn⟩ h0, outA_25 m c ⟨n + 1, hn⟩ h0, outA_26 m c ⟨n + 1, hn⟩ h0, outA_27 m c ⟨n + 1, hn⟩ h0, outA_28 m c ⟨n + 1, hn⟩ h0, outA_29 m c ⟨n + 1, hn⟩ h0, outA_s0 m c ⟨n + 1, hn⟩ h0, outA_s1 m c ⟨n + 1, hn⟩ h0)
    else
      (outB_18 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_19 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_20 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_21 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_22 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_23 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_24 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_25 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_26 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_27 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_28 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_29 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_s0 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_s1 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2)

/-- The body's results at the point before. -/
abbrev prev (c : Dev nD) (t : Fin cfg0.N) := outsAt0 m c (t.val - 1) (Nat.lt_of_le_of_lt (Nat.sub_le _ _) t.isLt)

/-- At the first point. -/
theorem outsAt0_A (c : Dev nD) (t : Fin cfg0.N) (h0 : t.val % 5 = 0) :
    outsAt0 m c t.val t.isLt = (outA_18 m c t h0, outA_19 m c t h0, outA_20 m c t h0, outA_21 m c t h0, outA_22 m c t h0, outA_23 m c t h0, outA_24 m c t h0, outA_25 m c t h0, outA_26 m c t h0, outA_27 m c t h0, outA_28 m c t h0, outA_29 m c t h0, outA_s0 m c t h0, outA_s1 m c t h0) := by
  obtain ⟨n, hn⟩ := t
  cases n with
  | zero => exact rfl
  | succ n => exact (dif_pos h0).trans rfl

/-- At a later point: over what the point before left in the scratch. -/
theorem outsAt0_B (c : Dev nD) (t : Fin cfg0.N) (h0 : ¬t.val % 5 = 0) :
    outsAt0 m c t.val t.isLt = (outB_18 m c t h0 (prev m c t).2.2.2.2.2.2.2.2.2.2.2.2.1 (prev m c t).2.2.2.2.2.2.2.2.2.2.2.2.2, outB_19 m c t h0 (prev m c t).2.2.2.2.2.2.2.2.2.2.2.2.1 (prev m c t).2.2.2.2.2.2.2.2.2.2.2.2.2, outB_20 m c t h0 (prev m c t).2.2.2.2.2.2.2.2.2.2.2.2.1 (prev m c t).2.2.2.2.2.2.2.2.2.2.2.2.2, outB_21 m c t h0 (prev m c t).2.2.2.2.2.2.2.2.2.2.2.2.1 (prev m c t).2.2.2.2.2.2.2.2.2.2.2.2.2, outB_22 m c t h0 (prev m c t).2.2.2.2.2.2.2.2.2.2.2.2.1 (prev m c t).2.2.2.2.2.2.2.2.2.2.2.2.2, outB_23 m c t h0 (prev m c t).2.2.2.2.2.2.2.2.2.2.2.2.1 (prev m c t).2.2.2.2.2.2.2.2.2.2.2.2.2, outB_24 m c t h0 (prev m c t).2.2.2.2.2.2.2.2.2.2.2.2.1 (prev m c t).2.2.2.2.2.2.2.2.2.2.2.2.2, outB_25 m c t h0 (prev m c t).2.2.2.2.2.2.2.2.2.2.2.2.1 (prev m c t).2.2.2.2.2.2.2.2.2.2.2.2.2, outB_26 m c t h0 (prev m c t).2.2.2.2.2.2.2.2.2.2.2.2.1 (prev m c t).2.2.2.2.2.2.2.2.2.2.2.2.2, outB_27 m c t h0 (prev m c t).2.2.2.2.2.2.2.2.2.2.2.2.1 (prev m c t).2.2.2.2.2.2.2.2.2.2.2.2.2, outB_28 m c t h0 (prev m c t).2.2.2.2.2.2.2.2.2.2.2.2.1 (prev m c t).2.2.2.2.2.2.2.2.2.2.2.2.2, outB_29 m c t h0 (prev m c t).2.2.2.2.2.2.2.2.2.2.2.2.1 (prev m c t).2.2.2.2.2.2.2.2.2.2.2.2.2, outB_s0 m c t h0 (prev m c t).2.2.2.2.2.2.2.2.2.2.2.2.1 (prev m c t).2.2.2.2.2.2.2.2.2.2.2.2.2, outB_s1 m c t h0 (prev m c t).2.2.2.2.2.2.2.2.2.2.2.2.1 (prev m c t).2.2.2.2.2.2.2.2.2.2.2.2.2) := by
  obtain ⟨n, hn⟩ := t
  cases n with
  | zero => exact (by exfalso; (try dsimp only at h0); exact absurd (Nat.zero_mod _) h0)
  | succ n => exact (dif_neg h0).trans rfl

/-- What holds before position `n`: at first every scratch buffer at anything, then the carried scratch at what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.1) ∗ owns (c : Thread nD τ) scM0_1 fullShare ((outsAt0 m c (n - 1) (by omega)).2.2.2.2.2.2.2.2.2.2.2.2.2)) ∗ (∃ r, prngReg c r)) := by
  cases n with
  | zero => exact absurd rfl hz
  | succ n => rfl

/-! ## The pipeline's proof data -/

/-- The pipeline's proof data: the arrays as the region finds them, and what each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨21, _⟩ => (outsAt0 m c t.val t.isLt).2.2.2.1
    | ⟨22, _⟩ => (outsAt0 m c t.val t.isLt).2.2.2.2.1
    | ⟨23, _⟩ => (outsAt0 m c t.val t.isLt).2.2.2.2.2.1
    | ⟨24, _⟩ => (outsAt0 m c t.val t.isLt).2.2.2.2.2.2.1
    | ⟨25, _⟩ => (outsAt0 m c t.val t.isLt).2.2.2.2.2.2.2.1
    | ⟨26, _⟩ => (outsAt0 m c t.val t.isLt).2.2.2.2.2.2.2.2.1
    | ⟨27, _⟩ => (outsAt0 m c t.val t.isLt).2.2.2.2.2.2.2.2.2.1
    | ⟨28, _⟩ => (outsAt0 m c t.val t.isLt).2.2.2.2.2.2.2.2.2.2.1
    | ⟨29, _⟩ => (outsAt0 m c t.val t.isLt).2.2.2.2.2.2.2.2.2.2.2.1
    | ⟨_ + 30, h⟩ => absurd h (Nat.not_lt.2 (Nat.le_add_left _ _))
  Φ t := PhiS m c t.val (Nat.le_of_lt_succ t.isLt)
  q _ := fullShare
  owed _ := 0

/-- The proof data's arrays are the contents at the region's start. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section
variable (c : Dev nD) (t : Fin cfg0.N)
/-- What the body leaves, window by window (the proof data's `match` reduced by `dsimp`). -/
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = (outsAt0 m c t.val t.isLt).1 := by dsimp only [dats]
theorem after0_19 : (dats m 0 c).after 19 t = (outsAt0 m c t.val t.isLt).2.1 := by dsimp only [dats]
theorem after0_20 : (dats m 0 c).after 20 t = (outsAt0 m c t.val t.isLt).2.2.1 := by dsimp only [dats]
theorem after0_21 : (dats m 0 c).after 21 t = (outsAt0 m c t.val t.isLt).2.2.2.1 := by dsimp only [dats]
theorem after0_22 : (dats m 0 c).after 22 t = (outsAt0 m c t.val t.isLt).2.2.2.2.1 := by dsimp only [dats]
theorem after0_23 : (dats m 0 c).after 23 t = (outsAt0 m c t.val t.isLt).2.2.2.2.2.1 := by dsimp only [dats]
theorem after0_24 : (dats m 0 c).after 24 t = (outsAt0 m c t.val t.isLt).2.2.2.2.2.2.1 := by dsimp only [dats]
theorem after0_25 : (dats m 0 c).after 25 t = (outsAt0 m c t.val t.isLt).2.2.2.2.2.2.2.1 := by dsimp only [dats]
theorem after0_26 : (dats m 0 c).after 26 t = (outsAt0 m c t.val t.isLt).2.2.2.2.2.2.2.2.1 := by dsimp only [dats]
theorem after0_27 : (dats m 0 c).after 27 t = (outsAt0 m c t.val t.isLt).2.2.2.2.2.2.2.2.2.1 := by dsimp only [dats]
theorem after0_28 : (dats m 0 c).after 28 t = (outsAt0 m c t.val t.isLt).2.2.2.2.2.2.2.2.2.2.1 := by dsimp only [dats]
theorem after0_29 : (dats m 0 c).after 29 t = (outsAt0 m c t.val t.isLt).2.2.2.2.2.2.2.2.2.2.2.1 := by dsimp only [dats]
end

section
variable (c : Dev nD) (t : Fin cfg0.N)
/-- Each input's current staging buffer holds its block at every point, fetched there or not (`beforeK_W_of`). -/
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
theorem before0_14 (d) : (dats m 0 c).before 14 t d = iblk m c 14 t :=
  before0_14_of m (dats m 0 c) (A_eq m c 14) (after0_14 m c) t d
theorem before0_15 (d) : (dats m 0 c).before 15 t d = iblk m c 15 t :=
  before0_15_of m (dats m 0 c) (A_eq m c 15) (after0_15 m c) t d
theorem before0_16 (d) : (dats m 0 c).before 16 t d = iblk m c 16 t :=
  before0_16_of m (dats m 0 c) (A_eq m c 16) (after0_16 m c) t d
theorem before0_17 (d) : (dats m 0 c).before 17 t d = iblk m c 17 t :=
  before0_17_of m (dats m 0 c) (A_eq m c 17) (after0_17 m c) t d
end

/-! ## The body obligation, at a generic point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 25600000 in
/-- The body at any point: the inputs' buffers hold their blocks, so the run of that point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.succ = PhiS m c (t.val + 1) t.isLt from rfl, PhiS_succ]
  have hN : t.val < 5 := lt_of_lt_of_eq t.isLt (show cfg0.N = 5 from N_0)
  by_cases h0 : t.val % 5 = 0
  · by_cases hz : t.val = 0
    · rw [PhiS_castSucc m c t, PhiS_zero m c _ _ hz, PhiA0_eq]
      rw [outsAt0_A m c t h0]
      unfold outA_18 outA_19 outA_20 outA_21 outA_22 outA_23 outA_24 outA_25 outA_26 outA_27 outA_28 outA_29 outA_s0 outA_s1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [HS0]; · iexact HS0
      isplitl [HS1]; · iexact HS1
      iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 m c t h0)
          unfold owns; iexists _; isplitr
          swap; · iexact HS1
          ipureintro; exact View.read_writes_of_cover _ _ _ _ _ (coverA_s1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      isplitl [H24]
      · unfold owns; iexists _; isplitr
        swap; · iexact H24
        ipureintro; exact View.read_writes_of_cover _ _ _ _ _ (coverA_24 m c t h0)
      isplitl [H25]
      · unfold owns; iexists _; isplitr
        swap; · iexact H25
        ipureintro; exact View.read_writes_of_cover _ _ _ _ _ (coverA_25 m c t h0)
      isplitl [H26]
      · unfold owns; iexists _; isplitr
        swap; · iexact H26
        ipureintro; exact View.read_writes_of_cover _ _ _ _ _ (coverA_26 m c t h0)
      isplitl [H27]
      · unfold owns; iexists _; isplitr
        swap; · iexact H27
        ipureintro; exact View.read_writes_of_cover _ _ _ _ _ (coverA_27 m c t h0)
      isplitl [H28]
      · unfold owns; iexists _; isplitr
        swap; · iexact H28
        ipureintro; exact View.read_writes_of_cover _ _ _ _ _ (coverA_28 m c t h0)
      unfold owns; iexists _; isplitr
      swap; · iexact H29
      ipureintro; exact View.read_writes_of_cover _ _ _ _ _ (coverA_29 m c t h0)
    · exfalso; have hN : t.val < 5 := lt_of_lt_of_eq t.isLt (show cfg0.N = 5 from N_0); omega
  · by_cases hz : t.val = 0
    · exfalso; have hN : t.val < 5 := lt_of_lt_of_eq t.isLt (show cfg0.N = 5 from N_0); omega
    · rw [PhiS_castSucc m c t, PhiS_pos m c _ _ hz]
      rw [outsAt0_B m c t h0]
      unfold outB_18 outB_19 outB_20 outB_21 outB_22 outB_23 outB_24 outB_25 outB_26 outB_27 outB_28 outB_29 outB_s0 outB_s1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
      iapply ((runB m c t h0 _ _).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [HS0]; · iexact HS0
      isplitl [HS1]; · iexact HS1
      iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB_s0 m c t h0 _ _)
          unfold owns; iexists _; isplitr
          swap; · iexact HS1
          ipureintro; exact View.read_writes_of_cover _ _ _ _ _ (coverB_s1 m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (coverB_18 m c t h0 _ _)
      isplitl [H19]
      · unfold owns; iexists _; isplitr
        swap; · iexact H19
        ipureintro; exact View.read_writes_of_cover _ _ _ _ _ (coverB_19 m c t h0 _ _)
      isplitl [H20]
      · unfold owns; iexists _; isplitr
        swap; · iexact H20
        ipureintro; exact View.read_writes_of_cover _ _ _ _ _ (coverB_20 m c t h0 _ _)
      isplitl [H21]
      · unfold owns; iexists _; isplitr
        swap; · iexact H21
        ipureintro; exact View.read_writes_of_cover _ _ _ _ _ (coverB_21 m c t h0 _ _)
      isplitl [H22]
      · unfold owns; iexists _; isplitr
        swap; · iexact H22
        ipureintro; exact View.read_writes_of_cover _ _ _ _ _ (coverB_22 m c t h0 _ _)
      isplitl [H23]
      · unfold owns; iexists _; isplitr
        swap; · iexact H23
        ipureintro; exact View.read_writes_of_cover _ _ _ _ _ (coverB_23 m c t h0 _ _)
      isplitl [H24]
      · unfold owns; iexists _; isplitr
        swap; · iexact H24
        ipureintro; exact View.read_writes_of_cover _ _ _ _ _ (coverB_24 m c t h0 _ _)
      isplitl [H25]
      · unfold owns; iexists _; isplitr
        swap; · iexact H25
        ipureintro; exact View.read_writes_of_cover _ _ _ _ _ (coverB_25 m c t h0 _ _)
      isplitl [H26]
      · unfold owns; iexists _; isplitr
        swap; · iexact H26
        ipureintro; exact View.read_writes_of_cover _ _ _ _ _ (coverB_26 m c t h0 _ _)
      isplitl [H27]
      · unfold owns; iexists _; isplitr
        swap; · iexact H27
        ipureintro; exact View.read_writes_of_cover _ _ _ _ _ (coverB_27 m c t h0 _ _)
      isplitl [H28]
      · unfold owns; iexists _; isplitr
        swap; · iexact H28
        ipureintro; exact View.read_writes_of_cover _ _ _ _ _ (coverB_28 m c t h0 _ _)
      unfold owns; iexists _; isplitr
      swap; · iexact H29
      ipureintro; exact View.read_writes_of_cover _ _ _ _ _ (coverB_29 m c t h0 _ _)

/-- The body table's row at a point is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Proj.Body

end
-- ==== Proof.ProjIdealRunA.lean ====
/- The run of the input projection's kernel body at the first grid point, where the body starts the carried history and sums afresh.
   The body's printed functions are their skeletons, which `sl_exec` runs store by store. -/
module

public import proofs.«01_k».proof.Proof.Gen.ProjIdeal.Frame.Runs

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 3000000 in
/-- The pieces each output's buffer and each scratch buffer ends with after the body at the first grid point, where the body starts the carried history and sums afresh, together with
    the proof that the body, given the inputs' buffers at their contents, ends with those pieces written and the
    inputs' buffers as they were. -/
noncomputable def kernelRun0_A (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S4376x1024 .i8) (harg3 : arg3.IsWhole) (arg4 : Memref sig .tc .vmem S1x4376 .f32) (harg4 : arg4.IsWhole) (arg5 : Memref sig .tc .vmem S1x4376 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .i32) (harg10 : arg10.IsWhole) (arg11 : Memref sig .tc .vmem S3x387x2048 .bf16) (harg11 : arg11.IsWhole) (arg12 : Memref sig .tc .vmem S4x2048 .f32) (harg12 : arg12.IsWhole) (arg13 : Memref sig .tc .vmem S1x2048 .f32) (harg13 : arg13.IsWhole) (arg14 : Memref sig .tc .vmem S1x24 .f32) (harg14 : arg14.IsWhole) (arg15 : Memref sig .tc .vmem S1x24 .f32) (harg15 : arg15.IsWhole) (arg16 : Memref sig .tc .vmem S24x1536 .f32) (harg16 : arg16.IsWhole) (arg17 : Memref sig .tc .vmem S24x384 .f32) (harg17 : arg17.IsWhole) (arg18 : Memref sig .tc .vmem S512x512 .f32) (harg18 : arg18.IsWhole) (arg19 : Memref sig .tc .vmem S1x256x1024 .i8) (harg19 : arg19.IsWhole) (arg20 : Memref sig .tc .vmem S1x256x1 .f32) (harg20 : arg20.IsWhole) (arg21 : Memref sig .tc .vmem S1x256x512 .bf16) (harg21 : arg21.IsWhole) (arg22 : Memref sig .tc .vmem S1x256x128 .fp8e4m3) (harg22 : arg22.IsWhole) (arg23 : Memref sig .tc .vmem S1x256x128 .fp8e4m3) (harg23 : arg23.IsWhole) (arg24 : Memref sig .tc .vmem S1x256x1536 .f32) (harg24 : arg24.IsWhole) (arg25 : Memref sig .tc .vmem S1x256x2048 .bf16) (harg25 : arg25.IsWhole) (arg26 : Memref sig .tc .vmem S1x256x1536 .f32) (harg26 : arg26.IsWhole) (arg27 : Memref sig .tc .vmem S1x256x512 .f32) (harg27 : arg27.IsWhole) (arg28 : Memref sig .tc .vmem S1x256x64 .f32) (harg28 : arg28.IsWhole) (arg29 : Memref sig .tc .vmem S256x1 .f32) (harg29 : arg29.IsWhole) (arg30 : Memref sig .tc .vmem S18x1x256x128 .f32) (harg30 : arg30.IsWhole) (arg31 : Memref sig .tc .vmem S3x256x2048 .bf16) (harg31 : arg31.IsWhole) (arg32 : Memref sig .tc .vmem S256x24 .f32) (harg32 : arg32.IsWhole) (hc0 : cond0_0 i)
    (x0 : Vec F S1x256x1024 .bf16) (x1 : Vec F S1x1024 .f32) (x2 : Vec F S4376x1024 .i8) (x3 : Vec F S1x4376 .f32) (x4 : Vec F S1x4376 .f32) (x5 : Vec F S1x256x128 .f32) (x6 : Vec F S1x256x128 .f32) (x7 : Vec F S1x128 .f32) (x8 : Vec F S1x128 .f32) (x9 : Vec F S256x1 .i32) (x10 : Vec F S3x387x2048 .bf16) (x11 : Vec F S4x2048 .f32) (x12 : Vec F S1x2048 .f32) (x13 : Vec F S1x24 .f32) (x14 : Vec F S1x24 .f32) (x15 : Vec F S24x1536 .f32) (x16 : Vec F S24x384 .f32) (x17 : Vec F S512x512 .f32) :
    Σ' (L18 : List (View.Piece (Elt F) S1x256x1024 .i8)), Σ' (L19 : List (View.Piece (Elt F) S1x256x1 .f32)), Σ' (L20 : List (View.Piece (Elt F) S1x256x512 .bf16)), Σ' (L21 : List (View.Piece (Elt F) S1x256x128 .fp8e4m3)), Σ' (L22 : List (View.Piece (Elt F) S1x256x128 .fp8e4m3)), Σ' (L23 : List (View.Piece (Elt F) S1x256x1536 .f32)), Σ' (L24 : List (View.Piece (Elt F) S1x256x2048 .bf16)), Σ' (L25 : List (View.Piece (Elt F) S1x256x1536 .f32)), Σ' (L26 : List (View.Piece (Elt F) S1x256x512 .f32)), Σ' (L27 : List (View.Piece (Elt F) S1x256x64 .f32)), Σ' (L28 : List (View.Piece (Elt F) S256x1 .f32)), Σ' (L29 : List (View.Piece (Elt F) S18x1x256x128 .f32)), Σ' (LS0 : List (View.Piece (Elt F) S3x256x2048 .bf16)), { LS1 : List (View.Piece (Elt F) S256x24 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LS0) ∗ (∃ f, arg32.view.loc (c : Thread nD τ) ↦[arg32.view.set]{fullShare} arg32.view.writes (Elt F) f LS1)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0_proj_eq_skeleton]; unfold cc0_proj_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.ProjIdeal.Body

end
-- ==== Proof.ProjIdealRunB.lean ====
/- The run of the input projection's kernel body at a later grid point, where the body continues from the history and sums the point before left.
   The body's printed functions are their skeletons, which `sl_exec` runs store by store. -/
module

public import proofs.«01_k».proof.Proof.ProjIdealRunA

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 3000000 in
/-- The pieces each output's buffer and each scratch buffer ends with after the body at a later grid point, where the body continues from the history and sums the point before left, together with
    the proof that the body, given the inputs' buffers at their contents, ends with those pieces written and the
    inputs' buffers as they were. -/
noncomputable def kernelRun0_B (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S4376x1024 .i8) (harg3 : arg3.IsWhole) (arg4 : Memref sig .tc .vmem S1x4376 .f32) (harg4 : arg4.IsWhole) (arg5 : Memref sig .tc .vmem S1x4376 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1 .i32) (harg10 : arg10.IsWhole) (arg11 : Memref sig .tc .vmem S3x387x2048 .bf16) (harg11 : arg11.IsWhole) (arg12 : Memref sig .tc .vmem S4x2048 .f32) (harg12 : arg12.IsWhole) (arg13 : Memref sig .tc .vmem S1x2048 .f32) (harg13 : arg13.IsWhole) (arg14 : Memref sig .tc .vmem S1x24 .f32) (harg14 : arg14.IsWhole) (arg15 : Memref sig .tc .vmem S1x24 .f32) (harg15 : arg15.IsWhole) (arg16 : Memref sig .tc .vmem S24x1536 .f32) (harg16 : arg16.IsWhole) (arg17 : Memref sig .tc .vmem S24x384 .f32) (harg17 : arg17.IsWhole) (arg18 : Memref sig .tc .vmem S512x512 .f32) (harg18 : arg18.IsWhole) (arg19 : Memref sig .tc .vmem S1x256x1024 .i8) (harg19 : arg19.IsWhole) (arg20 : Memref sig .tc .vmem S1x256x1 .f32) (harg20 : arg20.IsWhole) (arg21 : Memref sig .tc .vmem S1x256x512 .bf16) (harg21 : arg21.IsWhole) (arg22 : Memref sig .tc .vmem S1x256x128 .fp8e4m3) (harg22 : arg22.IsWhole) (arg23 : Memref sig .tc .vmem S1x256x128 .fp8e4m3) (harg23 : arg23.IsWhole) (arg24 : Memref sig .tc .vmem S1x256x1536 .f32) (harg24 : arg24.IsWhole) (arg25 : Memref sig .tc .vmem S1x256x2048 .bf16) (harg25 : arg25.IsWhole) (arg26 : Memref sig .tc .vmem S1x256x1536 .f32) (harg26 : arg26.IsWhole) (arg27 : Memref sig .tc .vmem S1x256x512 .f32) (harg27 : arg27.IsWhole) (arg28 : Memref sig .tc .vmem S1x256x64 .f32) (harg28 : arg28.IsWhole) (arg29 : Memref sig .tc .vmem S256x1 .f32) (harg29 : arg29.IsWhole) (arg30 : Memref sig .tc .vmem S18x1x256x128 .f32) (harg30 : arg30.IsWhole) (arg31 : Memref sig .tc .vmem S3x256x2048 .bf16) (harg31 : arg31.IsWhole) (arg32 : Memref sig .tc .vmem S256x24 .f32) (harg32 : arg32.IsWhole) (hc0 : ¬cond0_0 i)
    (x0 : Vec F S1x256x1024 .bf16) (x1 : Vec F S1x1024 .f32) (x2 : Vec F S4376x1024 .i8) (x3 : Vec F S1x4376 .f32) (x4 : Vec F S1x4376 .f32) (x5 : Vec F S1x256x128 .f32) (x6 : Vec F S1x256x128 .f32) (x7 : Vec F S1x128 .f32) (x8 : Vec F S1x128 .f32) (x9 : Vec F S256x1 .i32) (x10 : Vec F S3x387x2048 .bf16) (x11 : Vec F S4x2048 .f32) (x12 : Vec F S1x2048 .f32) (x13 : Vec F S1x24 .f32) (x14 : Vec F S1x24 .f32) (x15 : Vec F S24x1536 .f32) (x16 : Vec F S24x384 .f32) (x17 : Vec F S512x512 .f32) (xs0 : Vec F S3x256x2048 .bf16) (xs1 : Vec F S256x24 .f32) :
    Σ' (L18 : List (View.Piece (Elt F) S1x256x1024 .i8)), Σ' (L19 : List (View.Piece (Elt F) S1x256x1 .f32)), Σ' (L20 : List (View.Piece (Elt F) S1x256x512 .bf16)), Σ' (L21 : List (View.Piece (Elt F) S1x256x128 .fp8e4m3)), Σ' (L22 : List (View.Piece (Elt F) S1x256x128 .fp8e4m3)), Σ' (L23 : List (View.Piece (Elt F) S1x256x1536 .f32)), Σ' (L24 : List (View.Piece (Elt F) S1x256x2048 .bf16)), Σ' (L25 : List (View.Piece (Elt F) S1x256x1536 .f32)), Σ' (L26 : List (View.Piece (Elt F) S1x256x512 .f32)), Σ' (L27 : List (View.Piece (Elt F) S1x256x64 .f32)), Σ' (L28 : List (View.Piece (Elt F) S256x1 .f32)), Σ' (L29 : List (View.Piece (Elt F) S18x1x256x128 .f32)), Σ' (LS0 : List (View.Piece (Elt F) S3x256x2048 .bf16)), { LS1 : List (View.Piece (Elt F) S256x24 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ owns (c : Thread nD τ) arg31 fullShare xs0 ∗ owns (c : Thread nD τ) arg32 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f LS0) ∗ (∃ f, arg32.view.loc (c : Thread nD τ) ↦[arg32.view.set]{fullShare} arg32.view.writes (Elt F) f LS1)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, fun E K => ?run⟩
  case run =>
    simp only [cc0_proj_eq_skeleton]; unfold cc0_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg31.eq_unread hfs0; obtain rfl := harg32.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexists _; iexact HS0
    iexists _; iexact HS1

end Cert.ProjIdeal.Body

end
-- ==== Proof.ProjIdealFrame.lean ====
/- The frame of the input projection's program: what each output and the carried scratch hold point by point,
   the pipeline's proof data, the body's obligation at every point, the run and the frame. -/
module

public import proofs.«01_k».proof.Proof.ProjIdealRunB
public import Idealize.ShloMosaic.Lib.Claim
public import Idealize.ShloMosaic.Lib.Pipeline.Value

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's run at the first grid point, at that point's buffers and input blocks. -/
def runA (c : Dev nD) (t : Fin cfg0.N) (h0 : t.val % 5 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The body's run at a later grid point, over the scratch contents the point before left. -/
def runB (c : Dev nD) (t : Fin cfg0.N) (h0 : ¬t.val % 5 = 0) (xs0 : Vec F S3x256x2048 .bf16) (xs1 : Vec F S256x24 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0 xs1

/-! ## What each output and each carried scratch buffer holds after the body; the pieces cover it -/

section
variable (c : Dev nD) (t : Fin cfg0.N) (h0 : t.val % 5 = 0)
theorem coverA_18 (y : S1x256x1024.Idx) : ∃ pc ∈ (runA m c t h0).1, y ∈ pc.1.set :=
  View.cover_of_tiledL (runA m c t h0).1 S1x256x1024.size (by sl_kernel_rfl) y
def outA_18 : Vec F S1x256x1024 .i8 := VO0_18.read (Elt F) (VO0_18.writes (Elt F) VO0_18.junk (runA m c t h0).1)
theorem coverA_19 (y : S1x256x1.Idx) : ∃ pc ∈ (runA m c t h0).2.1, y ∈ pc.1.set :=
  View.cover_of_tiledL (runA m c t h0).2.1 S1x256x1.size (by sl_kernel_rfl) y
def outA_19 : Vec F S1x256x1 .f32 := VO0_19.read (Elt F) (VO0_19.writes (Elt F) VO0_19.junk (runA m c t h0).2.1)
theorem coverA_20 (y : S1x256x512.Idx) : ∃ pc ∈ (runA m c t h0).2.2.1, y ∈ pc.1.set :=
  View.cover_of_tiledL (runA m c t h0).2.2.1 S1x256x128.size (by sl_kernel_rfl) y
def outA_20 : Vec F S1x256x512 .bf16 := VO0_20.read (Elt F) (VO0_20.writes (Elt F) VO0_20.junk (runA m c t h0).2.2.1)
theorem coverA_21 (y : S1x256x128.Idx) : ∃ pc ∈ (runA m c t h0).2.2.2.1, y ∈ pc.1.set :=
  View.cover_of_tiledL (runA m c t h0).2.2.2.1 S1x256x128.size (by sl_kernel_rfl) y
def outA_21 : Vec F S1x256x128 .fp8e4m3 := VO0_21.read (Elt F) (VO0_21.writes (Elt F) VO0_21.junk (runA m c t h0).2.2.2.1)
theorem coverA_22 (y : S1x256x128.Idx) : ∃ pc ∈ (runA m c t h0).2.2.2.2.1, y ∈ pc.1.set :=
  View.cover_of_tiledL (runA m c t h0).2.2.2.2.1 S1x256x128.size (by sl_kernel_rfl) y
def outA_22 : Vec F S1x256x128 .fp8e4m3 := VO0_22.read (Elt F) (VO0_22.writes (Elt F) VO0_22.junk (runA m c t h0).2.2.2.2.1)
theorem coverA_23 (y : S1x256x1536.Idx) : ∃ pc ∈ (runA m c t h0).2.2.2.2.2.1, y ∈ pc.1.set :=
  View.cover_of_tiledL (runA m c t h0).2.2.2.2.2.1 S1x256x1536.size (by sl_kernel_rfl) y
def outA_23 : Vec F S1x256x1536 .f32 := VO0_23.read (Elt F) (VO0_23.writes (Elt F) VO0_23.junk (runA m c t h0).2.2.2.2.2.1)
theorem coverA_24 (y : S1x256x2048.Idx) : ∃ pc ∈ (runA m c t h0).2.2.2.2.2.2.1, y ∈ pc.1.set :=
  View.cover_of_tiledL (runA m c t h0).2.2.2.2.2.2.1 S1x256x2048.size (by sl_kernel_rfl) y
def outA_24 : Vec F S1x256x2048 .bf16 := VO0_24.read (Elt F) (VO0_24.writes (Elt F) VO0_24.junk (runA m c t h0).2.2.2.2.2.2.1)
theorem coverA_25 (y : S1x256x1536.Idx) : ∃ pc ∈ (runA m c t h0).2.2.2.2.2.2.2.1, y ∈ pc.1.set :=
  View.cover_of_tiledL (runA m c t h0).2.2.2.2.2.2.2.1 S1x256x1536.size (by sl_kernel_rfl) y
def outA_25 : Vec F S1x256x1536 .f32 := VO0_25.read (Elt F) (VO0_25.writes (Elt F) VO0_25.junk (runA m c t h0).2.2.2.2.2.2.2.1)
theorem coverA_26 (y : S1x256x512.Idx) : ∃ pc ∈ (runA m c t h0).2.2.2.2.2.2.2.2.1, y ∈ pc.1.set :=
  View.cover_of_tiledL (runA m c t h0).2.2.2.2.2.2.2.2.1 S1x256x512.size (by sl_kernel_rfl) y
def outA_26 : Vec F S1x256x512 .f32 := VO0_26.read (Elt F) (VO0_26.writes (Elt F) VO0_26.junk (runA m c t h0).2.2.2.2.2.2.2.2.1)
theorem coverA_27 (y : S1x256x64.Idx) : ∃ pc ∈ (runA m c t h0).2.2.2.2.2.2.2.2.2.1, y ∈ pc.1.set :=
  View.cover_of_tiledL (runA m c t h0).2.2.2.2.2.2.2.2.2.1 S1x256x64.size (by sl_kernel_rfl) y
def outA_27 : Vec F S1x256x64 .f32 := VO0_27.read (Elt F) (VO0_27.writes (Elt F) VO0_27.junk (runA m c t h0).2.2.2.2.2.2.2.2.2.1)
theorem coverA_28 (y : S256x1.Idx) : ∃ pc ∈ (runA m c t h0).2.2.2.2.2.2.2.2.2.2.1, y ∈ pc.1.set :=
  View.cover_of_tiledL (runA m c t h0).2.2.2.2.2.2.2.2.2.2.1 S256x1.size (by sl_kernel_rfl) y
def outA_28 : Vec F S256x1 .f32 := VO0_28.read (Elt F) (VO0_28.writes (Elt F) VO0_28.junk (runA m c t h0).2.2.2.2.2.2.2.2.2.2.1)
theorem coverA_29 (y : S18x1x256x128.Idx) : ∃ pc ∈ (runA m c t h0).2.2.2.2.2.2.2.2.2.2.2.1, y ∈ pc.1.set :=
  View.cover_of_tiledL (runA m c t h0).2.2.2.2.2.2.2.2.2.2.2.1 S1x1x256x128.size (by sl_kernel_rfl) y
def outA_29 : Vec F S18x1x256x128 .f32 := VO0_29.read (Elt F) (VO0_29.writes (Elt F) VO0_29.junk (runA m c t h0).2.2.2.2.2.2.2.2.2.2.2.1)
theorem coverA_s0 (y : S3x256x2048.Idx) : ∃ pc ∈ (runA m c t h0).2.2.2.2.2.2.2.2.2.2.2.2.1, y ∈ pc.1.set :=
  View.cover_of_tiledL (runA m c t h0).2.2.2.2.2.2.2.2.2.2.2.2.1 S1x256x2048.size (by sl_kernel_rfl) y
def outA_s0 : Vec F S3x256x2048 .bf16 := VS0_0.read (Elt F) (VS0_0.writes (Elt F) VS0_0.junk (runA m c t h0).2.2.2.2.2.2.2.2.2.2.2.2.1)
theorem coverA_s1 (y : S256x24.Idx) : ∃ pc ∈ (runA m c t h0).2.2.2.2.2.2.2.2.2.2.2.2.2.1, y ∈ pc.1.set :=
  View.cover_of_tiledL (runA m c t h0).2.2.2.2.2.2.2.2.2.2.2.2.2.1 S256x24.size (by sl_kernel_rfl) y
def outA_s1 : Vec F S256x24 .f32 := VS0_1.read (Elt F) (VS0_1.writes (Elt F) VS0_1.junk (runA m c t h0).2.2.2.2.2.2.2.2.2.2.2.2.2.1)
end
section
variable (c : Dev nD) (t : Fin cfg0.N) (h0 : ¬t.val % 5 = 0) (xs0 : Vec F S3x256x2048 .bf16) (xs1 : Vec F S256x24 .f32)
theorem coverB_18 (y : S1x256x1024.Idx) : ∃ pc ∈ (runB m c t h0 xs0 xs1).1, y ∈ pc.1.set :=
  View.cover_of_tiledL (runB m c t h0 xs0 xs1).1 S1x256x1024.size (by sl_kernel_rfl) y
def outB_18 : Vec F S1x256x1024 .i8 := VO0_18.read (Elt F) (VO0_18.writes (Elt F) VO0_18.junk (runB m c t h0 xs0 xs1).1)
theorem coverB_19 (y : S1x256x1.Idx) : ∃ pc ∈ (runB m c t h0 xs0 xs1).2.1, y ∈ pc.1.set :=
  View.cover_of_tiledL (runB m c t h0 xs0 xs1).2.1 S1x256x1.size (by sl_kernel_rfl) y
def outB_19 : Vec F S1x256x1 .f32 := VO0_19.read (Elt F) (VO0_19.writes (Elt F) VO0_19.junk (runB m c t h0 xs0 xs1).2.1)
theorem coverB_20 (y : S1x256x512.Idx) : ∃ pc ∈ (runB m c t h0 xs0 xs1).2.2.1, y ∈ pc.1.set :=
  View.cover_of_tiledL (runB m c t h0 xs0 xs1).2.2.1 S1x256x128.size (by sl_kernel_rfl) y
def outB_20 : Vec F S1x256x512 .bf16 := VO0_20.read (Elt F) (VO0_20.writes (Elt F) VO0_20.junk (runB m c t h0 xs0 xs1).2.2.1)
theorem coverB_21 (y : S1x256x128.Idx) : ∃ pc ∈ (runB m c t h0 xs0 xs1).2.2.2.1, y ∈ pc.1.set :=
  View.cover_of_tiledL (runB m c t h0 xs0 xs1).2.2.2.1 S1x256x128.size (by sl_kernel_rfl) y
def outB_21 : Vec F S1x256x128 .fp8e4m3 := VO0_21.read (Elt F) (VO0_21.writes (Elt F) VO0_21.junk (runB m c t h0 xs0 xs1).2.2.2.1)
theorem coverB_22 (y : S1x256x128.Idx) : ∃ pc ∈ (runB m c t h0 xs0 xs1).2.2.2.2.1, y ∈ pc.1.set :=
  View.cover_of_tiledL (runB m c t h0 xs0 xs1).2.2.2.2.1 S1x256x128.size (by sl_kernel_rfl) y
def outB_22 : Vec F S1x256x128 .fp8e4m3 := VO0_22.read (Elt F) (VO0_22.writes (Elt F) VO0_22.junk (runB m c t h0 xs0 xs1).2.2.2.2.1)
theorem coverB_23 (y : S1x256x1536.Idx) : ∃ pc ∈ (runB m c t h0 xs0 xs1).2.2.2.2.2.1, y ∈ pc.1.set :=
  View.cover_of_tiledL (runB m c t h0 xs0 xs1).2.2.2.2.2.1 S1x256x1536.size (by sl_kernel_rfl) y
def outB_23 : Vec F S1x256x1536 .f32 := VO0_23.read (Elt F) (VO0_23.writes (Elt F) VO0_23.junk (runB m c t h0 xs0 xs1).2.2.2.2.2.1)
theorem coverB_24 (y : S1x256x2048.Idx) : ∃ pc ∈ (runB m c t h0 xs0 xs1).2.2.2.2.2.2.1, y ∈ pc.1.set :=
  View.cover_of_tiledL (runB m c t h0 xs0 xs1).2.2.2.2.2.2.1 S1x256x2048.size (by sl_kernel_rfl) y
def outB_24 : Vec F S1x256x2048 .bf16 := VO0_24.read (Elt F) (VO0_24.writes (Elt F) VO0_24.junk (runB m c t h0 xs0 xs1).2.2.2.2.2.2.1)
theorem coverB_25 (y : S1x256x1536.Idx) : ∃ pc ∈ (runB m c t h0 xs0 xs1).2.2.2.2.2.2.2.1, y ∈ pc.1.set :=
  View.cover_of_tiledL (runB m c t h0 xs0 xs1).2.2.2.2.2.2.2.1 S1x256x1536.size (by sl_kernel_rfl) y
def outB_25 : Vec F S1x256x1536 .f32 := VO0_25.read (Elt F) (VO0_25.writes (Elt F) VO0_25.junk (runB m c t h0 xs0 xs1).2.2.2.2.2.2.2.1)
theorem coverB_26 (y : S1x256x512.Idx) : ∃ pc ∈ (runB m c t h0 xs0 xs1).2.2.2.2.2.2.2.2.1, y ∈ pc.1.set :=
  View.cover_of_tiledL (runB m c t h0 xs0 xs1).2.2.2.2.2.2.2.2.1 S1x256x512.size (by sl_kernel_rfl) y
def outB_26 : Vec F S1x256x512 .f32 := VO0_26.read (Elt F) (VO0_26.writes (Elt F) VO0_26.junk (runB m c t h0 xs0 xs1).2.2.2.2.2.2.2.2.1)
theorem coverB_27 (y : S1x256x64.Idx) : ∃ pc ∈ (runB m c t h0 xs0 xs1).2.2.2.2.2.2.2.2.2.1, y ∈ pc.1.set :=
  View.cover_of_tiledL (runB m c t h0 xs0 xs1).2.2.2.2.2.2.2.2.2.1 S1x256x64.size (by sl_kernel_rfl) y
def outB_27 : Vec F S1x256x64 .f32 := VO0_27.read (Elt F) (VO0_27.writes (Elt F) VO0_27.junk (runB m c t h0 xs0 xs1).2.2.2.2.2.2.2.2.2.1)
theorem coverB_28 (y : S256x1.Idx) : ∃ pc ∈ (runB m c t h0 xs0 xs1).2.2.2.2.2.2.2.2.2.2.1, y ∈ pc.1.set :=
  View.cover_of_tiledL (runB m c t h0 xs0 xs1).2.2.2.2.2.2.2.2.2.2.1 S256x1.size (by sl_kernel_rfl) y
def outB_28 : Vec F S256x1 .f32 := VO0_28.read (Elt F) (VO0_28.writes (Elt F) VO0_28.junk (runB m c t h0 xs0 xs1).2.2.2.2.2.2.2.2.2.2.1)
theorem coverB_29 (y : S18x1x256x128.Idx) : ∃ pc ∈ (runB m c t h0 xs0 xs1).2.2.2.2.2.2.2.2.2.2.2.1, y ∈ pc.1.set :=
  View.cover_of_tiledL (runB m c t h0 xs0 xs1).2.2.2.2.2.2.2.2.2.2.2.1 S1x1x256x128.size (by sl_kernel_rfl) y
def outB_29 : Vec F S18x1x256x128 .f32 := VO0_29.read (Elt F) (VO0_29.writes (Elt F) VO0_29.junk (runB m c t h0 xs0 xs1).2.2.2.2.2.2.2.2.2.2.2.1)
theorem coverB_s0 (y : S3x256x2048.Idx) : ∃ pc ∈ (runB m c t h0 xs0 xs1).2.2.2.2.2.2.2.2.2.2.2.2.1, y ∈ pc.1.set :=
  View.cover_of_tiledL (runB m c t h0 xs0 xs1).2.2.2.2.2.2.2.2.2.2.2.2.1 S1x256x2048.size (by sl_kernel_rfl) y
def outB_s0 : Vec F S3x256x2048 .bf16 := VS0_0.read (Elt F) (VS0_0.writes (Elt F) VS0_0.junk (runB m c t h0 xs0 xs1).2.2.2.2.2.2.2.2.2.2.2.2.1)
theorem coverB_s1 (y : S256x24.Idx) : ∃ pc ∈ (runB m c t h0 xs0 xs1).2.2.2.2.2.2.2.2.2.2.2.2.2.1, y ∈ pc.1.set :=
  View.cover_of_tiledL (runB m c t h0 xs0 xs1).2.2.2.2.2.2.2.2.2.2.2.2.2.1 S256x24.size (by sl_kernel_rfl) y
def outB_s1 : Vec F S256x24 .f32 := VS0_1.read (Elt F) (VS0_1.writes (Elt F) VS0_1.junk (runB m c t h0 xs0 xs1).2.2.2.2.2.2.2.2.2.2.2.2.2.1)
end

/-- What the outputs' buffers and the carried scratch hold after the body at position `n`. -/
def outsAt0 (c : Dev nD) : (n : ℕ) → n < cfg0.N → Vec F S1x256x1024 .i8 × Vec F S1x256x1 .f32 × Vec F S1x256x512 .bf16 × Vec F S1x256x128 .fp8e4m3 × Vec F S1x256x128 .fp8e4m3 × Vec F S1x256x1536 .f32 × Vec F S1x256x2048 .bf16 × Vec F S1x256x1536 .f32 × Vec F S1x256x512 .f32 × Vec F S1x256x64 .f32 × Vec F S256x1 .f32 × Vec F S18x1x256x128 .f32 × Vec F S3x256x2048 .bf16 × Vec F S256x24 .f32
  | 0, hn => (outA_18 m c ⟨0, hn⟩ (Nat.zero_mod _), outA_19 m c ⟨0, hn⟩ (Nat.zero_mod _), outA_20 m c ⟨0, hn⟩ (Nat.zero_mod _), outA_21 m c ⟨0, hn⟩ (Nat.zero_mod _), outA_22 m c ⟨0, hn⟩ (Nat.zero_mod _), outA_23 m c ⟨0, hn⟩ (Nat.zero_mod _), outA_24 m c ⟨0, hn⟩ (Nat.zero_mod _), outA_25 m c ⟨0, hn⟩ (Nat.zero_mod _), outA_26 m c ⟨0, hn⟩ (Nat.zero_mod _), outA_27 m c ⟨0, hn⟩ (Nat.zero_mod _), outA_28 m c ⟨0, hn⟩ (Nat.zero_mod _), outA_29 m c ⟨0, hn⟩ (Nat.zero_mod _), outA_s0 m c ⟨0, hn⟩ (Nat.zero_mod _), outA_s1 m c ⟨0, hn⟩ (Nat.zero_mod _))
  | n + 1, hn =>
    if h0 : (n + 1) % 5 = 0 then
      (outA_18 m c ⟨n + 1, hn⟩ h0, outA_19 m c ⟨n + 1, hn⟩ h0, outA_20 m c ⟨n + 1, hn⟩ h0, outA_21 m c ⟨n + 1, hn⟩ h0, outA_22 m c ⟨n + 1, hn⟩ h0, outA_23 m c ⟨n + 1, hn⟩ h0, outA_24 m c ⟨n + 1, hn⟩ h0, outA_25 m c ⟨n + 1, hn⟩ h0, outA_26 m c ⟨n + 1, hn⟩ h0, outA_27 m c ⟨n + 1, hn⟩ h0, outA_28 m c ⟨n + 1, hn⟩ h0, outA_29 m c ⟨n + 1, hn⟩ h0, outA_s0 m c ⟨n + 1, hn⟩ h0, outA_s1 m c ⟨n + 1, hn⟩ h0)
    else
      (outB_18 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_19 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_20 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_21 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_22 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_23 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_24 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_25 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_26 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_27 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_28 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_29 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_s0 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2, outB_s1 m c ⟨n + 1, hn⟩ h0 (outsAt0 c n (Nat.lt_of_succ_lt hn)).2.2.2.2.2.2.2.2.2.2.2.2.1 (outsAt0 c n (Nat.lt_of_succ_lt hn)).2.2.2.2.2.2.2.2.2.2.2.2.2)

/-- The body's results at the point before. -/
abbrev prev (c : Dev nD) (t : Fin cfg0.N) := outsAt0 m c (t.val - 1) (Nat.lt_of_le_of_lt (Nat.sub_le _ _) t.isLt)

/-- At the first point. -/
theorem outsAt0_A (c : Dev nD) (t : Fin cfg0.N) (h0 : t.val % 5 = 0) :
    outsAt0 m c t.val t.isLt = (outA_18 m c t h0, outA_19 m c t h0, outA_20 m c t h0, outA_21 m c t h0, outA_22 m c t h0, outA_23 m c t h0, outA_24 m c t h0, outA_25 m c t h0, outA_26 m c t h0, outA_27 m c t h0, outA_28 m c t h0, outA_29 m c t h0, outA_s0 m c t h0, outA_s1 m c t h0) := by
  obtain ⟨n, hn⟩ := t
  cases n with
  | zero => exact rfl
  | succ n => exact (dif_pos h0).trans rfl

/-- At a later point: over what the point before left in the scratch. -/
theorem outsAt0_B (c : Dev nD) (t : Fin cfg0.N) (h0 : ¬t.val % 5 = 0) :
    outsAt0 m c t.val t.isLt = (outB_18 m c t h0 (prev m c t).2.2.2.2.2.2.2.2.2.2.2.2.1 (prev m c t).2.2.2.2.2.2.2.2.2.2.2.2.2, outB_19 m c t h0 (prev m c t).2.2.2.2.2.2.2.2.2.2.2.2.1 (prev m c t).2.2.2.2.2.2.2.2.2.2.2.2.2, outB_20 m c t h0 (prev m c t).2.2.2.2.2.2.2.2.2.2.2.2.1 (prev m c t).2.2.2.2.2.2.2.2.2.2.2.2.2, outB_21 m c t h0 (prev m c t).2.2.2.2.2.2.2.2.2.2.2.2.1 (prev m c t).2.2.2.2.2.2.2.2.2.2.2.2.2, outB_22 m c t h0 (prev m c t).2.2.2.2.2.2.2.2.2.2.2.2.1 (prev m c t).2.2.2.2.2.2.2.2.2.2.2.2.2, outB_23 m c t h0 (prev m c t).2.2.2.2.2.2.2.2.2.2.2.2.1 (prev m c t).2.2.2.2.2.2.2.2.2.2.2.2.2, outB_24 m c t h0 (prev m c t).2.2.2.2.2.2.2.2.2.2.2.2.1 (prev m c t).2.2.2.2.2.2.2.2.2.2.2.2.2, outB_25 m c t h0 (prev m c t).2.2.2.2.2.2.2.2.2.2.2.2.1 (prev m c t).2.2.2.2.2.2.2.2.2.2.2.2.2, outB_26 m c t h0 (prev m c t).2.2.2.2.2.2.2.2.2.2.2.2.1 (prev m c t).2.2.2.2.2.2.2.2.2.2.2.2.2, outB_27 m c t h0 (prev m c t).2.2.2.2.2.2.2.2.2.2.2.2.1 (prev m c t).2.2.2.2.2.2.2.2.2.2.2.2.2, outB_28 m c t h0 (prev m c t).2.2.2.2.2.2.2.2.2.2.2.2.1 (prev m c t).2.2.2.2.2.2.2.2.2.2.2.2.2, outB_29 m c t h0 (prev m c t).2.2.2.2.2.2.2.2.2.2.2.2.1 (prev m c t).2.2.2.2.2.2.2.2.2.2.2.2.2, outB_s0 m c t h0 (prev m c t).2.2.2.2.2.2.2.2.2.2.2.2.1 (prev m c t).2.2.2.2.2.2.2.2.2.2.2.2.2, outB_s1 m c t h0 (prev m c t).2.2.2.2.2.2.2.2.2.2.2.2.1 (prev m c t).2.2.2.2.2.2.2.2.2.2.2.2.2) := by
  obtain ⟨n, hn⟩ := t
  cases n with
  | zero => exact (by exfalso; (try dsimp only at h0); exact absurd (Nat.zero_mod _) h0)
  | succ n => exact (dif_neg h0).trans rfl

/-- What holds before position `n`: at first every scratch buffer at anything, then the carried scratch at what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.1) ∗ owns (c : Thread nD τ) scM0_1 fullShare ((outsAt0 m c n hn).2.2.2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.1) ∗ owns (c : Thread nD τ) scM0_1 fullShare ((outsAt0 m c (n - 1) (by omega)).2.2.2.2.2.2.2.2.2.2.2.2.2)) ∗ (∃ r, prngReg c r)) := by
  cases n with
  | zero => exact absurd rfl hz
  | succ n => rfl

/-! ## The pipeline's proof data -/

/-- The pipeline's proof data: the arrays as the region finds them, and what each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨21, _⟩ => (outsAt0 m c t.val t.isLt).2.2.2.1
    | ⟨22, _⟩ => (outsAt0 m c t.val t.isLt).2.2.2.2.1
    | ⟨23, _⟩ => (outsAt0 m c t.val t.isLt).2.2.2.2.2.1
    | ⟨24, _⟩ => (outsAt0 m c t.val t.isLt).2.2.2.2.2.2.1
    | ⟨25, _⟩ => (outsAt0 m c t.val t.isLt).2.2.2.2.2.2.2.1
    | ⟨26, _⟩ => (outsAt0 m c t.val t.isLt).2.2.2.2.2.2.2.2.1
    | ⟨27, _⟩ => (outsAt0 m c t.val t.isLt).2.2.2.2.2.2.2.2.2.1
    | ⟨28, _⟩ => (outsAt0 m c t.val t.isLt).2.2.2.2.2.2.2.2.2.2.1
    | ⟨29, _⟩ => (outsAt0 m c t.val t.isLt).2.2.2.2.2.2.2.2.2.2.2.1
    | ⟨_ + 30, h⟩ => absurd h (Nat.not_lt.2 (Nat.le_add_left _ _))
  Φ t := PhiS m c t.val (Nat.le_of_lt_succ t.isLt)
  q _ := fullShare
  owed _ := 0

/-- The proof data's arrays are the contents at the region's start. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section
variable (c : Dev nD) (t : Fin cfg0.N)
/-- What the body leaves, window by window (the proof data's `match` reduced by `dsimp`). -/
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = (outsAt0 m c t.val t.isLt).1 := by dsimp only [dats]
theorem after0_19 : (dats m 0 c).after 19 t = (outsAt0 m c t.val t.isLt).2.1 := by dsimp only [dats]
theorem after0_20 : (dats m 0 c).after 20 t = (outsAt0 m c t.val t.isLt).2.2.1 := by dsimp only [dats]
theorem after0_21 : (dats m 0 c).after 21 t = (outsAt0 m c t.val t.isLt).2.2.2.1 := by dsimp only [dats]
theorem after0_22 : (dats m 0 c).after 22 t = (outsAt0 m c t.val t.isLt).2.2.2.2.1 := by dsimp only [dats]
theorem after0_23 : (dats m 0 c).after 23 t = (outsAt0 m c t.val t.isLt).2.2.2.2.2.1 := by dsimp only [dats]
theorem after0_24 : (dats m 0 c).after 24 t = (outsAt0 m c t.val t.isLt).2.2.2.2.2.2.1 := by dsimp only [dats]
theorem after0_25 : (dats m 0 c).after 25 t = (outsAt0 m c t.val t.isLt).2.2.2.2.2.2.2.1 := by dsimp only [dats]
theorem after0_26 : (dats m 0 c).after 26 t = (outsAt0 m c t.val t.isLt).2.2.2.2.2.2.2.2.1 := by dsimp only [dats]
theorem after0_27 : (dats m 0 c).after 27 t = (outsAt0 m c t.val t.isLt).2.2.2.2.2.2.2.2.2.1 := by dsimp only [dats]
theorem after0_28 : (dats m 0 c).after 28 t = (outsAt0 m c t.val t.isLt).2.2.2.2.2.2.2.2.2.2.1 := by dsimp only [dats]
theorem after0_29 : (dats m 0 c).after 29 t = (outsAt0 m c t.val t.isLt).2.2.2.2.2.2.2.2.2.2.2.1 := by dsimp only [dats]
end

section
variable (c : Dev nD) (t : Fin cfg0.N)
/-- Each input's current staging buffer holds its block at every point, fetched there or not (`beforeK_W_of`). -/
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
theorem before0_14 (d) : (dats m 0 c).before 14 t d = iblk m c 14 t :=
  before0_14_of m (dats m 0 c) (A_eq m c 14) (after0_14 m c) t d
theorem before0_15 (d) : (dats m 0 c).before 15 t d = iblk m c 15 t :=
  before0_15_of m (dats m 0 c) (A_eq m c 15) (after0_15 m c) t d
theorem before0_16 (d) : (dats m 0 c).before 16 t d = iblk m c 16 t :=
  before0_16_of m (dats m 0 c) (A_eq m c 16) (after0_16 m c) t d
theorem before0_17 (d) : (dats m 0 c).before 17 t d = iblk m c 17 t :=
  before0_17_of m (dats m 0 c) (A_eq m c 17) (after0_17 m c) t d
end

/-! ## The body obligation, at a generic point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 25600000 in
/-- The body at any point: the inputs' buffers hold their blocks, so the run of that point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.succ = PhiS m c (t.val + 1) t.isLt from rfl, PhiS_succ]
  have hN : t.val < 5 := lt_of_lt_of_eq t.isLt (show cfg0.N = 5 from N_0)
  by_cases h0 : t.val % 5 = 0
  · by_cases hz : t.val = 0
    · rw [PhiS_castSucc m c t, PhiS_zero m c _ _ hz, PhiA0_eq]
      rw [outsAt0_A m c t h0]
      unfold outA_18 outA_19 outA_20 outA_21 outA_22 outA_23 outA_24 outA_25 outA_26 outA_27 outA_28 outA_29 outA_s0 outA_s1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [HS0]; · iexact HS0
      isplitl [HS1]; · iexact HS1
      iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 m c t h0)
          unfold owns; iexists _; isplitr
          swap; · iexact HS1
          ipureintro; exact View.read_writes_of_cover _ _ _ _ _ (coverA_s1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      isplitl [H24]
      · unfold owns; iexists _; isplitr
        swap; · iexact H24
        ipureintro; exact View.read_writes_of_cover _ _ _ _ _ (coverA_24 m c t h0)
      isplitl [H25]
      · unfold owns; iexists _; isplitr
        swap; · iexact H25
        ipureintro; exact View.read_writes_of_cover _ _ _ _ _ (coverA_25 m c t h0)
      isplitl [H26]
      · unfold owns; iexists _; isplitr
        swap; · iexact H26
        ipureintro; exact View.read_writes_of_cover _ _ _ _ _ (coverA_26 m c t h0)
      isplitl [H27]
      · unfold owns; iexists _; isplitr
        swap; · iexact H27
        ipureintro; exact View.read_writes_of_cover _ _ _ _ _ (coverA_27 m c t h0)
      isplitl [H28]
      · unfold owns; iexists _; isplitr
        swap; · iexact H28
        ipureintro; exact View.read_writes_of_cover _ _ _ _ _ (coverA_28 m c t h0)
      unfold owns; iexists _; isplitr
      swap; · iexact H29
      ipureintro; exact View.read_writes_of_cover _ _ _ _ _ (coverA_29 m c t h0)
    · exfalso; have hN : t.val < 5 := lt_of_lt_of_eq t.isLt (show cfg0.N = 5 from N_0); omega
  · by_cases hz : t.val = 0
    · exfalso; have hN : t.val < 5 := lt_of_lt_of_eq t.isLt (show cfg0.N = 5 from N_0); omega
    · rw [PhiS_castSucc m c t, PhiS_pos m c _ _ hz]
      rw [outsAt0_B m c t h0]
      unfold outB_18 outB_19 outB_20 outB_21 outB_22 outB_23 outB_24 outB_25 outB_26 outB_27 outB_28 outB_29 outB_s0 outB_s1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
      iapply ((runB m c t h0 _ _).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [HS0]; · iexact HS0
      isplitl [HS1]; · iexact HS1
      iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB_s0 m c t h0 _ _)
          unfold owns; iexists _; isplitr
          swap; · iexact HS1
          ipureintro; exact View.read_writes_of_cover _ _ _ _ _ (coverB_s1 m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (coverB_18 m c t h0 _ _)
      isplitl [H19]
      · unfold owns; iexists _; isplitr
        swap; · iexact H19
        ipureintro; exact View.read_writes_of_cover _ _ _ _ _ (coverB_19 m c t h0 _ _)
      isplitl [H20]
      · unfold owns; iexists _; isplitr
        swap; · iexact H20
        ipureintro; exact View.read_writes_of_cover _ _ _ _ _ (coverB_20 m c t h0 _ _)
      isplitl [H21]
      · unfold owns; iexists _; isplitr
        swap; · iexact H21
        ipureintro; exact View.read_writes_of_cover _ _ _ _ _ (coverB_21 m c t h0 _ _)
      isplitl [H22]
      · unfold owns; iexists _; isplitr
        swap; · iexact H22
        ipureintro; exact View.read_writes_of_cover _ _ _ _ _ (coverB_22 m c t h0 _ _)
      isplitl [H23]
      · unfold owns; iexists _; isplitr
        swap; · iexact H23
        ipureintro; exact View.read_writes_of_cover _ _ _ _ _ (coverB_23 m c t h0 _ _)
      isplitl [H24]
      · unfold owns; iexists _; isplitr
        swap; · iexact H24
        ipureintro; exact View.read_writes_of_cover _ _ _ _ _ (coverB_24 m c t h0 _ _)
      isplitl [H25]
      · unfold owns; iexists _; isplitr
        swap; · iexact H25
        ipureintro; exact View.read_writes_of_cover _ _ _ _ _ (coverB_25 m c t h0 _ _)
      isplitl [H26]
      · unfold owns; iexists _; isplitr
        swap; · iexact H26
        ipureintro; exact View.read_writes_of_cover _ _ _ _ _ (coverB_26 m c t h0 _ _)
      isplitl [H27]
      · unfold owns; iexists _; isplitr
        swap; · iexact H27
        ipureintro; exact View.read_writes_of_cover _ _ _ _ _ (coverB_27 m c t h0 _ _)
      isplitl [H28]
      · unfold owns; iexists _; isplitr
        swap; · iexact H28
        ipureintro; exact View.read_writes_of_cover _ _ _ _ _ (coverB_28 m c t h0 _ _)
      unfold owns; iexists _; isplitr
      swap; · iexact H29
      ipureintro; exact View.read_writes_of_cover _ _ _ _ _ (coverB_29 m c t h0 _ _)

/-- The body table's row at a point is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

/-! ## The claimed outputs' final arrays, block by block -/

/-- What a point leaves in output 18's array, in terms of the body's result at the point. -/
theorem flushed18 (c : Dev nD) (t : Fin cfg0.N) :
    (dats m 0 c).flushed 18 t = (cfg0.win 18).cut (grid0.coords t) ((outsAt0 m c t.val t.isLt).1) := by
  show (cfg0.win 18).cut (grid0.coords t) ((dats m 0 c).after 18 t) = _
  rw [after0_18]
theorem flushed18_A (c : Dev nD) (t : Fin cfg0.N) (h0 : t.val % 5 = 0) :
    (dats m 0 c).flushed 18 t = (cfg0.win 18).cut (grid0.coords t) (outA_18 m c t h0) := by
  simp only [flushed18, outsAt0_A m c t h0]
theorem flushed18_B (c : Dev nD) (t : Fin cfg0.N) (h0 : ¬t.val % 5 = 0) :
    (dats m 0 c).flushed 18 t = (cfg0.win 18).cut (grid0.coords t) (outB_18 m c t h0 (prev m c t).2.2.2.2.2.2.2.2.2.2.2.2.1 (prev m c t).2.2.2.2.2.2.2.2.2.2.2.2.2) := by
  simp only [flushed18, outsAt0_B m c t h0]
theorem idx_inj18 : ∀ t t' : Fin cfg0.N, win0_18.index t = win0_18.index t' → t = t' :=
  (by decide +kernel : ∀ t t' : Fin grid0.N, win0_18.index t = win0_18.index t' → t = t')
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18
    (fun t t' _ _ hne => (cfg0.win 18).disjoint_blk fun h => hne (idx_inj18 t t' h)) cfg0.N t t.isLt hf

/-- What a point leaves in output 19's array, in terms of the body's result at the point. -/
theorem flushed19 (c : Dev nD) (t : Fin cfg0.N) :
    (dats m 0 c).flushed 19 t = (cfg0.win 19).cut (grid0.coords t) ((outsAt0 m c t.val t.isLt).2.1) := by
  show (cfg0.win 19).cut (grid0.coords t) ((dats m 0 c).after 19 t) = _
  rw [after0_19]
theorem flushed19_A (c : Dev nD) (t : Fin cfg0.N) (h0 : t.val % 5 = 0) :
    (dats m 0 c).flushed 19 t = (cfg0.win 19).cut (grid0.coords t) (outA_19 m c t h0) := by
  simp only [flushed19, outsAt0_A m c t h0]
theorem flushed19_B (c : Dev nD) (t : Fin cfg0.N) (h0 : ¬t.val % 5 = 0) :
    (dats m 0 c).flushed 19 t = (cfg0.win 19).cut (grid0.coords t) (outB_19 m c t h0 (prev m c t).2.2.2.2.2.2.2.2.2.2.2.2.1 (prev m c t).2.2.2.2.2.2.2.2.2.2.2.2.2) := by
  simp only [flushed19, outsAt0_B m c t h0]
theorem idx_inj19 : ∀ t t' : Fin cfg0.N, win0_19.index t = win0_19.index t' → t = t' :=
  (by decide +kernel : ∀ t t' : Fin grid0.N, win0_19.index t = win0_19.index t' → t = t')
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19
    (fun t t' _ _ hne => (cfg0.win 19).disjoint_blk fun h => hne (idx_inj19 t t' h)) cfg0.N t t.isLt hf

/-- What a point leaves in output 20's array, in terms of the body's result at the point. -/
theorem flushed20 (c : Dev nD) (t : Fin cfg0.N) :
    (dats m 0 c).flushed 20 t = (cfg0.win 20).cut (grid0.coords t) ((outsAt0 m c t.val t.isLt).2.2.1) := by
  show (cfg0.win 20).cut (grid0.coords t) ((dats m 0 c).after 20 t) = _
  rw [after0_20]
theorem flushed20_A (c : Dev nD) (t : Fin cfg0.N) (h0 : t.val % 5 = 0) :
    (dats m 0 c).flushed 20 t = (cfg0.win 20).cut (grid0.coords t) (outA_20 m c t h0) := by
  simp only [flushed20, outsAt0_A m c t h0]
theorem flushed20_B (c : Dev nD) (t : Fin cfg0.N) (h0 : ¬t.val % 5 = 0) :
    (dats m 0 c).flushed 20 t = (cfg0.win 20).cut (grid0.coords t) (outB_20 m c t h0 (prev m c t).2.2.2.2.2.2.2.2.2.2.2.2.1 (prev m c t).2.2.2.2.2.2.2.2.2.2.2.2.2) := by
  simp only [flushed20, outsAt0_B m c t h0]
theorem idx_inj20 : ∀ t t' : Fin cfg0.N, win0_20.index t = win0_20.index t' → t = t' :=
  (by decide +kernel : ∀ t t' : Fin grid0.N, win0_20.index t = win0_20.index t' → t = t')
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20
    (fun t t' _ _ hne => (cfg0.win 20).disjoint_blk fun h => hne (idx_inj20 t t' h)) cfg0.N t t.isLt hf

/-- What a point leaves in output 21's array, in terms of the body's result at the point. -/
theorem flushed21 (c : Dev nD) (t : Fin cfg0.N) :
    (dats m 0 c).flushed 21 t = (cfg0.win 21).cut (grid0.coords t) ((outsAt0 m c t.val t.isLt).2.2.2.1) := by
  show (cfg0.win 21).cut (grid0.coords t) ((dats m 0 c).after 21 t) = _
  rw [after0_21]
theorem flushed21_A (c : Dev nD) (t : Fin cfg0.N) (h0 : t.val % 5 = 0) :
    (dats m 0 c).flushed 21 t = (cfg0.win 21).cut (grid0.coords t) (outA_21 m c t h0) := by
  simp only [flushed21, outsAt0_A m c t h0]
theorem flushed21_B (c : Dev nD) (t : Fin cfg0.N) (h0 : ¬t.val % 5 = 0) :
    (dats m 0 c).flushed 21 t = (cfg0.win 21).cut (grid0.coords t) (outB_21 m c t h0 (prev m c t).2.2.2.2.2.2.2.2.2.2.2.2.1 (prev m c t).2.2.2.2.2.2.2.2.2.2.2.2.2) := by
  simp only [flushed21, outsAt0_B m c t h0]
theorem idx_inj21 : ∀ t t' : Fin cfg0.N, win0_21.index t = win0_21.index t' → t = t' :=
  (by decide +kernel : ∀ t t' : Fin grid0.N, win0_21.index t = win0_21.index t' → t = t')
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21
    (fun t t' _ _ hne => (cfg0.win 21).disjoint_blk fun h => hne (idx_inj21 t t' h)) cfg0.N t t.isLt hf

/-- What a point leaves in output 22's array, in terms of the body's result at the point. -/
theorem flushed22 (c : Dev nD) (t : Fin cfg0.N) :
    (dats m 0 c).flushed 22 t = (cfg0.win 22).cut (grid0.coords t) ((outsAt0 m c t.val t.isLt).2.2.2.2.1) := by
  show (cfg0.win 22).cut (grid0.coords t) ((dats m 0 c).after 22 t) = _
  rw [after0_22]
theorem flushed22_A (c : Dev nD) (t : Fin cfg0.N) (h0 : t.val % 5 = 0) :
    (dats m 0 c).flushed 22 t = (cfg0.win 22).cut (grid0.coords t) (outA_22 m c t h0) := by
  simp only [flushed22, outsAt0_A m c t h0]
theorem flushed22_B (c : Dev nD) (t : Fin cfg0.N) (h0 : ¬t.val % 5 = 0) :
    (dats m 0 c).flushed 22 t = (cfg0.win 22).cut (grid0.coords t) (outB_22 m c t h0 (prev m c t).2.2.2.2.2.2.2.2.2.2.2.2.1 (prev m c t).2.2.2.2.2.2.2.2.2.2.2.2.2) := by
  simp only [flushed22, outsAt0_B m c t h0]
theorem idx_inj22 : ∀ t t' : Fin cfg0.N, win0_22.index t = win0_22.index t' → t = t' :=
  (by decide +kernel : ∀ t t' : Fin grid0.N, win0_22.index t = win0_22.index t' → t = t')
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22
    (fun t t' _ _ hne => (cfg0.win 22).disjoint_blk fun h => hne (idx_inj22 t t' h)) cfg0.N t t.isLt hf

/-- What a point leaves in output 23's array, in terms of the body's result at the point. -/
theorem flushed23 (c : Dev nD) (t : Fin cfg0.N) :
    (dats m 0 c).flushed 23 t = (cfg0.win 23).cut (grid0.coords t) ((outsAt0 m c t.val t.isLt).2.2.2.2.2.1) := by
  show (cfg0.win 23).cut (grid0.coords t) ((dats m 0 c).after 23 t) = _
  rw [after0_23]
theorem flushed23_A (c : Dev nD) (t : Fin cfg0.N) (h0 : t.val % 5 = 0) :
    (dats m 0 c).flushed 23 t = (cfg0.win 23).cut (grid0.coords t) (outA_23 m c t h0) := by
  simp only [flushed23, outsAt0_A m c t h0]
theorem flushed23_B (c : Dev nD) (t : Fin cfg0.N) (h0 : ¬t.val % 5 = 0) :
    (dats m 0 c).flushed 23 t = (cfg0.win 23).cut (grid0.coords t) (outB_23 m c t h0 (prev m c t).2.2.2.2.2.2.2.2.2.2.2.2.1 (prev m c t).2.2.2.2.2.2.2.2.2.2.2.2.2) := by
  simp only [flushed23, outsAt0_B m c t h0]
theorem idx_inj23 : ∀ t t' : Fin cfg0.N, win0_23.index t = win0_23.index t' → t = t' :=
  (by decide +kernel : ∀ t t' : Fin grid0.N, win0_23.index t = win0_23.index t' → t = t')
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23
    (fun t t' _ _ hne => (cfg0.win 23).disjoint_blk fun h => hne (idx_inj23 t t' h)) cfg0.N t t.isLt hf

/-- What a point leaves in output 24's array, in terms of the body's result at the point. -/
theorem flushed24 (c : Dev nD) (t : Fin cfg0.N) :
    (dats m 0 c).flushed 24 t = (cfg0.win 24).cut (grid0.coords t) ((outsAt0 m c t.val t.isLt).2.2.2.2.2.2.1) := by
  show (cfg0.win 24).cut (grid0.coords t) ((dats m 0 c).after 24 t) = _
  rw [after0_24]
theorem flushed24_A (c : Dev nD) (t : Fin cfg0.N) (h0 : t.val % 5 = 0) :
    (dats m 0 c).flushed 24 t = (cfg0.win 24).cut (grid0.coords t) (outA_24 m c t h0) := by
  simp only [flushed24, outsAt0_A m c t h0]
theorem flushed24_B (c : Dev nD) (t : Fin cfg0.N) (h0 : ¬t.val % 5 = 0) :
    (dats m 0 c).flushed 24 t = (cfg0.win 24).cut (grid0.coords t) (outB_24 m c t h0 (prev m c t).2.2.2.2.2.2.2.2.2.2.2.2.1 (prev m c t).2.2.2.2.2.2.2.2.2.2.2.2.2) := by
  simp only [flushed24, outsAt0_B m c t h0]
theorem idx_inj24 : ∀ t t' : Fin cfg0.N, win0_24.index t = win0_24.index t' → t = t' :=
  (by decide +kernel : ∀ t t' : Fin grid0.N, win0_24.index t = win0_24.index t' → t = t')
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24
    (fun t t' _ _ hne => (cfg0.win 24).disjoint_blk fun h => hne (idx_inj24 t t' h)) cfg0.N t t.isLt hf

theorem post18 (r : PUnit × MemSt nD τ sig (Elt F)) (h : Pipeline.FramePost cfgs (dats m) 0 (V m) r) (c : Dev nD) :
    r.2.mem ((c : Thread nD τ).loc main_v62_0) = (dats m 0 c).arrAt 18 cfg0.N :=
  (h c).1 18
theorem post19 (r : PUnit × MemSt nD τ sig (Elt F)) (h : Pipeline.FramePost cfgs (dats m) 0 (V m) r) (c : Dev nD) :
    r.2.mem ((c : Thread nD τ).loc main_v62_1) = (dats m 0 c).arrAt 19 cfg0.N :=
  (h c).1 19
theorem post20 (r : PUnit × MemSt nD τ sig (Elt F)) (h : Pipeline.FramePost cfgs (dats m) 0 (V m) r) (c : Dev nD) :
    r.2.mem ((c : Thread nD τ).loc main_v62_2) = (dats m 0 c).arrAt 20 cfg0.N :=
  (h c).1 20
theorem post21 (r : PUnit × MemSt nD τ sig (Elt F)) (h : Pipeline.FramePost cfgs (dats m) 0 (V m) r) (c : Dev nD) :
    r.2.mem ((c : Thread nD τ).loc main_v62_3) = (dats m 0 c).arrAt 21 cfg0.N :=
  (h c).1 21
theorem post22 (r : PUnit × MemSt nD τ sig (Elt F)) (h : Pipeline.FramePost cfgs (dats m) 0 (V m) r) (c : Dev nD) :
    r.2.mem ((c : Thread nD τ).loc main_v62_4) = (dats m 0 c).arrAt 22 cfg0.N :=
  (h c).1 22
theorem post23 (r : PUnit × MemSt nD τ sig (Elt F)) (h : Pipeline.FramePost cfgs (dats m) 0 (V m) r) (c : Dev nD) :
    r.2.mem ((c : Thread nD τ).loc main_v62_5) = (dats m 0 c).arrAt 23 cfg0.N :=
  (h c).1 23
theorem post24 (r : PUnit × MemSt nD τ sig (Elt F)) (h : Pipeline.FramePost cfgs (dats m) 0 (V m) r) (c : Dev nD) :
    r.2.mem ((c : Thread nD τ).loc main_v62_6) = (dats m 0 c).arrAt 24 cfg0.N :=
  (h c).1 24
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

set_option maxHeartbeats 466860 in
/-- The run, with the claimed outputs' arrays named and the arguments unchanged. -/
theorem run_blocks : θ_run defs (onTc (τ := τ) (main (F := F))) ⟨m, fun _ => 0, ρ⟩ fun r => ∀ c : Dev nD,
      r.2.mem ((c : Thread nD τ).loc main_v62_0) = (dats m 0 c).arrAt 18 cfg0.N
      ∧ r.2.mem ((c : Thread nD τ).loc main_v62_1) = (dats m 0 c).arrAt 19 cfg0.N
      ∧ r.2.mem ((c : Thread nD τ).loc main_v62_2) = (dats m 0 c).arrAt 20 cfg0.N
      ∧ r.2.mem ((c : Thread nD τ).loc main_v62_3) = (dats m 0 c).arrAt 21 cfg0.N
      ∧ r.2.mem ((c : Thread nD τ).loc main_v62_4) = (dats m 0 c).arrAt 22 cfg0.N
      ∧ r.2.mem ((c : Thread nD τ).loc main_v62_5) = (dats m 0 c).arrAt 23 cfg0.N
      ∧ r.2.mem ((c : Thread nD τ).loc main_v62_6) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.ProjIdeal.Body

end
-- ==== Proof.ProjSpec.lean ====
/- The mathematics of one row of the input projection, over the extended reals: the quantised product with a multiplier
   per column, the rotary rotation of the query and key heads, and the codes of the key and value rows. -/
module

public import proofs.«01_k».proof.Proof.RowSpec

@[expose] public section

noncomputable section

namespace Cert.Proof.Row

open Idealize.ShloMosaic

/-- A quantised row times an int8 matrix, scaled back by the row's scale, the column's scale and the column's multiplier. -/
def projm {n p : Nat} (v : Fin n → EReal) (w : Fin n → Fin p → BitVec 8) (ws cm : Fin p → EReal) (l : Fin p) : EReal :=
  proj v w ws l * cm l

/-- The rotary rotation of the heads of 64 columns: the two halves of a head are the two coordinates of 32 planes, and
    plane `j` turns by the angle whose cosine and sine are `co j` and `si j`. -/
def rot (v : Fin 4376 → EReal) (co si : Fin 32 → EReal) (k : Fin 640) : EReal :=
  if k.val % 64 < 32 then
    v ⟨k, by omega⟩ * co ⟨k.val % 32, by omega⟩ - v ⟨k + 32, by omega⟩ * si ⟨k.val % 32, by omega⟩
  else
    v ⟨k, by omega⟩ * co ⟨k.val % 32, by omega⟩ + v ⟨k - 32, by omega⟩ * si ⟨k.val % 32, by omega⟩

/-- The same rotation on a group of 128 columns with one table for the cosines and one for the signed sines: a column's
    partner is 32 columns on in the first half of a head and 32 columns back (96 on, around the group) in the second. -/
def lane (p : Fin 768 → EReal) (c s : Fin 128 → EReal) (b : Fin 5) (l : Fin 128) : EReal :=
  p ⟨128 * b + l, by omega⟩ * c l
    + (if l.val % 64 < 32 then p ⟨128 * b + (l + 32) % 128, by omega⟩ else p ⟨128 * b + (l + 96) % 128, by omega⟩) * s l

theorem lane_eq (v : Fin 4376 → EReal) (co si : Fin 32 → EReal) (p : Fin 768 → EReal) (c s : Fin 128 → EReal)
    (hp : ∀ i : Fin 768, p i = v ⟨i, by omega⟩) (hc : ∀ l : Fin 128, c l = co ⟨l.val % 32, by omega⟩)
    (hs : ∀ l : Fin 128, s l = if l.val % 64 < 32 then -si ⟨l.val % 32, by omega⟩ else si ⟨l.val % 32, by omega⟩)
    (b : Fin 5) (l : Fin 128) : lane p c s b l = rot v co si ⟨128 * b + l, by omega⟩ := by
  unfold lane rot
  rw [hc, hs]
  have e : (⟨(128 * b.val + l.val) % 32, by omega⟩ : Fin 32) = ⟨l.val % 32, by omega⟩ := Fin.ext (by
    show (128 * b.val + l.val) % 32 = l.val % 32; omega)
  by_cases h : l.val % 64 < 32
  · rw [if_pos h, if_pos h, if_pos (show (128 * b.val + l.val) % 64 < 32 by omega), hp, hp]
    have e2 : (⟨128 * b.val + (l.val + 32) % 128, by omega⟩ : Fin 4376) = ⟨128 * b.val + l.val + 32, by omega⟩ :=
      Fin.ext (by show 128 * b.val + (l.val + 32) % 128 = 128 * b.val + l.val + 32; omega)
    simp only [e, e2]
    rw [mul_neg, sub_eq_add_neg]
  · rw [if_neg h, if_neg h, if_neg (show ¬ (128 * b.val + l.val) % 64 < 32 by omega), hp, hp]
    have e2 : (⟨128 * b.val + (l.val + 96) % 128, by omega⟩ : Fin 4376) = ⟨128 * b.val + l.val - 32, by omega⟩ :=
      Fin.ext (by show 128 * b.val + (l.val + 96) % 128 = 128 * b.val + l.val - 32; omega)
    simp only [e, e2]

/-- The code of a value under a given scale, clipped to the finite range [-448, 448] of its eight-bit float type. -/
def code448 (x s : EReal) : EReal :=
  min (Ideal.ofBits .f32 1138753536#32) (max (Ideal.ofBits .f32 3286237184#32) (Ideal.div x s))

end Cert.Proof.Row

end
-- ==== Proof.ProjMath.lean ====
/- The input projection as mathematics: each result of the two programs as a function of the argument arrays, by rows
   (RowSpec.lean, ProjSpec.lean). -/
module

public import proofs.«01_k».proof.Proof.ProjSpec

@[expose] public section

noncomputable section

namespace Cert.Proof.ProjMath

open Idealize.ShloMosaic

/-- The argument arrays, by coordinates; `cm` is the multiplier of each column of the product. -/
structure Args where
  x : Fin 256 → Fin 5 → Fin 1024 → EReal
  n : Fin 1024 → EReal
  w : Fin 1024 → Fin 4376 → BitVec 8
  ws : Fin 4376 → EReal
  cm : Fin 4376 → EReal
  co : Fin 256 → Fin 5 → Fin 32 → EReal
  si : Fin 256 → Fin 5 → Fin 32 → EReal
  ks : Fin 2 → EReal
  vs : Fin 2 → EReal

variable (A : Args) (t : Fin 5) (r : Fin 256)

/-- A row of the input, normalised. -/
def row : Fin 1024 → EReal := Row.rms (A.x r t) A.n

/-- Its quantised product with the weights, scaled back, with the columns' multipliers. -/
def prod : Fin 4376 → EReal := Row.projm (row A t r) A.w A.ws A.cm

/-- The query and key columns of the product after the rotary rotation. -/
def turned : Fin 640 → EReal := Row.rot (prod A t r) (A.co r t) (A.si r t)

/-- The codes of the normalised row, and their scale. -/
def codes (l : Fin 1024) : BitVec 8 := Row.code8 (row A t r) l
def scale : EReal := Row.scale (row A t r)

/-- The queries; the keys' and values' codes; the gate's columns; the convolution's columns. -/
def q (l : Fin 512) : EReal := turned A t r ⟨l, by omega⟩
def kc (l : Fin 128) : EReal := Row.code448 (turned A t r ⟨512 + l, by omega⟩) (A.ks ⟨l.val / 64, by omega⟩)
def vc (l : Fin 128) : EReal := Row.code448 (prod A t r ⟨640 + l, by omega⟩) (A.vs ⟨l.val / 64, by omega⟩)
def z (l : Fin 1536) : EReal := prod A t r ⟨768 + l, by omega⟩
def conv (l : Fin 2048) : EReal := prod A t r ⟨2304 + l, by omega⟩

end Cert.Proof.ProjMath

end
-- ==== Proof.ProjPay.lean ====
/- What the projection kernel's step computes, payload by payload, read at a row and a column as the row mathematics. -/
module

public import proofs.«01_k».proof.Proof.ProjSpec
public import proofs.«01_k».proof.Proof.Gen.ProjIdeal.Skeleton

@[expose] public section

set_option maxRecDepth 16384

noncomputable section

namespace Cert.Proof.ProjPay

open Idealize.ShloMosaic Cert.ProjIdeal Cert.ProjIdeal.Gen Cert.Proof

theorem pay13 (v : Vec Ideal S1x256x1024 .bf16) (n : Vec Ideal S1x1024 .f32) (r : Fin 256) (l : Fin 1024) :
    k0_pay13 v n (ix2 r l) = Row.rms (fun x => v (ix3 0 r x)) (fun x => n (ix2 0 x)) l := by
  pointwise [k0_pay13]
  rfl

theorem pay14 (v : Vec Ideal S1x256x1024 .bf16) (n : Vec Ideal S1x1024 .f32) (r : Fin 256) (z : Fin 1) :
    k0_pay14 v n (ix2 r z) = Row.scale (Row.rms (fun x => v (ix3 0 r x)) (fun x => n (ix2 0 x))) := by
  pointwise [k0_pay14]
  simp only [pay13]
  rfl

theorem pay15 (v : Vec Ideal S1x256x1024 .bf16) (n : Vec Ideal S1x1024 .f32) (r : Fin 256) (l : Fin 1024) :
    k0_pay15 v n (ix2 r l) = Row.code (Row.rms (fun x => v (ix3 0 r x)) (fun x => n (ix2 0 x))) l := by
  pointwise [k0_pay15]
  rw [pay13, pay14]
  rfl

theorem pay16 (v : Vec Ideal S1x256x1024 .bf16) (n : Vec Ideal S1x1024 .f32) (r : Fin 256) (l : Fin 1024) :
    k0_pay16 v n (ix2 r l) = Row.code8 (Row.rms (fun x => v (ix3 0 r x)) (fun x => n (ix2 0 x))) l := by
  pointwise [k0_pay16]
  rw [pay15]
  rfl

theorem pay17 (v : IVec S256x1024 8) (z : Fin 1) (r : Fin 256) (l : Fin 1024) : k0_pay17 v (ix3 z r l) = v (ix2 r l) := by
  pointwise [k0_pay17]

theorem pay18 (v : FVec Ideal S256x1 .f32) (z : Fin 1) (r : Fin 256) (l : Fin 1) :
    k0_pay18 v (ix3 z r l) = v (ix2 r 0) := by
  pointwise [k0_pay18]

theorem pay19 (v : FVec Ideal S256x1024 .f32) (r : Fin 256) (l : Fin 1024) : k0_pay19 v (ix2 r l) = v (ix2 r l) := by
  pointwise [k0_pay19]

theorem pay20 (v : Vec Ideal S1x256x128 .f32) (r : Fin 256) (l : Fin 128) : k0_pay20 v (ix2 r l) = v (ix3 0 r l) := by
  pointwise [k0_pay20]

theorem pay21 (v : Vec Ideal S1x256x128 .f32) (r : Fin 256) (l : Fin 128) : k0_pay21 v (ix2 r l) = v (ix3 0 r l) := by
  pointwise [k0_pay21]

/-- A column's place in its head. -/
theorem pay22 (r : Fin 256) (l : Fin 128) : k0_pay22 (ix2 r l) = BitVec.ofNat 32 (l.val % 64) := by
  pointwise [k0_pay22]
  revert l
  decide +kernel

/-- The product of a row of codes with the weights' rows, scaled back by the row's scale and the columns'. -/
theorem pay23 (sc : FVec Ideal S256x1 .f32) (q : FVec Ideal S256x1024 .f32) (w : Vec Ideal S768x1024 .i8) (ws : Vec Ideal S1x768 .f32)
    (r : Fin 256) (l : Fin 768) :
    k0_pay23 sc q w ws (ix2 r l)
      = (∑ x : Fin 1024, q (ix2 r x) * FloatOps.sitofp (F := Ideal) .bf16 (w (ix2 l x))) * sc (ix2 r 0) * ws (ix2 0 l) := by
  pointwise [k0_pay23]
  simp only [pay19]

theorem pay24 (v : FVec Ideal S256x768 .f32) (m : Vec Ideal S1x768 .f32) (r : Fin 256) (l : Fin 768) :
    k0_pay24 v m (ix2 r l) = v (ix2 r l) * m (ix2 0 l) := by
  pointwise [k0_pay24]

/-- The comparison that picks a column's partner. -/
theorem half (l : Fin 128) (a b : EReal) :
    Scalar.select (IntOp.cmpi .slt (BitVec.ofNat 32 (l.val % 64)) 32#32) a b = if l.val % 64 < 32 then a else b := by
  have h : (IntOp.cmpi .slt (BitVec.ofNat 32 (l.val % 64)) 32#32 = 1#1) ↔ l.val % 64 < 32 := by
    revert l
    decide +kernel
  exact if_congr h rfl rfl

/-- A rotated group of 128 columns, from a column and its two possible partners. -/
theorem lane_mk (p : Fin 768 → EReal) (c s : Fin 128 → EReal) (b : Fin 5) (l : Fin 128) (o : Nat) (ho : o = 128 * b.val)
    (i j k : Fin 768) (hi : i.val = o + l.val) (hj : j.val = o + (l.val + 128 - 96) % 128)
    (hk : k.val = o + (l.val + 128 - 32) % 128) :
    p i * c l + Scalar.select (IntOp.cmpi .slt (BitVec.ofNat 32 (l.val % 64)) 32#32) (p j) (p k) * s l = Row.lane p c s b l := by
  have ei : i = ⟨128 * b.val + l.val, by omega⟩ := Fin.ext (by show i.val = 128 * b.val + l.val; omega)
  have ej : j = ⟨128 * b.val + (l.val + 32) % 128, by omega⟩ :=
    Fin.ext (by show j.val = 128 * b.val + (l.val + 32) % 128; omega)
  have ek : k = ⟨128 * b.val + (l.val + 96) % 128, by omega⟩ :=
    Fin.ext (by show k.val = 128 * b.val + (l.val + 96) % 128; omega)
  rw [half, ei, ej, ek]
  rfl

theorem pay25 (c s : FVec Ideal S256x128 .f32) (v : FVec Ideal S256x768 .f32) (m : Vec Ideal S1x768 .f32) (z : Fin 1) (r : Fin 256)
    (l : Fin 128) :
    k0_pay25 c s k0_pay22 v m (ix3 z r l)
      = Row.lane (fun x => k0_pay24 v m (ix2 r x)) (fun x => c (ix2 r x)) (fun x => s (ix2 r x)) 0 l := by
  pointwise [k0_pay25]
  simp only [pay22]
  exact lane_mk (fun x => k0_pay24 v m (ix2 r x)) (fun x => c (ix2 r x)) (fun x => s (ix2 r x)) 0 l 0 rfl
    ⟨l, by omega⟩ ⟨(l.val + 128 - 96) % 128, by omega⟩ ⟨(l.val + 128 - 32) % 128, by omega⟩ (Nat.zero_add _).symm (Nat.zero_add _).symm (Nat.zero_add _).symm

theorem pay26 (c s : FVec Ideal S256x128 .f32) (v : FVec Ideal S256x768 .f32) (m : Vec Ideal S1x768 .f32) (z : Fin 1) (r : Fin 256)
    (l : Fin 128) :
    k0_pay26 c s k0_pay22 v m (ix3 z r l)
      = Row.lane (fun x => k0_pay24 v m (ix2 r x)) (fun x => c (ix2 r x)) (fun x => s (ix2 r x)) 1 l := by
  pointwise [k0_pay26]
  simp only [pay22]
  exact lane_mk (fun x => k0_pay24 v m (ix2 r x)) (fun x => c (ix2 r x)) (fun x => s (ix2 r x)) 1 l 128 rfl
    ⟨128 + l, by omega⟩ ⟨128 + (l.val + 128 - 96) % 128, by omega⟩ ⟨128 + (l.val + 128 - 32) % 128, by omega⟩ rfl rfl rfl

theorem pay27 (c s : FVec Ideal S256x128 .f32) (v : FVec Ideal S256x768 .f32) (m : Vec Ideal S1x768 .f32) (r : Fin 256)
    (l : Fin 128) :
    k0_pay27 c s k0_pay22 v m (ix2 r l)
      = Row.lane (fun x => k0_pay24 v m (ix2 r x)) (fun x => c (ix2 r x)) (fun x => s (ix2 r x)) 2 l := by
  pointwise [k0_pay27]
  simp only [pay22]
  exact lane_mk (fun x => k0_pay24 v m (ix2 r x)) (fun x => c (ix2 r x)) (fun x => s (ix2 r x)) 2 l 256 rfl
    ⟨256 + l, by omega⟩ ⟨256 + (l.val + 128 - 96) % 128, by omega⟩ ⟨256 + (l.val + 128 - 32) % 128, by omega⟩ rfl rfl rfl

theorem pay29 (c s : FVec Ideal S256x128 .f32) (v : FVec Ideal S256x768 .f32) (z : Fin 1) (r : Fin 256)
    (l : Fin 128) :
    k0_pay29 c s k0_pay22 v (ix3 z r l)
      = Row.lane (fun x => v (ix2 r x)) (fun x => c (ix2 r x)) (fun x => s (ix2 r x)) 3 l := by
  pointwise [k0_pay29]
  simp only [pay22]
  exact lane_mk (fun x => v (ix2 r x)) (fun x => c (ix2 r x)) (fun x => s (ix2 r x)) 3 l 384 rfl
    ⟨384 + l, by omega⟩ ⟨384 + (l.val + 128 - 96) % 128, by omega⟩ ⟨384 + (l.val + 128 - 32) % 128, by omega⟩ rfl rfl rfl

theorem pay28 (v : FVec Ideal S256x128 .bf16) (z : Fin 1) (r : Fin 256) (l : Fin 128) :
    k0_pay28 v (ix3 z r l) = v (ix2 r l) := by
  pointwise [k0_pay28]

theorem pay30 (v : FVec Ideal S256x768 .f32) (r : Fin 256) (l : Fin 128) :
    k0_pay30 v (ix2 r l) = v (ix2 r ⟨640 + l, by omega⟩) := by
  pointwise [k0_pay30]

theorem pay31 (c s : FVec Ideal S256x128 .f32) (v : FVec Ideal S256x768 .f32) (k : Vec Ideal S1x128 .f32) (z : Fin 1) (r : Fin 256)
    (l : Fin 128) :
    k0_pay31 c s k0_pay22 v k (ix3 z r l)
      = Row.code448 (Row.lane (fun x => v (ix2 r x)) (fun x => c (ix2 r x)) (fun x => s (ix2 r x)) 4 l) (k (ix2 0 l)) := by
  pointwise [k0_pay31]
  simp only [pay22]
  exact congrArg (fun y => Row.code448 y (k (ix2 0 l))) (lane_mk (fun x => v (ix2 r x)) (fun x => c (ix2 r x)) (fun x => s (ix2 r x)) 4 l 512 rfl
    ⟨512 + l, by omega⟩ ⟨512 + (l.val + 128 - 96) % 128, by omega⟩ ⟨512 + (l.val + 128 - 32) % 128, by omega⟩ rfl rfl rfl)

theorem pay32 (v : FVec Ideal S256x128 .f32) (k : Vec Ideal S1x128 .f32) (z : Fin 1) (r : Fin 256) (l : Fin 128) :
    k0_pay32 v k (ix3 z r l) = Row.code448 (v (ix2 r l)) (k (ix2 0 l)) := by
  pointwise [k0_pay32]
  rfl

theorem pay33 (sc : FVec Ideal S256x1 .f32) (q : FVec Ideal S256x1024 .bf16) (w : Vec Ideal S1536x1024 .i8) (ws m : Vec Ideal S1x1536 .f32)
    (z : Fin 1) (r : Fin 256) (l : Fin 1536) :
    k0_pay33 sc q w ws m (ix3 z r l)
      = (∑ x : Fin 1024, q (ix2 r x) * FloatOps.sitofp (F := Ideal) .bf16 (w (ix2 l x))) * sc (ix2 r 0) * ws (ix2 0 l) * m (ix2 0 l) := by
  pointwise [k0_pay33]

theorem pay37 (sc : FVec Ideal S256x1 .f32) (q : FVec Ideal S256x1024 .bf16) (w : Vec Ideal S2048x1024 .i8) (ws m : Vec Ideal S1x2048 .f32)
    (z : Fin 1) (r : Fin 256) (l : Fin 2048) :
    k0_pay37 (k0_pay34 sc q w) (k0_pay35 ws) m (ix3 z r l)
      = (∑ x : Fin 1024, q (ix2 r x) * FloatOps.sitofp (F := Ideal) .bf16 (w (ix2 l x))) * sc (ix2 r 0) * ws (ix2 0 l) * m (ix2 0 l) := by
  pointwise [k0_pay37, k0_pay36, k0_pay35, k0_pay34]

end Cert.Proof.ProjPay

end
-- ==== Proof.ProjIn.lean ====
/- The projection kernel's input blocks at step `t`, as the argument arrays: the host's layout changes read at an index,
   the place of each block in its array, and the payloads of the step as the projection's mathematics (ProjMath.lean). -/
module

public import proofs.«01_k».proof.Proof.ProjMath
public import proofs.«01_k».proof.Proof.ProjPay
public import proofs.«01_k».proof.Proof.Gen.ProjIdeal.Frame.Runs
public import Idealize.ShloMosaic.Lib.Claim
public import Idealize.ShloMosaic.Lib.ValueLayout

@[expose] public section

set_option maxRecDepth 16384

noncomputable section

namespace Cert.Proof.ProjIn

open Idealize.ShloMosaic Idealize.ShloMosaic.TcCoe Idealize.SL.Sem Cert.ProjIdeal Cert.ProjIdeal.Gen Cert.Proof
open Cert.Proof.ProjPay

/-! ## Where the blocks lie in the arrays -/

/-- A time step as a point of the kernel's grid. -/
def pt (t : Fin 5) : Fin cfg0.N := t

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem emb0 (t : Fin 5) (z : Fin 1) (r : Fin 256) (l : Fin 1024) :
    ((cfg0.win 0).blk (pt t)).view.emb (ix3 z r l : S1x256x1024.Idx) = (ix3 t r l : S5x256x1024.Idx) := by
  obtain ⟨e0, e1, e2⟩ := idx0 (pt t)
  have ht : (pt t).val = t.val := rfl
  funext a; apply Fin.ext
  match a with
  | ⟨0, _⟩ => show win0_0.index (pt t) (0 : Fin 3) * 1 + 1 * z.val = t.val; omega
  | ⟨1, _⟩ => show win0_0.index (pt t) (1 : Fin 3) * 256 + 1 * r.val = r.val; omega
  | ⟨2, _⟩ => show win0_0.index (pt t) (2 : Fin 3) * 1024 + 1 * l.val = l.val; omega

theorem idx1 : ∀ t : Fin cfg0.N, win0_1.index t (0 : Fin 2) = 0 ∧ win0_1.index t (1 : Fin 2) = 0 :=
  (by decide +kernel : ∀ t : Fin grid0.N, _)

theorem emb1 (t : Fin cfg0.N) (y : S1x1024.Idx) : ((cfg0.win 1).blk t).view.emb y = y := by
  obtain ⟨e0, e1⟩ := idx1 t
  funext a; apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem idx2 : ∀ t : Fin cfg0.N, win0_2.index t (0 : Fin 2) = 0 ∧ win0_2.index t (1 : Fin 2) = 0 :=
  (by decide +kernel : ∀ t : Fin grid0.N, _)

theorem emb2 (t : Fin cfg0.N) (y : S4376x1024.Idx) : ((cfg0.win 2).blk t).view.emb y = y := by
  obtain ⟨e0, e1⟩ := idx2 t
  funext a; apply Fin.ext
  match a with
  | ⟨0, _⟩ => show win0_2.index t (0 : Fin 2) * 4376 + 1 * (y 0).val = (y 0).val; omega
  | ⟨1, _⟩ => show win0_2.index t (1 : Fin 2) * 1024 + 1 * (y 1).val = (y 1).val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (y : S1x4376.Idx) : ((cfg0.win 3).blk t).view.emb y = y := by
  obtain ⟨e0, e1⟩ := idx3 t
  funext a; apply Fin.ext
  match a with
  | ⟨0, _⟩ => show win0_3.index t (0 : Fin 2) * 1 + 1 * (y 0).val = (y 0).val; omega
  | ⟨1, _⟩ => show win0_3.index t (1 : Fin 2) * 4376 + 1 * (y 1).val = (y 1).val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (y : S1x4376.Idx) : ((cfg0.win 4).blk t).view.emb y = y := by
  obtain ⟨e0, e1⟩ := idx4 t
  funext a; apply Fin.ext
  match a with
  | ⟨0, _⟩ => show win0_4.index t (0 : Fin 2) * 1 + 1 * (y 0).val = (y 0).val; omega
  | ⟨1, _⟩ => show win0_4.index t (1 : Fin 2) * 4376 + 1 * (y 1).val = (y 1).val; omega

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

theorem emb5 (t : Fin 5) (z : Fin 1) (r : Fin 256) (l : Fin 128) :
    ((cfg0.win 5).blk (pt t)).view.emb (ix3 z r l : S1x256x128.Idx) = (ix3 t r l : S5x256x128.Idx) := by
  obtain ⟨e0, e1, e2⟩ := idx5 (pt t)
  have ht : (pt t).val = t.val := rfl
  funext a; apply Fin.ext
  match a with
  | ⟨0, _⟩ => show win0_5.index (pt t) (0 : Fin 3) * 1 + 1 * z.val = t.val; omega
  | ⟨1, _⟩ => show win0_5.index (pt t) (1 : Fin 3) * 256 + 1 * r.val = r.val; omega
  | ⟨2, _⟩ => show win0_5.index (pt t) (2 : Fin 3) * 128 + 1 * l.val = l.val; omega

theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem emb6 (t : Fin 5) (z : Fin 1) (r : Fin 256) (l : Fin 128) :
    ((cfg0.win 6).blk (pt t)).view.emb (ix3 z r l : S1x256x128.Idx) = (ix3 t r l : S5x256x128.Idx) := by
  obtain ⟨e0, e1, e2⟩ := idx6 (pt t)
  have ht : (pt t).val = t.val := rfl
  funext a; apply Fin.ext
  match a with
  | ⟨0, _⟩ => show win0_6.index (pt t) (0 : Fin 3) * 1 + 1 * z.val = t.val; omega
  | ⟨1, _⟩ => show win0_6.index (pt t) (1 : Fin 3) * 256 + 1 * r.val = r.val; omega
  | ⟨2, _⟩ => show win0_6.index (pt t) (2 : Fin 3) * 128 + 1 * l.val = l.val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (y : S1x128.Idx) : ((cfg0.win 7).blk t).view.emb y = y := by
  obtain ⟨e0, e1⟩ := idx7 t
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (y : S1x128.Idx) : ((cfg0.win 8).blk t).view.emb y = y := by
  obtain ⟨e0, e1⟩ := idx8 t
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)

theorem emb18 (t : Fin 5) (z : Fin 1) (r : Fin 256) (l : Fin 1024) :
    ((cfg0.win 18).blk (pt t)).view.emb (ix3 z r l : S1x256x1024.Idx) = (ix3 t r l : S5x256x1024.Idx) := by
  obtain ⟨e0, e1, e2⟩ := idx18 (pt t)
  have ht : (pt t).val = t.val := rfl
  funext a; apply Fin.ext
  match a with
  | ⟨0, _⟩ => show win0_18.index (pt t) (0 : Fin 3) * 1 + 1 * z.val = t.val; omega
  | ⟨1, _⟩ => show win0_18.index (pt t) (1 : Fin 3) * 256 + 1 * r.val = r.val; omega
  | ⟨2, _⟩ => show win0_18.index (pt t) (2 : Fin 3) * 1024 + 1 * l.val = l.val; omega

theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)

theorem emb19 (t : Fin 5) (z : Fin 1) (r : Fin 256) (l : Fin 1) :
    ((cfg0.win 19).blk (pt t)).view.emb (ix3 z r l : S1x256x1.Idx) = (ix3 t r l : S5x256x1.Idx) := by
  obtain ⟨e0, e1, e2⟩ := idx19 (pt t)
  have ht : (pt t).val = t.val := rfl
  funext a; apply Fin.ext
  match a with
  | ⟨0, _⟩ => show win0_19.index (pt t) (0 : Fin 3) * 1 + 1 * z.val = t.val; omega
  | ⟨1, _⟩ => show win0_19.index (pt t) (1 : Fin 3) * 256 + 1 * r.val = r.val; omega
  | ⟨2, _⟩ => show win0_19.index (pt t) (2 : Fin 3) * 1 + 1 * l.val = l.val; omega

theorem idx20 : ∀ t : Fin cfg0.N, win0_20.index t (0 : Fin 3) = t.val ∧ win0_20.index t (1 : Fin 3) = 0 ∧ win0_20.index t (2 : Fin 3) = 0 :=
  (by decide +kernel : ∀ t : Fin grid0.N, _)

theorem emb20 (t : Fin 5) (z : Fin 1) (r : Fin 256) (l : Fin 512) :
    ((cfg0.win 20).blk (pt t)).view.emb (ix3 z r l : S1x256x512.Idx) = (ix3 t r l : S5x256x512.Idx) := by
  obtain ⟨e0, e1, e2⟩ := idx20 (pt t)
  have ht : (pt t).val = t.val := rfl
  funext a; apply Fin.ext
  match a with
  | ⟨0, _⟩ => show win0_20.index (pt t) (0 : Fin 3) * 1 + 1 * z.val = t.val; omega
  | ⟨1, _⟩ => show win0_20.index (pt t) (1 : Fin 3) * 256 + 1 * r.val = r.val; omega
  | ⟨2, _⟩ => show win0_20.index (pt t) (2 : Fin 3) * 512 + 1 * l.val = l.val; omega

theorem idx21 : ∀ t : Fin cfg0.N, win0_21.index t (0 : Fin 3) = t.val ∧ win0_21.index t (1 : Fin 3) = 0 ∧ win0_21.index t (2 : Fin 3) = 0 :=
  (by decide +kernel : ∀ t : Fin grid0.N, _)

theorem emb21 (t : Fin 5) (z : Fin 1) (r : Fin 256) (l : Fin 128) :
    ((cfg0.win 21).blk (pt t)).view.emb (ix3 z r l : S1x256x128.Idx) = (ix3 t r l : S5x256x128.Idx) := by
  obtain ⟨e0, e1, e2⟩ := idx21 (pt t)
  have ht : (pt t).val = t.val := rfl
  funext a; apply Fin.ext
  match a with
  | ⟨0, _⟩ => show win0_21.index (pt t) (0 : Fin 3) * 1 + 1 * z.val = t.val; omega
  | ⟨1, _⟩ => show win0_21.index (pt t) (1 : Fin 3) * 256 + 1 * r.val = r.val; omega
  | ⟨2, _⟩ => show win0_21.index (pt t) (2 : Fin 3) * 128 + 1 * l.val = l.val; omega

theorem idx22 : ∀ t : Fin cfg0.N, win0_22.index t (0 : Fin 3) = t.val ∧ win0_22.index t (1 : Fin 3) = 0 ∧ win0_22.index t (2 : Fin 3) = 0 :=
  (by decide +kernel : ∀ t : Fin grid0.N, _)

theorem emb22 (t : Fin 5) (z : Fin 1) (r : Fin 256) (l : Fin 128) :
    ((cfg0.win 22).blk (pt t)).view.emb (ix3 z r l : S1x256x128.Idx) = (ix3 t r l : S5x256x128.Idx) := by
  obtain ⟨e0, e1, e2⟩ := idx22 (pt t)
  have ht : (pt t).val = t.val := rfl
  funext a; apply Fin.ext
  match a with
  | ⟨0, _⟩ => show win0_22.index (pt t) (0 : Fin 3) * 1 + 1 * z.val = t.val; omega
  | ⟨1, _⟩ => show win0_22.index (pt t) (1 : Fin 3) * 256 + 1 * r.val = r.val; omega
  | ⟨2, _⟩ => show win0_22.index (pt t) (2 : Fin 3) * 128 + 1 * l.val = l.val; omega

theorem idx23 : ∀ t : Fin cfg0.N, win0_23.index t (0 : Fin 3) = t.val ∧ win0_23.index t (1 : Fin 3) = 0 ∧ win0_23.index t (2 : Fin 3) = 0 :=
  (by decide +kernel : ∀ t : Fin grid0.N, _)

theorem emb23 (t : Fin 5) (z : Fin 1) (r : Fin 256) (l : Fin 1536) :
    ((cfg0.win 23).blk (pt t)).view.emb (ix3 z r l : S1x256x1536.Idx) = (ix3 t r l : S5x256x1536.Idx) := by
  obtain ⟨e0, e1, e2⟩ := idx23 (pt t)
  have ht : (pt t).val = t.val := rfl
  funext a; apply Fin.ext
  match a with
  | ⟨0, _⟩ => show win0_23.index (pt t) (0 : Fin 3) * 1 + 1 * z.val = t.val; omega
  | ⟨1, _⟩ => show win0_23.index (pt t) (1 : Fin 3) * 256 + 1 * r.val = r.val; omega
  | ⟨2, _⟩ => show win0_23.index (pt t) (2 : Fin 3) * 1536 + 1 * l.val = l.val; omega

theorem idx24 : ∀ t : Fin cfg0.N, win0_24.index t (0 : Fin 3) = t.val ∧ win0_24.index t (1 : Fin 3) = 0 ∧ win0_24.index t (2 : Fin 3) = 0 :=
  (by decide +kernel : ∀ t : Fin grid0.N, _)

theorem emb24 (t : Fin 5) (z : Fin 1) (r : Fin 256) (l : Fin 2048) :
    ((cfg0.win 24).blk (pt t)).view.emb (ix3 z r l : S1x256x2048.Idx) = (ix3 t r l : S5x256x2048.Idx) := by
  obtain ⟨e0, e1, e2⟩ := idx24 (pt t)
  have ht : (pt t).val = t.val := rfl
  funext a; apply Fin.ext
  match a with
  | ⟨0, _⟩ => show win0_24.index (pt t) (0 : Fin 3) * 1 + 1 * z.val = t.val; omega
  | ⟨1, _⟩ => show win0_24.index (pt t) (1 : Fin 3) * 256 + 1 * r.val = r.val; omega
  | ⟨2, _⟩ => show win0_24.index (pt t) (2 : Fin 3) * 2048 + 1 * l.val = l.val; omega

/-! ## The host's layout changes -/

variable (m : (ℓ : Loc nD τ sig) → Buf (Elt Ideal) ℓ)

theorem V_v23 (c : Dev nD) : (V m c main_v23 : Vec Ideal S5x256x1024 .bf16)
    = transpose S5x256x1024 [1, 0, 2] (m ((c : Thread nD τ).loc main_arg0)) transposes_S256x5x1024_S5x256x1024_1_0_2 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v26 (c : Dev nD) : (V m c main_v26 : Vec Ideal S5x256x128 .f32)
    = concatenate S5x256x128 2 [⟨S5x256x32, ((transpose S5x256x32 [1, 0, 2] (m ((c : Thread nD τ).loc main_arg5)) transposes_S256x5x32_S5x256x32_1_0_2) : Vec Ideal S5x256x32 .f32)⟩, ⟨S5x256x32, ((transpose S5x256x32 [1, 0, 2] (m ((c : Thread nD τ).loc main_arg5)) transposes_S256x5x32_S5x256x32_1_0_2) : Vec Ideal S5x256x32 .f32)⟩, ⟨S5x256x32, ((transpose S5x256x32 [1, 0, 2] (m ((c : Thread nD τ).loc main_arg5)) transposes_S256x5x32_S5x256x32_1_0_2) : Vec Ideal S5x256x32 .f32)⟩, ⟨S5x256x32, ((transpose S5x256x32 [1, 0, 2] (m ((c : Thread nD τ).loc main_arg5)) transposes_S256x5x32_S5x256x32_1_0_2) : Vec Ideal S5x256x32 .f32)⟩] concatenates_S5x256x32_S5x256x32_S5x256x32_S5x256x32_S5x256x128_d2 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v29 (c : Dev nD) : (V m c main_v29 : Vec Ideal S5x256x128 .f32)
    = concatenate S5x256x128 2 [⟨S5x256x32, ((Host.negf (F := Ideal) (φ := .f32) (s := S5x256x32) (transpose S5x256x32 [1, 0, 2] (m ((c : Thread nD τ).loc main_arg6)) transposes_S256x5x32_S5x256x32_1_0_2)) : Vec Ideal S5x256x32 .f32)⟩, ⟨S5x256x32, ((transpose S5x256x32 [1, 0, 2] (m ((c : Thread nD τ).loc main_arg6)) transposes_S256x5x32_S5x256x32_1_0_2) : Vec Ideal S5x256x32 .f32)⟩, ⟨S5x256x32, ((Host.negf (F := Ideal) (φ := .f32) (s := S5x256x32) (transpose S5x256x32 [1, 0, 2] (m ((c : Thread nD τ).loc main_arg6)) transposes_S256x5x32_S5x256x32_1_0_2)) : Vec Ideal S5x256x32 .f32)⟩, ⟨S5x256x32, ((transpose S5x256x32 [1, 0, 2] (m ((c : Thread nD τ).loc main_arg6)) transposes_S256x5x32_S5x256x32_1_0_2) : Vec Ideal S5x256x32 .f32)⟩] concatenates_S5x256x32_S5x256x32_S5x256x32_S5x256x32_S5x256x128_d2 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v47 (c : Dev nD) : (V m c main_v47 : Vec Ideal S1x1024 .f32)
    = shapeCast S1x1024 (m ((c : Thread nD τ).loc main_arg1)) shapeCasts_S1024_S1x1024 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v48 (c : Dev nD) : (V m c main_v48 : Vec Ideal S4376x1024 .i8)
    = transpose S4376x1024 [1, 0] (m ((c : Thread nD τ).loc main_arg2)) transposes_S1024x4376_S4376x1024_1_0 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v49 (c : Dev nD) : (V m c main_v49 : Vec Ideal S1x4376 .f32)
    = shapeCast S1x4376 (m ((c : Thread nD τ).loc main_arg3)) shapeCasts_S4376_S1x4376 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v53 (c : Dev nD) : (V m c main_v53 : Vec Ideal S1x128 .f32)
    = shapeCast S1x128 (shapeCast S128 (broadcastInDim S2x64 ![0] bcast_S2_S2x64_0 (m ((c : Thread nD τ).loc main_arg7)) : Vec Ideal S2x64 .f32) shapeCasts_S2x64_S128) shapeCasts_S128_S1x128 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

theorem V_v56 (c : Dev nD) : (V m c main_v56 : Vec Ideal S1x128 .f32)
    = shapeCast S1x128 (shapeCast S128 (broadcastInDim S2x64 ![0] bcast_S2_S2x64_0 (m ((c : Thread nD τ).loc main_arg8)) : Vec Ideal S2x64 .f32) shapeCasts_S2x64_S128) shapeCasts_S128_S1x128 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results
  first | done | rfl

/-- The argument arrays of a launch, by coordinates, with the multipliers as computed. -/
def args (c : Dev nD) : ProjMath.Args where
  x r s l := m ((c : Thread nD τ).loc main_arg0) (ix3 r s l)
  n l := m ((c : Thread nD τ).loc main_arg1) (ix1 l)
  w x y := m ((c : Thread nD τ).loc main_arg2) (ix2 x y)
  ws l := m ((c : Thread nD τ).loc main_arg3) (ix1 l)
  cm l := (V m c main_v50 : Vec Ideal S1x4376 .f32) (ix2 0 l)
  co r s l := m ((c : Thread nD τ).loc main_arg5) (ix3 r s l)
  si r s l := m ((c : Thread nD τ).loc main_arg6) (ix3 r s l)
  ks j := m ((c : Thread nD τ).loc main_arg7) (ix1 j)
  vs j := m ((c : Thread nD τ).loc main_arg8) (ix1 j)

variable (c : Dev nD) (t : Fin 5)

theorem in0 (r : Fin 256) (l : Fin 1024) : iblk m c 0 (pt t) (ix3 0 r l) = (args m c).x r t l := by
  show V m c main_v23 (((cfg0.win 0).blk (pt t)).view.emb (ix3 0 r l)) = _
  rw [emb0, V_v23]; pointwise; rfl
theorem in1 (y : Fin 1024) : iblk m c 1 (pt t) (ix2 0 y) = (args m c).n y := by
  show V m c main_v47 (((cfg0.win 1).blk (pt t)).view.emb (ix2 0 y)) = _
  rw [emb1, V_v47]; exact ValueIdx.shapeCast_a_1a_apply _ _ _ _
theorem in2 (y : Fin 4376) (x : Fin 1024) : iblk m c 2 (pt t) (ix2 y x) = (args m c).w x y := by
  show V m c main_v48 (((cfg0.win 2).blk (pt t)).view.emb (ix2 y x)) = _
  rw [emb2, V_v48]; pointwise; rfl
theorem in3 (y : Fin 4376) : iblk m c 3 (pt t) (ix2 0 y) = (args m c).ws y := by
  show V m c main_v49 (((cfg0.win 3).blk (pt t)).view.emb (ix2 0 y)) = _
  rw [emb3, V_v49]; exact ValueIdx.shapeCast_a_1a_apply _ _ _ _
theorem in4 (y : Fin 4376) : iblk m c 4 (pt t) (ix2 0 y) = (args m c).cm y := by
  show V m c main_v50 (((cfg0.win 4).blk (pt t)).view.emb (ix2 0 y)) = _
  rw [emb4]; rfl
/-- Four arrays of 32 columns side by side: a column's place in its array is its remainder by 32. -/
theorem four (f g : Fin 32 → EReal) (l : Fin 128) (h1 : ¬l.val < 32 → l.val - 32 < 32 → l.val - 32 < 32)
    (h2 : ¬l.val < 32 → ¬l.val - 32 < 32 → l.val - 32 - 32 < 32 → l.val - 32 - 32 < 32)
    (h3 : ¬l.val < 32 → ¬l.val - 32 < 32 → ¬l.val - 32 - 32 < 32 → l.val - 32 - 32 - 32 < 32) :
    (if h : l.val < 32 then f ⟨l.val, h⟩ else if h' : l.val - 32 < 32 then g ⟨l.val - 32, h1 h h'⟩
      else if h'' : l.val - 32 - 32 < 32 then f ⟨l.val - 32 - 32, h2 h h' h''⟩ else g ⟨l.val - 32 - 32 - 32, h3 h h' h''⟩)
      = if l.val % 64 < 32 then f ⟨l.val % 32, by omega⟩ else g ⟨l.val % 32, by omega⟩ := by
  by_cases h : l.val < 32
  · rw [dif_pos h, if_pos (by omega)]
    exact congrArg f (Fin.ext (by show l.val = l.val % 32; omega))
  by_cases h' : l.val - 32 < 32
  · rw [dif_neg h, dif_pos h', if_neg (by omega)]
    exact congrArg g (Fin.ext (by show l.val - 32 = l.val % 32; omega))
  by_cases h'' : l.val - 32 - 32 < 32
  · rw [dif_neg h, dif_neg h', dif_pos h'', if_pos (by omega)]
    exact congrArg f (Fin.ext (by show l.val - 32 - 32 = l.val % 32; omega))
  · rw [dif_neg h, dif_neg h', dif_neg h'', if_neg (by omega)]
    exact congrArg g (Fin.ext (by show l.val - 32 - 32 - 32 = l.val % 32; omega))

theorem in5 (r : Fin 256) (l : Fin 128) : iblk m c 5 (pt t) (ix3 0 r l) = (args m c).co r t ⟨l.val % 32, by omega⟩ := by
  show V m c main_v26 (((cfg0.win 5).blk (pt t)).view.emb (ix3 0 r l)) = _
  rw [emb5, V_v26]; pointwise
  exact (four ((args m c).co r t) ((args m c).co r t) l (fun _ h => h) (fun _ _ h => h) (fun _ _ _ => by omega)).trans (ite_self _)
theorem in6 (r : Fin 256) (l : Fin 128) : iblk m c 6 (pt t) (ix3 0 r l)
    = if l.val % 64 < 32 then -(args m c).si r t ⟨l.val % 32, by omega⟩ else (args m c).si r t ⟨l.val % 32, by omega⟩ := by
  show V m c main_v29 (((cfg0.win 6).blk (pt t)).view.emb (ix3 0 r l)) = _
  rw [emb6, V_v29]; pointwise
  exact four (fun j => -(args m c).si r t j) ((args m c).si r t) l (fun _ h => h) (fun _ _ h => h) (fun _ _ _ => by omega)
theorem in7 (l : Fin 128) : iblk m c 7 (pt t) (ix2 0 l) = (args m c).ks ⟨l.val / 64, by omega⟩ := by
  show V m c main_v53 (((cfg0.win 7).blk (pt t)).view.emb (ix2 0 l)) = _
  rw [emb7, V_v53]; pointwise; rfl
theorem in8 (l : Fin 128) : iblk m c 8 (pt t) (ix2 0 l) = (args m c).vs ⟨l.val / 64, by omega⟩ := by
  show V m c main_v56 (((cfg0.win 8).blk (pt t)).view.emb (ix2 0 l)) = _
  rw [emb8, V_v56]; pointwise; rfl

/-! ## Ranges of the weights' rows and of the columns -/

theorem ldw0 (X : Vec Ideal S4376x1024 .i8) (l : Fin 768) (x : Fin 1024) :
    View.ld X (Rect.unit (s := S4376x1024) ![0, 0] S768x1024.size inb_S4376x1024_S768x1024_0_0) (ix2 l x) = X (ix2 ⟨0 + l, by omega⟩ x) :=
  congrArg X (funext fun a => by
    match a with
    | ⟨0, _⟩ => exact Fin.ext (by show 0 + 1 * l.val = 0 + l.val; omega)
    | ⟨1, _⟩ => exact Fin.ext (by show 0 + 1 * x.val = x.val; omega))
theorem lds0 (X : Vec Ideal S1x4376 .f32) (z : Fin 1) (l : Fin 768) :
    View.ld X (Rect.unit (s := S1x4376) ![0, 0] S1x768.size inb_S1x4376_S1x768_0_0) (ix2 z l) = X (ix2 0 ⟨0 + l, by omega⟩) :=
  congrArg X (funext fun a => by
    match a with
    | ⟨0, _⟩ => exact Fin.ext (by show 0 + 1 * z.val = 0; omega)
    | ⟨1, _⟩ => exact Fin.ext (by show 0 + 1 * l.val = 0 + l.val; omega))

theorem ldw768 (X : Vec Ideal S4376x1024 .i8) (l : Fin 1536) (x : Fin 1024) :
    View.ld X (Rect.unit (s := S4376x1024) ![768, 0] S1536x1024.size inb_S4376x1024_S1536x1024_768_0) (ix2 l x) = X (ix2 ⟨768 + l, by omega⟩ x) :=
  congrArg X (funext fun a => by
    match a with
    | ⟨0, _⟩ => exact Fin.ext (by show 768 + 1 * l.val = 768 + l.val; omega)
    | ⟨1, _⟩ => exact Fin.ext (by show 0 + 1 * x.val = x.val; omega))
theorem lds768 (X : Vec Ideal S1x4376 .f32) (z : Fin 1) (l : Fin 1536) :
    View.ld X (Rect.unit (s := S1x4376) ![0, 768] S1x1536.size inb_S1x4376_S1x1536_0_768) (ix2 z l) = X (ix2 0 ⟨768 + l, by omega⟩) :=
  congrArg X (funext fun a => by
    match a with
    | ⟨0, _⟩ => exact Fin.ext (by show 0 + 1 * z.val = 0; omega)
    | ⟨1, _⟩ => exact Fin.ext (by show 768 + 1 * l.val = 768 + l.val; omega))

theorem ldw2304 (X : Vec Ideal S4376x1024 .i8) (l : Fin 2048) (x : Fin 1024) :
    View.ld X (Rect.unit (s := S4376x1024) ![2304, 0] S2048x1024.size inb_S4376x1024_S2048x1024_2304_0) (ix2 l x) = X (ix2 ⟨2304 + l, by omega⟩ x) :=
  congrArg X (funext fun a => by
    match a with
    | ⟨0, _⟩ => exact Fin.ext (by show 2304 + 1 * l.val = 2304 + l.val; omega)
    | ⟨1, _⟩ => exact Fin.ext (by show 0 + 1 * x.val = x.val; omega))
theorem lds2304 (X : Vec Ideal S1x4376 .f32) (z : Fin 1) (l : Fin 2048) :
    View.ld X (Rect.unit (s := S1x4376) ![0, 2304] S1x2048.size inb_S1x4376_S1x2048_0_2304) (ix2 z l) = X (ix2 0 ⟨2304 + l, by omega⟩) :=
  congrArg X (funext fun a => by
    match a with
    | ⟨0, _⟩ => exact Fin.ext (by show 0 + 1 * z.val = 0; omega)
    | ⟨1, _⟩ => exact Fin.ext (by show 2304 + 1 * l.val = 2304 + l.val; omega))

/-! ## The payloads of a step, as the mathematics -/

section Payloads

variable (A : ProjMath.Args) (x0 : Vec Ideal S1x256x1024 .bf16) (x1 : Vec Ideal S1x1024 .f32) (x2 : Vec Ideal S4376x1024 .i8)
  (x3 x4 : Vec Ideal S1x4376 .f32) (h0 : ∀ r l, x0 (ix3 0 r l) = A.x r t l) (h1 : ∀ l, x1 (ix2 0 l) = A.n l)
  (h2 : ∀ y x, x2 (ix2 y x) = A.w x y) (h3 : ∀ l, x3 (ix2 0 l) = A.ws l) (h4 : ∀ l, x4 (ix2 0 l) = A.cm l)

include h0 h1 in
theorem row_eq (r : Fin 256) : Row.rms (fun x => x0 (ix3 0 r x)) (fun x => x1 (ix2 0 x)) = ProjMath.row A t r := by
  simp only [h0, h1]
  rfl

include h0 h1 h2 h3 h4

/-- The query, key and value columns of the product. -/
theorem qkv_of (r : Fin 256) (l : Fin 768) :
    k0_pay24 (k0_pay23 (k0_pay14 x0 x1) (k0_pay15 x0 x1) (View.ld (x2 : Vec Ideal S4376x1024 _) (Rect.unit (s := S4376x1024) ![0, 0] S768x1024.size inb_S4376x1024_S768x1024_0_0)) (View.ld (x3 : Vec Ideal S1x4376 _) (Rect.unit (s := S1x4376) ![0, 0] S1x768.size inb_S1x4376_S1x768_0_0))) (View.ld (x4 : Vec Ideal S1x4376 _) (Rect.unit (s := S1x4376) ![0, 0] S1x768.size inb_S1x4376_S1x768_0_0)) (ix2 r l)
      = ProjMath.prod A t r ⟨l, by omega⟩ := by
  rw [pay24, pay23, lds0, lds0, pay14, row_eq t A x0 x1 h0 h1 r, h3, h4]
  have e : (⟨0 + l.val, by omega⟩ : Fin 4376) = ⟨l.val, by omega⟩ := Fin.ext (Nat.zero_add _)
  rw [e]
  show _ = (∑ x : Fin 1024, Row.code (ProjMath.row A t r) x * FloatOps.sitofp (F := Ideal) .bf16 (A.w x ⟨l, by omega⟩))
      * Row.scale (ProjMath.row A t r) * A.ws ⟨l, by omega⟩ * A.cm ⟨l, by omega⟩
  refine congrArg (fun s : EReal => s * Row.scale (ProjMath.row A t r) * A.ws ⟨l, by omega⟩ * A.cm ⟨l, by omega⟩) ?_
  refine Finset.sum_congr rfl fun x _ => ?_
  rw [pay15, row_eq t A x0 x1 h0 h1 r, ldw0, h2]
  rw [e]

/-- The gate's columns. -/
theorem z_of (r : Fin 256) (l : Fin 1536) :
    k0_pay33 (k0_pay14 x0 x1) (k0_pay19 (k0_pay15 x0 x1)) (View.ld (x2 : Vec Ideal S4376x1024 _) (Rect.unit (s := S4376x1024) ![768, 0] S1536x1024.size inb_S4376x1024_S1536x1024_768_0)) (View.ld (x3 : Vec Ideal S1x4376 _) (Rect.unit (s := S1x4376) ![0, 768] S1x1536.size inb_S1x4376_S1x1536_0_768)) (View.ld (x4 : Vec Ideal S1x4376 _) (Rect.unit (s := S1x4376) ![0, 768] S1x1536.size inb_S1x4376_S1x1536_0_768)) (ix3 0 r l)
      = ProjMath.z A t r l := by
  rw [pay33, lds768, lds768, pay14, row_eq t A x0 x1 h0 h1 r, h3, h4]
  show _ = (∑ x : Fin 1024, Row.code (ProjMath.row A t r) x * FloatOps.sitofp (F := Ideal) .bf16 (A.w x ⟨768 + l, by omega⟩))
      * Row.scale (ProjMath.row A t r) * A.ws ⟨768 + l, by omega⟩ * A.cm ⟨768 + l, by omega⟩
  refine congrArg (fun s : EReal => s * Row.scale (ProjMath.row A t r) * A.ws ⟨768 + l, by omega⟩ * A.cm ⟨768 + l, by omega⟩) ?_
  refine Finset.sum_congr rfl fun x _ => ?_
  rw [pay19, pay15, row_eq t A x0 x1 h0 h1 r, ldw768, h2]

/-- The convolution's columns. -/
theorem conv_of (r : Fin 256) (l : Fin 2048) :
    k0_pay37 (k0_pay34 (k0_pay14 x0 x1) (k0_pay19 (k0_pay15 x0 x1)) (View.ld (x2 : Vec Ideal S4376x1024 _) (Rect.unit (s := S4376x1024) ![2304, 0] S2048x1024.size inb_S4376x1024_S2048x1024_2304_0))) (k0_pay35 (View.ld (x3 : Vec Ideal S1x4376 _) (Rect.unit (s := S1x4376) ![0, 2304] S1x2048.size inb_S1x4376_S1x2048_0_2304))) (View.ld (x4 : Vec Ideal S1x4376 _) (Rect.unit (s := S1x4376) ![0, 2304] S1x2048.size inb_S1x4376_S1x2048_0_2304)) (ix3 0 r l)
      = ProjMath.conv A t r l := by
  rw [pay37, lds2304, lds2304, pay14, row_eq t A x0 x1 h0 h1 r, h3, h4]
  show _ = (∑ x : Fin 1024, Row.code (ProjMath.row A t r) x * FloatOps.sitofp (F := Ideal) .bf16 (A.w x ⟨2304 + l, by omega⟩))
      * Row.scale (ProjMath.row A t r) * A.ws ⟨2304 + l, by omega⟩ * A.cm ⟨2304 + l, by omega⟩
  refine congrArg (fun s : EReal => s * Row.scale (ProjMath.row A t r) * A.ws ⟨2304 + l, by omega⟩ * A.cm ⟨2304 + l, by omega⟩) ?_
  refine Finset.sum_congr rfl fun x _ => ?_
  rw [pay19, pay15, row_eq t A x0 x1 h0 h1 r, ldw2304, h2]

end Payloads

/-- The query, key and value columns of step `t`'s product. -/
abbrev qkvP : FVec Ideal S256x768 .f32 :=
  k0_pay24 (k0_pay23 (k0_pay14 (iblk m c 0 (pt t)) (iblk m c 1 (pt t))) (k0_pay15 (iblk m c 0 (pt t)) (iblk m c 1 (pt t))) (View.ld ((iblk m c 2 (pt t)) : Vec Ideal S4376x1024 _) (Rect.unit (s := S4376x1024) ![0, 0] S768x1024.size inb_S4376x1024_S768x1024_0_0)) (View.ld ((iblk m c 3 (pt t)) : Vec Ideal S1x4376 _) (Rect.unit (s := S1x4376) ![0, 0] S1x768.size inb_S1x4376_S1x768_0_0))) (View.ld ((iblk m c 4 (pt t)) : Vec Ideal S1x4376 _) (Rect.unit (s := S1x4376) ![0, 0] S1x768.size inb_S1x4376_S1x768_0_0))

theorem qkv_eq (r : Fin 256) (l : Fin 768) : qkvP m c t (ix2 r l) = ProjMath.prod (args m c) t r ⟨l, by omega⟩ :=
  qkv_of t (args m c) _ _ _ _ _ (in0 m c t) (in1 m c t) (in2 m c t) (in3 m c t) (in4 m c t) r l
theorem z_eq (r : Fin 256) (l : Fin 1536) :
    k0_pay33 (k0_pay14 (iblk m c 0 (pt t)) (iblk m c 1 (pt t))) (k0_pay19 (k0_pay15 (iblk m c 0 (pt t)) (iblk m c 1 (pt t)))) (View.ld ((iblk m c 2 (pt t)) : Vec Ideal S4376x1024 _) (Rect.unit (s := S4376x1024) ![768, 0] S1536x1024.size inb_S4376x1024_S1536x1024_768_0)) (View.ld ((iblk m c 3 (pt t)) : Vec Ideal S1x4376 _) (Rect.unit (s := S1x4376) ![0, 768] S1x1536.size inb_S1x4376_S1x1536_0_768)) (View.ld ((iblk m c 4 (pt t)) : Vec Ideal S1x4376 _) (Rect.unit (s := S1x4376) ![0, 768] S1x1536.size inb_S1x4376_S1x1536_0_768)) (ix3 0 r l)
      = ProjMath.z (args m c) t r l :=
  z_of t (args m c) _ _ _ _ _ (in0 m c t) (in1 m c t) (in2 m c t) (in3 m c t) (in4 m c t) r l
theorem conv_eq (r : Fin 256) (l : Fin 2048) :
    k0_pay37 (k0_pay34 (k0_pay14 (iblk m c 0 (pt t)) (iblk m c 1 (pt t))) (k0_pay19 (k0_pay15 (iblk m c 0 (pt t)) (iblk m c 1 (pt t)))) (View.ld ((iblk m c 2 (pt t)) : Vec Ideal S4376x1024 _) (Rect.unit (s := S4376x1024) ![2304, 0] S2048x1024.size inb_S4376x1024_S2048x1024_2304_0))) (k0_pay35 (View.ld ((iblk m c 3 (pt t)) : Vec Ideal S1x4376 _) (Rect.unit (s := S1x4376) ![0, 2304] S1x2048.size inb_S1x4376_S1x2048_0_2304))) (View.ld ((iblk m c 4 (pt t)) : Vec Ideal S1x4376 _) (Rect.unit (s := S1x4376) ![0, 2304] S1x2048.size inb_S1x4376_S1x2048_0_2304)) (ix3 0 r l)
      = ProjMath.conv (args m c) t r l :=
  conv_of t (args m c) _ _ _ _ _ (in0 m c t) (in1 m c t) (in2 m c t) (in3 m c t) (in4 m c t) r l
theorem lane_eq (r : Fin 256) (b : Fin 5) (l : Fin 128) :
    Row.lane (fun x => qkvP m c t (ix2 r x)) (fun x => k0_pay20 (iblk m c 5 (pt t)) (ix2 r x)) (fun x => k0_pay21 (iblk m c 6 (pt t)) (ix2 r x)) b l
      = ProjMath.turned (args m c) t r ⟨128 * b + l, by omega⟩ :=
  Row.lane_eq (ProjMath.prod (args m c) t r) ((args m c).co r t) ((args m c).si r t) _ _ _ (fun i => qkv_eq m c t r i)
    (fun x => (pay20 _ r x).trans (in5 m c t r x)) (fun x => (pay21 _ r x).trans (in6 m c t r x)) b l

end Cert.Proof.ProjIn

end
-- ==== Proof.ProjOut.lean ====
/- What one step of the projection's pipeline leaves in each of its first seven output blocks, as payloads of the step's
   input blocks, whether the step starts the carried history or goes on from it. A load reads a whole buffer or a range
   of the weights' rows and scales' columns; the queries' block is stored in four pieces of 128 columns, each other block
   whole. -/
module

public import proofs.«01_k».proof.Proof.ProjIdealFrame
public import proofs.«01_k».proof.Proof.ProjPay
public import Idealize.ShloMosaic.Lib.Pipeline.ValueKit.Tiles

@[expose] public section

set_option maxRecDepth 16384

noncomputable section

namespace Cert.Proof.ProjOut

open Idealize.ShloMosaic Idealize.ShloMosaic.TcCoe Idealize.SL.Sem Cert.ProjIdeal Cert.ProjIdeal.Gen Cert.ProjIdeal.Body Cert.Proof

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole buffer reads what the buffer holds. -/
theorem load {sp : Space} {S : Shape} {e : EltTy} (a : Memref sig .tc sp S e) (h : a.IsWhole) {off : Fin S.rank → Nat}
    (ho : off = fun _ => 0) {inb : ∀ i, off i + S.size i ≤ S.size i} {x : Vec Ideal S e} :
    View.readAt (Elt Ideal) a.view (Rect.unit (s := S) off S.size inb).toLoadRect (h.unread x) = x := by
  rw [View.readAt_eq_ld, h.read_unread, View.ld_unit_zero ho]

/-- A load of a part of a buffer reads that part of what the buffer holds. -/
theorem loadPart {sp : Space} {S : Shape} {e : EltTy} (a : Memref sig .tc sp S e) (h : a.IsWhole) {off size : Fin S.rank → Nat}
    {inb : ∀ i, off i + size i ≤ S.size i} {x : Vec Ideal S e} :
    View.readAt (Elt Ideal) a.view (Rect.unit (s := S) off size inb).toLoadRect (h.unread x)
      = View.ld x (Rect.unit (s := S) off size inb) := by
  rw [View.readAt_eq_ld, h.read_unread]

/-- The four pieces of the queries' block, each holding its rotated group of columns. -/
theorem pieces (c s : FVec Ideal S256x128 .f32) (v : FVec Ideal S256x768 .f32) (m : Vec Ideal S1x768 .f32) (r : Fin 256) (l : Fin 512) :
    View.AllAt ([⟨Rect.unit ![0, 0, 384] S1x256x128.size inb_S1x256x512_S1x256x128_0_0_384, k0_pay29 c s k0_pay22 (k0_pay24 v m)⟩,
        ⟨Rect.unit ![0, 0, 256] S1x256x128.size inb_S1x256x512_S1x256x128_0_0_256, k0_pay28 (k0_pay27 c s k0_pay22 v m)⟩,
        ⟨Rect.unit ![0, 0, 128] S1x256x128.size inb_S1x256x512_S1x256x128_0_0_128, k0_pay26 c s k0_pay22 v m⟩,
        ⟨Rect.unit ![0, 0, 0] S1x256x128.size inb_S1x256x512_S1x256x128_0_0_0, k0_pay25 c s k0_pay22 v m⟩] :
          List (View.Piece (Elt Ideal) S1x256x512 .bf16)) (ix3 0 r l)
      (Row.lane (fun x => k0_pay24 v m (ix2 r x)) (fun x => c (ix2 r x)) (fun x => s (ix2 r x)) ⟨l.val / 128, by omega⟩
        ⟨l.val % 128, by omega⟩) := by
  have key : ∀ (o : Nat) (b : Fin 5) (w : Vec Ideal S1x256x128 .bf16), o = 128 * b.val →
      (∀ (z : Fin 1) (r' : Fin 256) (l' : Fin 128), w (ix3 z r' l')
        = Row.lane (fun x => k0_pay24 v m (ix2 r' x)) (fun x => c (ix2 r' x)) (fun x => s (ix2 r' x)) b l') →
      View.TileAt (S := S1x256x512) (ix3 0 r l) ![0, 0, o] S1x256x128.size w
        (Row.lane (fun x => k0_pay24 v m (ix2 r x)) (fun x => c (ix2 r x)) (fun x => s (ix2 r x)) ⟨l.val / 128, by omega⟩
          ⟨l.val % 128, by omega⟩) := by
    intro o b w ho hw x hx
    have h1 : r.val = 0 + (x 1).val := hx 1
    have h2 : l.val = o + (x 2).val := hx 2
    have l2 : (x 2).val < 128 := (x 2).isLt
    have ex : x = ix3 (x 0 : Fin 1) (x 1 : Fin 256) (x 2 : Fin 128) := by
      funext a; match a with | ⟨0, _⟩ => rfl | ⟨1, _⟩ => rfl | ⟨2, _⟩ => rfl
    have er : (x 1 : Fin 256) = r := Fin.ext (by omega)
    have eb : b = ⟨l.val / 128, by omega⟩ := Fin.ext (by show b.val = l.val / 128; omega)
    have el : (x 2 : Fin 128) = ⟨l.val % 128, by omega⟩ := Fin.ext (by show (x 2).val = l.val % 128; omega)
    exact (congrArg w ex).trans ((hw (x 0) (x 1) (x 2)).trans (by rw [eb]; exact congrArg₂ (fun (r' : Fin 256) (l' : Fin 128) => Row.lane (fun x => k0_pay24 v m (ix2 r' x)) (fun x => c (ix2 r' x)) (fun x => s (ix2 r' x)) ⟨l.val / 128, by omega⟩ l') er el))
  refine View.allAt_cons_unit _ _ _ _ _ (key 384 3 _ rfl fun z r' l' => ProjPay.pay29 c s (k0_pay24 v m) z r' l') ?_
  refine View.allAt_cons_unit _ _ _ _ _ (key 256 2 _ rfl fun z r' l' => (ProjPay.pay28 _ z r' l').trans (ProjPay.pay27 c s v m r' l')) ?_
  refine View.allAt_cons_unit _ _ _ _ _ (key 128 1 _ rfl fun z r' l' => ProjPay.pay26 c s v m z r' l') ?_
  exact View.allAt_cons_unit _ _ _ _ _ (key 0 0 _ rfl fun z r' l' => ProjPay.pay25 c s v m z r' l') (View.allAt_nil _ _)

variable (m : (ℓ : Loc nD τ sig) → Buf (Elt Ideal) ℓ)

theorem outA18 (c : Dev nD) (t : Fin cfg0.N) (h0 : t.val % 5 = 0) :
    outA_18 m c t h0 = k0_pay17 (k0_pay16 (iblk m c 0 t) (iblk m c 1 t)) := by
  unfold outA_18
  rw [View.read_writes_junk_eq_canon]
  show View.canon ([⟨Rect.unit ![0, 0, 0] S1x256x1024.size inb_S1x256x1024_S1x256x1024_0_0_0,
      k0_pay17 (k0_pay16 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))⟩] :
      List (View.Piece (Elt Ideal) S1x256x1024 .i8)) = _
  rw [View.canon_unit_zero hz3, load (ms0_0 t) (hs0_0 t) hz3, load (ms0_1 t) (hs0_1 t) hz2]

theorem outA19 (c : Dev nD) (t : Fin cfg0.N) (h0 : t.val % 5 = 0) :
    outA_19 m c t h0 = k0_pay18 (k0_pay14 (iblk m c 0 t) (iblk m c 1 t)) := by
  unfold outA_19
  rw [View.read_writes_junk_eq_canon]
  show View.canon ([⟨Rect.unit ![0, 0, 0] S1x256x1.size inb_S1x256x1_S1x256x1_0_0_0,
      k0_pay18 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))⟩] :
      List (View.Piece (Elt Ideal) S1x256x1 .f32)) = _
  rw [View.canon_unit_zero hz3, load (ms0_0 t) (hs0_0 t) hz3, load (ms0_1 t) (hs0_1 t) hz2]

theorem outA21 (c : Dev nD) (t : Fin cfg0.N) (h0 : t.val % 5 = 0) :
    outA_21 m c t h0 = k0_pay31 (k0_pay20 (iblk m c 5 t)) (k0_pay21 (iblk m c 6 t)) k0_pay22 (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0))) (iblk m c 7 t) := by
  unfold outA_21
  rw [View.read_writes_junk_eq_canon]
  show View.canon ([⟨Rect.unit ![0, 0, 0] S1x256x128.size inb_S1x256x128_S1x256x128_0_0_0,
      k0_pay31 (k0_pay20 (View.readAt (Elt Ideal) (ms0_5 t).view (Rect.unit (s := S1x256x128) ![0, 0, 0] S1x256x128.size inb_S1x256x128_S1x256x128_0_0_0).toLoadRect ((hs0_5 t).unread (iblk m c 5 t)))) (k0_pay21 (View.readAt (Elt Ideal) (ms0_6 t).view (Rect.unit (s := S1x256x128) ![0, 0, 0] S1x256x128.size inb_S1x256x128_S1x256x128_0_0_0).toLoadRect ((hs0_6 t).unread (iblk m c 6 t)))) k0_pay22 (k0_pay24 (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t)))) (View.readAt (Elt Ideal) (ms0_7 t).view (Rect.unit (s := S1x128) ![0, 0] S1x128.size inb_S1x128_S1x128_0_0).toLoadRect ((hs0_7 t).unread (iblk m c 7 t)))⟩] :
      List (View.Piece (Elt Ideal) S1x256x128 .fp8e4m3)) = _
  rw [View.canon_unit_zero hz3, load (ms0_5 t) (hs0_5 t) hz3, load (ms0_6 t) (hs0_6 t) hz3, load (ms0_0 t) (hs0_0 t) hz3, load (ms0_1 t) (hs0_1 t) hz2, loadPart (ms0_2 t) (hs0_2 t), loadPart (ms0_3 t) (hs0_3 t), loadPart (ms0_4 t) (hs0_4 t), load (ms0_7 t) (hs0_7 t) hz2]
  rfl

theorem outA22 (c : Dev nD) (t : Fin cfg0.N) (h0 : t.val % 5 = 0) :
    outA_22 m c t h0 = k0_pay32 (k0_pay30 (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0)))) (iblk m c 8 t) := by
  unfold outA_22
  rw [View.read_writes_junk_eq_canon]
  show View.canon ([⟨Rect.unit ![0, 0, 0] S1x256x128.size inb_S1x256x128_S1x256x128_0_0_0,
      k0_pay32 (k0_pay30 (k0_pay24 (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t))))) (View.readAt (Elt Ideal) (ms0_8 t).view (Rect.unit (s := S1x128) ![0, 0] S1x128.size inb_S1x128_S1x128_0_0).toLoadRect ((hs0_8 t).unread (iblk m c 8 t)))⟩] :
      List (View.Piece (Elt Ideal) S1x256x128 .fp8e4m3)) = _
  rw [View.canon_unit_zero hz3, load (ms0_0 t) (hs0_0 t) hz3, load (ms0_1 t) (hs0_1 t) hz2, loadPart (ms0_2 t) (hs0_2 t), loadPart (ms0_3 t) (hs0_3 t), loadPart (ms0_4 t) (hs0_4 t), load (ms0_8 t) (hs0_8 t) hz2]
  rfl

theorem outA23 (c : Dev nD) (t : Fin cfg0.N) (h0 : t.val % 5 = 0) :
    outA_23 m c t h0 = k0_pay33 (k0_pay14 (iblk m c 0 t) (iblk m c 1 t)) (k0_pay19 (k0_pay15 (iblk m c 0 t) (iblk m c 1 t))) (View.ld (iblk m c 2 t : Vec Ideal S4376x1024 _) (Rect.unit (s := S4376x1024) ![768, 0] S1536x1024.size inb_S4376x1024_S1536x1024_768_0)) (View.ld (iblk m c 3 t : Vec Ideal S1x4376 _) (Rect.unit (s := S1x4376) ![0, 768] S1x1536.size inb_S1x4376_S1x1536_0_768)) (View.ld (iblk m c 4 t : Vec Ideal S1x4376 _) (Rect.unit (s := S1x4376) ![0, 768] S1x1536.size inb_S1x4376_S1x1536_0_768)) := by
  unfold outA_23
  rw [View.read_writes_junk_eq_canon]
  show View.canon ([⟨Rect.unit ![0, 0, 0] S1x256x1536.size inb_S1x256x1536_S1x256x1536_0_0_0,
      k0_pay33 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay19 (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))) (View.readAt (Elt Ideal) (ms0_2 t).view (Rect.unit (s := S4376x1024) ![768, 0] S1536x1024.size inb_S4376x1024_S1536x1024_768_0).toLoadRect ((hs0_2 t).unread (iblk m c 2 t))) (View.readAt (Elt Ideal) (ms0_3 t).view (Rect.unit (s := S1x4376) ![0, 768] S1x1536.size inb_S1x4376_S1x1536_0_768).toLoadRect ((hs0_3 t).unread (iblk m c 3 t))) (View.readAt (Elt Ideal) (ms0_4 t).view (Rect.unit (s := S1x4376) ![0, 768] S1x1536.size inb_S1x4376_S1x1536_0_768).toLoadRect ((hs0_4 t).unread (iblk m c 4 t)))⟩] :
      List (View.Piece (Elt Ideal) S1x256x1536 .f32)) = _
  rw [View.canon_unit_zero hz3, load (ms0_0 t) (hs0_0 t) hz3, load (ms0_1 t) (hs0_1 t) hz2, loadPart (ms0_2 t) (hs0_2 t), loadPart (ms0_3 t) (hs0_3 t), loadPart (ms0_4 t) (hs0_4 t)]
  rfl

theorem outA24 (c : Dev nD) (t : Fin cfg0.N) (h0 : t.val % 5 = 0) :
    outA_24 m c t h0 = k0_pay37 (k0_pay34 (k0_pay14 (iblk m c 0 t) (iblk m c 1 t)) (k0_pay19 (k0_pay15 (iblk m c 0 t) (iblk m c 1 t))) (View.ld (iblk m c 2 t : Vec Ideal S4376x1024 _) (Rect.unit (s := S4376x1024) ![2304, 0] S2048x1024.size inb_S4376x1024_S2048x1024_2304_0))) (k0_pay35 (View.ld (iblk m c 3 t : Vec Ideal S1x4376 _) (Rect.unit (s := S1x4376) ![0, 2304] S1x2048.size inb_S1x4376_S1x2048_0_2304))) (View.ld (iblk m c 4 t : Vec Ideal S1x4376 _) (Rect.unit (s := S1x4376) ![0, 2304] S1x2048.size inb_S1x4376_S1x2048_0_2304)) := by
  unfold outA_24
  rw [View.read_writes_junk_eq_canon]
  show View.canon ([⟨Rect.unit ![0, 0, 0] S1x256x2048.size inb_S1x256x2048_S1x256x2048_0_0_0,
      k0_pay37 (k0_pay34 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay19 (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))) (View.readAt (Elt Ideal) (ms0_2 t).view (Rect.unit (s := S4376x1024) ![2304, 0] S2048x1024.size inb_S4376x1024_S2048x1024_2304_0).toLoadRect ((hs0_2 t).unread (iblk m c 2 t)))) (k0_pay35 (View.readAt (Elt Ideal) (ms0_3 t).view (Rect.unit (s := S1x4376) ![0, 2304] S1x2048.size inb_S1x4376_S1x2048_0_2304).toLoadRect ((hs0_3 t).unread (iblk m c 3 t)))) (View.readAt (Elt Ideal) (ms0_4 t).view (Rect.unit (s := S1x4376) ![0, 2304] S1x2048.size inb_S1x4376_S1x2048_0_2304).toLoadRect ((hs0_4 t).unread (iblk m c 4 t)))⟩] :
      List (View.Piece (Elt Ideal) S1x256x2048 .bf16)) = _
  rw [View.canon_unit_zero hz3, load (ms0_0 t) (hs0_0 t) hz3, load (ms0_1 t) (hs0_1 t) hz2, loadPart (ms0_2 t) (hs0_2 t), loadPart (ms0_3 t) (hs0_3 t), loadPart (ms0_4 t) (hs0_4 t)]
  rfl

theorem outA20 (c : Dev nD) (t : Fin cfg0.N) (h0 : t.val % 5 = 0) (r : Fin 256) (l : Fin 512) :
    outA_20 m c t h0 (ix3 0 r l)
      = Row.lane (fun x => (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0))) (ix2 r x))
          (fun x => (k0_pay20 (iblk m c 5 t)) (ix2 r x)) (fun x => (k0_pay21 (iblk m c 6 t)) (ix2 r x))
          ⟨l.val / 128, by omega⟩ ⟨l.val % 128, by omega⟩ := by
  unfold outA_20
  rw [View.read_writes_junk_eq_canon]
  refine View.canon_eq_of_allAt _ _ _ (coverA_20 m c t h0 _) ?_
  have h := pieces (k0_pay20 (View.readAt (Elt Ideal) (ms0_5 t).view (Rect.unit (s := S1x256x128) ![0, 0, 0] S1x256x128.size inb_S1x256x128_S1x256x128_0_0_0).toLoadRect ((hs0_5 t).unread (iblk m c 5 t)))) (k0_pay21 (View.readAt (Elt Ideal) (ms0_6 t).view (Rect.unit (s := S1x256x128) ![0, 0, 0] S1x256x128.size inb_S1x256x128_S1x256x128_0_0_0).toLoadRect ((hs0_6 t).unread (iblk m c 6 t))))
    (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t))) r l
  have e : Row.lane (fun x => (k0_pay24 (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t)))) (ix2 r x))
          (fun x => (k0_pay20 (View.readAt (Elt Ideal) (ms0_5 t).view (Rect.unit (s := S1x256x128) ![0, 0, 0] S1x256x128.size inb_S1x256x128_S1x256x128_0_0_0).toLoadRect ((hs0_5 t).unread (iblk m c 5 t)))) (ix2 r x)) (fun x => (k0_pay21 (View.readAt (Elt Ideal) (ms0_6 t).view (Rect.unit (s := S1x256x128) ![0, 0, 0] S1x256x128.size inb_S1x256x128_S1x256x128_0_0_0).toLoadRect ((hs0_6 t).unread (iblk m c 6 t)))) (ix2 r x))
          ⟨l.val / 128, by omega⟩ ⟨l.val % 128, by omega⟩
      = Row.lane (fun x => (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0))) (ix2 r x))
          (fun x => (k0_pay20 (iblk m c 5 t)) (ix2 r x)) (fun x => (k0_pay21 (iblk m c 6 t)) (ix2 r x))
          ⟨l.val / 128, by omega⟩ ⟨l.val % 128, by omega⟩ := by
    rw [load (ms0_5 t) (hs0_5 t) hz3, load (ms0_6 t) (hs0_6 t) hz3, load (ms0_0 t) (hs0_0 t) hz3, load (ms0_1 t) (hs0_1 t) hz2, loadPart (ms0_2 t) (hs0_2 t), loadPart (ms0_3 t) (hs0_3 t), loadPart (ms0_4 t) (hs0_4 t)]
    rfl
  rw [e] at h
  exact h

theorem outB18 (c : Dev nD) (t : Fin cfg0.N) (h0 : ¬t.val % 5 = 0) (xs0 : Vec Ideal S3x256x2048 .bf16) (xs1 : Vec Ideal S256x24 .f32) :
    outB_18 m c t h0 xs0 xs1 = k0_pay17 (k0_pay16 (iblk m c 0 t) (iblk m c 1 t)) := by
  unfold outB_18
  rw [View.read_writes_junk_eq_canon]
  show View.canon ([⟨Rect.unit ![0, 0, 0] S1x256x1024.size inb_S1x256x1024_S1x256x1024_0_0_0,
      k0_pay17 (k0_pay16 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))⟩] :
      List (View.Piece (Elt Ideal) S1x256x1024 .i8)) = _
  rw [View.canon_unit_zero hz3, load (ms0_0 t) (hs0_0 t) hz3, load (ms0_1 t) (hs0_1 t) hz2]

theorem outB19 (c : Dev nD) (t : Fin cfg0.N) (h0 : ¬t.val % 5 = 0) (xs0 : Vec Ideal S3x256x2048 .bf16) (xs1 : Vec Ideal S256x24 .f32) :
    outB_19 m c t h0 xs0 xs1 = k0_pay18 (k0_pay14 (iblk m c 0 t) (iblk m c 1 t)) := by
  unfold outB_19
  rw [View.read_writes_junk_eq_canon]
  show View.canon ([⟨Rect.unit ![0, 0, 0] S1x256x1.size inb_S1x256x1_S1x256x1_0_0_0,
      k0_pay18 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))⟩] :
      List (View.Piece (Elt Ideal) S1x256x1 .f32)) = _
  rw [View.canon_unit_zero hz3, load (ms0_0 t) (hs0_0 t) hz3, load (ms0_1 t) (hs0_1 t) hz2]

theorem outB21 (c : Dev nD) (t : Fin cfg0.N) (h0 : ¬t.val % 5 = 0) (xs0 : Vec Ideal S3x256x2048 .bf16) (xs1 : Vec Ideal S256x24 .f32) :
    outB_21 m c t h0 xs0 xs1 = k0_pay31 (k0_pay20 (iblk m c 5 t)) (k0_pay21 (iblk m c 6 t)) k0_pay22 (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0))) (iblk m c 7 t) := by
  unfold outB_21
  rw [View.read_writes_junk_eq_canon]
  show View.canon ([⟨Rect.unit ![0, 0, 0] S1x256x128.size inb_S1x256x128_S1x256x128_0_0_0,
      k0_pay31 (k0_pay20 (View.readAt (Elt Ideal) (ms0_5 t).view (Rect.unit (s := S1x256x128) ![0, 0, 0] S1x256x128.size inb_S1x256x128_S1x256x128_0_0_0).toLoadRect ((hs0_5 t).unread (iblk m c 5 t)))) (k0_pay21 (View.readAt (Elt Ideal) (ms0_6 t).view (Rect.unit (s := S1x256x128) ![0, 0, 0] S1x256x128.size inb_S1x256x128_S1x256x128_0_0_0).toLoadRect ((hs0_6 t).unread (iblk m c 6 t)))) k0_pay22 (k0_pay24 (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t)))) (View.readAt (Elt Ideal) (ms0_7 t).view (Rect.unit (s := S1x128) ![0, 0] S1x128.size inb_S1x128_S1x128_0_0).toLoadRect ((hs0_7 t).unread (iblk m c 7 t)))⟩] :
      List (View.Piece (Elt Ideal) S1x256x128 .fp8e4m3)) = _
  rw [View.canon_unit_zero hz3, load (ms0_5 t) (hs0_5 t) hz3, load (ms0_6 t) (hs0_6 t) hz3, load (ms0_0 t) (hs0_0 t) hz3, load (ms0_1 t) (hs0_1 t) hz2, loadPart (ms0_2 t) (hs0_2 t), loadPart (ms0_3 t) (hs0_3 t), loadPart (ms0_4 t) (hs0_4 t), load (ms0_7 t) (hs0_7 t) hz2]
  rfl

theorem outB22 (c : Dev nD) (t : Fin cfg0.N) (h0 : ¬t.val % 5 = 0) (xs0 : Vec Ideal S3x256x2048 .bf16) (xs1 : Vec Ideal S256x24 .f32) :
    outB_22 m c t h0 xs0 xs1 = k0_pay32 (k0_pay30 (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0)))) (iblk m c 8 t) := by
  unfold outB_22
  rw [View.read_writes_junk_eq_canon]
  show View.canon ([⟨Rect.unit ![0, 0, 0] S1x256x128.size inb_S1x256x128_S1x256x128_0_0_0,
      k0_pay32 (k0_pay30 (k0_pay24 (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t))))) (View.readAt (Elt Ideal) (ms0_8 t).view (Rect.unit (s := S1x128) ![0, 0] S1x128.size inb_S1x128_S1x128_0_0).toLoadRect ((hs0_8 t).unread (iblk m c 8 t)))⟩] :
      List (View.Piece (Elt Ideal) S1x256x128 .fp8e4m3)) = _
  rw [View.canon_unit_zero hz3, load (ms0_0 t) (hs0_0 t) hz3, load (ms0_1 t) (hs0_1 t) hz2, loadPart (ms0_2 t) (hs0_2 t), loadPart (ms0_3 t) (hs0_3 t), loadPart (ms0_4 t) (hs0_4 t), load (ms0_8 t) (hs0_8 t) hz2]
  rfl

theorem outB23 (c : Dev nD) (t : Fin cfg0.N) (h0 : ¬t.val % 5 = 0) (xs0 : Vec Ideal S3x256x2048 .bf16) (xs1 : Vec Ideal S256x24 .f32) :
    outB_23 m c t h0 xs0 xs1 = k0_pay33 (k0_pay14 (iblk m c 0 t) (iblk m c 1 t)) (k0_pay19 (k0_pay15 (iblk m c 0 t) (iblk m c 1 t))) (View.ld (iblk m c 2 t : Vec Ideal S4376x1024 _) (Rect.unit (s := S4376x1024) ![768, 0] S1536x1024.size inb_S4376x1024_S1536x1024_768_0)) (View.ld (iblk m c 3 t : Vec Ideal S1x4376 _) (Rect.unit (s := S1x4376) ![0, 768] S1x1536.size inb_S1x4376_S1x1536_0_768)) (View.ld (iblk m c 4 t : Vec Ideal S1x4376 _) (Rect.unit (s := S1x4376) ![0, 768] S1x1536.size inb_S1x4376_S1x1536_0_768)) := by
  unfold outB_23
  rw [View.read_writes_junk_eq_canon]
  show View.canon ([⟨Rect.unit ![0, 0, 0] S1x256x1536.size inb_S1x256x1536_S1x256x1536_0_0_0,
      k0_pay33 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay19 (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))) (View.readAt (Elt Ideal) (ms0_2 t).view (Rect.unit (s := S4376x1024) ![768, 0] S1536x1024.size inb_S4376x1024_S1536x1024_768_0).toLoadRect ((hs0_2 t).unread (iblk m c 2 t))) (View.readAt (Elt Ideal) (ms0_3 t).view (Rect.unit (s := S1x4376) ![0, 768] S1x1536.size inb_S1x4376_S1x1536_0_768).toLoadRect ((hs0_3 t).unread (iblk m c 3 t))) (View.readAt (Elt Ideal) (ms0_4 t).view (Rect.unit (s := S1x4376) ![0, 768] S1x1536.size inb_S1x4376_S1x1536_0_768).toLoadRect ((hs0_4 t).unread (iblk m c 4 t)))⟩] :
      List (View.Piece (Elt Ideal) S1x256x1536 .f32)) = _
  rw [View.canon_unit_zero hz3, load (ms0_0 t) (hs0_0 t) hz3, load (ms0_1 t) (hs0_1 t) hz2, loadPart (ms0_2 t) (hs0_2 t), loadPart (ms0_3 t) (hs0_3 t), loadPart (ms0_4 t) (hs0_4 t)]
  rfl

theorem outB24 (c : Dev nD) (t : Fin cfg0.N) (h0 : ¬t.val % 5 = 0) (xs0 : Vec Ideal S3x256x2048 .bf16) (xs1 : Vec Ideal S256x24 .f32) :
    outB_24 m c t h0 xs0 xs1 = k0_pay37 (k0_pay34 (k0_pay14 (iblk m c 0 t) (iblk m c 1 t)) (k0_pay19 (k0_pay15 (iblk m c 0 t) (iblk m c 1 t))) (View.ld (iblk m c 2 t : Vec Ideal S4376x1024 _) (Rect.unit (s := S4376x1024) ![2304, 0] S2048x1024.size inb_S4376x1024_S2048x1024_2304_0))) (k0_pay35 (View.ld (iblk m c 3 t : Vec Ideal S1x4376 _) (Rect.unit (s := S1x4376) ![0, 2304] S1x2048.size inb_S1x4376_S1x2048_0_2304))) (View.ld (iblk m c 4 t : Vec Ideal S1x4376 _) (Rect.unit (s := S1x4376) ![0, 2304] S1x2048.size inb_S1x4376_S1x2048_0_2304)) := by
  unfold outB_24
  rw [View.read_writes_junk_eq_canon]
  show View.canon ([⟨Rect.unit ![0, 0, 0] S1x256x2048.size inb_S1x256x2048_S1x256x2048_0_0_0,
      k0_pay37 (k0_pay34 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay19 (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t))))) (View.readAt (Elt Ideal) (ms0_2 t).view (Rect.unit (s := S4376x1024) ![2304, 0] S2048x1024.size inb_S4376x1024_S2048x1024_2304_0).toLoadRect ((hs0_2 t).unread (iblk m c 2 t)))) (k0_pay35 (View.readAt (Elt Ideal) (ms0_3 t).view (Rect.unit (s := S1x4376) ![0, 2304] S1x2048.size inb_S1x4376_S1x2048_0_2304).toLoadRect ((hs0_3 t).unread (iblk m c 3 t)))) (View.readAt (Elt Ideal) (ms0_4 t).view (Rect.unit (s := S1x4376) ![0, 2304] S1x2048.size inb_S1x4376_S1x2048_0_2304).toLoadRect ((hs0_4 t).unread (iblk m c 4 t)))⟩] :
      List (View.Piece (Elt Ideal) S1x256x2048 .bf16)) = _
  rw [View.canon_unit_zero hz3, load (ms0_0 t) (hs0_0 t) hz3, load (ms0_1 t) (hs0_1 t) hz2, loadPart (ms0_2 t) (hs0_2 t), loadPart (ms0_3 t) (hs0_3 t), loadPart (ms0_4 t) (hs0_4 t)]
  rfl

theorem outB20 (c : Dev nD) (t : Fin cfg0.N) (h0 : ¬t.val % 5 = 0) (xs0 : Vec Ideal S3x256x2048 .bf16) (xs1 : Vec Ideal S256x24 .f32) (r : Fin 256) (l : Fin 512) :
    outB_20 m c t h0 xs0 xs1 (ix3 0 r l)
      = Row.lane (fun x => (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0))) (ix2 r x))
          (fun x => (k0_pay20 (iblk m c 5 t)) (ix2 r x)) (fun x => (k0_pay21 (iblk m c 6 t)) (ix2 r x))
          ⟨l.val / 128, by omega⟩ ⟨l.val % 128, by omega⟩ := by
  unfold outB_20
  rw [View.read_writes_junk_eq_canon]
  refine View.canon_eq_of_allAt _ _ _ (coverB_20 m c t h0 xs0 xs1 _) ?_
  have h := pieces (k0_pay20 (View.readAt (Elt Ideal) (ms0_5 t).view (Rect.unit (s := S1x256x128) ![0, 0, 0] S1x256x128.size inb_S1x256x128_S1x256x128_0_0_0).toLoadRect ((hs0_5 t).unread (iblk m c 5 t)))) (k0_pay21 (View.readAt (Elt Ideal) (ms0_6 t).view (Rect.unit (s := S1x256x128) ![0, 0, 0] S1x256x128.size inb_S1x256x128_S1x256x128_0_0_0).toLoadRect ((hs0_6 t).unread (iblk m c 6 t))))
    (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t))) r l
  have e : Row.lane (fun x => (k0_pay24 (k0_pay23 (k0_pay14 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (k0_pay15 (View.readAt (Elt Ideal) (ms0_0 t).view (Rect.unit (s := S1x256x1024) ![0, 0, 0] S1x256x1024.size inb_S1x256x1024_S1x256x1024_0_0_0).toLoadRect ((hs0_0 t).unread (iblk m c 0 t))) (View.readAt (Elt Ideal) (ms0_1 t).view (Rect.unit (s := S1x1024) ![0, 0] S1x1024.size inb_S1x1024_S1x1024_0_0).toLoadRect ((hs0_1 t).unread (iblk m c 1 t)))) (View.readAt (Elt Ideal) (ms0_2 t).view (Rect.unit (s := S4376x1024) ![0, 0] S768x1024.size inb_S4376x1024_S768x1024_0_0).toLoadRect ((hs0_2 t).unread (iblk m c 2 t))) (View.readAt (Elt Ideal) (ms0_3 t).view (Rect.unit (s := S1x4376) ![0, 0] S1x768.size inb_S1x4376_S1x768_0_0).toLoadRect ((hs0_3 t).unread (iblk m c 3 t)))) (View.readAt (Elt Ideal) (ms0_4 t).view (Rect.unit (s := S1x4376) ![0, 0] S1x768.size inb_S1x4376_S1x768_0_0).toLoadRect ((hs0_4 t).unread (iblk m c 4 t)))) (ix2 r x))
          (fun x => (k0_pay20 (View.readAt (Elt Ideal) (ms0_5 t).view (Rect.unit (s := S1x256x128) ![0, 0, 0] S1x256x128.size inb_S1x256x128_S1x256x128_0_0_0).toLoadRect ((hs0_5 t).unread (iblk m c 5 t)))) (ix2 r x)) (fun x => (k0_pay21 (View.readAt (Elt Ideal) (ms0_6 t).view (Rect.unit (s := S1x256x128) ![0, 0, 0] S1x256x128.size inb_S1x256x128_S1x256x128_0_0_0).toLoadRect ((hs0_6 t).unread (iblk m c 6 t)))) (ix2 r x))
          ⟨l.val / 128, by omega⟩ ⟨l.val % 128, by omega⟩
      = Row.lane (fun x => (k0_pay24 (k0_pay23 (k0_pay14 (iblk m c 0 t) (iblk m c 1 t)) (k0_pay15 (iblk m c 0 t) (iblk m c 1 t)) (View.ld (iblk m c 2 t : Vec Ideal S4376x1024 _) (Rect.unit (s := S4376x1024) ![0, 0] S768x1024.size inb_S4376x1024_S768x1024_0_0)) (View.ld (iblk m c 3 t : Vec Ideal S1x4376 _) (Rect.unit (s := S1x4376) ![0, 0] S1x768.size inb_S1x4376_S1x768_0_0))) (View.ld (iblk m c 4 t : Vec Ideal S1x4376 _) (Rect.unit (s := S1x4376) ![0, 0] S1x768.size inb_S1x4376_S1x768_0_0))) (ix2 r x))
          (fun x => (k0_pay20 (iblk m c 5 t)) (ix2 r x)) (fun x => (k0_pay21 (iblk m c 6 t)) (ix2 r x))
          ⟨l.val / 128, by omega⟩ ⟨l.val % 128, by omega⟩ := by
    rw [load (ms0_5 t) (hs0_5 t) hz3, load (ms0_6 t) (hs0_6 t) hz3, load (ms0_0 t) (hs0_0 t) hz3, load (ms0_1 t) (hs0_1 t) hz2, loadPart (ms0_2 t) (hs0_2 t), loadPart (ms0_3 t) (hs0_3 t), loadPart (ms0_4 t) (hs0_4 t)]
    rfl
  rw [e] at h
  exact h

end Cert.Proof.ProjOut

end
-- ==== Proof.ProjFinal.lean ====
/- The projection kernel's result arrays after the run, at every index, as the projection's mathematics (ProjMath.lean) of
   the argument arrays: step `t` of the grid leaves its block of each array, whichever of the body's two cases it takes. -/
module

public import proofs.«01_k».proof.Proof.ProjIn
public import proofs.«01_k».proof.Proof.ProjOut

@[expose] public section

set_option maxRecDepth 16384

noncomputable section

namespace Cert.Proof.ProjFinal

open Idealize.ShloMosaic Idealize.ShloMosaic.TcCoe Idealize.SL.Sem Cert.ProjIdeal Cert.ProjIdeal.Gen Cert.ProjIdeal.Body Cert.Proof
open Cert.Proof.ProjPay Cert.Proof.ProjIn Cert.Proof.ProjOut

variable (m : (ℓ : Loc nD τ sig) → Buf (Elt Ideal) ℓ) (c : Dev nD) (t : Fin 5)

/-- The codes of the normalised row. -/
theorem arr18 (r : Fin 256) (l : Fin 1024) :
    (dats m 0 c).arrAt 18 cfg0.N (ix3 t r l : S5x256x1024.Idx) = ProjMath.codes (args m c) t r l := by
  have b := congrFun (blocks18 m c (pt t) (flush0_18 (pt t))) (ix3 0 r l : S1x256x1024.Idx)
  have b' : (dats m 0 c).arrAt 18 cfg0.N (((cfg0.win 18).blk (pt t)).view.emb (ix3 0 r l : S1x256x1024.Idx))
      = k0_pay17 (k0_pay16 (iblk m c 0 (pt t)) (iblk m c 1 (pt t))) (ix3 0 r l) := by
    by_cases h0 : (pt t).val % 5 = 0
    · rw [flushed18_A m c _ h0, outA18] at b; exact b
    · rw [flushed18_B m c _ h0, outB18] at b; exact b
  rw [emb18] at b'
  refine b'.trans ?_
  rw [pay17, pay16]
  simp only [in0, in1]
  rfl

/-- Their scale. -/
theorem arr19 (r : Fin 256) (l : Fin 1) :
    (dats m 0 c).arrAt 19 cfg0.N (ix3 t r l : S5x256x1.Idx) = ProjMath.scale (args m c) t r := by
  have b := congrFun (blocks19 m c (pt t) (flush0_19 (pt t))) (ix3 0 r l : S1x256x1.Idx)
  have b' : (dats m 0 c).arrAt 19 cfg0.N (((cfg0.win 19).blk (pt t)).view.emb (ix3 0 r l : S1x256x1.Idx))
      = k0_pay18 (k0_pay14 (iblk m c 0 (pt t)) (iblk m c 1 (pt t))) (ix3 0 r l) := by
    by_cases h0 : (pt t).val % 5 = 0
    · rw [flushed19_A m c _ h0, outA19] at b; exact b
    · rw [flushed19_B m c _ h0, outB19] at b; exact b
  rw [emb19] at b'
  refine b'.trans ?_
  rw [pay18, pay14]
  simp only [in0, in1]
  rfl

/-- The rotated queries. -/
theorem arr20 (r : Fin 256) (l : Fin 512) :
    (dats m 0 c).arrAt 20 cfg0.N (ix3 t r l : S5x256x512.Idx) = ProjMath.q (args m c) t r l := by
  have b := congrFun (blocks20 m c (pt t) (flush0_20 (pt t))) (ix3 0 r l : S1x256x512.Idx)
  have b' : (dats m 0 c).arrAt 20 cfg0.N (((cfg0.win 20).blk (pt t)).view.emb (ix3 0 r l : S1x256x512.Idx))
      = Row.lane (fun x => qkvP m c t (ix2 r x)) (fun x => k0_pay20 (iblk m c 5 (pt t)) (ix2 r x)) (fun x => k0_pay21 (iblk m c 6 (pt t)) (ix2 r x))
          ⟨l.val / 128, by omega⟩ ⟨l.val % 128, by omega⟩ := by
    by_cases h0 : (pt t).val % 5 = 0
    · rw [flushed20_A m c _ h0] at b
      exact Eq.trans b (outA20 m c (pt t) h0 r l)
    · rw [flushed20_B m c _ h0] at b
      exact Eq.trans b (outB20 m c (pt t) h0 _ _ r l)
  rw [emb20] at b'
  refine b'.trans ((lane_eq m c t r _ _).trans ?_)
  exact congrArg (ProjMath.turned (args m c) t r) (Fin.ext (by show 128 * (l.val / 128) + l.val % 128 = l.val; omega))

/-- The keys' codes. -/
theorem arr21 (r : Fin 256) (l : Fin 128) :
    (dats m 0 c).arrAt 21 cfg0.N (ix3 t r l : S5x256x128.Idx) = ProjMath.kc (args m c) t r l := by
  have b := congrFun (blocks21 m c (pt t) (flush0_21 (pt t))) (ix3 0 r l : S1x256x128.Idx)
  have b' : (dats m 0 c).arrAt 21 cfg0.N (((cfg0.win 21).blk (pt t)).view.emb (ix3 0 r l : S1x256x128.Idx))
      = k0_pay31 (k0_pay20 (iblk m c 5 (pt t))) (k0_pay21 (iblk m c 6 (pt t))) k0_pay22 (k0_pay24 (k0_pay23 (k0_pay14 (iblk m c 0 (pt t)) (iblk m c 1 (pt t))) (k0_pay15 (iblk m c 0 (pt t)) (iblk m c 1 (pt t))) (View.ld (iblk m c 2 (pt t) : Vec Ideal S4376x1024 _) (Rect.unit (s := S4376x1024) ![0, 0] S768x1024.size inb_S4376x1024_S768x1024_0_0)) (View.ld (iblk m c 3 (pt t) : Vec Ideal S1x4376 _) (Rect.unit (s := S1x4376) ![0, 0] S1x768.size inb_S1x4376_S1x768_0_0))) (View.ld (iblk m c 4 (pt t) : Vec Ideal S1x4376 _) (Rect.unit (s := S1x4376) ![0, 0] S1x768.size inb_S1x4376_S1x768_0_0))) (iblk m c 7 (pt t)) (ix3 0 r l) := by
    by_cases h0 : (pt t).val % 5 = 0
    · rw [flushed21_A m c _ h0, outA21] at b; exact b
    · rw [flushed21_B m c _ h0, outB21] at b; exact b
  rw [emb21] at b'
  refine b'.trans ?_
  rw [pay31, in7]
  refine congrArg (fun y => Row.code448 y ((args m c).ks ⟨l.val / 64, by omega⟩)) ((lane_eq m c t r 4 l).trans ?_)
  exact congrArg (ProjMath.turned (args m c) t r) (Fin.ext rfl)

/-- The values' codes. -/
theorem arr22 (r : Fin 256) (l : Fin 128) :
    (dats m 0 c).arrAt 22 cfg0.N (ix3 t r l : S5x256x128.Idx) = ProjMath.vc (args m c) t r l := by
  have b := congrFun (blocks22 m c (pt t) (flush0_22 (pt t))) (ix3 0 r l : S1x256x128.Idx)
  have b' : (dats m 0 c).arrAt 22 cfg0.N (((cfg0.win 22).blk (pt t)).view.emb (ix3 0 r l : S1x256x128.Idx))
      = k0_pay32 (k0_pay30 (k0_pay24 (k0_pay23 (k0_pay14 (iblk m c 0 (pt t)) (iblk m c 1 (pt t))) (k0_pay15 (iblk m c 0 (pt t)) (iblk m c 1 (pt t))) (View.ld (iblk m c 2 (pt t) : Vec Ideal S4376x1024 _) (Rect.unit (s := S4376x1024) ![0, 0] S768x1024.size inb_S4376x1024_S768x1024_0_0)) (View.ld (iblk m c 3 (pt t) : Vec Ideal S1x4376 _) (Rect.unit (s := S1x4376) ![0, 0] S1x768.size inb_S1x4376_S1x768_0_0))) (View.ld (iblk m c 4 (pt t) : Vec Ideal S1x4376 _) (Rect.unit (s := S1x4376) ![0, 0] S1x768.size inb_S1x4376_S1x768_0_0)))) (iblk m c 8 (pt t)) (ix3 0 r l) := by
    by_cases h0 : (pt t).val % 5 = 0
    · rw [flushed22_A m c _ h0, outA22] at b; exact b
    · rw [flushed22_B m c _ h0, outB22] at b; exact b
  rw [emb22] at b'
  refine b'.trans ?_
  rw [pay32, pay30, in8]
  exact congrArg (fun y => Row.code448 y ((args m c).vs ⟨l.val / 64, by omega⟩)) (qkv_eq m c t r ⟨640 + l, by omega⟩)

/-- The gate's columns. -/
theorem arr23 (r : Fin 256) (l : Fin 1536) :
    (dats m 0 c).arrAt 23 cfg0.N (ix3 t r l : S5x256x1536.Idx) = ProjMath.z (args m c) t r l := by
  have b := congrFun (blocks23 m c (pt t) (flush0_23 (pt t))) (ix3 0 r l : S1x256x1536.Idx)
  have b' : (dats m 0 c).arrAt 23 cfg0.N (((cfg0.win 23).blk (pt t)).view.emb (ix3 0 r l : S1x256x1536.Idx))
      = k0_pay33 (k0_pay14 (iblk m c 0 (pt t)) (iblk m c 1 (pt t))) (k0_pay19 (k0_pay15 (iblk m c 0 (pt t)) (iblk m c 1 (pt t)))) (View.ld (iblk m c 2 (pt t) : Vec Ideal S4376x1024 _) (Rect.unit (s := S4376x1024) ![768, 0] S1536x1024.size inb_S4376x1024_S1536x1024_768_0)) (View.ld (iblk m c 3 (pt t) : Vec Ideal S1x4376 _) (Rect.unit (s := S1x4376) ![0, 768] S1x1536.size inb_S1x4376_S1x1536_0_768)) (View.ld (iblk m c 4 (pt t) : Vec Ideal S1x4376 _) (Rect.unit (s := S1x4376) ![0, 768] S1x1536.size inb_S1x4376_S1x1536_0_768)) (ix3 0 r l) := by
    by_cases h0 : (pt t).val % 5 = 0
    · rw [flushed23_A m c _ h0, outA23] at b; exact b
    · rw [flushed23_B m c _ h0, outB23] at b; exact b
  rw [emb23] at b'
  refine b'.trans ?_
  exact z_eq m c t r l

/-- The convolution's columns. -/
theorem arr24 (r : Fin 256) (l : Fin 2048) :
    (dats m 0 c).arrAt 24 cfg0.N (ix3 t r l : S5x256x2048.Idx) = ProjMath.conv (args m c) t r l := by
  have b := congrFun (blocks24 m c (pt t) (flush0_24 (pt t))) (ix3 0 r l : S1x256x2048.Idx)
  have b' : (dats m 0 c).arrAt 24 cfg0.N (((cfg0.win 24).blk (pt t)).view.emb (ix3 0 r l : S1x256x2048.Idx))
      = k0_pay37 (k0_pay34 (k0_pay14 (iblk m c 0 (pt t)) (iblk m c 1 (pt t))) (k0_pay19 (k0_pay15 (iblk m c 0 (pt t)) (iblk m c 1 (pt t)))) (View.ld (iblk m c 2 (pt t) : Vec Ideal S4376x1024 _) (Rect.unit (s := S4376x1024) ![2304, 0] S2048x1024.size inb_S4376x1024_S2048x1024_2304_0))) (k0_pay35 (View.ld (iblk m c 3 (pt t) : Vec Ideal S1x4376 _) (Rect.unit (s := S1x4376) ![0, 2304] S1x2048.size inb_S1x4376_S1x2048_0_2304))) (View.ld (iblk m c 4 (pt t) : Vec Ideal S1x4376 _) (Rect.unit (s := S1x4376) ![0, 2304] S1x2048.size inb_S1x4376_S1x2048_0_2304)) (ix3 0 r l) := by
    by_cases h0 : (pt t).val % 5 = 0
    · rw [flushed24_A m c _ h0, outA24] at b; exact b
    · rw [flushed24_B m c _ h0, outB24] at b; exact b
  rw [emb24] at b'
  refine b'.trans ?_
  exact conv_eq m c t r l

end Cert.Proof.ProjFinal

end
-- ==== Proof.ProjRefPay.lean ====
/- What the projection's reference computes, payload by payload, read at a time step, a row and a column as the row
   mathematics of RowSpec.lean and ProjSpec.lean. -/
module

public import proofs.«01_k».proof.Proof.ProjSpec
public import proofs.«01_k».proof.Proof.Gen.ProjRefIdeal.Skeleton

@[expose] public section

set_option maxRecDepth 16384

noncomputable section

namespace Cert.Proof.ProjRefPay

open Idealize.ShloMosaic Cert.ProjRefIdeal Cert.ProjRefIdeal.Gen Cert.Proof

theorem pay1 (v : FVec Ideal S5x256x2048 .f32) (s : Fin 5) (r : Fin 256) (l : Fin 2048) : k0_pay1 v (ix3 s r l) = v (ix3 s r l) := by
  pointwise [k0_pay1]

theorem pay2 (v : Vec Ideal S5x256x32 .f32) (s : Fin 5) (r : Fin 256) (l : Fin 32) : k0_pay2 v (ix3 s r l) = v (ix3 s r l) := by
  pointwise [k0_pay2]

theorem pay4 (v : Vec Ideal S5x256x1024 .bf16) (n : Vec Ideal S1024 .f32) (s : Fin 5) (r : Fin 256) (l : Fin 1024) :
    k0_pay4 v n (ix3 s r l) = Row.rms (fun x => v (ix3 s r x)) (fun x => n (ix1 x)) l := by
  pointwise [k0_pay4]
  rfl

theorem pay5 (v : Vec Ideal S5x256x1024 .bf16) (n : Vec Ideal S1024 .f32) (s : Fin 5) (r : Fin 256) :
    k0_pay5 v n (ix2 s r) = Row.scale (Row.rms (fun x => v (ix3 s r x)) (fun x => n (ix1 x))) := by
  pointwise [k0_pay5]
  simp only [pay4]
  rfl

theorem pay6 (v : Vec Ideal S5x256x1024 .bf16) (n : Vec Ideal S1024 .f32) (s : Fin 5) (r : Fin 256) (l : Fin 1024) :
    k0_pay6 v n (ix3 s r l) = Row.code8 (Row.rms (fun x => v (ix3 s r x)) (fun x => n (ix1 x))) l := by
  pointwise [k0_pay6]
  rw [pay4, pay5]
  rfl

theorem pay7 (v : Vec Ideal S5x256x1024 .bf16) (n : Vec Ideal S1024 .f32) (w : Vec Ideal S1024x4376 .i8) (ws m : Vec Ideal S4376 .f32)
    (s : Fin 5) (r : Fin 256) (l : Fin 4376) :
    k0_pay7 (k0_pay5 v n) (k0_pay6 v n) w ws m (ix3 s r l)
      = Row.projm (Row.rms (fun x => v (ix3 s r x)) (fun x => n (ix1 x))) (fun x y => w (ix2 x y)) (fun y => ws (ix1 y))
          (fun y => m (ix1 y)) l := by
  pointwise [k0_pay7]
  simp only [pay5, pay6, Row.sitofp_code8]
  rfl

theorem pay8 (a : FVec Ideal S5x256 .f32) (q : IVec S5x256x1024 8) (w : Vec Ideal S1024x4376 .i8) (ws m : Vec Ideal S4376 .f32)
    (s : Fin 5) (r : Fin 256) (l : Fin 128) :
    k0_pay8 a q w ws m (ix3 s r l) = k0_pay7 a q w ws m (ix3 s r ⟨640 + l, by omega⟩) := by
  pointwise [k0_pay8]

theorem pay9 (a : FVec Ideal S5x256 .f32) (q : IVec S5x256x1024 8) (w : Vec Ideal S1024x4376 .i8) (ws m : Vec Ideal S4376 .f32)
    (s : Fin 5) (r : Fin 256) (l : Fin 1536) :
    k0_pay9 a q w ws m (ix3 s r l) = k0_pay7 a q w ws m (ix3 s r ⟨768 + l, by omega⟩) := by
  pointwise [k0_pay9]

theorem pay10 (a : FVec Ideal S5x256 .f32) (q : IVec S5x256x1024 8) (w : Vec Ideal S1024x4376 .i8) (ws m : Vec Ideal S4376 .f32)
    (s : Fin 5) (r : Fin 256) (l : Fin 2048) :
    k0_pay10 a q w ws m (ix3 s r l) = k0_pay7 a q w ws m (ix3 s r ⟨2304 + l, by omega⟩) := by
  pointwise [k0_pay10]

theorem pay3 (v : Vec Ideal S5x256x32 .f32) (s : Fin 5) (r : Fin 256) (l : Fin 32) : k0_pay3 v (ix3 s r l) = v (ix3 s r l) := by
  pointwise [k0_pay3]

/-- The two halves of head `h`, joined. -/
theorem rot_mk (v : Fin 4376 → EReal) (co si : Fin 32 → EReal) (o : Nat) (l : Fin 64) (k : Fin 640) (ho : o % 64 = 0) (hk : k.val = o + l.val)
    (h1 : l.val < 32 → o + l.val < 4376) (h2 : l.val < 32 → o + (32 + l.val) < 4376)
    (h3 : ¬l.val < 32 → o + (32 + (l.val - 32)) < 4376) (h4 : ¬l.val < 32 → o + (l.val - 32) < 4376) (h5 : ¬l.val < 32 → l.val - 32 < 32) :
    (if h : l.val < 32 then v ⟨o + l.val, h1 h⟩ * co ⟨l.val, h⟩ - v ⟨o + (32 + l.val), h2 h⟩ * si ⟨l.val, h⟩
      else v ⟨o + (32 + (l.val - 32)), h3 h⟩ * co ⟨l.val - 32, h5 h⟩ + v ⟨o + (l.val - 32), h4 h⟩ * si ⟨l.val - 32, h5 h⟩)
      = Row.rot v co si k := by
  unfold Row.rot
  by_cases h : l.val < 32
  · rw [dif_pos h, if_pos (show k.val % 64 < 32 by omega)]
    have e1 : (⟨o + l.val, h1 h⟩ : Fin 4376) = ⟨k, by omega⟩ := Fin.ext hk.symm
    have e2 : (⟨o + (32 + l.val), h2 h⟩ : Fin 4376) = ⟨k + 32, by omega⟩ := Fin.ext (by
      show o + (32 + l.val) = k.val + 32; omega)
    have e3 : (⟨l.val, h⟩ : Fin 32) = ⟨k.val % 32, by omega⟩ := Fin.ext (by show l.val = k.val % 32; omega)
    rw [e1, e2, e3]
  · rw [dif_neg h, if_neg (show ¬ k.val % 64 < 32 by omega)]
    have e1 : (⟨o + (32 + (l.val - 32)), h3 h⟩ : Fin 4376) = ⟨k, by omega⟩ := Fin.ext (by
      show o + (32 + (l.val - 32)) = k.val; omega)
    have e2 : (⟨o + (l.val - 32), h4 h⟩ : Fin 4376) = ⟨k - 32, by omega⟩ := Fin.ext (by
      show o + (l.val - 32) = k.val - 32; omega)
    have e3 : (⟨l.val - 32, h5 h⟩ : Fin 32) = ⟨k.val % 32, by omega⟩ := Fin.ext (by show l.val - 32 = k.val % 32; omega)
    rw [e1, e2, e3]

theorem pay11 (c d : FVec Ideal S5x256x32 .f32) (a : FVec Ideal S5x256 .f32) (q : IVec S5x256x1024 8) (w : Vec Ideal S1024x4376 .i8)
    (ws m : Vec Ideal S4376 .f32) (s : Fin 5) (r : Fin 256) (h : Fin 8) (l : Fin 64) :
    k0_pay11 c d a q w ws m (ix4 s r h l)
      = Row.rot (fun x => k0_pay7 a q w ws m (ix3 s r x)) (fun x => c (ix3 s r x)) (fun x => d (ix3 s r x)) ⟨64 * h + l, by omega⟩ := by
  pointwise [k0_pay11]
  exact rot_mk (fun x => k0_pay7 a q w ws m (ix3 s r x)) (fun x => c (ix3 s r x)) (fun x => d (ix3 s r x)) (h * 64) l _ (by omega)
    (by show 64 * h.val + l.val = h.val * 64 + l.val; omega) _ _ _ _ _

theorem pay12 (c d : FVec Ideal S5x256x32 .f32) (a : FVec Ideal S5x256 .f32) (q : IVec S5x256x1024 8) (w : Vec Ideal S1024x4376 .i8)
    (ws m : Vec Ideal S4376 .f32) (s : Fin 5) (r : Fin 256) (h : Fin 2) (l : Fin 64) :
    k0_pay12 c d a q w ws m (ix4 s r h l)
      = Row.rot (fun x => k0_pay7 a q w ws m (ix3 s r x)) (fun x => c (ix3 s r x)) (fun x => d (ix3 s r x)) ⟨512 + (64 * h + l), by omega⟩ := by
  pointwise [k0_pay12]
  have e : ∀ x : Nat, 512 + (h.val * 64 + x) = 512 + h.val * 64 + x := fun x => by omega
  simp only [e]
  exact rot_mk (fun x => k0_pay7 a q w ws m (ix3 s r x)) (fun x => c (ix3 s r x)) (fun x => d (ix3 s r x)) (512 + h * 64) l _ (by omega)
    (by show 512 + (64 * h.val + l.val) = 512 + h.val * 64 + l.val; omega) _ _ _ _ _

theorem pay13 (v : FVec Ideal S5x256 .f32) (s : Fin 5) (r : Fin 256) (z : Fin 1) : k0_pay13 v (ix3 s r z) = v (ix2 s r) := by
  pointwise [k0_pay13]

theorem pay14 (v : FVec Ideal S5x256x8x64 .f32) (s : Fin 5) (r : Fin 256) (l : Fin 512) :
    k0_pay14 v (ix3 s r l) = v (ix4 s r ⟨l.val / 64, by omega⟩ ⟨l.val % 64, by omega⟩) := by
  pointwise [k0_pay14]

theorem pay15 (v : FVec Ideal S5x256x2x64 .f32) (k : Vec Ideal S2 .f32) (s : Fin 5) (r : Fin 256) (l : Fin 128) :
    k0_pay15 v k (ix3 s r l)
      = Row.code448 (v (ix4 s r ⟨l.val / 64, by omega⟩ ⟨l.val % 64, by omega⟩)) (k (ix1 ⟨l.val / 64, by omega⟩)) := by
  pointwise [k0_pay15]
  rfl

theorem pay16 (v : FVec Ideal S5x256x128 .f32) (k : Vec Ideal S2 .f32) (s : Fin 5) (r : Fin 256) (l : Fin 128) :
    k0_pay16 v k (ix3 s r l) = Row.code448 (v (ix3 s r l)) (k (ix1 ⟨l.val / 64, by omega⟩)) := by
  pointwise [k0_pay16]
  rfl

end Cert.Proof.ProjRefPay

end
-- ==== Proof.ProjRefFinal.lean ====
/- The reference's result arrays after the run, at every index, as the projection's mathematics (ProjMath.lean) of the
   argument arrays: its one grid point reads and writes whole arrays, and the payloads are read by rows
   (ProjRefPay.lean). -/
module

public import proofs.«01_k».proof.Proof.ProjMath
public import proofs.«01_k».proof.Proof.ProjRefPay
public import proofs.«01_k».proof.Proof.Gen.ProjRefIdeal.Value

@[expose] public section

set_option maxRecDepth 16384

noncomputable section

namespace Cert.Proof.ProjRefFinal

open Idealize.ShloMosaic Idealize.ShloMosaic.TcCoe Idealize.SL.Sem Cert.ProjRefIdeal Cert.ProjRefIdeal.Gen Cert.Proof
open Cert.Proof.ProjRefPay

theorem hz3 : (![0, 0, 0] : Fin 3 → Nat) = fun _ => 0 := funext fun a => by fin_cases a <;> rfl
theorem hz1 : (![0] : Fin 1 → Nat) = fun _ => 0 := funext fun a => by fin_cases a; rfl
theorem hz2 : (![0, 0] : Fin 2 → Nat) = fun _ => 0 := funext fun a => by fin_cases a <;> rfl

/-! ## Where the blocks lie in the arrays -/

/-- The one grid point. -/
def pt : Fin cfg0.N := ⟨0, by decide⟩

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (y : S5x256x1024.Idx) : ((cfg0.win 0).blk t).view.emb y = y := by
  obtain ⟨e0, e1, e2⟩ := idx0 t
  funext a; apply Fin.ext
  match a with
  | ⟨0, _⟩ => show win0_0.index t (0 : Fin 3) * 5 + 1 * (y 0).val = (y 0).val; omega
  | ⟨1, _⟩ => show win0_0.index t (1 : Fin 3) * 256 + 1 * (y 1).val = (y 1).val; omega
  | ⟨2, _⟩ => show win0_0.index t (2 : Fin 3) * 1024 + 1 * (y 2).val = (y 2).val; omega

theorem idx1 : ∀ t : Fin cfg0.N, win0_1.index t (0 : Fin 1) = 0 :=
  (by decide +kernel : ∀ t : Fin grid0.N, _)

theorem emb1 (t : Fin cfg0.N) (y : S1024.Idx) : ((cfg0.win 1).blk t).view.emb y = y := by
  have e0 := idx1 t
  funext a; apply Fin.ext
  match a with
  | ⟨0, _⟩ => show win0_1.index t (0 : Fin 1) * 1024 + 1 * (y 0).val = (y 0).val; omega

theorem idx2 : ∀ t : Fin cfg0.N, win0_2.index t (0 : Fin 2) = 0 ∧ win0_2.index t (1 : Fin 2) = 0 :=
  (by decide +kernel : ∀ t : Fin grid0.N, _)

theorem emb2 (t : Fin cfg0.N) (y : S1024x4376.Idx) : ((cfg0.win 2).blk t).view.emb y = y := by
  obtain ⟨e0, e1⟩ := idx2 t
  funext a; apply Fin.ext
  match a with
  | ⟨0, _⟩ => show win0_2.index t (0 : Fin 2) * 1024 + 1 * (y 0).val = (y 0).val; omega
  | ⟨1, _⟩ => show win0_2.index t (1 : Fin 2) * 4376 + 1 * (y 1).val = (y 1).val; omega

theorem idx3 : ∀ t : Fin cfg0.N, win0_3.index t (0 : Fin 1) = 0 :=
  (by decide +kernel : ∀ t : Fin grid0.N, _)

theorem emb3 (t : Fin cfg0.N) (y : S4376.Idx) : ((cfg0.win 3).blk t).view.emb y = y := by
  have e0 := idx3 t
  funext a; apply Fin.ext
  match a with
  | ⟨0, _⟩ => show win0_3.index t (0 : Fin 1) * 4376 + 1 * (y 0).val = (y 0).val; omega

theorem idx4 : ∀ t : Fin cfg0.N, win0_4.index t (0 : Fin 1) = 0 :=
  (by decide +kernel : ∀ t : Fin grid0.N, _)

theorem emb4 (t : Fin cfg0.N) (y : S4376.Idx) : ((cfg0.win 4).blk t).view.emb y = y := by
  have e0 := idx4 t
  funext a; apply Fin.ext
  match a with
  | ⟨0, _⟩ => show win0_4.index t (0 : Fin 1) * 4376 + 1 * (y 0).val = (y 0).val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (y : S5x256x32.Idx) : ((cfg0.win 5).blk t).view.emb y = y := by
  obtain ⟨e0, e1, e2⟩ := idx5 t
  funext a; apply Fin.ext
  match a with
  | ⟨0, _⟩ => show win0_5.index t (0 : Fin 3) * 5 + 1 * (y 0).val = (y 0).val; omega
  | ⟨1, _⟩ => show win0_5.index t (1 : Fin 3) * 256 + 1 * (y 1).val = (y 1).val; omega
  | ⟨2, _⟩ => show win0_5.index t (2 : Fin 3) * 32 + 1 * (y 2).val = (y 2).val; omega

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (y : S5x256x32.Idx) : ((cfg0.win 6).blk t).view.emb y = y := by
  obtain ⟨e0, e1, e2⟩ := idx6 t
  funext a; apply Fin.ext
  match a with
  | ⟨0, _⟩ => show win0_6.index t (0 : Fin 3) * 5 + 1 * (y 0).val = (y 0).val; omega
  | ⟨1, _⟩ => show win0_6.index t (1 : Fin 3) * 256 + 1 * (y 1).val = (y 1).val; omega
  | ⟨2, _⟩ => show win0_6.index t (2 : Fin 3) * 32 + 1 * (y 2).val = (y 2).val; omega

theorem idx7 : ∀ t : Fin cfg0.N, win0_7.index t (0 : Fin 1) = 0 :=
  (by decide +kernel : ∀ t : Fin grid0.N, _)

theorem emb7 (t : Fin cfg0.N) (y : S2.Idx) : ((cfg0.win 7).blk t).view.emb y = y := by
  have e0 := idx7 t
  funext a; apply Fin.ext
  match a with
  | ⟨0, _⟩ => show win0_7.index t (0 : Fin 1) * 2 + 1 * (y 0).val = (y 0).val; omega

theorem idx8 : ∀ t : Fin cfg0.N, win0_8.index t (0 : Fin 1) = 0 :=
  (by decide +kernel : ∀ t : Fin grid0.N, _)

theorem emb8 (t : Fin cfg0.N) (y : S2.Idx) : ((cfg0.win 8).blk t).view.emb y = y := by
  have e0 := idx8 t
  funext a; apply Fin.ext
  match a with
  | ⟨0, _⟩ => show win0_8.index t (0 : Fin 1) * 2 + 1 * (y 0).val = (y 0).val; omega

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem emb9 (t : Fin cfg0.N) (y : S5x256x1024.Idx) : ((cfg0.win 9).blk t).view.emb y = y := by
  obtain ⟨e0, e1, e2⟩ := idx9 t
  funext a; apply Fin.ext
  match a with
  | ⟨0, _⟩ => show win0_9.index t (0 : Fin 3) * 5 + 1 * (y 0).val = (y 0).val; omega
  | ⟨1, _⟩ => show win0_9.index t (1 : Fin 3) * 256 + 1 * (y 1).val = (y 1).val; omega
  | ⟨2, _⟩ => show win0_9.index t (2 : Fin 3) * 1024 + 1 * (y 2).val = (y 2).val; omega

theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)

theorem emb10 (t : Fin cfg0.N) (y : S5x256x1.Idx) : ((cfg0.win 10).blk t).view.emb y = y := by
  obtain ⟨e0, e1, e2⟩ := idx10 t
  funext a; apply Fin.ext
  match a with
  | ⟨0, _⟩ => show win0_10.index t (0 : Fin 3) * 5 + 1 * (y 0).val = (y 0).val; omega
  | ⟨1, _⟩ => show win0_10.index t (1 : Fin 3) * 256 + 1 * (y 1).val = (y 1).val; omega
  | ⟨2, _⟩ => show win0_10.index t (2 : Fin 3) * 1 + 1 * (y 2).val = (y 2).val; omega

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (y : S5x256x512.Idx) : ((cfg0.win 11).blk t).view.emb y = y := by
  obtain ⟨e0, e1, e2⟩ := idx11 t
  funext a; apply Fin.ext
  match a with
  | ⟨0, _⟩ => show win0_11.index t (0 : Fin 3) * 5 + 1 * (y 0).val = (y 0).val; omega
  | ⟨1, _⟩ => show win0_11.index t (1 : Fin 3) * 256 + 1 * (y 1).val = (y 1).val; omega
  | ⟨2, _⟩ => show win0_11.index t (2 : Fin 3) * 512 + 1 * (y 2).val = (y 2).val; omega

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (y : S5x256x128.Idx) : ((cfg0.win 12).blk t).view.emb y = y := by
  obtain ⟨e0, e1, e2⟩ := idx12 t
  funext a; apply Fin.ext
  match a with
  | ⟨0, _⟩ => show win0_12.index t (0 : Fin 3) * 5 + 1 * (y 0).val = (y 0).val; omega
  | ⟨1, _⟩ => show win0_12.index t (1 : Fin 3) * 256 + 1 * (y 1).val = (y 1).val; omega
  | ⟨2, _⟩ => show win0_12.index t (2 : Fin 3) * 128 + 1 * (y 2).val = (y 2).val; omega

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

theorem emb13 (t : Fin cfg0.N) (y : S5x256x128.Idx) : ((cfg0.win 13).blk t).view.emb y = y := by
  obtain ⟨e0, e1, e2⟩ := idx13 t
  funext a; apply Fin.ext
  match a with
  | ⟨0, _⟩ => show win0_13.index t (0 : Fin 3) * 5 + 1 * (y 0).val = (y 0).val; omega
  | ⟨1, _⟩ => show win0_13.index t (1 : Fin 3) * 256 + 1 * (y 1).val = (y 1).val; omega
  | ⟨2, _⟩ => show win0_13.index t (2 : Fin 3) * 128 + 1 * (y 2).val = (y 2).val; omega

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

theorem emb14 (t : Fin cfg0.N) (y : S5x256x1536.Idx) : ((cfg0.win 14).blk t).view.emb y = y := by
  obtain ⟨e0, e1, e2⟩ := idx14 t
  funext a; apply Fin.ext
  match a with
  | ⟨0, _⟩ => show win0_14.index t (0 : Fin 3) * 5 + 1 * (y 0).val = (y 0).val; omega
  | ⟨1, _⟩ => show win0_14.index t (1 : Fin 3) * 256 + 1 * (y 1).val = (y 1).val; omega
  | ⟨2, _⟩ => show win0_14.index t (2 : Fin 3) * 1536 + 1 * (y 2).val = (y 2).val; omega

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)

theorem emb15 (t : Fin cfg0.N) (y : S5x256x2048.Idx) : ((cfg0.win 15).blk t).view.emb y = y := by
  obtain ⟨e0, e1, e2⟩ := idx15 t
  funext a; apply Fin.ext
  match a with
  | ⟨0, _⟩ => show win0_15.index t (0 : Fin 3) * 5 + 1 * (y 0).val = (y 0).val; omega
  | ⟨1, _⟩ => show win0_15.index t (1 : Fin 3) * 256 + 1 * (y 1).val = (y 1).val; omega
  | ⟨2, _⟩ => show win0_15.index t (2 : Fin 3) * 2048 + 1 * (y 2).val = (y 2).val; omega

/-! ## The stores of the one grid point, as payloads of the whole input arrays -/

section Stores

variable (x0 : Vec Ideal S5x256x1024 .bf16) (x1 : Vec Ideal S1024 .f32) (x2 : Vec Ideal S1024x4376 .i8) (x3 : Vec Ideal S4376 .f32) (x4 : Vec Ideal S4376 .f32) (x5 : Vec Ideal S5x256x32 .f32) (x6 : Vec Ideal S5x256x32 .f32) (x7 : Vec Ideal S2 .f32) (x8 : Vec Ideal S2 .f32)

theorem ld0 (x : Vec Ideal S5x256x1024 .bf16) : View.ld x r0_1 = x := View.ld_unit_zero hz3 _ _
theorem ld1 (x : Vec Ideal S1024 .f32) : View.ld x r0_2 = x := View.ld_unit_zero hz1 _ _
theorem ld2 (x : Vec Ideal S1024x4376 .i8) : View.ld x r0_3 = x := View.ld_unit_zero hz2 _ _
theorem ld3 (x : Vec Ideal S4376 .f32) : View.ld x r0_4 = x := View.ld_unit_zero hz1 _ _
theorem ld5 (x : Vec Ideal S5x256x32 .f32) : View.ld x r0_0 = x := View.ld_unit_zero hz3 _ _
theorem ld7 (x : Vec Ideal S2 .f32) : View.ld x r0_7 = x := View.ld_unit_zero hz1 _ _

theorem out9 : out0_9 x0 x1 x2 x3 x4 x5 x6 x7 x8 = k0_pay6 x0 x1 := by
  unfold out0_9 k0_pay20
  refine (View.canon_unit_zero hz3 _ _).trans ?_
  simp only [ld0, ld1, ld2, ld3, ld5, ld7]

theorem out10 : out0_10 x0 x1 x2 x3 x4 x5 x6 x7 x8 = k0_pay13 (k0_pay5 x0 x1) := by
  unfold out0_10 k0_pay19
  refine (View.canon_unit_zero hz3 _ _).trans ?_
  simp only [ld0, ld1, ld2, ld3, ld5, ld7]

theorem out11 : out0_11 x0 x1 x2 x3 x4 x5 x6 x7 x8 = k0_pay14 (k0_pay11 (k0_pay2 x5) (k0_pay3 x6) (k0_pay5 x0 x1) (k0_pay6 x0 x1) x2 x3 x4) := by
  unfold out0_11 k0_pay20 k0_pay19 k0_pay18 k0_pay17
  refine (View.canon_unit_zero hz3 _ _).trans ?_
  simp only [ld0, ld1, ld2, ld3, ld5, ld7]

theorem out12 : out0_12 x0 x1 x2 x3 x4 x5 x6 x7 x8 = k0_pay15 (k0_pay12 (k0_pay2 x5) (k0_pay3 x6) (k0_pay5 x0 x1) (k0_pay6 x0 x1) x2 x3 x4) x7 := by
  unfold out0_12 k0_pay20 k0_pay19 k0_pay18 k0_pay17
  refine (View.canon_unit_zero hz3 _ _).trans ?_
  simp only [ld0, ld1, ld2, ld3, ld5, ld7]

theorem out13 : out0_13 x0 x1 x2 x3 x4 x5 x6 x7 x8 = k0_pay16 (k0_pay8 (k0_pay5 x0 x1) (k0_pay6 x0 x1) x2 x3 x4) x8 := by
  unfold out0_13 k0_pay20 k0_pay19
  refine (View.canon_unit_zero hz3 _ _).trans ?_
  simp only [ld0, ld1, ld2, ld3, ld5, ld7]

theorem out14 : out0_14 x0 x1 x2 x3 x4 x5 x6 x7 x8 = k0_pay9 (k0_pay5 x0 x1) (k0_pay6 x0 x1) x2 x3 x4 := by
  unfold out0_14 k0_pay20 k0_pay19
  refine (View.canon_unit_zero hz3 _ _).trans ?_
  simp only [ld0, ld1, ld2, ld3, ld5, ld7]

theorem out15 : out0_15 x0 x1 x2 x3 x4 x5 x6 x7 x8 = k0_pay1 (k0_pay10 (k0_pay5 x0 x1) (k0_pay6 x0 x1) x2 x3 x4) := by
  unfold out0_15 k0_pay20 k0_pay19
  refine (View.canon_unit_zero hz3 _ _).trans ?_
  simp only [ld0, ld1, ld2, ld3, ld5, ld7]

end Stores

variable (m : (ℓ : Loc nD τ sig) → Buf (Elt Ideal) ℓ)

theorem V_v17 (c : Dev nD) : (V m c main_v17 : Vec Ideal S5x256x1024 .bf16)
    = transpose S5x256x1024 [1, 0, 2] (m ((c : Thread nD τ).loc main_arg0)) transposes_S256x5x1024_S5x256x1024_1_0_2 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results

theorem V_v18 (c : Dev nD) : (V m c main_v18 : Vec Ideal S5x256x32 .f32)
    = transpose S5x256x32 [1, 0, 2] (m ((c : Thread nD τ).loc main_arg5)) transposes_S256x5x32_S5x256x32_1_0_2 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results

theorem V_v19 (c : Dev nD) : (V m c main_v19 : Vec Ideal S5x256x32 .f32)
    = transpose S5x256x32 [1, 0, 2] (m ((c : Thread nD τ).loc main_arg6)) transposes_S256x5x32_S5x256x32_1_0_2 := by
  unfold_abbrev_sides
  simp only [hostOps0, hostOps0_1, hostOps0_2, hostOps0_3, hostOps0_4, hostOps0_5, hostOps0_6, hostOps0_7, hostOps0_8, List.flatten_cons, List.flatten_nil, List.cons_append, List.nil_append, List.append_nil]
  after_results

/-- The argument arrays of a launch, by coordinates, with the multipliers as computed. -/
def args (c : Dev nD) : ProjMath.Args where
  x r s l := m ((c : Thread nD τ).loc main_arg0) (ix3 r s l)
  n l := m ((c : Thread nD τ).loc main_arg1) (ix1 l)
  w x y := m ((c : Thread nD τ).loc main_arg2) (ix2 x y)
  ws l := m ((c : Thread nD τ).loc main_arg3) (ix1 l)
  cm l := (V m c main_v16 : Vec Ideal S4376 .f32) (ix1 l)
  co r s l := m ((c : Thread nD τ).loc main_arg5) (ix3 r s l)
  si r s l := m ((c : Thread nD τ).loc main_arg6) (ix3 r s l)
  ks j := m ((c : Thread nD τ).loc main_arg7) (ix1 j)
  vs j := m ((c : Thread nD τ).loc main_arg8) (ix1 j)

variable (c : Dev nD) (t : Fin 5)

theorem in0 (r : Fin 256) (l : Fin 1024) : iblk m c 0 pt (ix3 t r l) = (args m c).x r t l := by
  show V m c main_v17 (((cfg0.win 0).blk pt).view.emb (ix3 t r l)) = _
  rw [emb0, V_v17]; pointwise; rfl
theorem in1 (y : Fin 1024) : iblk m c 1 pt (ix1 y) = (args m c).n y := by
  show V m c main_arg1 (((cfg0.win 1).blk pt).view.emb (ix1 y)) = _
  rw [emb1, V_main_arg1]; rfl
theorem in2 (x : Fin 1024) (y : Fin 4376) : iblk m c 2 pt (ix2 x y) = (args m c).w x y := by
  show V m c main_arg2 (((cfg0.win 2).blk pt).view.emb (ix2 x y)) = _
  rw [emb2, V_main_arg2]; rfl
theorem in3 (y : Fin 4376) : iblk m c 3 pt (ix1 y) = (args m c).ws y := by
  show V m c main_arg3 (((cfg0.win 3).blk pt).view.emb (ix1 y)) = _
  rw [emb3, V_main_arg3]; rfl
theorem in4 (y : Fin 4376) : iblk m c 4 pt (ix1 y) = (args m c).cm y := by
  show V m c main_v16 (((cfg0.win 4).blk pt).view.emb (ix1 y)) = _
  rw [emb4]; rfl
theorem in5 (r : Fin 256) (l : Fin 32) : iblk m c 5 pt (ix3 t r l) = (args m c).co r t l := by
  show V m c main_v18 (((cfg0.win 5).blk pt).view.emb (ix3 t r l)) = _
  rw [emb5, V_v18]; pointwise; rfl
theorem in6 (r : Fin 256) (l : Fin 32) : iblk m c 6 pt (ix3 t r l) = (args m c).si r t l := by
  show V m c main_v19 (((cfg0.win 6).blk pt).view.emb (ix3 t r l)) = _
  rw [emb6, V_v19]; pointwise; rfl
theorem in7 (y : Fin 2) : iblk m c 7 pt (ix1 y) = (args m c).ks y := by
  show V m c main_arg7 (((cfg0.win 7).blk pt).view.emb (ix1 y)) = _
  rw [emb7, V_main_arg7]; rfl
theorem in8 (y : Fin 2) : iblk m c 8 pt (ix1 y) = (args m c).vs y := by
  show V m c main_arg8 (((cfg0.win 8).blk pt).view.emb (ix1 y)) = _
  rw [emb8, V_main_arg8]; rfl

/-- The scales and the codes of the normalised rows. -/
abbrev sc : FVec Ideal S5x256 .f32 := k0_pay5 (iblk m c 0 pt) (iblk m c 1 pt)
abbrev cd : IVec S5x256x1024 8 := k0_pay6 (iblk m c 0 pt) (iblk m c 1 pt)
/-- The projection. -/
abbrev pr : FVec Ideal S5x256x4376 .f32 := k0_pay7 (sc m c) (cd m c) (iblk m c 2 pt) (iblk m c 3 pt) (iblk m c 4 pt)

theorem pr_eq (r : Fin 256) (l : Fin 4376) : pr m c (ix3 t r l) = ProjMath.prod (args m c) t r l := by
  refine (pay7 _ _ _ _ _ t r l).trans ?_
  simp only [in0, in1, in2, in3, in4]
  rfl

/-! ## The result arrays -/

theorem arr9 (r : Fin 256) (l : Fin 1024) :
    (dats m 0 c).arrAt 9 cfg0.N (ix3 t r l : S5x256x1024.Idx) = ProjMath.codes (args m c) t r l := by
  have b := congrFun (Value.blocks9 m c pt (flush0_9 pt)) (ix3 t r l : S5x256x1024.Idx)
  rw [Value.flushed9, out9] at b
  have b' : (dats m 0 c).arrAt 9 cfg0.N (((cfg0.win 9).blk pt).view.emb (ix3 t r l : S5x256x1024.Idx))
      = k0_pay6 (iblk m c 0 pt) (iblk m c 1 pt) (ix3 t r l) := b
  rw [emb9] at b'
  refine b'.trans ?_
  refine (pay6 _ _ t r l).trans ?_
  simp only [in0, in1]
  rfl

theorem arr10 (r : Fin 256) (l : Fin 1) :
    (dats m 0 c).arrAt 10 cfg0.N (ix3 t r l : S5x256x1.Idx) = ProjMath.scale (args m c) t r := by
  have b := congrFun (Value.blocks10 m c pt (flush0_10 pt)) (ix3 t r l : S5x256x1.Idx)
  rw [Value.flushed10, out10] at b
  have b' : (dats m 0 c).arrAt 10 cfg0.N (((cfg0.win 10).blk pt).view.emb (ix3 t r l : S5x256x1.Idx))
      = k0_pay13 (sc m c) (ix3 t r l) := b
  rw [emb10] at b'
  refine b'.trans ?_
  refine ((pay13 _ t r l).trans (pay5 _ _ t r)).trans ?_
  simp only [in0, in1]
  rfl

theorem arr11 (r : Fin 256) (l : Fin 512) :
    (dats m 0 c).arrAt 11 cfg0.N (ix3 t r l : S5x256x512.Idx) = ProjMath.q (args m c) t r l := by
  have b := congrFun (Value.blocks11 m c pt (flush0_11 pt)) (ix3 t r l : S5x256x512.Idx)
  rw [Value.flushed11, out11] at b
  have b' : (dats m 0 c).arrAt 11 cfg0.N (((cfg0.win 11).blk pt).view.emb (ix3 t r l : S5x256x512.Idx))
      = k0_pay14 (k0_pay11 (k0_pay2 (iblk m c 5 pt)) (k0_pay3 (iblk m c 6 pt)) (sc m c) (cd m c) (iblk m c 2 pt) (iblk m c 3 pt) (iblk m c 4 pt)) (ix3 t r l) := b
  rw [emb11] at b'
  refine b'.trans ?_
  refine ((pay14 _ t r l).trans (pay11 _ _ _ _ _ _ _ t r _ _)).trans ?_
  simp only [pr_eq, pay2, pay3, in5, in6]
  exact congrArg (ProjMath.turned (args m c) t r) (Fin.ext (by show 64 * (l.val / 64) + l.val % 64 = l.val; omega))

theorem arr12 (r : Fin 256) (l : Fin 128) :
    (dats m 0 c).arrAt 12 cfg0.N (ix3 t r l : S5x256x128.Idx) = ProjMath.kc (args m c) t r l := by
  have b := congrFun (Value.blocks12 m c pt (flush0_12 pt)) (ix3 t r l : S5x256x128.Idx)
  rw [Value.flushed12, out12] at b
  have b' : (dats m 0 c).arrAt 12 cfg0.N (((cfg0.win 12).blk pt).view.emb (ix3 t r l : S5x256x128.Idx))
      = k0_pay15 (k0_pay12 (k0_pay2 (iblk m c 5 pt)) (k0_pay3 (iblk m c 6 pt)) (sc m c) (cd m c) (iblk m c 2 pt) (iblk m c 3 pt) (iblk m c 4 pt)) (iblk m c 7 pt) (ix3 t r l) := b
  rw [emb12] at b'
  refine b'.trans ?_
  refine (pay15 _ _ t r l).trans ?_
  rw [pay12]
  simp only [pr_eq, pay2, pay3, in5, in6, in7]
  exact congrArg (fun i => Row.code448 (ProjMath.turned (args m c) t r i) ((args m c).ks ⟨l.val / 64, by omega⟩))
    (Fin.ext (by show 512 + (64 * (l.val / 64) + l.val % 64) = 512 + l.val; omega))

theorem arr13 (r : Fin 256) (l : Fin 128) :
    (dats m 0 c).arrAt 13 cfg0.N (ix3 t r l : S5x256x128.Idx) = ProjMath.vc (args m c) t r l := by
  have b := congrFun (Value.blocks13 m c pt (flush0_13 pt)) (ix3 t r l : S5x256x128.Idx)
  rw [Value.flushed13, out13] at b
  have b' : (dats m 0 c).arrAt 13 cfg0.N (((cfg0.win 13).blk pt).view.emb (ix3 t r l : S5x256x128.Idx))
      = k0_pay16 (k0_pay8 (sc m c) (cd m c) (iblk m c 2 pt) (iblk m c 3 pt) (iblk m c 4 pt)) (iblk m c 8 pt) (ix3 t r l) := b
  rw [emb13] at b'
  refine b'.trans ?_
  refine (pay16 _ _ t r l).trans ?_
  rw [pay8]
  simp only [pr_eq, in8]
  rfl

theorem arr14 (r : Fin 256) (l : Fin 1536) :
    (dats m 0 c).arrAt 14 cfg0.N (ix3 t r l : S5x256x1536.Idx) = ProjMath.z (args m c) t r l := by
  have b := congrFun (Value.blocks14 m c pt (flush0_14 pt)) (ix3 t r l : S5x256x1536.Idx)
  rw [Value.flushed14, out14] at b
  have b' : (dats m 0 c).arrAt 14 cfg0.N (((cfg0.win 14).blk pt).view.emb (ix3 t r l : S5x256x1536.Idx))
      = k0_pay9 (sc m c) (cd m c) (iblk m c 2 pt) (iblk m c 3 pt) (iblk m c 4 pt) (ix3 t r l) := b
  rw [emb14] at b'
  refine b'.trans ?_
  exact (pay9 _ _ _ _ _ t r l).trans (pr_eq m c t r _)

theorem arr15 (r : Fin 256) (l : Fin 2048) :
    (dats m 0 c).arrAt 15 cfg0.N (ix3 t r l : S5x256x2048.Idx) = ProjMath.conv (args m c) t r l := by
  have b := congrFun (Value.blocks15 m c pt (flush0_15 pt)) (ix3 t r l : S5x256x2048.Idx)
  rw [Value.flushed15, out15] at b
  have b' : (dats m 0 c).arrAt 15 cfg0.N (((cfg0.win 15).blk pt).view.emb (ix3 t r l : S5x256x2048.Idx))
      = k0_pay1 (k0_pay10 (sc m c) (cd m c) (iblk m c 2 pt) (iblk m c 3 pt) (iblk m c 4 pt)) (ix3 t r l) := b
  rw [emb15] at b'
  refine b'.trans ?_
  exact ((pay1 _ t r l).trans (pay10 _ _ _ _ _ t r l)).trans (pr_eq m c t r _)

end Cert.Proof.ProjRefFinal

end
-- ==== Proof.ProjClaim.lean ====
/- The projection kernel and its reference leave the same seven result arrays when their arguments agree: each array of
   either program is the same function (ProjMath.lean) of the arguments. -/
module

public import proofs.«01_k».proof.Defs
public import proofs.«01_k».proof.Proof.ProjFinal
public import proofs.«01_k».proof.Proof.ProjIdealFrame
public import proofs.«01_k».proof.Proof.ProjRefFinal

@[expose] public section

set_option maxRecDepth 16384

noncomputable section

namespace Cert.Proof.ProjClaim

open Idealize.ShloMosaic Idealize.ShloMosaic.TcCoe Idealize.SL.Sem Cert.Proof

/-- Two arrays of rank 3 are equal when they agree at every triple of coordinates. -/
theorem ext3 {a b d : Nat} {α : Type} {f g : (⟨3, ![a, b, d]⟩ : Shape).Idx → α}
    (h : ∀ (i : Fin a) (j : Fin b) (k : Fin d), f (ix3 i j k) = g (ix3 i j k)) : f = g := by
  funext i
  have e : i = ix3 (i 0) (i 1) (i 2) := by
    funext q
    match q with
    | ⟨0, _⟩ => rfl
    | ⟨1, _⟩ => rfl
    | ⟨2, _⟩ => rfl
  rw [e]
  exact h (i 0) (i 1) (i 2)

variable (m : (ℓ : Loc ProjIdeal.nD ProjIdeal.τ ProjIdeal.sig) → Buf (Elt Ideal) ℓ)
  (m' : (ℓ : Loc ProjRefIdeal.nD ProjRefIdeal.τ ProjRefIdeal.sig) → Buf (Elt Ideal) ℓ)

/-- The arguments of the two launches agree. -/
def Agree : Prop :=
  ∀ c : Dev Cert.ProjIdeal.nD,
    m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
    ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
    ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
    ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
    ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
    ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
    ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
    ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
    ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
    ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
    ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
    ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
    ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)
    ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)
    ∧ m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14)

set_option maxHeartbeats 4000000 in
/-- The two hosts lay out the column multipliers alike, the kernel's as one row. -/
theorem cm_vec (c : Dev Cert.ProjIdeal.nD) (g : Vec Ideal Cert.ProjIdeal.S8 .f32)
    (h : m ((c : Thread Cert.ProjIdeal.nD Cert.ProjIdeal.τ).loc Cert.ProjIdeal.main_arg4) = g)
    (h' : m' ((c : Thread Cert.ProjRefIdeal.nD Cert.ProjRefIdeal.τ).loc Cert.ProjRefIdeal.main_arg4) = g) :
    (Cert.ProjIdeal.Gen.V m c Cert.ProjIdeal.main_v50 : Vec Ideal Cert.ProjIdeal.S1x4376 .f32)
      = shapeCast Cert.ProjIdeal.S1x4376 (Cert.ProjRefIdeal.Gen.V m' c Cert.ProjRefIdeal.main_v16 : Vec Ideal Cert.ProjIdeal.S4376 .f32)
          Cert.ProjIdeal.Gen.shapeCasts_S4376_S1x4376 := by
  unfold_abbrev_sides
  simp only [Cert.ProjIdeal.Gen.hostOps0, Cert.ProjIdeal.Gen.hostOps0_1, Cert.ProjIdeal.Gen.hostOps0_2, Cert.ProjIdeal.Gen.hostOps0_3, Cert.ProjIdeal.Gen.hostOps0_4, Cert.ProjIdeal.Gen.hostOps0_5, Cert.ProjIdeal.Gen.hostOps0_6, Cert.ProjIdeal.Gen.hostOps0_7, Cert.ProjIdeal.Gen.hostOps0_8,
    List.flatten_cons, List.flatten_nil, List.cons_append, List.nil_append, List.append_nil]
  after_results
  refine congrArg (fun x : Vec Ideal Cert.ProjIdeal.S4376 .f32 => shapeCast Cert.ProjIdeal.S1x4376 x Cert.ProjIdeal.Gen.shapeCasts_S4376_S1x4376) ?_
  rw [h]
  unfold_abbrev_sides
  simp only [Cert.ProjRefIdeal.Gen.hostOps0, Cert.ProjRefIdeal.Gen.hostOps0_1, Cert.ProjRefIdeal.Gen.hostOps0_2, Cert.ProjRefIdeal.Gen.hostOps0_3, Cert.ProjRefIdeal.Gen.hostOps0_4, Cert.ProjRefIdeal.Gen.hostOps0_5, Cert.ProjRefIdeal.Gen.hostOps0_6, Cert.ProjRefIdeal.Gen.hostOps0_7, Cert.ProjRefIdeal.Gen.hostOps0_8,
    List.flatten_cons, List.flatten_nil, List.cons_append, List.nil_append, List.append_nil]
  after_results
  rw [h']
  rfl

theorem cm_eq (h : Agree m m') (c : Dev Cert.ProjIdeal.nD) (l : Fin 4376) :
    (ProjRefFinal.args m' c).cm l = (ProjIn.args m c).cm l := by
  have e := congrFun (cm_vec m m' c _ rfl (h c).2.2.2.2.1) (ix2 0 l)
  refine Eq.trans ?_ e.symm
  show (Cert.ProjRefIdeal.Gen.V m' c Cert.ProjRefIdeal.main_v16 : Vec Ideal Cert.ProjIdeal.S4376 .f32) (ix1 l) = _
  exact (ValueIdx.shapeCast_a_1a_apply _ _ _ _).symm

theorem args_eq (h : Agree m m') (c : Dev Cert.ProjIdeal.nD) : ProjRefFinal.args m' c = ProjIn.args m c := by
  have hc : (ProjRefFinal.args m' c).cm = (ProjIn.args m c).cm := funext (cm_eq m m' h c)
  obtain ⟨h0, h1, h2, h3, h4, h5, h6, h7, h8, h9, h10, h11, h12, h13, h14⟩ := h c
  unfold ProjRefFinal.args ProjIn.args at hc ⊢
  congr 1
  · funext r s l; exact congrFun h0 (ix3 r s l)
  · funext l; exact congrFun h1 (ix1 l)
  · funext x y; exact congrFun h2 (ix2 x y)
  · funext l; exact congrFun h3 (ix1 l)
  · funext r s l; exact congrFun h5 (ix3 r s l)
  · funext r s l; exact congrFun h6 (ix3 r s l)
  · funext j; exact congrFun h7 (ix1 j)
  · funext j; exact congrFun h8 (ix1 j)

theorem eq18 (h : Agree m m') (c : Dev Cert.ProjIdeal.nD) :
    (ProjRefIdeal.Gen.dats m' 0 c).arrAt 9 ProjRefIdeal.cfg0.N
      = (ProjIdeal.Body.dats m 0 c).arrAt 18 ProjIdeal.cfg0.N :=
  ext3 (a := 5) (b := 256) (d := 1024) fun t r l => by
    refine (ProjRefFinal.arr9 m' c t r l).trans (Eq.trans ?_ (ProjFinal.arr18 m c t r l).symm)
    rw [args_eq m m' h c]

theorem eq19 (h : Agree m m') (c : Dev Cert.ProjIdeal.nD) :
    (ProjRefIdeal.Gen.dats m' 0 c).arrAt 10 ProjRefIdeal.cfg0.N
      = (ProjIdeal.Body.dats m 0 c).arrAt 19 ProjIdeal.cfg0.N :=
  ext3 (a := 5) (b := 256) (d := 1) fun t r l => by
    refine (ProjRefFinal.arr10 m' c t r l).trans (Eq.trans ?_ (ProjFinal.arr19 m c t r l).symm)
    rw [args_eq m m' h c]

theorem eq20 (h : Agree m m') (c : Dev Cert.ProjIdeal.nD) :
    (ProjRefIdeal.Gen.dats m' 0 c).arrAt 11 ProjRefIdeal.cfg0.N
      = (ProjIdeal.Body.dats m 0 c).arrAt 20 ProjIdeal.cfg0.N :=
  ext3 (a := 5) (b := 256) (d := 512) fun t r l => by
    refine (ProjRefFinal.arr11 m' c t r l).trans (Eq.trans ?_ (ProjFinal.arr20 m c t r l).symm)
    rw [args_eq m m' h c]

theorem eq21 (h : Agree m m') (c : Dev Cert.ProjIdeal.nD) :
    (ProjRefIdeal.Gen.dats m' 0 c).arrAt 12 ProjRefIdeal.cfg0.N
      = (ProjIdeal.Body.dats m 0 c).arrAt 21 ProjIdeal.cfg0.N :=
  ext3 (a := 5) (b := 256) (d := 128) fun t r l => by
    refine (ProjRefFinal.arr12 m' c t r l).trans (Eq.trans ?_ (ProjFinal.arr21 m c t r l).symm)
    rw [args_eq m m' h c]

theorem eq22 (h : Agree m m') (c : Dev Cert.ProjIdeal.nD) :
    (ProjRefIdeal.Gen.dats m' 0 c).arrAt 13 ProjRefIdeal.cfg0.N
      = (ProjIdeal.Body.dats m 0 c).arrAt 22 ProjIdeal.cfg0.N :=
  ext3 (a := 5) (b := 256) (d := 128) fun t r l => by
    refine (ProjRefFinal.arr13 m' c t r l).trans (Eq.trans ?_ (ProjFinal.arr22 m c t r l).symm)
    rw [args_eq m m' h c]

theorem eq23 (h : Agree m m') (c : Dev Cert.ProjIdeal.nD) :
    (ProjRefIdeal.Gen.dats m' 0 c).arrAt 14 ProjRefIdeal.cfg0.N
      = (ProjIdeal.Body.dats m 0 c).arrAt 23 ProjIdeal.cfg0.N :=
  ext3 (a := 5) (b := 256) (d := 1536) fun t r l => by
    refine (ProjRefFinal.arr14 m' c t r l).trans (Eq.trans ?_ (ProjFinal.arr23 m c t r l).symm)
    rw [args_eq m m' h c]

theorem eq24 (h : Agree m m') (c : Dev Cert.ProjIdeal.nD) :
    (ProjRefIdeal.Gen.dats m' 0 c).arrAt 15 ProjRefIdeal.cfg0.N
      = (ProjIdeal.Body.dats m 0 c).arrAt 24 ProjIdeal.cfg0.N :=
  ext3 (a := 5) (b := 256) (d := 2048) fun t r l => by
    refine (ProjRefFinal.arr15 m' c t r l).trans (Eq.trans ?_ (ProjFinal.arr24 m c t r l).symm)
    rw [args_eq m m' h c]

set_option maxHeartbeats 4000000 in
theorem algebraic : Cert.algebraic_ProjIdeal_ProjRefIdeal (hProjIdeal := Cert.ProjIdeal.Gen.facts)
    (hProjRefIdeal := Cert.ProjRefIdeal.Gen.facts) := by
  intro m ρ m' ρ' _ hag
  have hA : Agree m m' := hag
  refine ⟨fun c => (ProjIdeal.Body.dats m 0 c).arrAt 18 ProjIdeal.cfg0.N, fun c => (ProjIdeal.Body.dats m 0 c).arrAt 19 ProjIdeal.cfg0.N, fun c => (ProjIdeal.Body.dats m 0 c).arrAt 20 ProjIdeal.cfg0.N, fun c => (ProjIdeal.Body.dats m 0 c).arrAt 21 ProjIdeal.cfg0.N, fun c => (ProjIdeal.Body.dats m 0 c).arrAt 22 ProjIdeal.cfg0.N, fun c => (ProjIdeal.Body.dats m 0 c).arrAt 23 ProjIdeal.cfg0.N, fun c => (ProjIdeal.Body.dats m 0 c).arrAt 24 ProjIdeal.cfg0.N,
    ?_,
    (θ_run ProjRefIdeal.defs _ _).mono (fun r h c => ?_) (ProjRefIdeal.Value.run_blocks m' ρ')⟩
  · exact (θ_run ProjIdeal.defs _ _).mono (fun r h c => h c) (ProjIdeal.Body.run_blocks m ρ)
  obtain ⟨a0, a1, a2, a3, a4, a5, a6, k⟩ := h c
  exact ⟨a0.trans (eq18 m m' hA c), a1.trans (eq19 m m' hA c), a2.trans (eq20 m m' hA c), a3.trans (eq21 m m' hA c), a4.trans (eq22 m m' hA c), a5.trans (eq23 m m' hA c), a6.trans (eq24 m m' hA c), k⟩

end Cert.Proof.ProjClaim

end
-- ==== Proof.SsmSpec.lean ====
/- The state-space branch as mathematics: the state recursion of one row and one column, the closed form of its outputs,
   and each result of the two programs as a function of the argument arrays. -/
module

public import proofs.«01_k».proof.Proof.RowSpec

@[expose] public section

noncomputable section

namespace Cert.Proof.Row

open Idealize.ShloMosaic

/-- The recursion of one column's state: the decays `a`, the inputs `d`, the input and output vectors `b` and `c`, and the
    starting state as codes `q` and their scale `s`. -/
structure Ssm where
  a : Fin 5 → EReal
  d : Fin 5 → EReal
  b : Fin 5 → Fin 128 → EReal
  c : Fin 5 → Fin 128 → EReal
  q : Fin 128 → EReal
  s : EReal

namespace Ssm

variable (S : Ssm)

/-- The state after each step. -/
def st0 (n : Fin 128) : EReal := S.a 0 * (S.q n * S.s) + S.d 0 * S.b 0 n
def st1 (n : Fin 128) : EReal := S.a 1 * S.st0 n + S.d 1 * S.b 1 n
def st2 (n : Fin 128) : EReal := S.a 2 * S.st1 n + S.d 2 * S.b 2 n
def st3 (n : Fin 128) : EReal := S.a 3 * S.st2 n + S.d 3 * S.b 3 n
def st4 (n : Fin 128) : EReal := S.a 4 * S.st3 n + S.d 4 * S.b 4 n

/-- The state after step `t`. -/
def st : Fin 5 → Fin 128 → EReal := ![S.st0, S.st1, S.st2, S.st3, S.st4]

/-- The output of step `t`: the state's product with the output vector. -/
def out (t : Fin 5) : EReal := ∑ n, S.st t n * S.c t n

/-- The product of the codes with step `t`'s output vector, and of step `i`'s input vector with it. -/
def qc (t : Fin 5) : EReal := ∑ n, S.q n * S.c t n
def bc (i t : Fin 5) : EReal := ∑ n, S.b i n * S.c t n

/-- The output of each step without the state: the decayed product of the codes, and the decayed inputs so far. -/
def k0 : EReal := S.a 0 * (S.s * S.qc 0) + S.bc 0 0 * S.d 0
def k1 : EReal := S.a 0 * S.a 1 * (S.s * S.qc 1) + S.bc 0 1 * (S.d 0 * S.a 1) + S.bc 1 1 * S.d 1
def k2 : EReal := S.a 0 * S.a 1 * S.a 2 * (S.s * S.qc 2) + S.bc 0 2 * (S.d 0 * S.a 1 * S.a 2) + S.bc 1 2 * (S.d 1 * S.a 2)
  + S.bc 2 2 * S.d 2
def k3 : EReal := S.a 0 * S.a 1 * S.a 2 * S.a 3 * (S.s * S.qc 3) + S.bc 0 3 * (S.d 0 * S.a 1 * S.a 2 * S.a 3)
  + S.bc 1 3 * (S.d 1 * S.a 2 * S.a 3) + S.bc 2 3 * (S.d 2 * S.a 3) + S.bc 3 3 * S.d 3
def k4 : EReal := S.a 0 * S.a 1 * S.a 2 * S.a 3 * S.a 4 * (S.s * S.qc 4) + S.bc 0 4 * (S.d 0 * S.a 1 * S.a 2 * S.a 3 * S.a 4)
  + S.bc 1 4 * (S.d 1 * S.a 2 * S.a 3 * S.a 4) + S.bc 2 4 * (S.d 2 * S.a 3 * S.a 4) + S.bc 3 4 * (S.d 3 * S.a 4)
  + S.bc 4 4 * S.d 4

def k : Fin 5 → EReal := ![S.k0, S.k1, S.k2, S.k3, S.k4]

/-- Every number of the recursion is finite. -/
structure Finite : Prop where
  a : ∀ t, ∃ x : ℝ, S.a t = x
  d : ∀ t, ∃ x : ℝ, S.d t = x
  b : ∀ t n, ∃ x : ℝ, S.b t n = x
  c : ∀ t n, ∃ x : ℝ, S.c t n = x
  q : ∀ n, ∃ x : ℝ, S.q n = x
  s : ∃ x : ℝ, S.s = x

theorem coe_sum {n : Nat} (f : Fin n → ℝ) : ((∑ i, f i : ℝ) : EReal) = ∑ i, (f i : EReal) := by
  induction n with
  | zero => simp
  | succ n ih => rw [Fin.sum_univ_succ, Fin.sum_univ_succ, EReal.coe_add, ih]

/-- With finite numbers the recursion's output is the closed form. -/
theorem out_eq (h : S.Finite) (t : Fin 5) : S.out t = S.k t := by
  obtain ⟨ha, hd, hb, hc, hq, s, hs⟩ := h
  choose a ha using ha
  choose d hd using hd
  choose b hb using hb
  choose c hc using hc
  choose q hq using hq
  obtain rfl : S = ⟨fun t => a t, fun t => d t, fun t n => b t n, fun t n => c t n, fun n => q n, s⟩ := by
    cases S
    simp only [Ssm.mk.injEq]
    exact ⟨funext ha, funext hd, funext fun t => funext (hb t), funext fun t => funext (hc t), funext hq, hs⟩
  match t with
  | ⟨0, _⟩ =>
    show (∑ n, st0 _ n * Ssm.c _ 0 n) = k0 _
    simp only [st0, k0, qc, bc, ← EReal.coe_mul, ← EReal.coe_add, ← coe_sum]
    refine congrArg _ ?_
    simp only [Finset.mul_sum, Finset.sum_mul, ← Finset.sum_add_distrib]
    exact Finset.sum_congr rfl fun n _ => by ring
  | ⟨1, _⟩ =>
    show (∑ n, st1 _ n * Ssm.c _ 1 n) = k1 _
    simp only [st0, st1, k1, qc, bc, ← EReal.coe_mul, ← EReal.coe_add, ← coe_sum]
    refine congrArg _ ?_
    simp only [Finset.mul_sum, Finset.sum_mul, ← Finset.sum_add_distrib]
    exact Finset.sum_congr rfl fun n _ => by ring
  | ⟨2, _⟩ =>
    show (∑ n, st2 _ n * Ssm.c _ 2 n) = k2 _
    simp only [st0, st1, st2, k2, qc, bc, ← EReal.coe_mul, ← EReal.coe_add, ← coe_sum]
    refine congrArg _ ?_
    simp only [Finset.mul_sum, Finset.sum_mul, ← Finset.sum_add_distrib]
    exact Finset.sum_congr rfl fun n _ => by ring
  | ⟨3, _⟩ =>
    show (∑ n, st3 _ n * Ssm.c _ 3 n) = k3 _
    simp only [st0, st1, st2, st3, k3, qc, bc, ← EReal.coe_mul, ← EReal.coe_add, ← coe_sum]
    refine congrArg _ ?_
    simp only [Finset.mul_sum, Finset.sum_mul, ← Finset.sum_add_distrib]
    exact Finset.sum_congr rfl fun n _ => by ring
  | ⟨4, _⟩ =>
    show (∑ n, st4 _ n * Ssm.c _ 4 n) = k4 _
    simp only [st0, st1, st2, st3, st4, k4, qc, bc, ← EReal.coe_mul, ← EReal.coe_add, ← coe_sum]
    refine congrArg _ ?_
    simp only [Finset.mul_sum, Finset.sum_mul, ← Finset.sum_add_distrib]
    exact Finset.sum_congr rfl fun n _ => by ring

end Ssm

/-- The root-mean-square normalisation of a group of 768 entries, times a weight. -/
def rms768 (v w : Fin 768 → EReal) (l : Fin 768) : EReal :=
  Ideal.div (v l) (Ideal.sqrt (Ideal.div (∑ x, v x * v x) (Ideal.ofBits .f32 1145044992#32) + Ideal.ofBits .f32 925353388#32)) * w l

/-- A row of 1536 entries normalised in its two groups. -/
def rms2 (v w : Fin 1536 → EReal) (l : Fin 1536) : EReal :=
  rms768 (fun p => v ⟨768 * (l.val / 768) + p, by omega⟩) (fun p => w ⟨768 * (l.val / 768) + p, by omega⟩) ⟨l.val % 768, by omega⟩

/-- The recursion's output with the skipped input, gated. -/
def gate (y d x z : EReal) : EReal := (y + d * x) * (z * Ideal.logistic z)

end Cert.Proof.Row

namespace Cert.Proof.SsmSpec

open Idealize.ShloMosaic

/-- The argument arrays, by coordinates. -/
structure Args where
  xs : Fin 5 → Fin 256 → Fin 1536 → EReal
  bc : Fin 5 → Fin 256 → Fin 512 → EReal
  dt : Fin 5 → Fin 256 → Fin 64 → EReal
  z : Fin 5 → Fin 256 → Fin 1536 → EReal
  q : Fin 256 → Fin 1536 → Fin 128 → EReal
  s : Fin 256 → Fin 1536 → EReal
  ds : Fin 24 → EReal
  gn : Fin 1536 → EReal
  w : Fin 1536 → Fin 1024 → BitVec 8
  ws : Fin 1024 → EReal

variable (A : Args)

/-- The recursion of row `r` and column `l`: 64 columns to a head, 768 to a group. -/
def col (r : Fin 256) (l : Fin 1536) : Row.Ssm where
  a t := A.dt t r ⟨32 + l.val / 64, by omega⟩
  d t := A.dt t r ⟨l.val / 64, by omega⟩ * A.xs t r l
  b t n := A.bc t r ⟨128 * (l.val / 768) + n, by omega⟩
  c t n := A.bc t r ⟨256 + (128 * (l.val / 768) + n), by omega⟩
  q := A.q r l
  s := A.s r l

/-- The gated output of step `t` from the outputs `y` of the recursion. -/
def gated (y : Fin 5 → Fin 256 → Fin 1536 → EReal) (t : Fin 5) (r : Fin 256) (l : Fin 1536) : EReal :=
  Row.gate (y t r l) (A.ds ⟨l.val / 64, by omega⟩) (A.xs t r l) (A.z t r l)

/-- The branch's output: the gated output, normalised by groups. -/
def norm (y : Fin 5 → Fin 256 → Fin 1536 → EReal) (t : Fin 5) (r : Fin 256) : Fin 1536 → EReal :=
  Row.rms2 (gated A y t r) A.gn

/-- The arrays of the recursion are finite. -/
structure Finite : Prop where
  xs : ∀ t r l, ∃ x : ℝ, A.xs t r l = x
  bc : ∀ t r l, ∃ x : ℝ, A.bc t r l = x
  d : ∀ t r (h : Fin 24), ∃ x : ℝ, A.dt t r ⟨h, by omega⟩ = x
  a : ∀ t r (h : Fin 24), ∃ x : ℝ, A.dt t r ⟨32 + h, by omega⟩ = x
  q : ∀ r l n, ∃ x : ℝ, A.q r l n = x
  s : ∀ r l, ∃ x : ℝ, A.s r l = x

theorem finite_col (h : Finite A) (r : Fin 256) (l : Fin 1536) : (col A r l).Finite where
  a t := h.a t r ⟨l.val / 64, by omega⟩
  d t := by
    obtain ⟨x, hx⟩ := h.d t r ⟨l.val / 64, by omega⟩
    obtain ⟨y, hy⟩ := h.xs t r l
    exact ⟨x * y, by show A.dt _ _ _ * A.xs _ _ _ = _; rw [hx, hy, EReal.coe_mul]⟩
  b _ _ := h.bc _ _ _
  c _ _ := h.bc _ _ _
  q _ := h.q _ _ _
  s := h.s _ _

/-- The recursion's outputs, and their closed form. -/
def outs : Fin 5 → Fin 256 → Fin 1536 → EReal := fun t r l => (col A r l).out t
def closed : Fin 5 → Fin 256 → Fin 1536 → EReal := fun t r l => (col A r l).k t

theorem outs_eq (h : Finite A) : outs A = closed A :=
  funext fun t => funext fun r => funext fun l => Row.Ssm.out_eq _ (finite_col A h r l) t

end Cert.Proof.SsmSpec

end
-- ==== Proof.SsmStage.lean ====
/- The stages of the state-space kernel's step, and each stored piece of its result blocks as the stages of its loads. -/
module

public import proofs.«01_k».proof.Proof.SsmSpec
public import proofs.«01_k».proof.Proof.Gen.SsmIdeal.Frame

@[expose] public section

set_option maxRecDepth 16384

noncomputable section

namespace Cert.Proof.SsmStage

open Idealize.ShloMosaic Cert.SsmIdeal Cert.SsmIdeal.Gen Cert.Proof

variable {F : FTy → Type} [FloatOps F]

/-- What one point of the grid loads: the decays and steps, the inputs, the input and output vectors, the products of the
    codes and the gates of each step; the heads' columns, the codes' scales, the skip and the two halves of the weight. -/
structure Loads (F : FTy → Type) where
  a : Fin 5 → Vec F S1x64x24 .f32
  d : Fin 5 → Vec F S1x64x24 .f32
  xs : Fin 5 → Vec F S1x64x1536 .f32
  b : Fin 5 → Vec F S1x64x256 .f32
  c : Fin 5 → Vec F S1x64x256 .f32
  sz : Fin 5 → Vec F S64x1x1536 .f32
  z : Fin 5 → Vec F S1x64x1536 .f32
  e : Vec F S24x1536 .f32
  sc : Vec F S64x1536 .f32
  ds : Vec F S1x1536 .f32
  g0 : Vec F S1x768 .f32
  g1 : Vec F S1x768 .f32

variable (L : Loads F)

/-- The decay of a step, spread over the columns, and the step's input. -/
def dec (t : Fin 5) : FVec F S64x1536 .f32 := k0_pay4 L.e (L.a t)
def inp (t : Fin 5) : FVec F S64x1536 .f32 := k0_pay6 L.e (L.xs t) (L.d t)

/-- The product of the codes with a step's output vector, scaled. -/
def start (t : Fin 5) : FVec F S64x1536 .f32 :=
  mulf (show FVec F S64x1536 .f32 from L.sc) (shapeCast S64x1536 (L.sz t) shapeCasts_S64x1x1536_S64x1536)

/-- The product of step `i`'s input vector with step `t`'s output vector, of each group, spread over the group's columns. -/
def pair (i t : Fin 5) : FVec F S64x1536 .f32 :=
  concatenate S64x1536 1 [⟨S64x768, k0_pay9 (L.b i) (L.c t)⟩,
    ⟨S64x768, broadcastTo S64x768 (shapeCast S64x1 (k0_pay10 (L.b i) (L.c t)) shapeCasts_S64x1_S64x1) broadcasts_S64x1_S64x768⟩]
    concatenates_S64x768_S64x768_S64x1536_d1

/-- The output of the recursion after each step. -/
def core0 : FVec F S64x1536 .f32 :=
  addf (mulf (dec L 0) (start L 0)) (mulf (pair L 0 0) (inp L 0))
def core1 : FVec F S64x1536 .f32 :=
  addf (addf (mulf (mulf (dec L 0) (dec L 1)) (start L 1)) (mulf (pair L 0 1) (mulf (inp L 0) (dec L 1)))) (mulf (pair L 1 1) (inp L 1))
def core2 : FVec F S64x1536 .f32 :=
  addf (addf (addf (mulf (mulf (mulf (dec L 0) (dec L 1)) (dec L 2)) (start L 2)) (mulf (pair L 0 2) (mulf (mulf (inp L 0) (dec L 1)) (dec L 2)))) (mulf (pair L 1 2) (mulf (inp L 1) (dec L 2)))) (mulf (pair L 2 2) (inp L 2))
def core3 : FVec F S64x1536 .f32 :=
  addf (addf (addf (addf (mulf (mulf (mulf (mulf (dec L 0) (dec L 1)) (dec L 2)) (dec L 3)) (start L 3)) (mulf (pair L 0 3) (mulf (mulf (mulf (inp L 0) (dec L 1)) (dec L 2)) (dec L 3)))) (mulf (pair L 1 3) (mulf (mulf (inp L 1) (dec L 2)) (dec L 3)))) (mulf (pair L 2 3) (mulf (inp L 2) (dec L 3)))) (mulf (pair L 3 3) (inp L 3))
def core4 : FVec F S64x1536 .f32 :=
  addf (addf (addf (addf (addf (mulf (mulf (mulf (mulf (mulf (dec L 0) (dec L 1)) (dec L 2)) (dec L 3)) (dec L 4)) (start L 4)) (mulf (pair L 0 4) (mulf (mulf (mulf (mulf (inp L 0) (dec L 1)) (dec L 2)) (dec L 3)) (dec L 4)))) (mulf (pair L 1 4) (mulf (mulf (mulf (inp L 1) (dec L 2)) (dec L 3)) (dec L 4)))) (mulf (pair L 2 4) (mulf (mulf (inp L 2) (dec L 3)) (dec L 4)))) (mulf (pair L 3 4) (mulf (inp L 3) (dec L 4)))) (mulf (pair L 4 4) (inp L 4))

/-- The gated output of a step. -/
def gateV (y : FVec F S64x1536 .f32) (t : Fin 5) : FVec F S64x1536 .f32 :=
  mulf (addf y (mulf (broadcastTo S64x1536 (shapeCast S1x1536 L.ds shapeCasts_S1x1536_S1x1536) broadcasts_S1x1536_S64x1536) (k0_pay3 (L.xs t))))
    (mulf (k0_pay3 (L.z t)) (logistic (k0_pay3 (L.z t))))

/-- A group of 768 columns, normalised. -/
def normV (v : FVec F S64x768 .f32) (g : Vec F S1x768 .f32) : FVec F S64x768 .f32 :=
  mulf (divf v (broadcastTo S64x768 (sqrt (addf (divf
    (shapeCast S64x1 (multiReduction .add [1] S64 (mulf v v) 0x00000000#32 reduces_S64x768_S64 (.inl rfl) rfl) shapeCasts_S64_S64x1)
    (broadcast S64x1 (Scalar.ofBits .f32 0x44400000#32))) (broadcast S64x1 (Scalar.ofBits .f32 0x3727C5AC#32))))
    broadcasts_S64x1_S64x768))
    (broadcastTo S64x768 (shapeCast S1x768 g shapeCasts_S1x768_S1x768) broadcasts_S1x768_S64x768)

/-- The two normalised groups of a step. -/
def lo (y : FVec F S64x1536 .f32) (t : Fin 5) : FVec F S64x768 .f32 :=
  normV (extractStridedSlice S64x768 ![0, 0] (gateV L y t) slices_S64x1536_o0_0_S64x768) L.g0
def hi (y : FVec F S64x1536 .f32) (t : Fin 5) : FVec F S64x768 .f32 :=
  normV (extractStridedSlice S64x768 ![0, 768] (gateV L y t) slices_S64x1536_o0_768_S64x768) L.g1

/-- The loads of one point of the grid, from its blocks. -/
def loads (x0 : Vec F S5x64x1536 .f32) (x1 : Vec F S5x64x512 .f32) (x2 : Vec F S5x64x64 .f32) (x3 : Vec F S5x64x1536 .f32) (x4 : Vec F S64x8x1664 .f32)
    (x5 : Vec F S64x1536 .f32) (x6 : Vec F S1x1536 .f32) (x7 : Vec F S1x1536 .f32) (x8 : Vec F S24x1536 .f32) (x9 : Vec F S1536x1024 .i8)
    (x10 : Vec F S1x1024 .f32) : Loads F where
  a := ![View.ld x2 r0_3, View.ld x2 r0_16, View.ld x2 r0_24, View.ld x2 r0_32, View.ld x2 r0_40]
  d := ![View.ld x2 r0_5, View.ld x2 r0_18, View.ld x2 r0_26, View.ld x2 r0_34, View.ld x2 r0_42]
  xs := ![View.ld x0 r0_2, View.ld x0 r0_15, View.ld x0 r0_23, View.ld x0 r0_31, View.ld x0 r0_39]
  b := ![View.ld x1 r0_4, View.ld x1 r0_17, View.ld x1 r0_25, View.ld x1 r0_33, View.ld x1 r0_41]
  c := ![View.ld x1 r0_8, View.ld x1 r0_20, View.ld x1 r0_28, View.ld x1 r0_36, View.ld x1 r0_44]
  sz := ![View.ld x4 r0_7, View.ld x4 r0_19, View.ld x4 r0_27, View.ld x4 r0_35, View.ld x4 r0_43]
  z := ![View.ld x3 r0_2, View.ld x3 r0_15, View.ld x3 r0_23, View.ld x3 r0_31, View.ld x3 r0_39]
  e := View.ld x8 r0_0
  sc := View.ld x5 r0_6
  ds := View.ld x6 r0_9
  g0 := View.ld x7 r0_10
  g1 := View.ld x7 r0_11

variable (x0 : Vec F S5x64x1536 .f32) (x1 : Vec F S5x64x512 .f32) (x2 : Vec F S5x64x64 .f32) (x3 : Vec F S5x64x1536 .f32) (x4 : Vec F S64x8x1664 .f32)
    (x5 : Vec F S64x1536 .f32) (x6 : Vec F S1x1536 .f32) (x7 : Vec F S1x1536 .f32) (x8 : Vec F S24x1536 .f32) (x9 : Vec F S1536x1024 .i8)
    (x10 : Vec F S1x1024 .f32)

theorem piece11_0 : k0_pay15 (k0_pay122 x0 x1 x2 x3 x4 x5 x6 x7 x8 x9 x10) (k0_pay123 x0 x1 x2 x3 x4 x5 x6 x7 x8 x9 x10)
    = k0_pay15 (lo (loads x0 x1 x2 x3 x4 x5 x6 x7 x8 x9 x10) (core0 (loads x0 x1 x2 x3 x4 x5 x6 x7 x8 x9 x10)) 0) (hi (loads x0 x1 x2 x3 x4 x5 x6 x7 x8 x9 x10) (core0 (loads x0 x1 x2 x3 x4 x5 x6 x7 x8 x9 x10)) 0) := rfl

theorem piece11_1 : k0_pay39 (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10)
    = k0_pay15 (lo (loads x0 x1 x2 x3 x4 x5 x6 x7 x8 x9 x10) (core1 (loads x0 x1 x2 x3 x4 x5 x6 x7 x8 x9 x10)) 1) (hi (loads x0 x1 x2 x3 x4 x5 x6 x7 x8 x9 x10) (core1 (loads x0 x1 x2 x3 x4 x5 x6 x7 x8 x9 x10)) 1) := rfl

theorem piece11_2 : k0_pay55 (k0_pay142 x0 x1 x2 x3 x4 x5 x6 x7 x8 x9 x10) (View.ld x3 r0_23) (View.ld x7 r0_10) (View.ld x7 r0_11)
    = k0_pay15 (lo (loads x0 x1 x2 x3 x4 x5 x6 x7 x8 x9 x10) (core2 (loads x0 x1 x2 x3 x4 x5 x6 x7 x8 x9 x10)) 2) (hi (loads x0 x1 x2 x3 x4 x5 x6 x7 x8 x9 x10) (core2 (loads x0 x1 x2 x3 x4 x5 x6 x7 x8 x9 x10)) 2) := rfl

theorem piece11_3 : k0_pay82 (k0_pay156 x0 x1 x2 x3 x4 x5 x6 x7 x8 x9 x10) (k0_pay157 x0 x1 x2 x3 x4 x5 x6 x7 x8 x9 x10) (k0_pay158 x0 x1 x2 x3 x4 x5 x6 x7 x8 x9 x10) (k0_pay159 x0 x1 x2 x3 x4 x5 x6 x7 x8 x9 x10) (View.ld x7 r0_11)
    = k0_pay15 (lo (loads x0 x1 x2 x3 x4 x5 x6 x7 x8 x9 x10) (core3 (loads x0 x1 x2 x3 x4 x5 x6 x7 x8 x9 x10)) 3) (hi (loads x0 x1 x2 x3 x4 x5 x6 x7 x8 x9 x10) (core3 (loads x0 x1 x2 x3 x4 x5 x6 x7 x8 x9 x10)) 3) := rfl

theorem piece11_4 : k0_pay106 (k0_pay171 x0 x1 x2 x3 x4 x5 x6 x7 x8 x9 x10) (k0_pay172 x0 x1 x2 x3 x4 x5 x6 x7 x8 x9 x10) (View.ld x7 r0_10) (View.ld x7 r0_11)
    = k0_pay15 (lo (loads x0 x1 x2 x3 x4 x5 x6 x7 x8 x9 x10) (core4 (loads x0 x1 x2 x3 x4 x5 x6 x7 x8 x9 x10)) 4) (hi (loads x0 x1 x2 x3 x4 x5 x6 x7 x8 x9 x10) (core4 (loads x0 x1 x2 x3 x4 x5 x6 x7 x8 x9 x10)) 4) := rfl

theorem piece12_0 : k0_pay21 (k0_pay20 (k0_pay114 x0 x1 x2 x3 x4 x5 x6 x7 x8 x9 x10) (k0_pay122 x0 x1 x2 x3 x4 x5 x6 x7 x8 x9 x10) (k0_pay123 x0 x1 x2 x3 x4 x5 x6 x7 x8 x9 x10) (View.ld x10 r0_13))
    = k0_pay21 (k0_pay20 (k0_pay2 (View.ld x9 r0_1)) (lo (loads x0 x1 x2 x3 x4 x5 x6 x7 x8 x9 x10) (core0 (loads x0 x1 x2 x3 x4 x5 x6 x7 x8 x9 x10)) 0) (hi (loads x0 x1 x2 x3 x4 x5 x6 x7 x8 x9 x10) (core0 (loads x0 x1 x2 x3 x4 x5 x6 x7 x8 x9 x10)) 0) (View.ld x10 r0_13)) := rfl

theorem piece12_1 : k0_pay44 (k0_pay114 x0 x1 x2 x3 x4 x5 x6 x7 x8 x9 x10) (k0_pay40 (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10)) (k0_pay41 (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10)) (View.ld x10 r0_13)
    = k0_pay21 (k0_pay20 (k0_pay2 (View.ld x9 r0_1)) (lo (loads x0 x1 x2 x3 x4 x5 x6 x7 x8 x9 x10) (core1 (loads x0 x1 x2 x3 x4 x5 x6 x7 x8 x9 x10)) 1) (hi (loads x0 x1 x2 x3 x4 x5 x6 x7 x8 x9 x10) (core1 (loads x0 x1 x2 x3 x4 x5 x6 x7 x8 x9 x10)) 1) (View.ld x10 r0_13)) := rfl

theorem piece12_2 : k0_pay62 (k0_pay114 x0 x1 x2 x3 x4 x5 x6 x7 x8 x9 x10) (k0_pay143 x0 x1 x2 x3 x4 x5 x6 x7 x8 x9 x10) (k0_pay144 x0 x1 x2 x3 x4 x5 x6 x7 x8 x9 x10) (k0_pay145 x0 x1 x2 x3 x4 x5 x6 x7 x8 x9 x10) (View.ld x10 r0_13)
    = k0_pay21 (k0_pay20 (k0_pay2 (View.ld x9 r0_1)) (lo (loads x0 x1 x2 x3 x4 x5 x6 x7 x8 x9 x10) (core2 (loads x0 x1 x2 x3 x4 x5 x6 x7 x8 x9 x10)) 2) (hi (loads x0 x1 x2 x3 x4 x5 x6 x7 x8 x9 x10) (core2 (loads x0 x1 x2 x3 x4 x5 x6 x7 x8 x9 x10)) 2) (View.ld x10 r0_13)) := rfl

theorem piece12_3 : k0_pay89 (k0_pay114 x0 x1 x2 x3 x4 x5 x6 x7 x8 x9 x10) (k0_pay160 x0 x1 x2 x3 x4 x5 x6 x7 x8 x9 x10) (k0_pay161 x0 x1 x2 x3 x4 x5 x6 x7 x8 x9 x10) 127#32 (k0_pay85 (F := F)) (View.ld x10 r0_13)
    = k0_pay21 (k0_pay20 (k0_pay2 (View.ld x9 r0_1)) (lo (loads x0 x1 x2 x3 x4 x5 x6 x7 x8 x9 x10) (core3 (loads x0 x1 x2 x3 x4 x5 x6 x7 x8 x9 x10)) 3) (hi (loads x0 x1 x2 x3 x4 x5 x6 x7 x8 x9 x10) (core3 (loads x0 x1 x2 x3 x4 x5 x6 x7 x8 x9 x10)) 3) (View.ld x10 r0_13)) := rfl

theorem piece12_4 : k0_pay112 (k0_pay114 x0 x1 x2 x3 x4 x5 x6 x7 x8 x9 x10) (k0_pay173 x0 x1 x2 x3 x4 x5 x6 x7 x8 x9 x10) (k0_pay174 x0 x1 x2 x3 x4 x5 x6 x7 x8 x9 x10) (k0_pay175 x0 x1 x2 x3 x4 x5 x6 x7 x8 x9 x10) (View.ld x10 r0_13)
    = k0_pay21 (k0_pay20 (k0_pay2 (View.ld x9 r0_1)) (lo (loads x0 x1 x2 x3 x4 x5 x6 x7 x8 x9 x10) (core4 (loads x0 x1 x2 x3 x4 x5 x6 x7 x8 x9 x10)) 4) (hi (loads x0 x1 x2 x3 x4 x5 x6 x7 x8 x9 x10) (core4 (loads x0 x1 x2 x3 x4 x5 x6 x7 x8 x9 x10)) 4) (View.ld x10 r0_13)) := rfl

theorem piece13_0 : k0_pay18 (k0_pay122 x0 x1 x2 x3 x4 x5 x6 x7 x8 x9 x10) (k0_pay123 x0 x1 x2 x3 x4 x5 x6 x7 x8 x9 x10)
    = k0_pay18 (lo (loads x0 x1 x2 x3 x4 x5 x6 x7 x8 x9 x10) (core0 (loads x0 x1 x2 x3 x4 x5 x6 x7 x8 x9 x10)) 0) (hi (loads x0 x1 x2 x3 x4 x5 x6 x7 x8 x9 x10) (core0 (loads x0 x1 x2 x3 x4 x5 x6 x7 x8 x9 x10)) 0) := rfl

theorem piece13_1 : k0_pay42 (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10)
    = k0_pay18 (lo (loads x0 x1 x2 x3 x4 x5 x6 x7 x8 x9 x10) (core1 (loads x0 x1 x2 x3 x4 x5 x6 x7 x8 x9 x10)) 1) (hi (loads x0 x1 x2 x3 x4 x5 x6 x7 x8 x9 x10) (core1 (loads x0 x1 x2 x3 x4 x5 x6 x7 x8 x9 x10)) 1) := rfl

theorem piece13_2 : k0_pay60 (k0_pay143 x0 x1 x2 x3 x4 x5 x6 x7 x8 x9 x10) (k0_pay144 x0 x1 x2 x3 x4 x5 x6 x7 x8 x9 x10) (k0_pay145 x0 x1 x2 x3 x4 x5 x6 x7 x8 x9 x10)
    = k0_pay18 (lo (loads x0 x1 x2 x3 x4 x5 x6 x7 x8 x9 x10) (core2 (loads x0 x1 x2 x3 x4 x5 x6 x7 x8 x9 x10)) 2) (hi (loads x0 x1 x2 x3 x4 x5 x6 x7 x8 x9 x10) (core2 (loads x0 x1 x2 x3 x4 x5 x6 x7 x8 x9 x10)) 2) := rfl

theorem piece13_3 : k0_pay87 (k0_pay161 x0 x1 x2 x3 x4 x5 x6 x7 x8 x9 x10) 127#32 (k0_pay85 (F := F))
    = k0_pay18 (lo (loads x0 x1 x2 x3 x4 x5 x6 x7 x8 x9 x10) (core3 (loads x0 x1 x2 x3 x4 x5 x6 x7 x8 x9 x10)) 3) (hi (loads x0 x1 x2 x3 x4 x5 x6 x7 x8 x9 x10) (core3 (loads x0 x1 x2 x3 x4 x5 x6 x7 x8 x9 x10)) 3) := rfl

theorem piece13_4 : k0_pay110 (k0_pay173 x0 x1 x2 x3 x4 x5 x6 x7 x8 x9 x10) (k0_pay175 x0 x1 x2 x3 x4 x5 x6 x7 x8 x9 x10)
    = k0_pay18 (lo (loads x0 x1 x2 x3 x4 x5 x6 x7 x8 x9 x10) (core4 (loads x0 x1 x2 x3 x4 x5 x6 x7 x8 x9 x10)) 4) (hi (loads x0 x1 x2 x3 x4 x5 x6 x7 x8 x9 x10) (core4 (loads x0 x1 x2 x3 x4 x5 x6 x7 x8 x9 x10)) 4) := rfl

theorem piece14_0 : k0_pay19 (k0_pay122 x0 x1 x2 x3 x4 x5 x6 x7 x8 x9 x10) (k0_pay123 x0 x1 x2 x3 x4 x5 x6 x7 x8 x9 x10)
    = k0_pay19 (lo (loads x0 x1 x2 x3 x4 x5 x6 x7 x8 x9 x10) (core0 (loads x0 x1 x2 x3 x4 x5 x6 x7 x8 x9 x10)) 0) (hi (loads x0 x1 x2 x3 x4 x5 x6 x7 x8 x9 x10) (core0 (loads x0 x1 x2 x3 x4 x5 x6 x7 x8 x9 x10)) 0) := rfl

theorem piece14_1 : k0_pay43 (k0_pay133 x0 x1 x2 x3 x4 x5 x6 x7 x8 x9 x10) (k0_pay134 x0 x1 x2 x3 x4 x5 x6 x7 x8 x9 x10) (k0_pay135 x0 x1 x2 x3 x4 x5 x6 x7 x8 x9 x10) (k0_pay136 x0 x1 x2 x3 x4 x5 x6 x7 x8 x9 x10)
    = k0_pay19 (lo (loads x0 x1 x2 x3 x4 x5 x6 x7 x8 x9 x10) (core1 (loads x0 x1 x2 x3 x4 x5 x6 x7 x8 x9 x10)) 1) (hi (loads x0 x1 x2 x3 x4 x5 x6 x7 x8 x9 x10) (core1 (loads x0 x1 x2 x3 x4 x5 x6 x7 x8 x9 x10)) 1) := rfl

theorem piece14_2 : k0_pay61 (k0_pay144 x0 x1 x2 x3 x4 x5 x6 x7 x8 x9 x10) (k0_pay145 x0 x1 x2 x3 x4 x5 x6 x7 x8 x9 x10)
    = k0_pay19 (lo (loads x0 x1 x2 x3 x4 x5 x6 x7 x8 x9 x10) (core2 (loads x0 x1 x2 x3 x4 x5 x6 x7 x8 x9 x10)) 2) (hi (loads x0 x1 x2 x3 x4 x5 x6 x7 x8 x9 x10) (core2 (loads x0 x1 x2 x3 x4 x5 x6 x7 x8 x9 x10)) 2) := rfl

theorem piece14_3 : k0_pay88 (k0_pay160 x0 x1 x2 x3 x4 x5 x6 x7 x8 x9 x10)
    = k0_pay19 (lo (loads x0 x1 x2 x3 x4 x5 x6 x7 x8 x9 x10) (core3 (loads x0 x1 x2 x3 x4 x5 x6 x7 x8 x9 x10)) 3) (hi (loads x0 x1 x2 x3 x4 x5 x6 x7 x8 x9 x10) (core3 (loads x0 x1 x2 x3 x4 x5 x6 x7 x8 x9 x10)) 3) := rfl

theorem piece14_4 : k0_pay111 (k0_pay174 x0 x1 x2 x3 x4 x5 x6 x7 x8 x9 x10)
    = k0_pay19 (lo (loads x0 x1 x2 x3 x4 x5 x6 x7 x8 x9 x10) (core4 (loads x0 x1 x2 x3 x4 x5 x6 x7 x8 x9 x10)) 4) (hi (loads x0 x1 x2 x3 x4 x5 x6 x7 x8 x9 x10) (core4 (loads x0 x1 x2 x3 x4 x5 x6 x7 x8 x9 x10)) 4) := rfl

end Cert.Proof.SsmStage

end
-- ==== Proof.SsmPay.lean ====
/- What the state-space kernel's step computes, stage by stage, read at a row and a column as the row mathematics. -/
module

public import proofs.«01_k».proof.Proof.SsmStage

@[expose] public section

set_option maxRecDepth 16384

noncomputable section

namespace Cert.Proof.SsmPay

open Idealize.ShloMosaic Cert.SsmIdeal Cert.SsmIdeal.Gen Cert.Proof Cert.Proof.SsmStage

theorem pay3 (v : Vec Ideal S1x64x1536 .f32) (r : Fin 64) (l : Fin 1536) : k0_pay3 v (ix2 r l) = v (ix3 0 r l) := by
  pointwise [k0_pay3]

theorem pay4 (e : Vec Ideal S24x1536 .f32) (d : Vec Ideal S1x64x24 .f32) (r : Fin 64) (l : Fin 1536) :
    k0_pay4 e d (ix2 r l) = ∑ x : Fin 24, d (ix3 0 r x) * e (ix2 x l) := by
  pointwise [k0_pay4, k0_pay1]

theorem pay6 (e : Vec Ideal S24x1536 .f32) (v : Vec Ideal S1x64x1536 .f32) (d : Vec Ideal S1x64x24 .f32) (r : Fin 64) (l : Fin 1536) :
    k0_pay6 e v d (ix2 r l) = (∑ x : Fin 24, d (ix3 0 r x) * e (ix2 x l)) * v (ix3 0 r l) := by
  pointwise [k0_pay6, k0_pay1, k0_pay3]

theorem pay9 (b c : Vec Ideal S1x64x256 .f32) (r : Fin 64) (l : Fin 768) :
    k0_pay9 b c (ix2 r l) = ∑ x : Fin 128, b (ix3 0 r ⟨x, by omega⟩) * c (ix3 0 r ⟨x, by omega⟩) := by
  pointwise [k0_pay9, k0_pay8, k0_pay5]

theorem pay10 (b c : Vec Ideal S1x64x256 .f32) (r : Fin 64) (z : Fin 1) :
    k0_pay10 b c (ix2 r z) = ∑ x : Fin 128, b (ix3 0 r ⟨128 + x, by omega⟩) * c (ix3 0 r ⟨128 + x, by omega⟩) := by
  pointwise [k0_pay10, k0_pay8, k0_pay5]

variable (L : Loads Ideal)

theorem start_eq (t : Fin 5) (r : Fin 64) (l : Fin 1536) : start L t (ix2 r l) = L.sc (ix2 r l) * L.sz t (ix3 r 0 l) := by
  pointwise [start]

theorem pair_eq (i t : Fin 5) (r : Fin 64) (l : Fin 1536) :
    pair L i t (ix2 r l) = ∑ x : Fin 128, L.b i (ix3 0 r ⟨128 * (l.val / 768) + x, by omega⟩) * L.c t (ix3 0 r ⟨128 * (l.val / 768) + x, by omega⟩) := by
  pointwise [pair]
  by_cases h : l.val < 768
  · rw [dif_pos h, pay9]
    refine Finset.sum_congr rfl fun x _ => ?_
    have e : (⟨x.val, by omega⟩ : Fin 256) = ⟨128 * (l.val / 768) + x, by omega⟩ := Fin.ext (by show x.val = 128 * (l.val / 768) + x.val; omega)
    rw [e]
  · rw [dif_neg h, pay10]
    refine Finset.sum_congr rfl fun x _ => ?_
    have e : (⟨128 + x.val, by omega⟩ : Fin 256) = ⟨128 * (l.val / 768) + x, by omega⟩ := Fin.ext (by show 128 + x.val = 128 * (l.val / 768) + x.val; omega)
    rw [e]

theorem gate_eq (y : FVec Ideal S64x1536 .f32) (t : Fin 5) (r : Fin 64) (l : Fin 1536) :
    gateV L y t (ix2 r l) = Row.gate (y (ix2 r l)) (L.ds (ix2 0 l)) (L.xs t (ix3 0 r l)) (L.z t (ix3 0 r l)) := by
  pointwise [gateV, k0_pay3]
  rfl

theorem norm_eq (v : FVec Ideal S64x768 .f32) (g : Vec Ideal S1x768 .f32) (r : Fin 64) (l : Fin 768) :
    normV v g (ix2 r l) = Row.rms768 (fun x => v (ix2 r x)) (fun x => g (ix2 0 x)) l := by
  pointwise [normV]
  rfl

theorem lo_eq (y : FVec Ideal S64x1536 .f32) (t : Fin 5) (r : Fin 64) (l : Fin 768) :
    lo L y t (ix2 r l) = Row.rms768 (fun x => gateV L y t (ix2 r ⟨x, by omega⟩)) (fun x => L.g0 (ix2 0 x)) l := by
  pointwise [lo]
  rw [norm_eq]
  refine congrArg (fun f => Row.rms768 f _ l) (funext fun x => ?_)
  pointwise

theorem hi_eq (y : FVec Ideal S64x1536 .f32) (t : Fin 5) (r : Fin 64) (l : Fin 768) :
    hi L y t (ix2 r l) = Row.rms768 (fun x => gateV L y t (ix2 r ⟨768 + x, by omega⟩)) (fun x => L.g1 (ix2 0 x)) l := by
  pointwise [hi]
  rw [norm_eq]
  refine congrArg (fun f => Row.rms768 f _ l) (funext fun x => ?_)
  pointwise

theorem pay14 (v w : FVec Ideal S64x768 .f32) (f g : Fin 1536 → EReal) (r : Fin 64)
    (hv : ∀ l, v (ix2 r l) = Row.rms768 (fun x => f ⟨x, by omega⟩) (fun x => g ⟨x, by omega⟩) l)
    (hw : ∀ l, w (ix2 r l) = Row.rms768 (fun x => f ⟨768 + x, by omega⟩) (fun x => g ⟨768 + x, by omega⟩) l)
    (l : Fin 1536) : k0_pay14 v w (ix2 r l) = Row.rms2 f g l := by
  pointwise [k0_pay14]
  unfold Row.rms2
  by_cases h : l.val < 768
  · have e : ∀ p : Fin 768, (⟨768 * (l.val / 768) + p, by omega⟩ : Fin 1536) = ⟨p, by omega⟩ := fun p =>
      Fin.ext (by show 768 * (l.val / 768) + p.val = p.val; omega)
    have el : (⟨l.val % 768, by omega⟩ : Fin 768) = ⟨l, h⟩ := Fin.ext (by show l.val % 768 = l.val; omega)
    rw [dif_pos h, hv, el]
    simp only [e]
  · have e : ∀ p : Fin 768, (⟨768 * (l.val / 768) + p, by omega⟩ : Fin 1536) = ⟨768 + p, by omega⟩ := fun p =>
      Fin.ext (by show 768 * (l.val / 768) + p.val = 768 + p.val; omega)
    have el : (⟨l.val % 768, by omega⟩ : Fin 768) = ⟨l.val - 768, by omega⟩ := Fin.ext (by show l.val % 768 = l.val - 768; omega)
    rw [dif_neg h, hw, el]
    simp only [e]

theorem pay15 (v w : FVec Ideal S64x768 .f32) (z : Fin 1) (r : Fin 64) (l : Fin 1536) :
    k0_pay15 v w (ix3 z r l) = k0_pay14 v w (ix2 r l) := by
  pointwise [k0_pay15]

theorem pay16 (v w : FVec Ideal S64x768 .f32) (r : Fin 64) (z : Fin 1) :
    k0_pay16 v w (ix2 r z) = Row.scale (fun l => k0_pay14 v w (ix2 r l)) := by
  pointwise [k0_pay16]
  rfl

theorem pay17 (v w : FVec Ideal S64x768 .f32) (r : Fin 64) (l : Fin 1536) :
    k0_pay17 v w (ix2 r l) = Row.code (fun l => k0_pay14 v w (ix2 r l)) l := by
  pointwise [k0_pay17]
  rw [pay16]
  rfl

theorem pay18 (v w : FVec Ideal S64x768 .f32) (z : Fin 1) (r : Fin 64) (l : Fin 1536) :
    k0_pay18 v w (ix3 z r l) = Row.code8 (fun l => k0_pay14 v w (ix2 r l)) l := by
  pointwise [k0_pay18]
  rw [pay17]
  rfl

theorem pay19 (v w : FVec Ideal S64x768 .f32) (z : Fin 1) (r : Fin 64) (l : Fin 1) :
    k0_pay19 v w (ix3 z r l) = Row.scale (fun l => k0_pay14 v w (ix2 r l)) := by
  pointwise [k0_pay19]
  rw [pay16]

theorem pay21 (q : Vec Ideal S1536x1024 .i8) (v w : FVec Ideal S64x768 .f32) (ws : Vec Ideal S1x1024 .f32) (z : Fin 1) (r : Fin 64) (l : Fin 1024) :
    k0_pay21 (k0_pay20 (k0_pay2 q) v w ws) (ix3 z r l)
      = Row.proj (fun l => k0_pay14 v w (ix2 r l)) (fun x l => q (ix2 x l)) (fun l => ws (ix2 0 l)) l := by
  pointwise [k0_pay21, k0_pay20, k0_pay2]
  simp only [pay17, pay16]
  rfl

/-- The loads of a point hold row `R` of the argument arrays in their row `r`. -/
structure Reads (L : Loads Ideal) (A : SsmSpec.Args) (r : Fin 64) (R : Fin 256) : Prop where
  a : ∀ t (x : Fin 24), L.a t (ix3 0 r x) = A.dt t R ⟨32 + x, by omega⟩
  d : ∀ t (x : Fin 24), L.d t (ix3 0 r x) = A.dt t R ⟨x, by omega⟩
  xs : ∀ t (l : Fin 1536), L.xs t (ix3 0 r l) = A.xs t R l
  b : ∀ t (x : Fin 256), L.b t (ix3 0 r x) = A.bc t R ⟨x, by omega⟩
  c : ∀ t (x : Fin 256), L.c t (ix3 0 r x) = A.bc t R ⟨256 + x, by omega⟩
  sz : ∀ t (l : Fin 1536), L.sz t (ix3 r 0 l) = (SsmSpec.col A R l).qc t
  z : ∀ t (l : Fin 1536), L.z t (ix3 0 r l) = A.z t R l
  e : ∀ (x : Fin 24) (l : Fin 1536), L.e (ix2 x l) = if l.val / 64 = x.val then 1 else 0
  sc : ∀ l : Fin 1536, L.sc (ix2 r l) = A.s R l
  ds : ∀ l : Fin 1536, L.ds (ix2 0 l) = A.ds ⟨l.val / 64, by omega⟩
  g0 : ∀ l : Fin 768, L.g0 (ix2 0 l) = A.gn ⟨l, by omega⟩
  g1 : ∀ l : Fin 768, L.g1 (ix2 0 l) = A.gn ⟨768 + l, by omega⟩

/-- The sum that spreads a head's number over its columns. -/
theorem spread (v : Fin 24 → EReal) (l : Fin 1536) :
    (∑ x : Fin 24, v x * (if l.val / 64 = x.val then (1 : EReal) else 0)) = v ⟨l.val / 64, by omega⟩ := by
  rw [Finset.sum_eq_single (⟨l.val / 64, by omega⟩ : Fin 24)]
  · rw [if_pos rfl, mul_one]
  · intro x _ hx
    rw [if_neg fun h => hx (Fin.ext h.symm), mul_zero]
  · exact fun h => absurd (Finset.mem_univ _) h

variable {L} {A : SsmSpec.Args} {r : Fin 64} {R : Fin 256}

theorem dec_eq (h : Reads L A r R) (t : Fin 5) (l : Fin 1536) : dec L t (ix2 r l) = (SsmSpec.col A R l).a t := by
  rw [dec, pay4]
  simp only [h.a, h.e]
  exact spread (fun x => A.dt t R ⟨32 + x, by omega⟩) l

theorem inp_eq (h : Reads L A r R) (t : Fin 5) (l : Fin 1536) : inp L t (ix2 r l) = (SsmSpec.col A R l).d t := by
  rw [inp, pay6]
  simp only [h.d, h.e, h.xs]
  exact congrArg (· * A.xs t R l) (spread (fun x => A.dt t R ⟨x, by omega⟩) l)

theorem start_col (h : Reads L A r R) (t : Fin 5) (l : Fin 1536) :
    start L t (ix2 r l) = (SsmSpec.col A R l).s * (SsmSpec.col A R l).qc t := by
  rw [start_eq, h.sc, h.sz]
  rfl

theorem pair_col (h : Reads L A r R) (i t : Fin 5) (l : Fin 1536) : pair L i t (ix2 r l) = (SsmSpec.col A R l).bc i t := by
  rw [pair_eq]
  simp only [h.b, h.c]
  rfl

theorem core0_eq (h : Reads L A r R) (l : Fin 1536) : core0 L (ix2 r l) = (SsmSpec.col A R l).k0 := by
  pointwise [core0]
  simp only [dec_eq h, inp_eq h, start_col h, pair_col h]
  rfl

theorem core1_eq (h : Reads L A r R) (l : Fin 1536) : core1 L (ix2 r l) = (SsmSpec.col A R l).k1 := by
  pointwise [core1]
  simp only [dec_eq h, inp_eq h, start_col h, pair_col h]
  rfl

theorem core2_eq (h : Reads L A r R) (l : Fin 1536) : core2 L (ix2 r l) = (SsmSpec.col A R l).k2 := by
  pointwise [core2]
  simp only [dec_eq h, inp_eq h, start_col h, pair_col h]
  rfl

theorem core3_eq (h : Reads L A r R) (l : Fin 1536) : core3 L (ix2 r l) = (SsmSpec.col A R l).k3 := by
  pointwise [core3]
  simp only [dec_eq h, inp_eq h, start_col h, pair_col h]
  rfl

theorem core4_eq (h : Reads L A r R) (l : Fin 1536) : core4 L (ix2 r l) = (SsmSpec.col A R l).k4 := by
  pointwise [core4]
  simp only [dec_eq h, inp_eq h, start_col h, pair_col h]
  rfl

theorem gated_eq (h : Reads L A r R) (y : FVec Ideal S64x1536 .f32) (t : Fin 5) (hy : ∀ l, y (ix2 r l) = SsmSpec.closed A t R l) (l : Fin 1536) :
    gateV L y t (ix2 r l) = SsmSpec.gated A (SsmSpec.closed A) t R l := by
  rw [gate_eq, hy, h.ds, h.xs, h.z]
  rfl

/-- The two normalised groups of a step together are the step's row of the branch's output. -/
theorem row_eq (h : Reads L A r R) (y : FVec Ideal S64x1536 .f32) (t : Fin 5) (hy : ∀ l, y (ix2 r l) = SsmSpec.closed A t R l) :
    (fun l => k0_pay14 (lo L y t) (hi L y t) (ix2 r l)) = SsmSpec.norm A (SsmSpec.closed A) t R := by
  funext l
  refine pay14 _ _ _ _ r (fun l => ?_) (fun l => ?_) l
  · rw [lo_eq]
    simp only [gated_eq h y t hy, h.g0]
  · rw [hi_eq]
    simp only [gated_eq h y t hy, h.g1]

end Cert.Proof.SsmPay

end
-- ==== Proof.SsmIn.lean ====
/- The state-space kernel's input blocks as the argument arrays: what the host lines prepare, read at an index, and the
   place of each block in its array. -/
module

public import proofs.«01_k».proof.Proof.SsmPay
public import Idealize.ShloMosaic.Lib.Claim
public import Idealize.ShloMosaic.Lib.ValueLayout
public import Idealize.ShloMosaic.Lib.KernelVsHost

@[expose] public section

set_option maxRecDepth 16384

noncomputable section

namespace Cert.Proof.SsmIn

open Idealize.ShloMosaic Idealize.ShloMosaic.TcCoe Idealize.SL.Sem Cert.SsmIdeal Cert.SsmIdeal.Gen Cert.Proof
open Cert.Proof.SsmPay

/-- The products of the codes with the output vectors, as the host makes them. -/
def szV (bc : Vec Ideal S5x256x512 .f32) (q : Vec Ideal S256x1536x128 .f32) : FVec Ideal S5x256x2x768 .f32 :=
  Host.reduceAdd (F := Ideal) (φ := .f32) (mulf
    (broadcastInDim S5x256x2x768x128 ![0, 1, 2, 3, 4] bcast_S1x256x2x768x128_S5x256x2x768x128_0_1_2_3_4
      (broadcastInDim S1x256x2x768x128 ![1, 2, 3, 4] bcast_S256x2x768x128_S1x256x2x768x128_1_2_3_4
        (shapeCast S256x2x768x128 q shapeCasts_S256x1536x128_S256x2x768x128)))
    (broadcastInDim S5x256x2x768x128 ![0, 1, 2, 3, 4] bcast_S5x256x2x1x128_S5x256x2x768x128_0_1_2_3_4
      (shapeCast S5x256x2x1x128 (extractStridedSlice S5x256x256 ![0, 0, 256] bc slices_S5x256x512_S5x256x256_0_0_256)
        shapeCasts_S5x256x256_S5x256x2x1x128)))
    (constant S_ FTy.f32 0#32) reducesTo_S5x256x2x768x128_S5x256x2x768_d4 h_S_

theorem sz_eq (bc : Vec Ideal S5x256x512 .f32) (q : Vec Ideal S256x1536x128 .f32) (t : Fin 5) (r : Fin 256) (g : Fin 2) (l : Fin 768) :
    szV bc q (ix4 t r g l) = ∑ n : Fin 128, q (ix3 r ⟨768 * g + l, by omega⟩ n) * bc (ix3 t r ⟨256 + (128 * g + n), by omega⟩) := by
  pointwise [szV]
  refine Finset.sum_congr rfl fun n _ => ?_
  have e1 : (⟨g.val * 768 + l.val, by omega⟩ : Fin 1536) = ⟨768 * g + l, by omega⟩ := Fin.ext (by show g.val * 768 + l.val = 768 * g.val + l.val; omega)
  have e2 : (⟨256 + (g.val * 128 + n.val), by omega⟩ : Fin 512) = ⟨256 + (128 * g + n), by omega⟩ := Fin.ext (by show 256 + (g.val * 128 + n.val) = 256 + (128 * g.val + n.val); omega)
  rw [e1, e2]

theorem e_eq (x : Fin 24) (l : Fin 1536) : (uitofp FTy.f32
      (cmpi CmpIPredicate.eq
        (Host.shrui (iotaInDim S24x1536 32 1) (broadcastInDim S24x1536 ![] bcast_S_S24x1536 (constantI S_ 32 6#32)))
        (iotaInDim S24x1536 32 0)) : FVec Ideal S24x1536 .f32) (ix2 x l) = if l.val / 64 = x.val then 1 else 0 := by
  pointwise
  have h1 : ∀ l : Fin 1536, IntOp.shrui ArithUnit.host (BitVec.ofNat 32 l.val) 6#32 = BitVec.ofNat 32 (l.val / 64) := by decide +kernel
  have h2 : ∀ a x : Fin 24, IntOp.cmpi CmpIPredicate.eq (BitVec.ofNat 32 a.val) (BitVec.ofNat 32 x.val) = if a.val = x.val then 1#1 else 0#1 := by
    decide +kernel
  rw [h1, h2 ⟨l.val / 64, by omega⟩ x]
  by_cases h : l.val / 64 = x.val
  · rw [if_pos h, if_pos h]
    show (((1#1 : BitVec 1).toNat : ℝ) : EReal) = 1
    norm_num
  · rw [if_neg h, if_neg h]
    show (((0#1 : BitVec 1).toNat : ℝ) : EReal) = 0
    norm_num

variable (m : (ℓ : Loc nD τ sig) → Buf (Elt Ideal) ℓ)

theorem V_v10 (c : Dev nD) : (V m c main_v10 : Vec Ideal S256x8x1664 .f32) =
          pad S256x8x1664 ![0, 0, 0] ![0, 3, 128] ![0, 0, 0] (transpose S256x5x1536 [1, 0, 2] (shapeCast S5x256x1536 (szV (m ((c : Thread nD τ).loc main_arg1)) (m ((c : Thread nD τ).loc main_arg4))) shapeCasts_S5x256x2x768_S5x256x1536) transposes_S5x256x1536_S256x5x1536_1_0_2)
           (sitofp FTy.f32 (constantI S_ 32 0#32) : FVec Ideal S_ .f32) pads_S256x5x1536_S256x8x1664_000_030_01280 h_S_ := by
  unfold_abbrev_sides
  simp only [hostOps0, hostOps0_1, hostOps0_2, List.flatten_cons, List.flatten_nil, List.cons_append, List.nil_append, List.append_nil]
  after_results
  first | done | rfl

theorem V_v13 (c : Dev nD) : (V m c main_v13 : Vec Ideal S1x1536 .f32)
    = shapeCast S1x1536 (shapeCast S1536 (broadcastInDim S24x64 ![0] bcast_S24_S24x64_0 (m ((c : Thread nD τ).loc main_arg6)) : Vec Ideal S24x64 .f32) shapeCasts_S24x64_S1536) shapeCasts_S1536_S1x1536 := by
  unfold_abbrev_sides
  simp only [hostOps0, hostOps0_1, hostOps0_2, List.flatten_cons, List.flatten_nil, List.cons_append, List.nil_append, List.append_nil]
  after_results
  first | done | rfl

theorem V_v14 (c : Dev nD) : (V m c main_v14 : Vec Ideal S1x1536 .f32)
    = shapeCast S1x1536 (m ((c : Thread nD τ).loc main_arg7) : Vec Ideal S1536 .f32) shapeCasts_S1536_S1x1536 := by
  unfold_abbrev_sides
  simp only [hostOps0, hostOps0_1, hostOps0_2, List.flatten_cons, List.flatten_nil, List.cons_append, List.nil_append, List.append_nil]
  after_results
  first | done | rfl

theorem V_v38 (c : Dev nD) : (V m c main_v38 : Vec Ideal S1x1024 .f32)
    = shapeCast S1x1024 (m ((c : Thread nD τ).loc main_arg9) : Vec Ideal S1024 .f32) shapeCasts_S1024_S1x1024 := by
  unfold_abbrev_sides
  simp only [hostOps0, hostOps0_1, hostOps0_2, List.flatten_cons, List.flatten_nil, List.cons_append, List.nil_append, List.append_nil]
  after_results
  first | done | rfl

theorem V_v20 (c : Dev nD) : (V m c main_v20 : Vec Ideal S24x1536 .f32) = (uitofp FTy.f32
      (cmpi CmpIPredicate.eq
        (Host.shrui (iotaInDim S24x1536 32 1) (broadcastInDim S24x1536 ![] bcast_S_S24x1536 (constantI S_ 32 6#32)))
        (iotaInDim S24x1536 32 0)) : FVec Ideal S24x1536 .f32) := by
  unfold_abbrev_sides
  simp only [hostOps0, hostOps0_1, hostOps0_2, List.flatten_cons, List.flatten_nil, List.cons_append, List.nil_append, List.append_nil]
  after_results
  first | done | rfl

/-! ## Where the blocks lie in the arrays -/

/-- A quarter of the rows as a point of the kernel's grid, and a row of it. -/
def pt (i : Fin 4) : Fin cfg0.N := i
abbrev row (i : Fin 4) (r : Fin 64) : Fin 256 := ⟨64 * i + r, by omega⟩

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

theorem emb0 (i : Fin 4) (s : Fin 5) (r : Fin 64) (l : Fin 1536) :
    ((cfg0.win 0).blk (pt i)).view.emb (ix3 s r l : S5x64x1536.Idx) = (ix3 s (row i r) l : S5x256x1536.Idx) := by
  obtain ⟨e0, e1, e2⟩ := idx0 (pt i)
  have ht : (pt i).val = i.val := rfl
  funext a; apply Fin.ext
  match a with
  | ⟨0, _⟩ => show win0_0.index (pt i) (0 : Fin 3) * 5 + 1 * s.val = s.val; omega
  | ⟨1, _⟩ => show win0_0.index (pt i) (1 : Fin 3) * 64 + 1 * r.val = 64 * i.val + r.val; omega
  | ⟨2, _⟩ => show win0_0.index (pt i) (2 : Fin 3) * 1536 + 1 * l.val = l.val; omega

theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)

theorem emb1 (i : Fin 4) (s : Fin 5) (r : Fin 64) (l : Fin 512) :
    ((cfg0.win 1).blk (pt i)).view.emb (ix3 s r l : S5x64x512.Idx) = (ix3 s (row i r) l : S5x256x512.Idx) := by
  obtain ⟨e0, e1, e2⟩ := idx1 (pt i)
  have ht : (pt i).val = i.val := rfl
  funext a; apply Fin.ext
  match a with
  | ⟨0, _⟩ => show win0_1.index (pt i) (0 : Fin 3) * 5 + 1 * s.val = s.val; omega
  | ⟨1, _⟩ => show win0_1.index (pt i) (1 : Fin 3) * 64 + 1 * r.val = 64 * i.val + r.val; omega
  | ⟨2, _⟩ => show win0_1.index (pt i) (2 : Fin 3) * 512 + 1 * l.val = l.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)

theorem emb2 (i : Fin 4) (s : Fin 5) (r : Fin 64) (l : Fin 64) :
    ((cfg0.win 2).blk (pt i)).view.emb (ix3 s r l : S5x64x64.Idx) = (ix3 s (row i r) l : S5x256x64.Idx) := by
  obtain ⟨e0, e1, e2⟩ := idx2 (pt i)
  have ht : (pt i).val = i.val := rfl
  funext a; apply Fin.ext
  match a with
  | ⟨0, _⟩ => show win0_2.index (pt i) (0 : Fin 3) * 5 + 1 * s.val = s.val; omega
  | ⟨1, _⟩ => show win0_2.index (pt i) (1 : Fin 3) * 64 + 1 * r.val = 64 * i.val + r.val; omega
  | ⟨2, _⟩ => show win0_2.index (pt i) (2 : Fin 3) * 64 + 1 * l.val = l.val; omega

theorem idx3 : ∀ t : Fin cfg0.N, win0_3.index t (0 : Fin 3) = 0 ∧ win0_3.index t (1 : Fin 3) = t.val ∧ win0_3.index t (2 : Fin 3) = 0 :=
  (by decide +kernel : ∀ t : Fin grid0.N, _)

theorem emb3 (i : Fin 4) (s : Fin 5) (r : Fin 64) (l : Fin 1536) :
    ((cfg0.win 3).blk (pt i)).view.emb (ix3 s r l : S5x64x1536.Idx) = (ix3 s (row i r) l : S5x256x1536.Idx) := by
  obtain ⟨e0, e1, e2⟩ := idx3 (pt i)
  have ht : (pt i).val = i.val := rfl
  funext a; apply Fin.ext
  match a with
  | ⟨0, _⟩ => show win0_3.index (pt i) (0 : Fin 3) * 5 + 1 * s.val = s.val; omega
  | ⟨1, _⟩ => show win0_3.index (pt i) (1 : Fin 3) * 64 + 1 * r.val = 64 * i.val + r.val; omega
  | ⟨2, _⟩ => show win0_3.index (pt i) (2 : Fin 3) * 1536 + 1 * l.val = l.val; omega

theorem idx11 : ∀ t : Fin cfg0.N, win0_11.index t (0 : Fin 3) = 0 ∧ win0_11.index t (1 : Fin 3) = t.val ∧ win0_11.index t (2 : Fin 3) = 0 :=
  (by decide +kernel : ∀ t : Fin grid0.N, _)

theorem emb11 (i : Fin 4) (s : Fin 5) (r : Fin 64) (l : Fin 1536) :
    ((cfg0.win 11).blk (pt i)).view.emb (ix3 s r l : S5x64x1536.Idx) = (ix3 s (row i r) l : S5x256x1536.Idx) := by
  obtain ⟨e0, e1, e2⟩ := idx11 (pt i)
  have ht : (pt i).val = i.val := rfl
  funext a; apply Fin.ext
  match a with
  | ⟨0, _⟩ => show win0_11.index (pt i) (0 : Fin 3) * 5 + 1 * s.val = s.val; omega
  | ⟨1, _⟩ => show win0_11.index (pt i) (1 : Fin 3) * 64 + 1 * r.val = 64 * i.val + r.val; omega
  | ⟨2, _⟩ => show win0_11.index (pt i) (2 : Fin 3) * 1536 + 1 * l.val = l.val; omega

theorem idx12 : ∀ t : Fin cfg0.N, win0_12.index t (0 : Fin 3) = 0 ∧ win0_12.index t (1 : Fin 3) = t.val ∧ win0_12.index t (2 : Fin 3) = 0 :=
  (by decide +kernel : ∀ t : Fin grid0.N, _)

theorem emb12 (i : Fin 4) (s : Fin 5) (r : Fin 64) (l : Fin 1024) :
    ((cfg0.win 12).blk (pt i)).view.emb (ix3 s r l : S5x64x1024.Idx) = (ix3 s (row i r) l : S5x256x1024.Idx) := by
  obtain ⟨e0, e1, e2⟩ := idx12 (pt i)
  have ht : (pt i).val = i.val := rfl
  funext a; apply Fin.ext
  match a with
  | ⟨0, _⟩ => show win0_12.index (pt i) (0 : Fin 3) * 5 + 1 * s.val = s.val; omega
  | ⟨1, _⟩ => show win0_12.index (pt i) (1 : Fin 3) * 64 + 1 * r.val = 64 * i.val + r.val; omega
  | ⟨2, _⟩ => show win0_12.index (pt i) (2 : Fin 3) * 1024 + 1 * l.val = l.val; omega

theorem idx13 : ∀ t : Fin cfg0.N, win0_13.index t (0 : Fin 3) = 0 ∧ win0_13.index t (1 : Fin 3) = t.val ∧ win0_13.index t (2 : Fin 3) = 0 :=
  (by decide +kernel : ∀ t : Fin grid0.N, _)

theorem emb13 (i : Fin 4) (s : Fin 5) (r : Fin 64) (l : Fin 1536) :
    ((cfg0.win 13).blk (pt i)).view.emb (ix3 s r l : S5x64x1536.Idx) = (ix3 s (row i r) l : S5x256x1536.Idx) := by
  obtain ⟨e0, e1, e2⟩ := idx13 (pt i)
  have ht : (pt i).val = i.val := rfl
  funext a; apply Fin.ext
  match a with
  | ⟨0, _⟩ => show win0_13.index (pt i) (0 : Fin 3) * 5 + 1 * s.val = s.val; omega
  | ⟨1, _⟩ => show win0_13.index (pt i) (1 : Fin 3) * 64 + 1 * r.val = 64 * i.val + r.val; omega
  | ⟨2, _⟩ => show win0_13.index (pt i) (2 : Fin 3) * 1536 + 1 * l.val = l.val; omega

theorem idx14 : ∀ t : Fin cfg0.N, win0_14.index t (0 : Fin 3) = 0 ∧ win0_14.index t (1 : Fin 3) = t.val ∧ win0_14.index t (2 : Fin 3) = 0 :=
  (by decide +kernel : ∀ t : Fin grid0.N, _)

theorem emb14 (i : Fin 4) (s : Fin 5) (r : Fin 64) (l : Fin 1) :
    ((cfg0.win 14).blk (pt i)).view.emb (ix3 s r l : S5x64x1.Idx) = (ix3 s (row i r) l : S5x256x1.Idx) := by
  obtain ⟨e0, e1, e2⟩ := idx14 (pt i)
  have ht : (pt i).val = i.val := rfl
  funext a; apply Fin.ext
  match a with
  | ⟨0, _⟩ => show win0_14.index (pt i) (0 : Fin 3) * 5 + 1 * s.val = s.val; omega
  | ⟨1, _⟩ => show win0_14.index (pt i) (1 : Fin 3) * 64 + 1 * r.val = 64 * i.val + r.val; omega
  | ⟨2, _⟩ => show win0_14.index (pt i) (2 : Fin 3) * 1 + 1 * l.val = l.val; omega

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb4 (i : Fin 4) (r : Fin 64) (s : Fin 8) (l : Fin 1664) :
    ((cfg0.win 4).blk (pt i)).view.emb (ix3 r s l : S64x8x1664.Idx) = (ix3 (row i r) s l : S256x8x1664.Idx) := by
  obtain ⟨e0, e1, e2⟩ := idx4 (pt i)
  have ht : (pt i).val = i.val := rfl
  funext a; apply Fin.ext
  match a with
  | ⟨0, _⟩ => show win0_4.index (pt i) (0 : Fin 3) * 64 + 1 * r.val = 64 * i.val + r.val; omega
  | ⟨1, _⟩ => show win0_4.index (pt i) (1 : Fin 3) * 8 + 1 * s.val = s.val; omega
  | ⟨2, _⟩ => show win0_4.index (pt i) (2 : Fin 3) * 1664 + 1 * l.val = l.val; omega

theorem idx5 : ∀ t : Fin cfg0.N, win0_5.index t (0 : Fin 2) = t.val ∧ win0_5.index t (1 : Fin 2) = 0 :=
  (by decide +kernel : ∀ t : Fin grid0.N, _)

theorem emb5 (i : Fin 4) (r : Fin 64) (l : Fin 1536) :
    ((cfg0.win 5).blk (pt i)).view.emb (ix2 r l : S64x1536.Idx) = (ix2 (row i r) l : S256x1536.Idx) := by
  obtain ⟨e0, e1⟩ := idx5 (pt i)
  have ht : (pt i).val = i.val := rfl
  funext a; apply Fin.ext
  match a with
  | ⟨0, _⟩ => show win0_5.index (pt i) (0 : Fin 2) * 64 + 1 * r.val = 64 * i.val + r.val; omega
  | ⟨1, _⟩ => show win0_5.index (pt i) (1 : Fin 2) * 1536 + 1 * l.val = l.val; omega

theorem idx6 : ∀ t : Fin cfg0.N, win0_6.index t (0 : Fin 2) = 0 ∧ win0_6.index t (1 : Fin 2) = 0 :=
  (by decide +kernel : ∀ t : Fin grid0.N, _)

theorem emb6 (t : Fin cfg0.N) (y : S1x1536.Idx) : ((cfg0.win 6).blk t).view.emb y = y := by
  obtain ⟨e0, e1⟩ := idx6 t
  funext a; apply Fin.ext
  match a with
  | ⟨0, _⟩ => show win0_6.index t (0 : Fin 2) * 1 + 1 * (y 0).val = (y 0).val; omega
  | ⟨1, _⟩ => show win0_6.index t (1 : Fin 2) * 1536 + 1 * (y 1).val = (y 1).val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (y : S1x1536.Idx) : ((cfg0.win 7).blk t).view.emb y = y := by
  obtain ⟨e0, e1⟩ := idx7 t
  funext a; apply Fin.ext
  match a with
  | ⟨0, _⟩ => show win0_7.index t (0 : Fin 2) * 1 + 1 * (y 0).val = (y 0).val; omega
  | ⟨1, _⟩ => show win0_7.index t (1 : Fin 2) * 1536 + 1 * (y 1).val = (y 1).val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (y : S24x1536.Idx) : ((cfg0.win 8).blk t).view.emb y = y := by
  obtain ⟨e0, e1⟩ := idx8 t
  funext a; apply Fin.ext
  match a with
  | ⟨0, _⟩ => show win0_8.index t (0 : Fin 2) * 24 + 1 * (y 0).val = (y 0).val; omega
  | ⟨1, _⟩ => show win0_8.index t (1 : Fin 2) * 1536 + 1 * (y 1).val = (y 1).val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (y : S1536x1024.Idx) : ((cfg0.win 9).blk t).view.emb y = y := by
  obtain ⟨e0, e1⟩ := idx9 t
  funext a; apply Fin.ext
  match a with
  | ⟨0, _⟩ => show win0_9.index t (0 : Fin 2) * 1536 + 1 * (y 0).val = (y 0).val; omega
  | ⟨1, _⟩ => show win0_9.index t (1 : Fin 2) * 1024 + 1 * (y 1).val = (y 1).val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (y : S1x1024.Idx) : ((cfg0.win 10).blk t).view.emb y = y := by
  obtain ⟨e0, e1⟩ := idx10 t
  funext a; apply Fin.ext
  match a with
  | ⟨0, _⟩ => show win0_10.index t (0 : Fin 2) * 1 + 1 * (y 0).val = (y 0).val; omega
  | ⟨1, _⟩ => show win0_10.index t (1 : Fin 2) * 1024 + 1 * (y 1).val = (y 1).val; omega

/-! ## The input blocks at an index -/

/-- The argument arrays of a launch, by coordinates. -/
def args (c : Dev nD) : SsmSpec.Args where
  xs t r l := m ((c : Thread nD τ).loc main_arg0) (ix3 t r l)
  bc t r l := m ((c : Thread nD τ).loc main_arg1) (ix3 t r l)
  dt t r l := m ((c : Thread nD τ).loc main_arg2) (ix3 t r l)
  z t r l := m ((c : Thread nD τ).loc main_arg3) (ix3 t r l)
  q r l n := m ((c : Thread nD τ).loc main_arg4) (ix3 r l n)
  s r l := m ((c : Thread nD τ).loc main_arg5) (ix2 r l)
  ds h := m ((c : Thread nD τ).loc main_arg6) (ix1 h)
  gn l := m ((c : Thread nD τ).loc main_arg7) (ix1 l)
  w x y := m ((c : Thread nD τ).loc main_arg8) (ix2 x y)
  ws l := m ((c : Thread nD τ).loc main_arg9) (ix1 l)

variable (c : Dev nD) (i : Fin 4)

theorem in0 (s : Fin 5) (r : Fin 64) (l : Fin 1536) : iblk m c 0 (pt i) (ix3 s r l) = (args m c).xs s (row i r) l := by
  show V m c main_arg0 (((cfg0.win 0).blk (pt i)).view.emb (ix3 s r l)) = _
  rw [emb0, V_main_arg0]; rfl
theorem in1 (s : Fin 5) (r : Fin 64) (l : Fin 512) : iblk m c 1 (pt i) (ix3 s r l) = (args m c).bc s (row i r) l := by
  show V m c main_arg1 (((cfg0.win 1).blk (pt i)).view.emb (ix3 s r l)) = _
  rw [emb1, V_main_arg1]; rfl
theorem in2 (s : Fin 5) (r : Fin 64) (l : Fin 64) : iblk m c 2 (pt i) (ix3 s r l) = (args m c).dt s (row i r) l := by
  show V m c main_arg2 (((cfg0.win 2).blk (pt i)).view.emb (ix3 s r l)) = _
  rw [emb2, V_main_arg2]; rfl
theorem in3 (s : Fin 5) (r : Fin 64) (l : Fin 1536) : iblk m c 3 (pt i) (ix3 s r l) = (args m c).z s (row i r) l := by
  show V m c main_arg3 (((cfg0.win 3).blk (pt i)).view.emb (ix3 s r l)) = _
  rw [emb3, V_main_arg3]; rfl
theorem in4 (r : Fin 64) (s : Fin 5) (l : Fin 1536) :
    iblk m c 4 (pt i) (ix3 r (⟨s, by omega⟩ : Fin 8) (⟨l, by omega⟩ : Fin 1664)) = (SsmSpec.col (args m c) (row i r) l).qc s := by
  show V m c main_v10 (((cfg0.win 4).blk (pt i)).view.emb (ix3 r (⟨s, by omega⟩ : Fin 8) (⟨l, by omega⟩ : Fin 1664))) = _
  rw [emb4, V_v10]
  refine (pad_apply_of_inside _ _ _ _ _ _ _ _ (ix3 (row i r) s l : S256x5x1536.Idx) (fun a => ?_)).trans ?_
  · match a with
    | ⟨0, _⟩ => show 64 * i.val + r.val = 0 + (64 * i.val + r.val) * (0 + 1); omega
    | ⟨1, _⟩ => show s.val = 0 + s.val * (0 + 1); omega
    | ⟨2, _⟩ => show l.val = 0 + l.val * (0 + 1); omega
  pointwise
  rw [sz_eq]
  have e : (⟨768 * (l.val / 768) + l.val % 768, by omega⟩ : Fin 1536) = l := Fin.ext (Nat.div_add_mod _ _)
  show (∑ n : Fin 128, (args m c).q (row i r) (⟨768 * (l.val / 768) + l.val % 768, by omega⟩ : Fin 1536) n
    * (args m c).bc s (row i r) ⟨256 + (128 * (l.val / 768) + n.val), by omega⟩ : EReal) = _
  rw [e]; rfl
theorem in5 (r : Fin 64) (l : Fin 1536) : iblk m c 5 (pt i) (ix2 r l) = (args m c).s (row i r) l := by
  show V m c main_arg5 (((cfg0.win 5).blk (pt i)).view.emb (ix2 r l)) = _
  rw [emb5, V_main_arg5]; rfl
theorem in6 (l : Fin 1536) : iblk m c 6 (pt i) (ix2 0 l) = (args m c).ds ⟨l.val / 64, by omega⟩ := by
  show V m c main_v13 (((cfg0.win 6).blk (pt i)).view.emb (ix2 0 l)) = _
  rw [emb6, V_v13]; pointwise; rfl
theorem in7 (l : Fin 1536) : iblk m c 7 (pt i) (ix2 0 l) = (args m c).gn l := by
  show V m c main_v14 (((cfg0.win 7).blk (pt i)).view.emb (ix2 0 l)) = _
  rw [emb7, V_v14]; exact ValueIdx.shapeCast_a_1a_apply _ _ _ _
theorem in8 (x : Fin 24) (l : Fin 1536) : iblk m c 8 (pt i) (ix2 x l) = (if l.val / 64 = x.val then 1 else 0 : EReal) := by
  show V m c main_v20 (((cfg0.win 8).blk (pt i)).view.emb (ix2 x l)) = _
  rw [emb8, V_v20]; exact e_eq x l
theorem in9 (x : Fin 1536) (l : Fin 1024) : iblk m c 9 (pt i) (ix2 x l) = (args m c).w x l := by
  show V m c main_arg8 (((cfg0.win 9).blk (pt i)).view.emb (ix2 x l)) = _
  rw [emb9, V_main_arg8]; rfl
theorem in10 (l : Fin 1024) : iblk m c 10 (pt i) (ix2 0 l) = (args m c).ws l := by
  show V m c main_v38 (((cfg0.win 10).blk (pt i)).view.emb (ix2 0 l)) = _
  rw [emb10, V_v38]; exact ValueIdx.shapeCast_a_1a_apply _ _ _ _

end Cert.Proof.SsmIn

end
-- ==== Proof.SsmFinal.lean ====
/- The state-space kernel's result arrays after the run, at every index, as the branch's mathematics (SsmSpec.lean) of the
   argument arrays. -/
module

public import proofs.«01_k».proof.Proof.SsmIn
public import proofs.«01_k».proof.Proof.Gen.SsmIdeal.Value
public import Idealize.ShloMosaic.Lib.Pipeline.ValueKit.Tiles

@[expose] public section

set_option maxRecDepth 16384

noncomputable section

namespace Cert.Proof.SsmFinal

open Idealize.ShloMosaic Idealize.ShloMosaic.TcCoe Idealize.SL.Sem Cert.SsmIdeal Cert.SsmIdeal.Gen Cert.Proof
open Cert.Proof.SsmStage Cert.Proof.SsmPay Cert.Proof.SsmIn

theorem z0 {n : Nat} : n = 0 + n := (Nat.zero_add n).symm

/-- A load of a range of a block, at an index. -/
theorem ld_at {S : Shape} {e : EltTy} (x : Vec Ideal S e) {off size : Fin S.rank → Nat} {inb : ∀ a, off a + size a ≤ S.size a}
    (j : (Rect.unit (s := S) off size inb).shape.Idx) (i : S.Idx) (h : ∀ a, (i a : Nat) = off a + (j a : Nat)) :
    View.ld x (Rect.unit (s := S) off size inb) j = x i :=
  congrArg x (funext fun a => Fin.ext (by
    show off a + 1 * (j a : Nat) = (i a : Nat)
    rw [h a, Nat.one_mul]))

variable (m : (ℓ : Loc nD τ sig) → Buf (Elt Ideal) ℓ) (c : Dev nD) (i : Fin 4)

/-- The loads of a quarter of the rows. -/
abbrev lds : Loads Ideal := loads (iblk m c 0 (pt i)) (iblk m c 1 (pt i)) (iblk m c 2 (pt i)) (iblk m c 3 (pt i)) (iblk m c 4 (pt i)) (iblk m c 5 (pt i))
  (iblk m c 6 (pt i)) (iblk m c 7 (pt i)) (iblk m c 8 (pt i)) (iblk m c 9 (pt i)) (iblk m c 10 (pt i))

theorem ld_a (x2 : Vec Ideal S5x64x64 .f32) (t : Fin 5) (r : Fin 64) (x : Fin 24) :
    (![View.ld x2 r0_3, View.ld x2 r0_16, View.ld x2 r0_24, View.ld x2 r0_32, View.ld x2 r0_40] : Fin 5 → Vec Ideal S1x64x24 .f32) t (ix3 0 r x) = x2 (ix3 t r ⟨32 + x, by omega⟩) := by
  match t with
  | ⟨0, _⟩ => exact ld_at (S := S5x64x64) x2 (off := ![0, 0, 32]) (size := S1x64x24.size) (ix3 0 r x) (ix3 0 r ⟨32 + x, by omega⟩ : S5x64x64.Idx) (fun a => match a with | ⟨0, _⟩ => rfl | ⟨1, _⟩ => z0 | ⟨2, _⟩ => rfl)
  | ⟨1, _⟩ => exact ld_at (S := S5x64x64) x2 (off := ![1, 0, 32]) (size := S1x64x24.size) (ix3 0 r x) (ix3 1 r ⟨32 + x, by omega⟩ : S5x64x64.Idx) (fun a => match a with | ⟨0, _⟩ => rfl | ⟨1, _⟩ => z0 | ⟨2, _⟩ => rfl)
  | ⟨2, _⟩ => exact ld_at (S := S5x64x64) x2 (off := ![2, 0, 32]) (size := S1x64x24.size) (ix3 0 r x) (ix3 2 r ⟨32 + x, by omega⟩ : S5x64x64.Idx) (fun a => match a with | ⟨0, _⟩ => rfl | ⟨1, _⟩ => z0 | ⟨2, _⟩ => rfl)
  | ⟨3, _⟩ => exact ld_at (S := S5x64x64) x2 (off := ![3, 0, 32]) (size := S1x64x24.size) (ix3 0 r x) (ix3 3 r ⟨32 + x, by omega⟩ : S5x64x64.Idx) (fun a => match a with | ⟨0, _⟩ => rfl | ⟨1, _⟩ => z0 | ⟨2, _⟩ => rfl)
  | ⟨4, _⟩ => exact ld_at (S := S5x64x64) x2 (off := ![4, 0, 32]) (size := S1x64x24.size) (ix3 0 r x) (ix3 4 r ⟨32 + x, by omega⟩ : S5x64x64.Idx) (fun a => match a with | ⟨0, _⟩ => rfl | ⟨1, _⟩ => z0 | ⟨2, _⟩ => rfl)

theorem ld_d (x2 : Vec Ideal S5x64x64 .f32) (t : Fin 5) (r : Fin 64) (x : Fin 24) :
    (![View.ld x2 r0_5, View.ld x2 r0_18, View.ld x2 r0_26, View.ld x2 r0_34, View.ld x2 r0_42] : Fin 5 → Vec Ideal S1x64x24 .f32) t (ix3 0 r x) = x2 (ix3 t r ⟨x, by omega⟩) := by
  match t with
  | ⟨0, _⟩ => exact ld_at (S := S5x64x64) x2 (off := ![0, 0, 0]) (size := S1x64x24.size) (ix3 0 r x) (ix3 0 r ⟨x, by omega⟩ : S5x64x64.Idx) (fun a => match a with | ⟨0, _⟩ => rfl | ⟨1, _⟩ => z0 | ⟨2, _⟩ => z0)
  | ⟨1, _⟩ => exact ld_at (S := S5x64x64) x2 (off := ![1, 0, 0]) (size := S1x64x24.size) (ix3 0 r x) (ix3 1 r ⟨x, by omega⟩ : S5x64x64.Idx) (fun a => match a with | ⟨0, _⟩ => rfl | ⟨1, _⟩ => z0 | ⟨2, _⟩ => z0)
  | ⟨2, _⟩ => exact ld_at (S := S5x64x64) x2 (off := ![2, 0, 0]) (size := S1x64x24.size) (ix3 0 r x) (ix3 2 r ⟨x, by omega⟩ : S5x64x64.Idx) (fun a => match a with | ⟨0, _⟩ => rfl | ⟨1, _⟩ => z0 | ⟨2, _⟩ => z0)
  | ⟨3, _⟩ => exact ld_at (S := S5x64x64) x2 (off := ![3, 0, 0]) (size := S1x64x24.size) (ix3 0 r x) (ix3 3 r ⟨x, by omega⟩ : S5x64x64.Idx) (fun a => match a with | ⟨0, _⟩ => rfl | ⟨1, _⟩ => z0 | ⟨2, _⟩ => z0)
  | ⟨4, _⟩ => exact ld_at (S := S5x64x64) x2 (off := ![4, 0, 0]) (size := S1x64x24.size) (ix3 0 r x) (ix3 4 r ⟨x, by omega⟩ : S5x64x64.Idx) (fun a => match a with | ⟨0, _⟩ => rfl | ⟨1, _⟩ => z0 | ⟨2, _⟩ => z0)

theorem ld_xs (x0 : Vec Ideal S5x64x1536 .f32) (t : Fin 5) (r : Fin 64) (l : Fin 1536) :
    (![View.ld x0 r0_2, View.ld x0 r0_15, View.ld x0 r0_23, View.ld x0 r0_31, View.ld x0 r0_39] : Fin 5 → Vec Ideal S1x64x1536 .f32) t (ix3 0 r l) = x0 (ix3 t r l) := by
  match t with
  | ⟨0, _⟩ => exact ld_at (S := S5x64x1536) x0 (off := ![0, 0, 0]) (size := S1x64x1536.size) (ix3 0 r l) (ix3 0 r l : S5x64x1536.Idx) (fun a => match a with | ⟨0, _⟩ => rfl | ⟨1, _⟩ => z0 | ⟨2, _⟩ => z0)
  | ⟨1, _⟩ => exact ld_at (S := S5x64x1536) x0 (off := ![1, 0, 0]) (size := S1x64x1536.size) (ix3 0 r l) (ix3 1 r l : S5x64x1536.Idx) (fun a => match a with | ⟨0, _⟩ => rfl | ⟨1, _⟩ => z0 | ⟨2, _⟩ => z0)
  | ⟨2, _⟩ => exact ld_at (S := S5x64x1536) x0 (off := ![2, 0, 0]) (size := S1x64x1536.size) (ix3 0 r l) (ix3 2 r l : S5x64x1536.Idx) (fun a => match a with | ⟨0, _⟩ => rfl | ⟨1, _⟩ => z0 | ⟨2, _⟩ => z0)
  | ⟨3, _⟩ => exact ld_at (S := S5x64x1536) x0 (off := ![3, 0, 0]) (size := S1x64x1536.size) (ix3 0 r l) (ix3 3 r l : S5x64x1536.Idx) (fun a => match a with | ⟨0, _⟩ => rfl | ⟨1, _⟩ => z0 | ⟨2, _⟩ => z0)
  | ⟨4, _⟩ => exact ld_at (S := S5x64x1536) x0 (off := ![4, 0, 0]) (size := S1x64x1536.size) (ix3 0 r l) (ix3 4 r l : S5x64x1536.Idx) (fun a => match a with | ⟨0, _⟩ => rfl | ⟨1, _⟩ => z0 | ⟨2, _⟩ => z0)

theorem ld_b (x1 : Vec Ideal S5x64x512 .f32) (t : Fin 5) (r : Fin 64) (x : Fin 256) :
    (![View.ld x1 r0_4, View.ld x1 r0_17, View.ld x1 r0_25, View.ld x1 r0_33, View.ld x1 r0_41] : Fin 5 → Vec Ideal S1x64x256 .f32) t (ix3 0 r x) = x1 (ix3 t r ⟨x, by omega⟩) := by
  match t with
  | ⟨0, _⟩ => exact ld_at (S := S5x64x512) x1 (off := ![0, 0, 0]) (size := S1x64x256.size) (ix3 0 r x) (ix3 0 r ⟨x, by omega⟩ : S5x64x512.Idx) (fun a => match a with | ⟨0, _⟩ => rfl | ⟨1, _⟩ => z0 | ⟨2, _⟩ => z0)
  | ⟨1, _⟩ => exact ld_at (S := S5x64x512) x1 (off := ![1, 0, 0]) (size := S1x64x256.size) (ix3 0 r x) (ix3 1 r ⟨x, by omega⟩ : S5x64x512.Idx) (fun a => match a with | ⟨0, _⟩ => rfl | ⟨1, _⟩ => z0 | ⟨2, _⟩ => z0)
  | ⟨2, _⟩ => exact ld_at (S := S5x64x512) x1 (off := ![2, 0, 0]) (size := S1x64x256.size) (ix3 0 r x) (ix3 2 r ⟨x, by omega⟩ : S5x64x512.Idx) (fun a => match a with | ⟨0, _⟩ => rfl | ⟨1, _⟩ => z0 | ⟨2, _⟩ => z0)
  | ⟨3, _⟩ => exact ld_at (S := S5x64x512) x1 (off := ![3, 0, 0]) (size := S1x64x256.size) (ix3 0 r x) (ix3 3 r ⟨x, by omega⟩ : S5x64x512.Idx) (fun a => match a with | ⟨0, _⟩ => rfl | ⟨1, _⟩ => z0 | ⟨2, _⟩ => z0)
  | ⟨4, _⟩ => exact ld_at (S := S5x64x512) x1 (off := ![4, 0, 0]) (size := S1x64x256.size) (ix3 0 r x) (ix3 4 r ⟨x, by omega⟩ : S5x64x512.Idx) (fun a => match a with | ⟨0, _⟩ => rfl | ⟨1, _⟩ => z0 | ⟨2, _⟩ => z0)

theorem ld_c (x1 : Vec Ideal S5x64x512 .f32) (t : Fin 5) (r : Fin 64) (x : Fin 256) :
    (![View.ld x1 r0_8, View.ld x1 r0_20, View.ld x1 r0_28, View.ld x1 r0_36, View.ld x1 r0_44] : Fin 5 → Vec Ideal S1x64x256 .f32) t (ix3 0 r x) = x1 (ix3 t r ⟨256 + x, by omega⟩) := by
  match t with
  | ⟨0, _⟩ => exact ld_at (S := S5x64x512) x1 (off := ![0, 0, 256]) (size := S1x64x256.size) (ix3 0 r x) (ix3 0 r ⟨256 + x, by omega⟩ : S5x64x512.Idx) (fun a => match a with | ⟨0, _⟩ => rfl | ⟨1, _⟩ => z0 | ⟨2, _⟩ => rfl)
  | ⟨1, _⟩ => exact ld_at (S := S5x64x512) x1 (off := ![1, 0, 256]) (size := S1x64x256.size) (ix3 0 r x) (ix3 1 r ⟨256 + x, by omega⟩ : S5x64x512.Idx) (fun a => match a with | ⟨0, _⟩ => rfl | ⟨1, _⟩ => z0 | ⟨2, _⟩ => rfl)
  | ⟨2, _⟩ => exact ld_at (S := S5x64x512) x1 (off := ![2, 0, 256]) (size := S1x64x256.size) (ix3 0 r x) (ix3 2 r ⟨256 + x, by omega⟩ : S5x64x512.Idx) (fun a => match a with | ⟨0, _⟩ => rfl | ⟨1, _⟩ => z0 | ⟨2, _⟩ => rfl)
  | ⟨3, _⟩ => exact ld_at (S := S5x64x512) x1 (off := ![3, 0, 256]) (size := S1x64x256.size) (ix3 0 r x) (ix3 3 r ⟨256 + x, by omega⟩ : S5x64x512.Idx) (fun a => match a with | ⟨0, _⟩ => rfl | ⟨1, _⟩ => z0 | ⟨2, _⟩ => rfl)
  | ⟨4, _⟩ => exact ld_at (S := S5x64x512) x1 (off := ![4, 0, 256]) (size := S1x64x256.size) (ix3 0 r x) (ix3 4 r ⟨256 + x, by omega⟩ : S5x64x512.Idx) (fun a => match a with | ⟨0, _⟩ => rfl | ⟨1, _⟩ => z0 | ⟨2, _⟩ => rfl)

theorem ld_sz (x4 : Vec Ideal S64x8x1664 .f32) (t : Fin 5) (r : Fin 64) (l : Fin 1536) :
    (![View.ld x4 r0_7, View.ld x4 r0_19, View.ld x4 r0_27, View.ld x4 r0_35, View.ld x4 r0_43] : Fin 5 → Vec Ideal S64x1x1536 .f32) t (ix3 r 0 l) = x4 (ix3 r (⟨t, by omega⟩ : Fin 8) (⟨l, by omega⟩ : Fin 1664)) := by
  match t with
  | ⟨0, _⟩ => exact ld_at (S := S64x8x1664) x4 (off := ![0, 0, 0]) (size := S64x1x1536.size) (ix3 r 0 l) (ix3 r (⟨0, by omega⟩ : Fin 8) (⟨l, by omega⟩ : Fin 1664) : S64x8x1664.Idx) (fun a => match a with | ⟨0, _⟩ => z0 | ⟨1, _⟩ => rfl | ⟨2, _⟩ => z0)
  | ⟨1, _⟩ => exact ld_at (S := S64x8x1664) x4 (off := ![0, 1, 0]) (size := S64x1x1536.size) (ix3 r 0 l) (ix3 r (⟨1, by omega⟩ : Fin 8) (⟨l, by omega⟩ : Fin 1664) : S64x8x1664.Idx) (fun a => match a with | ⟨0, _⟩ => z0 | ⟨1, _⟩ => rfl | ⟨2, _⟩ => z0)
  | ⟨2, _⟩ => exact ld_at (S := S64x8x1664) x4 (off := ![0, 2, 0]) (size := S64x1x1536.size) (ix3 r 0 l) (ix3 r (⟨2, by omega⟩ : Fin 8) (⟨l, by omega⟩ : Fin 1664) : S64x8x1664.Idx) (fun a => match a with | ⟨0, _⟩ => z0 | ⟨1, _⟩ => rfl | ⟨2, _⟩ => z0)
  | ⟨3, _⟩ => exact ld_at (S := S64x8x1664) x4 (off := ![0, 3, 0]) (size := S64x1x1536.size) (ix3 r 0 l) (ix3 r (⟨3, by omega⟩ : Fin 8) (⟨l, by omega⟩ : Fin 1664) : S64x8x1664.Idx) (fun a => match a with | ⟨0, _⟩ => z0 | ⟨1, _⟩ => rfl | ⟨2, _⟩ => z0)
  | ⟨4, _⟩ => exact ld_at (S := S64x8x1664) x4 (off := ![0, 4, 0]) (size := S64x1x1536.size) (ix3 r 0 l) (ix3 r (⟨4, by omega⟩ : Fin 8) (⟨l, by omega⟩ : Fin 1664) : S64x8x1664.Idx) (fun a => match a with | ⟨0, _⟩ => z0 | ⟨1, _⟩ => rfl | ⟨2, _⟩ => z0)

set_option maxHeartbeats 2000000 in
/-- What a quarter of the rows loads, as the arguments. -/
theorem reads (r : Fin 64) : Reads (lds m c i) (args m c) r (row i r) where
  a t x := (ld_a (iblk m c 2 (pt i)) t r x).trans (in2 m c i t r ⟨32 + x, by omega⟩)
  d t x := (ld_d (iblk m c 2 (pt i)) t r x).trans (in2 m c i t r ⟨x, by omega⟩)
  xs t l := (ld_xs (iblk m c 0 (pt i)) t r l).trans (in0 m c i t r l)
  b t x := (ld_b (iblk m c 1 (pt i)) t r x).trans (in1 m c i t r ⟨x, by omega⟩)
  c t x := (ld_c (iblk m c 1 (pt i)) t r x).trans (in1 m c i t r ⟨256 + x, by omega⟩)
  sz t l := (ld_sz (iblk m c 4 (pt i)) t r l).trans (in4 m c i r t l)
  z t l := (ld_xs (iblk m c 3 (pt i)) t r l).trans (in3 m c i t r l)
  e x l := (ld_at (S := S24x1536) (iblk m c 8 (pt i)) (ix2 x l) (ix2 x l : S24x1536.Idx) (fun a => match a with | ⟨0, _⟩ => z0 | ⟨1, _⟩ => z0)).trans (in8 m c i x l)
  sc l := (ld_at (S := S64x1536) (iblk m c 5 (pt i)) (ix2 r l) (ix2 r l : S64x1536.Idx) (fun a => match a with | ⟨0, _⟩ => z0 | ⟨1, _⟩ => z0)).trans (in5 m c i r l)
  ds l := (ld_at (S := S1x1536) (iblk m c 6 (pt i)) (ix2 0 l) (ix2 0 l : S1x1536.Idx) (fun a => match a with | ⟨0, _⟩ => z0 | ⟨1, _⟩ => z0)).trans (in6 m c i l)
  g0 l := (ld_at (S := S1x1536) (iblk m c 7 (pt i)) (ix2 0 l) (ix2 0 ⟨l, by omega⟩ : S1x1536.Idx) (fun a => match a with | ⟨0, _⟩ => z0 | ⟨1, _⟩ => z0)).trans (in7 m c i ⟨l, by omega⟩)
  g1 l := (ld_at (S := S1x1536) (iblk m c 7 (pt i)) (ix2 0 l) (ix2 0 ⟨768 + l, by omega⟩ : S1x1536.Idx) (fun a => match a with | ⟨0, _⟩ => z0 | ⟨1, _⟩ => rfl)).trans (in7 m c i ⟨768 + l, by omega⟩)

/-- The row of the branch's output, from the payloads of a step. -/
abbrev Y (s : Fin 5) (r : Fin 64) : Fin 1536 → EReal := SsmSpec.norm (args m c) (SsmSpec.closed (args m c)) s (row i r)

theorem y0 (r : Fin 64) : (fun l => k0_pay14 (lo (lds m c i) (core0 (lds m c i)) 0) (hi (lds m c i) (core0 (lds m c i)) 0) (ix2 r l)) = Y m c i 0 r :=
  row_eq (reads m c i r) _ 0 fun l => core0_eq (reads m c i r) l

theorem y1 (r : Fin 64) : (fun l => k0_pay14 (lo (lds m c i) (core1 (lds m c i)) 1) (hi (lds m c i) (core1 (lds m c i)) 1) (ix2 r l)) = Y m c i 1 r :=
  row_eq (reads m c i r) _ 1 fun l => core1_eq (reads m c i r) l

theorem y2 (r : Fin 64) : (fun l => k0_pay14 (lo (lds m c i) (core2 (lds m c i)) 2) (hi (lds m c i) (core2 (lds m c i)) 2) (ix2 r l)) = Y m c i 2 r :=
  row_eq (reads m c i r) _ 2 fun l => core2_eq (reads m c i r) l

theorem y3 (r : Fin 64) : (fun l => k0_pay14 (lo (lds m c i) (core3 (lds m c i)) 3) (hi (lds m c i) (core3 (lds m c i)) 3) (ix2 r l)) = Y m c i 3 r :=
  row_eq (reads m c i r) _ 3 fun l => core3_eq (reads m c i r) l

theorem y4 (r : Fin 64) : (fun l => k0_pay14 (lo (lds m c i) (core4 (lds m c i)) 4) (hi (lds m c i) (core4 (lds m c i)) 4) (ix2 r l)) = Y m c i 4 r :=
  row_eq (reads m c i r) _ 4 fun l => core4_eq (reads m c i r) l

theorem w_eq : (fun x l => View.ld (iblk m c 9 (pt i)) r0_1 (ix2 x l)) = (args m c).w :=
  funext fun x => funext fun l => (ld_at (S := S1536x1024) (iblk m c 9 (pt i)) (ix2 x l) (ix2 x l : S1536x1024.Idx)
    (fun a => match a with | ⟨0, _⟩ => z0 | ⟨1, _⟩ => z0)).trans (in9 m c i x l)

theorem ws_eq : (fun l => View.ld (iblk m c 10 (pt i)) r0_13 (ix2 0 l)) = (args m c).ws :=
  funext fun l => (ld_at (S := S1x1024) (iblk m c 10 (pt i)) (ix2 0 l) (ix2 0 l : S1x1024.Idx)
    (fun a => match a with | ⟨0, _⟩ => rfl | ⟨1, _⟩ => z0)).trans (in10 m c i l)

theorem congrArg₃ {α β γ δ : Sort _} (f : α → β → γ → δ) {a a' : α} {b b' : β} {c c' : γ} (ha : a = a') (hb : b = b') (hc : c = c') :
    f a b c = f a' b' c' := by subst ha hb hc; rfl

/-- One step's piece of result block 0. -/
theorem tile11 (G : Fin 5 → Fin 64 → Fin 1536 → Elt Ideal .f32) (t s : Fin 5) (r : Fin 64) (l : Fin 1536) (p : Vec Ideal S1x64x1536 .f32)
    (h : ∀ r l, p (ix3 0 r l) = G t r l) : View.TileAt (S := S5x64x1536) (ix3 s r l) ![t.val, 0, 0] S1x64x1536.size p (G s r l) := by
  intro x hx
  have h0 : s.val = t.val + (x 0).val := hx 0
  have h1 : r.val = 0 + (x 1).val := hx 1
  have h2 : l.val = 0 + (x 2).val := hx 2
  have l0 : (x 0).val < 1 := (x 0).isLt
  have ex : x = ix3 (0 : Fin 1) r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  have et : t = s := Fin.ext (by omega)
  subst et
  exact (congrArg p ex).trans (h r l)

theorem out11 (s : Fin 5) (r : Fin 64) (l : Fin 1536) :
    out0_11 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) = SsmSpec.norm (args m c) (SsmSpec.closed (args m c)) s (row i r) l := by
  unfold out0_11
  refine View.canon_eq_of_allAt _ _ _ (cover0_11 _ _ _ _ _ _) ?_
  have key := tile11 (fun s r l => SsmSpec.norm (args m c) (SsmSpec.closed (args m c)) s (row i r) l)
  refine View.allAt_cons_unit _ _ _ _ _ (key 4 s r l _ fun r l => (congrFun (piece11_4 _ _ _ _ _ _ _ _ _ _ _) (ix3 0 r l)).trans ((pay15 _ _ 0 r l).trans (congrFun (y4 m c i r) l))) ?_
  refine View.allAt_cons_unit _ _ _ _ _ (key 3 s r l _ fun r l => (congrFun (piece11_3 _ _ _ _ _ _ _ _ _ _ _) (ix3 0 r l)).trans ((pay15 _ _ 0 r l).trans (congrFun (y3 m c i r) l))) ?_
  refine View.allAt_cons_unit _ _ _ _ _ (key 2 s r l _ fun r l => (congrFun (piece11_2 _ _ _ _ _ _ _ _ _ _ _) (ix3 0 r l)).trans ((pay15 _ _ 0 r l).trans (congrFun (y2 m c i r) l))) ?_
  refine View.allAt_cons_unit _ _ _ _ _ (key 1 s r l _ fun r l => (congrFun (piece11_1 _ _ _ _ _ _ _ _ _ _ _) (ix3 0 r l)).trans ((pay15 _ _ 0 r l).trans (congrFun (y1 m c i r) l))) ?_
  exact View.allAt_cons_unit _ _ _ _ _ (key 0 s r l _ fun r l => (congrFun (piece11_0 _ _ _ _ _ _ _ _ _ _ _) (ix3 0 r l)).trans ((pay15 _ _ 0 r l).trans (congrFun (y0 m c i r) l))) (View.allAt_nil _ _)

theorem blk11 (s : Fin 5) (r : Fin 64) (l : Fin 1536) :
    (dats m 0 c).arrAt 11 cfg0.N (ix3 s (row i r) l : S5x256x1536.Idx) = SsmSpec.norm (args m c) (SsmSpec.closed (args m c)) s (row i r) l := by
  have b := congrFun (Value.blocks11 m c (pt i) (flush0_11 (pt i))) (ix3 s r l : S5x64x1536.Idx)
  rw [Value.flushed11] at b
  have b' : (dats m 0 c).arrAt 11 cfg0.N (((cfg0.win 11).blk (pt i)).view.emb (ix3 s r l : S5x64x1536.Idx))
      = out0_11 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) := b
  rw [emb11, out11] at b'
  exact b'

theorem arr11 (s : Fin 5) (r : Fin 256) (l : Fin 1536) :
    (dats m 0 c).arrAt 11 cfg0.N (ix3 s r l : S5x256x1536.Idx) = SsmSpec.norm (args m c) (SsmSpec.closed (args m c)) s r l := by
  have hR : row ⟨r.val / 64, by omega⟩ ⟨r.val % 64, by omega⟩ = r := Fin.ext (Nat.div_add_mod _ _)
  have b := blk11 m c ⟨r.val / 64, by omega⟩ s ⟨r.val % 64, by omega⟩ l
  rw [hR] at b
  exact b

/-- One step's piece of result block 1. -/
theorem tile12 (G : Fin 5 → Fin 64 → Fin 1024 → Elt Ideal .f32) (t s : Fin 5) (r : Fin 64) (l : Fin 1024) (p : Vec Ideal S1x64x1024 .f32)
    (h : ∀ r l, p (ix3 0 r l) = G t r l) : View.TileAt (S := S5x64x1024) (ix3 s r l) ![t.val, 0, 0] S1x64x1024.size p (G s r l) := by
  intro x hx
  have h0 : s.val = t.val + (x 0).val := hx 0
  have h1 : r.val = 0 + (x 1).val := hx 1
  have h2 : l.val = 0 + (x 2).val := hx 2
  have l0 : (x 0).val < 1 := (x 0).isLt
  have ex : x = ix3 (0 : Fin 1) r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  have et : t = s := Fin.ext (by omega)
  subst et
  exact (congrArg p ex).trans (h r l)

theorem out12 (s : Fin 5) (r : Fin 64) (l : Fin 1024) :
    out0_12 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) = Row.proj (SsmSpec.norm (args m c) (SsmSpec.closed (args m c)) s (row i r)) (args m c).w (args m c).ws l := by
  unfold out0_12
  refine View.canon_eq_of_allAt _ _ _ (cover0_12 _ _ _ _ _ _) ?_
  have key := tile12 (fun s r l => Row.proj (SsmSpec.norm (args m c) (SsmSpec.closed (args m c)) s (row i r)) (args m c).w (args m c).ws l)
  refine View.allAt_cons_unit _ _ _ _ _ (key 4 s r l _ fun r l => (congrFun (piece12_4 _ _ _ _ _ _ _ _ _ _ _) (ix3 0 r l)).trans ((pay21 _ _ _ _ 0 r l).trans (congrArg₃ (fun v w ws => Row.proj v w ws l) (y4 m c i r) (w_eq m c i) (ws_eq m c i)))) ?_
  refine View.allAt_cons_unit _ _ _ _ _ (key 3 s r l _ fun r l => (congrFun (piece12_3 _ _ _ _ _ _ _ _ _ _ _) (ix3 0 r l)).trans ((pay21 _ _ _ _ 0 r l).trans (congrArg₃ (fun v w ws => Row.proj v w ws l) (y3 m c i r) (w_eq m c i) (ws_eq m c i)))) ?_
  refine View.allAt_cons_unit _ _ _ _ _ (key 2 s r l _ fun r l => (congrFun (piece12_2 _ _ _ _ _ _ _ _ _ _ _) (ix3 0 r l)).trans ((pay21 _ _ _ _ 0 r l).trans (congrArg₃ (fun v w ws => Row.proj v w ws l) (y2 m c i r) (w_eq m c i) (ws_eq m c i)))) ?_
  refine View.allAt_cons_unit _ _ _ _ _ (key 1 s r l _ fun r l => (congrFun (piece12_1 _ _ _ _ _ _ _ _ _ _ _) (ix3 0 r l)).trans ((pay21 _ _ _ _ 0 r l).trans (congrArg₃ (fun v w ws => Row.proj v w ws l) (y1 m c i r) (w_eq m c i) (ws_eq m c i)))) ?_
  exact View.allAt_cons_unit _ _ _ _ _ (key 0 s r l _ fun r l => (congrFun (piece12_0 _ _ _ _ _ _ _ _ _ _ _) (ix3 0 r l)).trans ((pay21 _ _ _ _ 0 r l).trans (congrArg₃ (fun v w ws => Row.proj v w ws l) (y0 m c i r) (w_eq m c i) (ws_eq m c i)))) (View.allAt_nil _ _)

theorem blk12 (s : Fin 5) (r : Fin 64) (l : Fin 1024) :
    (dats m 0 c).arrAt 12 cfg0.N (ix3 s (row i r) l : S5x256x1024.Idx) = Row.proj (SsmSpec.norm (args m c) (SsmSpec.closed (args m c)) s (row i r)) (args m c).w (args m c).ws l := by
  have b := congrFun (Value.blocks12 m c (pt i) (flush0_12 (pt i))) (ix3 s r l : S5x64x1024.Idx)
  rw [Value.flushed12] at b
  have b' : (dats m 0 c).arrAt 12 cfg0.N (((cfg0.win 12).blk (pt i)).view.emb (ix3 s r l : S5x64x1024.Idx))
      = out0_12 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) := b
  rw [emb12, out12] at b'
  exact b'

theorem arr12 (s : Fin 5) (r : Fin 256) (l : Fin 1024) :
    (dats m 0 c).arrAt 12 cfg0.N (ix3 s r l : S5x256x1024.Idx) = Row.proj (SsmSpec.norm (args m c) (SsmSpec.closed (args m c)) s r) (args m c).w (args m c).ws l := by
  have hR : row ⟨r.val / 64, by omega⟩ ⟨r.val % 64, by omega⟩ = r := Fin.ext (Nat.div_add_mod _ _)
  have b := blk12 m c ⟨r.val / 64, by omega⟩ s ⟨r.val % 64, by omega⟩ l
  rw [hR] at b
  exact b

/-- One step's piece of result block 2. -/
theorem tile13 (G : Fin 5 → Fin 64 → Fin 1536 → Elt Ideal .i8) (t s : Fin 5) (r : Fin 64) (l : Fin 1536) (p : Vec Ideal S1x64x1536 .i8)
    (h : ∀ r l, p (ix3 0 r l) = G t r l) : View.TileAt (S := S5x64x1536) (ix3 s r l) ![t.val, 0, 0] S1x64x1536.size p (G s r l) := by
  intro x hx
  have h0 : s.val = t.val + (x 0).val := hx 0
  have h1 : r.val = 0 + (x 1).val := hx 1
  have h2 : l.val = 0 + (x 2).val := hx 2
  have l0 : (x 0).val < 1 := (x 0).isLt
  have ex : x = ix3 (0 : Fin 1) r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  have et : t = s := Fin.ext (by omega)
  subst et
  exact (congrArg p ex).trans (h r l)

theorem out13 (s : Fin 5) (r : Fin 64) (l : Fin 1536) :
    out0_13 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) = Row.code8 (SsmSpec.norm (args m c) (SsmSpec.closed (args m c)) s (row i r)) l := by
  unfold out0_13
  refine View.canon_eq_of_allAt _ _ _ (cover0_13 _ _ _ _ _ _) ?_
  have key := tile13 (fun s r l => Row.code8 (SsmSpec.norm (args m c) (SsmSpec.closed (args m c)) s (row i r)) l)
  refine View.allAt_cons_unit _ _ _ _ _ (key 4 s r l _ fun r l => (congrFun (piece13_4 _ _ _ _ _ _ _ _ _ _ _) (ix3 0 r l)).trans ((pay18 _ _ 0 r l).trans (congrArg (fun v => Row.code8 v l) (y4 m c i r)))) ?_
  refine View.allAt_cons_unit _ _ _ _ _ (key 3 s r l _ fun r l => (congrFun (piece13_3 _ _ _ _ _ _ _ _ _ _ _) (ix3 0 r l)).trans ((pay18 _ _ 0 r l).trans (congrArg (fun v => Row.code8 v l) (y3 m c i r)))) ?_
  refine View.allAt_cons_unit _ _ _ _ _ (key 2 s r l _ fun r l => (congrFun (piece13_2 _ _ _ _ _ _ _ _ _ _ _) (ix3 0 r l)).trans ((pay18 _ _ 0 r l).trans (congrArg (fun v => Row.code8 v l) (y2 m c i r)))) ?_
  refine View.allAt_cons_unit _ _ _ _ _ (key 1 s r l _ fun r l => (congrFun (piece13_1 _ _ _ _ _ _ _ _ _ _ _) (ix3 0 r l)).trans ((pay18 _ _ 0 r l).trans (congrArg (fun v => Row.code8 v l) (y1 m c i r)))) ?_
  exact View.allAt_cons_unit _ _ _ _ _ (key 0 s r l _ fun r l => (congrFun (piece13_0 _ _ _ _ _ _ _ _ _ _ _) (ix3 0 r l)).trans ((pay18 _ _ 0 r l).trans (congrArg (fun v => Row.code8 v l) (y0 m c i r)))) (View.allAt_nil _ _)

theorem blk13 (s : Fin 5) (r : Fin 64) (l : Fin 1536) :
    (dats m 0 c).arrAt 13 cfg0.N (ix3 s (row i r) l : S5x256x1536.Idx) = Row.code8 (SsmSpec.norm (args m c) (SsmSpec.closed (args m c)) s (row i r)) l := by
  have b := congrFun (Value.blocks13 m c (pt i) (flush0_13 (pt i))) (ix3 s r l : S5x64x1536.Idx)
  rw [Value.flushed13] at b
  have b' : (dats m 0 c).arrAt 13 cfg0.N (((cfg0.win 13).blk (pt i)).view.emb (ix3 s r l : S5x64x1536.Idx))
      = out0_13 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) := b
  rw [emb13, out13] at b'
  exact b'

theorem arr13 (s : Fin 5) (r : Fin 256) (l : Fin 1536) :
    (dats m 0 c).arrAt 13 cfg0.N (ix3 s r l : S5x256x1536.Idx) = Row.code8 (SsmSpec.norm (args m c) (SsmSpec.closed (args m c)) s r) l := by
  have hR : row ⟨r.val / 64, by omega⟩ ⟨r.val % 64, by omega⟩ = r := Fin.ext (Nat.div_add_mod _ _)
  have b := blk13 m c ⟨r.val / 64, by omega⟩ s ⟨r.val % 64, by omega⟩ l
  rw [hR] at b
  exact b

/-- One step's piece of result block 3. -/
theorem tile14 (G : Fin 5 → Fin 64 → Fin 1 → Elt Ideal .f32) (t s : Fin 5) (r : Fin 64) (l : Fin 1) (p : Vec Ideal S1x64x1 .f32)
    (h : ∀ r l, p (ix3 0 r l) = G t r l) : View.TileAt (S := S5x64x1) (ix3 s r l) ![t.val, 0, 0] S1x64x1.size p (G s r l) := by
  intro x hx
  have h0 : s.val = t.val + (x 0).val := hx 0
  have h1 : r.val = 0 + (x 1).val := hx 1
  have h2 : l.val = 0 + (x 2).val := hx 2
  have l0 : (x 0).val < 1 := (x 0).isLt
  have ex : x = ix3 (0 : Fin 1) r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  have et : t = s := Fin.ext (by omega)
  subst et
  exact (congrArg p ex).trans (h r l)

theorem out14 (s : Fin 5) (r : Fin 64) (l : Fin 1) :
    out0_14 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) = Row.scale (SsmSpec.norm (args m c) (SsmSpec.closed (args m c)) s (row i r)) := by
  unfold out0_14
  refine View.canon_eq_of_allAt _ _ _ (cover0_14 _ _ _ _ _ _) ?_
  have key := tile14 (fun s r l => Row.scale (SsmSpec.norm (args m c) (SsmSpec.closed (args m c)) s (row i r)))
  refine View.allAt_cons_unit _ _ _ _ _ (key 4 s r l _ fun r l => (congrFun (piece14_4 _ _ _ _ _ _ _ _ _ _ _) (ix3 0 r l)).trans ((pay19 _ _ 0 r l).trans (congrArg Row.scale (y4 m c i r)))) ?_
  refine View.allAt_cons_unit _ _ _ _ _ (key 3 s r l _ fun r l => (congrFun (piece14_3 _ _ _ _ _ _ _ _ _ _ _) (ix3 0 r l)).trans ((pay19 _ _ 0 r l).trans (congrArg Row.scale (y3 m c i r)))) ?_
  refine View.allAt_cons_unit _ _ _ _ _ (key 2 s r l _ fun r l => (congrFun (piece14_2 _ _ _ _ _ _ _ _ _ _ _) (ix3 0 r l)).trans ((pay19 _ _ 0 r l).trans (congrArg Row.scale (y2 m c i r)))) ?_
  refine View.allAt_cons_unit _ _ _ _ _ (key 1 s r l _ fun r l => (congrFun (piece14_1 _ _ _ _ _ _ _ _ _ _ _) (ix3 0 r l)).trans ((pay19 _ _ 0 r l).trans (congrArg Row.scale (y1 m c i r)))) ?_
  exact View.allAt_cons_unit _ _ _ _ _ (key 0 s r l _ fun r l => (congrFun (piece14_0 _ _ _ _ _ _ _ _ _ _ _) (ix3 0 r l)).trans ((pay19 _ _ 0 r l).trans (congrArg Row.scale (y0 m c i r)))) (View.allAt_nil _ _)

theorem blk14 (s : Fin 5) (r : Fin 64) (l : Fin 1) :
    (dats m 0 c).arrAt 14 cfg0.N (ix3 s (row i r) l : S5x256x1.Idx) = Row.scale (SsmSpec.norm (args m c) (SsmSpec.closed (args m c)) s (row i r)) := by
  have b := congrFun (Value.blocks14 m c (pt i) (flush0_14 (pt i))) (ix3 s r l : S5x64x1.Idx)
  rw [Value.flushed14] at b
  have b' : (dats m 0 c).arrAt 14 cfg0.N (((cfg0.win 14).blk (pt i)).view.emb (ix3 s r l : S5x64x1.Idx))
      = out0_14 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (ix3 s r l) := b
  rw [emb14, out14] at b'
  exact b'

theorem arr14 (s : Fin 5) (r : Fin 256) (l : Fin 1) :
    (dats m 0 c).arrAt 14 cfg0.N (ix3 s r l : S5x256x1.Idx) = Row.scale (SsmSpec.norm (args m c) (SsmSpec.closed (args m c)) s r) := by
  have hR : row ⟨r.val / 64, by omega⟩ ⟨r.val % 64, by omega⟩ = r := Fin.ext (Nat.div_add_mod _ _)
  have b := blk14 m c ⟨r.val / 64, by omega⟩ s ⟨r.val % 64, by omega⟩ l
  rw [hR] at b
  exact b

end Cert.Proof.SsmFinal

end
-- ==== Proof.SsmRefStage.lean ====
/- The stages of the state-space reference's step, and each stored piece of its result arrays as the stages of its
   loads. -/
module

public import proofs.«01_k».proof.Proof.SsmSpec
public import proofs.«01_k».proof.Proof.Gen.SsmRefIdeal.Frame

@[expose] public section

set_option maxRecDepth 16384

noncomputable section

namespace Cert.Proof.SsmRefStage

open Idealize.ShloMosaic Cert.SsmRefIdeal Cert.SsmRefIdeal.Gen Cert.Proof

variable {F : FTy → Type} [FloatOps F]

/-- What the reference loads: the inputs, steps, decays and gates of each step, its input and output vectors, the codes and
    their scales, the skip and the weight. -/
structure Loads (F : FTy → Type) where
  xs : Fin 5 → Vec F S1x256x2x768 .f32
  d : Fin 5 → Vec F S1x256x2x768 .f32
  a : Fin 5 → Vec F S1x256x2x768 .f32
  z : Fin 5 → Vec F S1x256x2x768 .f32
  b : Fin 5 → Vec F S1x256x2x128 .f32
  c : Fin 5 → Vec F S1x256x2x128 .f32
  q : Vec F S256x2x768x128 .f32
  s : Vec F S256x2x768 .f32
  ds : Vec F S2x768 .f32
  g : Vec F S2x768 .f32

variable (L : Loads F)

/-- The state before the first step, and after each. -/
def start : FVec F S256x2x768x128 .f32 :=
  mulf (shapeCast S256x2x768x128 L.q shapeCasts_S256x2x768x128_S256x2x768x128)
    (broadcastTo S256x2x768x128 (shapeCast S256x2x768x1 (shapeCast S256x2x768 L.s shapeCasts_S256x2x768_S256x2x768)
      shapeCasts_S256x2x768_S256x2x768x1) broadcasts_S256x2x768x1_S256x2x768x128)
def step (S : FVec F S256x2x768x128 .f32) (t : Fin 5) : FVec F S256x2x768x128 .f32 := k0_pay29 S (L.xs t) (L.a t) (L.d t) (L.b t)
def st0 : FVec F S256x2x768x128 .f32 := step L (start L) 0
def st1 : FVec F S256x2x768x128 .f32 := step L (st0 L) 1
def st2 : FVec F S256x2x768x128 .f32 := step L (st1 L) 2
def st3 : FVec F S256x2x768x128 .f32 := step L (st2 L) 3
def st4 : FVec F S256x2x768x128 .f32 := step L (st3 L) 4

/-- The branch's output of a step, its scale and its rounding. -/
def row (S : FVec F S256x2x768x128 .f32) (t : Fin 5) : FVec F S256x1536 .f32 :=
  k0_pay31 (k0_pay28 (L.xs t)) S (k0_pay30 (L.c t)) L.ds (L.z t) L.g
def sc (S : FVec F S256x2x768x128 .f32) (t : Fin 5) : FVec F S256 .f32 :=
  k0_pay32 (k0_pay28 (L.xs t)) S (k0_pay30 (L.c t)) L.ds (L.z t) L.g
def rnd (S : FVec F S256x2x768x128 .f32) (t : Fin 5) : FVec F S256x1536 .f32 :=
  k0_pay33 (k0_pay28 (L.xs t)) S (k0_pay30 (L.c t)) L.ds (L.z t) L.g

/-- The loads, from the blocks. -/
def loads (x0 : Vec F S5x256x2x768 .f32) (x1 : Vec F S5x256x2x128 .f32) (x2 : Vec F S5x256x2x128 .f32) (x3 : Vec F S5x256x2x768 .f32) (x4 : Vec F S5x256x2x768 .f32)
    (x5 : Vec F S5x256x2x768 .f32) (x6 : Vec F S256x2x768x128 .f32) (x7 : Vec F S256x2x768 .f32) (x8 : Vec F S2x768 .f32) (x9 : Vec F S2x768 .f32)
    (x10 : Vec F S1536x1024 .i8) (x11 : Vec F S1024 .f32) : Loads F where
  xs := ![View.ld x0 r0_2, View.ld x0 r0_10, View.ld x0 r0_15, View.ld x0 r0_20, View.ld x0 r0_25]
  d := ![View.ld x3 r0_2, View.ld x3 r0_10, View.ld x3 r0_15, View.ld x3 r0_20, View.ld x3 r0_25]
  a := ![View.ld x4 r0_2, View.ld x4 r0_10, View.ld x4 r0_15, View.ld x4 r0_20, View.ld x4 r0_25]
  z := ![View.ld x5 r0_2, View.ld x5 r0_10, View.ld x5 r0_15, View.ld x5 r0_20, View.ld x5 r0_25]
  b := ![View.ld x1 r0_3, View.ld x1 r0_11, View.ld x1 r0_16, View.ld x1 r0_21, View.ld x1 r0_26]
  c := ![View.ld x2 r0_3, View.ld x2 r0_11, View.ld x2 r0_16, View.ld x2 r0_21, View.ld x2 r0_26]
  q := View.ld x6 r0_0
  s := View.ld x7 r0_1
  ds := View.ld x8 r0_4
  g := View.ld x9 r0_4

variable (x0 : Vec F S5x256x2x768 .f32) (x1 : Vec F S5x256x2x128 .f32) (x2 : Vec F S5x256x2x128 .f32) (x3 : Vec F S5x256x2x768 .f32) (x4 : Vec F S5x256x2x768 .f32)
    (x5 : Vec F S5x256x2x768 .f32) (x6 : Vec F S256x2x768x128 .f32) (x7 : Vec F S256x2x768 .f32) (x8 : Vec F S2x768 .f32) (x9 : Vec F S2x768 .f32)
    (x10 : Vec F S1536x1024 .i8) (x11 : Vec F S1024 .f32)

theorem piece12_0 : k0_pay10 (k0_pay5 (k0_pay63 x0 x1 x2 x3 x4 x5 x6 x7 x8 x9 x10 x11) (k0_pay65 x0 x1 x2 x3 x4 x5 x6 x7 x8 x9 x10 x11) (View.ld x8 r0_4) (View.ld x5 r0_2) (View.ld x9 r0_4))
    = k0_pay36 (row (loads x0 x1 x2 x3 x4 x5 x6 x7 x8 x9 x10 x11) (st0 (loads x0 x1 x2 x3 x4 x5 x6 x7 x8 x9 x10 x11)) 0) := rfl

theorem piece12_1 : k0_pay23 (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (Scalar.ofBits .f32 0x3727C5AC#32)
    = k0_pay36 (row (loads x0 x1 x2 x3 x4 x5 x6 x7 x8 x9 x10 x11) (st1 (loads x0 x1 x2 x3 x4 x5 x6 x7 x8 x9 x10 x11)) 1) := rfl

theorem piece12_2 : k0_pay36 (k0_pay31 (k0_pay74 x0 x1 x2 x3 x4 x5 x6 x7 x8 x9 x10 x11) (k0_pay75 x0 x1 x2 x3 x4 x5 x6 x7 x8 x9 x10 x11) (k0_pay76 x0 x1 x2 x3 x4 x5 x6 x7 x8 x9 x10 x11) (View.ld x8 r0_4) (View.ld x5 r0_15) (View.ld x9 r0_4))
    = k0_pay36 (row (loads x0 x1 x2 x3 x4 x5 x6 x7 x8 x9 x10 x11) (st2 (loads x0 x1 x2 x3 x4 x5 x6 x7 x8 x9 x10 x11)) 2) := rfl

theorem piece12_3 : k0_pay48 (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11)
    = k0_pay36 (row (loads x0 x1 x2 x3 x4 x5 x6 x7 x8 x9 x10 x11) (st3 (loads x0 x1 x2 x3 x4 x5 x6 x7 x8 x9 x10 x11)) 3) := rfl

theorem piece12_4 : k0_pay59 (k0_pay55 (k0_pay83 x0 x1 x2 x3 x4 x5 x6 x7 x8 x9 x10 x11) (k0_pay84 x0 x1 x2 x3 x4 x5 x6 x7 x8 x9 x10 x11) (View.ld x2 r0_26) (View.ld x8 r0_4) (View.ld x5 r0_25) (View.ld x9 r0_4))
    = k0_pay36 (row (loads x0 x1 x2 x3 x4 x5 x6 x7 x8 x9 x10 x11) (st4 (loads x0 x1 x2 x3 x4 x5 x6 x7 x8 x9 x10 x11)) 4) := rfl

theorem piece13_0 : k0_pay11 (k0_pay66 x0 x1 x2 x3 x4 x5 x6 x7 x8 x9 x10 x11) (k0_pay67 x0 x1 x2 x3 x4 x5 x6 x7 x8 x9 x10 x11) (k0_pay68 x0 x1 x2 x3 x4 x5 x6 x7 x8 x9 x10 x11) (View.ld x10 r0_6) (View.ld x11 r0_7)
    = k0_pay37 (sc (loads x0 x1 x2 x3 x4 x5 x6 x7 x8 x9 x10 x11) (st0 (loads x0 x1 x2 x3 x4 x5 x6 x7 x8 x9 x10 x11)) 0) (rnd (loads x0 x1 x2 x3 x4 x5 x6 x7 x8 x9 x10 x11) (st0 (loads x0 x1 x2 x3 x4 x5 x6 x7 x8 x9 x10 x11)) 0) 127#32 (k0_pay34 (F := F)) (View.ld x10 r0_6) (View.ld x11 r0_7) := rfl

theorem piece13_1 : k0_pay25 (k0_pay24 (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (Scalar.ofBits .f32 0x3727C5AC#32) (View.ld x10 r0_6) (View.ld x11 r0_7))
    = k0_pay37 (sc (loads x0 x1 x2 x3 x4 x5 x6 x7 x8 x9 x10 x11) (st1 (loads x0 x1 x2 x3 x4 x5 x6 x7 x8 x9 x10 x11)) 1) (rnd (loads x0 x1 x2 x3 x4 x5 x6 x7 x8 x9 x10 x11) (st1 (loads x0 x1 x2 x3 x4 x5 x6 x7 x8 x9 x10 x11)) 1) 127#32 (k0_pay34 (F := F)) (View.ld x10 r0_6) (View.ld x11 r0_7) := rfl

theorem piece13_2 : k0_pay37 (k0_pay77 x0 x1 x2 x3 x4 x5 x6 x7 x8 x9 x10 x11) (k0_pay78 x0 x1 x2 x3 x4 x5 x6 x7 x8 x9 x10 x11) 127#32 (k0_pay34 (F := F)) (View.ld x10 r0_6) (View.ld x11 r0_7)
    = k0_pay37 (sc (loads x0 x1 x2 x3 x4 x5 x6 x7 x8 x9 x10 x11) (st2 (loads x0 x1 x2 x3 x4 x5 x6 x7 x8 x9 x10 x11)) 2) (rnd (loads x0 x1 x2 x3 x4 x5 x6 x7 x8 x9 x10 x11) (st2 (loads x0 x1 x2 x3 x4 x5 x6 x7 x8 x9 x10 x11)) 2) 127#32 (k0_pay34 (F := F)) (View.ld x10 r0_6) (View.ld x11 r0_7) := rfl

theorem piece13_3 : k0_pay50 (k0_pay49 (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (View.ld x10 r0_6) (View.ld x11 r0_7))
    = k0_pay37 (sc (loads x0 x1 x2 x3 x4 x5 x6 x7 x8 x9 x10 x11) (st3 (loads x0 x1 x2 x3 x4 x5 x6 x7 x8 x9 x10 x11)) 3) (rnd (loads x0 x1 x2 x3 x4 x5 x6 x7 x8 x9 x10 x11) (st3 (loads x0 x1 x2 x3 x4 x5 x6 x7 x8 x9 x10 x11)) 3) 127#32 (k0_pay34 (F := F)) (View.ld x10 r0_6) (View.ld x11 r0_7) := rfl

theorem piece13_4 : k0_pay60 (k0_pay85 x0 x1 x2 x3 x4 x5 x6 x7 x8 x9 x10 x11) (k0_pay86 x0 x1 x2 x3 x4 x5 x6 x7 x8 x9 x10 x11) (View.ld x10 r0_6) (View.ld x11 r0_7)
    = k0_pay37 (sc (loads x0 x1 x2 x3 x4 x5 x6 x7 x8 x9 x10 x11) (st4 (loads x0 x1 x2 x3 x4 x5 x6 x7 x8 x9 x10 x11)) 4) (rnd (loads x0 x1 x2 x3 x4 x5 x6 x7 x8 x9 x10 x11) (st4 (loads x0 x1 x2 x3 x4 x5 x6 x7 x8 x9 x10 x11)) 4) 127#32 (k0_pay34 (F := F)) (View.ld x10 r0_6) (View.ld x11 r0_7) := rfl

theorem piece14_0 : k0_pay12 (k0_pay67 x0 x1 x2 x3 x4 x5 x6 x7 x8 x9 x10 x11) (k0_pay68 x0 x1 x2 x3 x4 x5 x6 x7 x8 x9 x10 x11)
    = k0_pay38 (rnd (loads x0 x1 x2 x3 x4 x5 x6 x7 x8 x9 x10 x11) (st0 (loads x0 x1 x2 x3 x4 x5 x6 x7 x8 x9 x10 x11)) 0) 127#32 (k0_pay34 (F := F)) := rfl

theorem piece14_1 : k0_pay26 (k0_pay22 (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (Scalar.ofBits .f32 0x3727C5AC#32))
    = k0_pay38 (rnd (loads x0 x1 x2 x3 x4 x5 x6 x7 x8 x9 x10 x11) (st1 (loads x0 x1 x2 x3 x4 x5 x6 x7 x8 x9 x10 x11)) 1) 127#32 (k0_pay34 (F := F)) := rfl

theorem piece14_2 : k0_pay38 (k0_pay78 x0 x1 x2 x3 x4 x5 x6 x7 x8 x9 x10 x11) 127#32 (k0_pay34 (F := F))
    = k0_pay38 (rnd (loads x0 x1 x2 x3 x4 x5 x6 x7 x8 x9 x10 x11) (st2 (loads x0 x1 x2 x3 x4 x5 x6 x7 x8 x9 x10 x11)) 2) 127#32 (k0_pay34 (F := F)) := rfl

theorem piece14_3 : k0_pay51 (k0_pay47 (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11))
    = k0_pay38 (rnd (loads x0 x1 x2 x3 x4 x5 x6 x7 x8 x9 x10 x11) (st3 (loads x0 x1 x2 x3 x4 x5 x6 x7 x8 x9 x10 x11)) 3) 127#32 (k0_pay34 (F := F)) := rfl

theorem piece14_4 : k0_pay62 (k0_pay86 x0 x1 x2 x3 x4 x5 x6 x7 x8 x9 x10 x11)
    = k0_pay38 (rnd (loads x0 x1 x2 x3 x4 x5 x6 x7 x8 x9 x10 x11) (st4 (loads x0 x1 x2 x3 x4 x5 x6 x7 x8 x9 x10 x11)) 4) 127#32 (k0_pay34 (F := F)) := rfl

theorem piece15_0 : k0_pay13 (k0_pay66 x0 x1 x2 x3 x4 x5 x6 x7 x8 x9 x10 x11)
    = k0_pay39 (sc (loads x0 x1 x2 x3 x4 x5 x6 x7 x8 x9 x10 x11) (st0 (loads x0 x1 x2 x3 x4 x5 x6 x7 x8 x9 x10 x11)) 0) := rfl

theorem piece15_1 : k0_pay27 (k0_pay21 (k0_pay71 x0 x1 x2 x3 x4 x5 x6 x7 x8 x9 x10 x11) (k0_pay72 x0 x1 x2 x3 x4 x5 x6 x7 x8 x9 x10 x11) (k0_pay73 x0 x1 x2 x3 x4 x5 x6 x7 x8 x9 x10 x11) (Scalar.ofBits .f32 0x3727C5AC#32))
    = k0_pay39 (sc (loads x0 x1 x2 x3 x4 x5 x6 x7 x8 x9 x10 x11) (st1 (loads x0 x1 x2 x3 x4 x5 x6 x7 x8 x9 x10 x11)) 1) := rfl

theorem piece15_2 : k0_pay39 (k0_pay77 x0 x1 x2 x3 x4 x5 x6 x7 x8 x9 x10 x11)
    = k0_pay39 (sc (loads x0 x1 x2 x3 x4 x5 x6 x7 x8 x9 x10 x11) (st2 (loads x0 x1 x2 x3 x4 x5 x6 x7 x8 x9 x10 x11)) 2) := rfl

theorem piece15_3 : k0_pay52 (k0_pay46 (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11))
    = k0_pay39 (sc (loads x0 x1 x2 x3 x4 x5 x6 x7 x8 x9 x10 x11) (st3 (loads x0 x1 x2 x3 x4 x5 x6 x7 x8 x9 x10 x11)) 3) := rfl

theorem piece15_4 : k0_pay1 (k0_pay61 (k0_pay85 x0 x1 x2 x3 x4 x5 x6 x7 x8 x9 x10 x11))
    = k0_pay39 (sc (loads x0 x1 x2 x3 x4 x5 x6 x7 x8 x9 x10 x11) (st4 (loads x0 x1 x2 x3 x4 x5 x6 x7 x8 x9 x10 x11)) 4) := rfl

end Cert.Proof.SsmRefStage

end
-- ==== Proof.SsmRefPay.lean ====
/- The state-space reference's stages, read at an index, as the branch's mathematics (SsmSpec.lean). -/
module

public import proofs.«01_k».proof.Proof.SsmRefStage
public import Idealize.ShloMosaic.Lib.ValueLayout

@[expose] public section

set_option maxRecDepth 16384

noncomputable section

namespace Cert.Proof.SsmRefPay

open Idealize.ShloMosaic Cert.SsmRefIdeal Cert.SsmRefIdeal.Gen Cert.Proof Cert.Proof.SsmRefStage

theorem start_eq (L : Loads Ideal) (r : Fin 256) (g : Fin 2) (l : Fin 768) (n : Fin 128) :
    start L (ix4 r g l n) = L.q (ix4 r g l n) * L.s (ix3 r g l) := by
  pointwise [start]

theorem step_eq (L : Loads Ideal) (S : FVec Ideal S256x2x768x128 .f32) (t : Fin 5) (r : Fin 256) (g : Fin 2) (l : Fin 768) (n : Fin 128) :
    step L S t (ix4 r g l n) = L.a t (ix4 0 r g l) * S (ix4 r g l n) + L.d t (ix4 0 r g l) * L.xs t (ix4 0 r g l) * L.b t (ix4 0 r g n) := by
  pointwise [step, k0_pay29, k0_pay28]

/-- The gated output of a step. -/
def gateV (L : Loads Ideal) (S : FVec Ideal S256x2x768x128 .f32) (t : Fin 5) (r : Fin 256) (g : Fin 2) (l : Fin 768) : EReal :=
  Row.gate (∑ n : Fin 128, S (ix4 r g l n) * L.c t (ix4 0 r g n)) (L.ds (ix2 g l)) (L.xs t (ix4 0 r g l)) (L.z t (ix4 0 r g l))

theorem row_at (L : Loads Ideal) (S : FVec Ideal S256x2x768x128 .f32) (t : Fin 5) (r : Fin 256) (l : Fin 1536) :
    row L S t (ix2 r l) = Row.rms768 (gateV L S t r ⟨l.val / 768, by omega⟩) (fun x => L.g (ix2 (⟨l.val / 768, by omega⟩ : Fin 2) x)) ⟨l.val % 768, by omega⟩ := by
  pointwise [row, k0_pay31, k0_pay28, k0_pay30]
  rfl

theorem sc_at (L : Loads Ideal) (S : FVec Ideal S256x2x768x128 .f32) (t : Fin 5) (r : Fin 256) :
    sc L S t (ix1 r) = Row.scale (fun l => row L S t (ix2 r l)) := by
  pointwise [sc, k0_pay32]
  rfl

theorem rnd_at (L : Loads Ideal) (S : FVec Ideal S256x2x768x128 .f32) (t : Fin 5) (r : Fin 256) (l : Fin 1536) :
    rnd L S t (ix2 r l) = FloatOps.roundeven (F := Ideal) (φ := .f32) (Ideal.div (row L S t (ix2 r l)) (sc L S t (ix1 r))) := by
  pointwise [rnd, k0_pay33]
  rfl

theorem pay35 (L : Loads Ideal) (S : FVec Ideal S256x2x768x128 .f32) (t : Fin 5) (r : Fin 256) (l : Fin 1536) :
    k0_pay35 (rnd L S t) 127#32 k0_pay34 (ix2 r l) = Row.code8 (fun l => row L S t (ix2 r l)) l := by
  pointwise [k0_pay35, k0_pay34]
  rw [rnd_at, sc_at]
  rfl

theorem pay36 (L : Loads Ideal) (S : FVec Ideal S256x2x768x128 .f32) (t : Fin 5) (z : Fin 1) (r : Fin 256) (l : Fin 1536) :
    k0_pay36 (row L S t) (ix3 z r l) = row L S t (ix2 r l) := by
  pointwise [k0_pay36]

theorem pay37 (L : Loads Ideal) (S : FVec Ideal S256x2x768x128 .f32) (t : Fin 5) (w : Vec Ideal S1536x1024 .i8) (ws : Vec Ideal S1024 .f32)
    (z : Fin 1) (r : Fin 256) (l : Fin 1024) :
    k0_pay37 (sc L S t) (rnd L S t) 127#32 k0_pay34 w ws (ix3 z r l)
      = Row.proj (fun l => row L S t (ix2 r l)) (fun x l => w (ix2 x l)) (fun l => ws (ix1 l)) l := by
  pointwise [k0_pay37]
  simp only [pay35, sc_at, Row.sitofp_code8]
  rfl

theorem pay38 (L : Loads Ideal) (S : FVec Ideal S256x2x768x128 .f32) (t : Fin 5) (z : Fin 1) (r : Fin 256) (l : Fin 1536) :
    k0_pay38 (rnd L S t) 127#32 k0_pay34 (ix3 z r l) = Row.code8 (fun l => row L S t (ix2 r l)) l := by
  pointwise [k0_pay38]
  exact pay35 L S t r l

theorem pay39 (L : Loads Ideal) (S : FVec Ideal S256x2x768x128 .f32) (t : Fin 5) (z : Fin 1) (r : Fin 256) (y : Fin 1) :
    k0_pay39 (sc L S t) (ix3 z r y) = Row.scale (fun l => row L S t (ix2 r l)) := by
  pointwise [k0_pay39]
  exact sc_at L S t r

/-- The loads are the argument arrays, a group of 768 columns at a time. -/
structure Reads (L : Loads Ideal) (A : SsmSpec.Args) : Prop where
  xs : ∀ t r (g : Fin 2) (l : Fin 768), L.xs t (ix4 0 r g l) = A.xs t r ⟨768 * g + l, by omega⟩
  d : ∀ t r (g : Fin 2) (l : Fin 768), L.d t (ix4 0 r g l) = A.dt t r ⟨(768 * g + l) / 64, by omega⟩
  a : ∀ t r (g : Fin 2) (l : Fin 768), L.a t (ix4 0 r g l) = A.dt t r ⟨32 + (768 * g + l) / 64, by omega⟩
  z : ∀ t r (g : Fin 2) (l : Fin 768), L.z t (ix4 0 r g l) = A.z t r ⟨768 * g + l, by omega⟩
  b : ∀ t r (g : Fin 2) (n : Fin 128), L.b t (ix4 0 r g n) = A.bc t r ⟨128 * g + n, by omega⟩
  c : ∀ t r (g : Fin 2) (n : Fin 128), L.c t (ix4 0 r g n) = A.bc t r ⟨256 + (128 * g + n), by omega⟩
  q : ∀ r (g : Fin 2) (l : Fin 768) n, L.q (ix4 r g l n) = A.q r ⟨768 * g + l, by omega⟩ n
  s : ∀ r (g : Fin 2) (l : Fin 768), L.s (ix3 r g l) = A.s r ⟨768 * g + l, by omega⟩
  ds : ∀ (g : Fin 2) (l : Fin 768), L.ds (ix2 g l) = A.ds ⟨(768 * g + l) / 64, by omega⟩
  g : ∀ (g : Fin 2) (l : Fin 768), L.g (ix2 g l) = A.gn ⟨768 * g + l, by omega⟩

variable {L : Loads Ideal} {A : SsmSpec.Args}

/-- A step of the recursion in a column. -/
theorem step_col (h : Reads L A) (S : FVec Ideal S256x2x768x128 .f32) (t : Fin 5) (r : Fin 256) (g : Fin 2) (l : Fin 768) (n : Fin 128) :
    step L S t (ix4 r g l n) = (SsmSpec.col A r ⟨768 * g + l, by omega⟩).a t * S (ix4 r g l n)
      + (SsmSpec.col A r ⟨768 * g + l, by omega⟩).d t * (SsmSpec.col A r ⟨768 * g + l, by omega⟩).b t n := by
  have e : (⟨128 * ((768 * g.val + l.val) / 768) + n.val, by omega⟩ : Fin 512) = ⟨128 * g + n, by omega⟩ := Fin.ext (by
    show 128 * ((768 * g.val + l.val) / 768) + n.val = 128 * g.val + n.val; omega)
  rw [step_eq, h.a, h.d, h.xs, h.b, ← e]
  rfl

theorem st0_eq (h : Reads L A) (r : Fin 256) (g : Fin 2) (l : Fin 768) (n : Fin 128) :
    st0 L (ix4 r g l n) = (SsmSpec.col A r ⟨768 * g + l, by omega⟩).st0 n := by
  unfold st0
  rw [step_col h, start_eq, h.q, h.s]; rfl
theorem st1_eq (h : Reads L A) (r : Fin 256) (g : Fin 2) (l : Fin 768) (n : Fin 128) :
    st1 L (ix4 r g l n) = (SsmSpec.col A r ⟨768 * g + l, by omega⟩).st1 n := by
  unfold st1
  rw [step_col h, st0_eq h]; rfl
theorem st2_eq (h : Reads L A) (r : Fin 256) (g : Fin 2) (l : Fin 768) (n : Fin 128) :
    st2 L (ix4 r g l n) = (SsmSpec.col A r ⟨768 * g + l, by omega⟩).st2 n := by
  unfold st2
  rw [step_col h, st1_eq h]; rfl
theorem st3_eq (h : Reads L A) (r : Fin 256) (g : Fin 2) (l : Fin 768) (n : Fin 128) :
    st3 L (ix4 r g l n) = (SsmSpec.col A r ⟨768 * g + l, by omega⟩).st3 n := by
  unfold st3
  rw [step_col h, st2_eq h]; rfl
theorem st4_eq (h : Reads L A) (r : Fin 256) (g : Fin 2) (l : Fin 768) (n : Fin 128) :
    st4 L (ix4 r g l n) = (SsmSpec.col A r ⟨768 * g + l, by omega⟩).st4 n := by
  unfold st4
  rw [step_col h, st3_eq h]; rfl

/-- The row of the branch's output, from the step's state. -/
theorem row_eq (h : Reads L A) (S : FVec Ideal S256x2x768x128 .f32) (t : Fin 5)
    (hS : ∀ r g l n, S (ix4 r g l n) = (SsmSpec.col A r ⟨768 * g.val + l.val, by omega⟩).st t n) (r : Fin 256) :
    (fun l => row L S t (ix2 r l)) = SsmSpec.norm A (SsmSpec.outs A) t r := by
  have hg : ∀ (g : Fin 2) (l : Fin 768), gateV L S t r g l = SsmSpec.gated A (SsmSpec.outs A) t r ⟨768 * g + l, by omega⟩ := by
    intro g l
    have e : (∑ n : Fin 128, S (ix4 r g l n) * L.c t (ix4 0 r g n)) = (SsmSpec.col A r ⟨768 * g + l, by omega⟩).out t := by
      refine Finset.sum_congr rfl fun n _ => ?_
      have e : (⟨256 + (128 * ((768 * g.val + l.val) / 768) + n.val), by omega⟩ : Fin 512) = ⟨256 + (128 * g + n), by omega⟩ := Fin.ext (by
        show 256 + (128 * ((768 * g.val + l.val) / 768) + n.val) = 256 + (128 * g.val + n.val); omega)
      rw [hS, h.c, ← e]; rfl
    unfold gateV
    rw [e, h.ds, h.xs, h.z]; rfl
  funext l
  rw [row_at]
  have e1 : gateV L S t r ⟨l.val / 768, by omega⟩ = fun x => SsmSpec.gated A (SsmSpec.outs A) t r ⟨768 * (l.val / 768) + x.val, by omega⟩ :=
    funext fun x => hg _ x
  rw [e1]
  simp only [h.g]
  rfl

end Cert.Proof.SsmRefPay

end
-- ==== Proof.SsmRefFinal.lean ====
/- The state-space reference's result arrays after the run, at every index, as the branch's mathematics (SsmSpec.lean) of
   the argument arrays. -/
module

public import proofs.«01_k».proof.Proof.SsmRefPay
public import proofs.«01_k».proof.Proof.Gen.SsmRefIdeal.Value
public import Idealize.ShloMosaic.Lib.Claim
public import Idealize.ShloMosaic.Lib.ValueLayout
public import Idealize.ShloMosaic.Lib.Pipeline.ValueKit.Tiles

@[expose] public section

set_option maxRecDepth 16384

noncomputable section

namespace Cert.Proof.SsmRefFinal

open Idealize.ShloMosaic Idealize.ShloMosaic.TcCoe Idealize.SL.Sem Cert.SsmRefIdeal Cert.SsmRefIdeal.Gen Cert.Proof
open Cert.Proof.SsmRefStage Cert.Proof.SsmRefPay

theorem z0 {n : Nat} : n = 0 + n := (Nat.zero_add n).symm

/-- A load of a range of a block, at an index. -/
theorem ld_at {S : Shape} {e : EltTy} (x : Vec Ideal S e) {off size : Fin S.rank → Nat} {inb : ∀ a, off a + size a ≤ S.size a}
    (j : (Rect.unit (s := S) off size inb).shape.Idx) (i : S.Idx) (h : ∀ a, (i a : Nat) = off a + (j a : Nat)) :
    View.ld x (Rect.unit (s := S) off size inb) j = x i :=
  congrArg x (funext fun a => Fin.ext (by
    show off a + 1 * (j a : Nat) = (i a : Nat)
    rw [h a, Nat.one_mul]))

/-- The kernel's single point. -/
def pt : Fin cfg0.N := ⟨0, by decide⟩

/-! ## Each block is its whole array -/

theorem idx0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

theorem emb0 (t : Fin cfg0.N) (y : S5x256x2x768.Idx) : ((cfg0.win 0).blk t).view.emb y = y := by
  obtain ⟨e0, e1, e2, e3⟩ := idx0 t
  funext a; apply Fin.ext
  match a with
  | ⟨0, _⟩ => show win0_0.index t (0 : Fin 4) * 5 + 1 * (y 0).val = (y 0).val; omega
  | ⟨1, _⟩ => show win0_0.index t (1 : Fin 4) * 256 + 1 * (y 1).val = (y 1).val; omega
  | ⟨2, _⟩ => show win0_0.index t (2 : Fin 4) * 2 + 1 * (y 2).val = (y 2).val; omega
  | ⟨3, _⟩ => show win0_0.index t (3 : Fin 4) * 768 + 1 * (y 3).val = (y 3).val; omega

theorem idx1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

theorem emb1 (t : Fin cfg0.N) (y : S5x256x2x128.Idx) : ((cfg0.win 1).blk t).view.emb y = y := by
  obtain ⟨e0, e1, e2, e3⟩ := idx1 t
  funext a; apply Fin.ext
  match a with
  | ⟨0, _⟩ => show win0_1.index t (0 : Fin 4) * 5 + 1 * (y 0).val = (y 0).val; omega
  | ⟨1, _⟩ => show win0_1.index t (1 : Fin 4) * 256 + 1 * (y 1).val = (y 1).val; omega
  | ⟨2, _⟩ => show win0_1.index t (2 : Fin 4) * 2 + 1 * (y 2).val = (y 2).val; omega
  | ⟨3, _⟩ => show win0_1.index t (3 : Fin 4) * 128 + 1 * (y 3).val = (y 3).val; omega

theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

theorem emb2 (t : Fin cfg0.N) (y : S5x256x2x128.Idx) : ((cfg0.win 2).blk t).view.emb y = y := by
  obtain ⟨e0, e1, e2, e3⟩ := idx2 t
  funext a; apply Fin.ext
  match a with
  | ⟨0, _⟩ => show win0_2.index t (0 : Fin 4) * 5 + 1 * (y 0).val = (y 0).val; omega
  | ⟨1, _⟩ => show win0_2.index t (1 : Fin 4) * 256 + 1 * (y 1).val = (y 1).val; omega
  | ⟨2, _⟩ => show win0_2.index t (2 : Fin 4) * 2 + 1 * (y 2).val = (y 2).val; omega
  | ⟨3, _⟩ => show win0_2.index t (3 : Fin 4) * 128 + 1 * (y 3).val = (y 3).val; omega

theorem idx3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

theorem emb3 (t : Fin cfg0.N) (y : S5x256x2x768.Idx) : ((cfg0.win 3).blk t).view.emb y = y := by
  obtain ⟨e0, e1, e2, e3⟩ := idx3 t
  funext a; apply Fin.ext
  match a with
  | ⟨0, _⟩ => show win0_3.index t (0 : Fin 4) * 5 + 1 * (y 0).val = (y 0).val; omega
  | ⟨1, _⟩ => show win0_3.index t (1 : Fin 4) * 256 + 1 * (y 1).val = (y 1).val; omega
  | ⟨2, _⟩ => show win0_3.index t (2 : Fin 4) * 2 + 1 * (y 2).val = (y 2).val; omega
  | ⟨3, _⟩ => show win0_3.index t (3 : Fin 4) * 768 + 1 * (y 3).val = (y 3).val; omega

theorem idx4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

theorem emb4 (t : Fin cfg0.N) (y : S5x256x2x768.Idx) : ((cfg0.win 4).blk t).view.emb y = y := by
  obtain ⟨e0, e1, e2, e3⟩ := idx4 t
  funext a; apply Fin.ext
  match a with
  | ⟨0, _⟩ => show win0_4.index t (0 : Fin 4) * 5 + 1 * (y 0).val = (y 0).val; omega
  | ⟨1, _⟩ => show win0_4.index t (1 : Fin 4) * 256 + 1 * (y 1).val = (y 1).val; omega
  | ⟨2, _⟩ => show win0_4.index t (2 : Fin 4) * 2 + 1 * (y 2).val = (y 2).val; omega
  | ⟨3, _⟩ => show win0_4.index t (3 : Fin 4) * 768 + 1 * (y 3).val = (y 3).val; omega

theorem idx5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

theorem emb5 (t : Fin cfg0.N) (y : S5x256x2x768.Idx) : ((cfg0.win 5).blk t).view.emb y = y := by
  obtain ⟨e0, e1, e2, e3⟩ := idx5 t
  funext a; apply Fin.ext
  match a with
  | ⟨0, _⟩ => show win0_5.index t (0 : Fin 4) * 5 + 1 * (y 0).val = (y 0).val; omega
  | ⟨1, _⟩ => show win0_5.index t (1 : Fin 4) * 256 + 1 * (y 1).val = (y 1).val; omega
  | ⟨2, _⟩ => show win0_5.index t (2 : Fin 4) * 2 + 1 * (y 2).val = (y 2).val; omega
  | ⟨3, _⟩ => show win0_5.index t (3 : Fin 4) * 768 + 1 * (y 3).val = (y 3).val; omega

theorem idx6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

theorem emb6 (t : Fin cfg0.N) (y : S256x2x768x128.Idx) : ((cfg0.win 6).blk t).view.emb y = y := by
  obtain ⟨e0, e1, e2, e3⟩ := idx6 t
  funext a; apply Fin.ext
  match a with
  | ⟨0, _⟩ => show win0_6.index t (0 : Fin 4) * 256 + 1 * (y 0).val = (y 0).val; omega
  | ⟨1, _⟩ => show win0_6.index t (1 : Fin 4) * 2 + 1 * (y 1).val = (y 1).val; omega
  | ⟨2, _⟩ => show win0_6.index t (2 : Fin 4) * 768 + 1 * (y 2).val = (y 2).val; omega
  | ⟨3, _⟩ => show win0_6.index t (3 : Fin 4) * 128 + 1 * (y 3).val = (y 3).val; omega

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (y : S256x2x768.Idx) : ((cfg0.win 7).blk t).view.emb y = y := by
  obtain ⟨e0, e1, e2⟩ := idx7 t
  funext a; apply Fin.ext
  match a with
  | ⟨0, _⟩ => show win0_7.index t (0 : Fin 3) * 256 + 1 * (y 0).val = (y 0).val; omega
  | ⟨1, _⟩ => show win0_7.index t (1 : Fin 3) * 2 + 1 * (y 1).val = (y 1).val; omega
  | ⟨2, _⟩ => show win0_7.index t (2 : Fin 3) * 768 + 1 * (y 2).val = (y 2).val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (y : S2x768.Idx) : ((cfg0.win 8).blk t).view.emb y = y := by
  obtain ⟨e0, e1⟩ := idx8 t
  funext a; apply Fin.ext
  match a with
  | ⟨0, _⟩ => show win0_8.index t (0 : Fin 2) * 2 + 1 * (y 0).val = (y 0).val; omega
  | ⟨1, _⟩ => show win0_8.index t (1 : Fin 2) * 768 + 1 * (y 1).val = (y 1).val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (y : S2x768.Idx) : ((cfg0.win 9).blk t).view.emb y = y := by
  obtain ⟨e0, e1⟩ := idx9 t
  funext a; apply Fin.ext
  match a with
  | ⟨0, _⟩ => show win0_9.index t (0 : Fin 2) * 2 + 1 * (y 0).val = (y 0).val; omega
  | ⟨1, _⟩ => show win0_9.index t (1 : Fin 2) * 768 + 1 * (y 1).val = (y 1).val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (y : S1536x1024.Idx) : ((cfg0.win 10).blk t).view.emb y = y := by
  obtain ⟨e0, e1⟩ := idx10 t
  funext a; apply Fin.ext
  match a with
  | ⟨0, _⟩ => show win0_10.index t (0 : Fin 2) * 1536 + 1 * (y 0).val = (y 0).val; omega
  | ⟨1, _⟩ => show win0_10.index t (1 : Fin 2) * 1024 + 1 * (y 1).val = (y 1).val; omega

theorem idx11 : ∀ t : Fin cfg0.N, win0_11.index t (0 : Fin 1) = 0 :=
  (by decide +kernel : ∀ t : Fin grid0.N, _)

theorem emb11 (t : Fin cfg0.N) (y : S1024.Idx) : ((cfg0.win 11).blk t).view.emb y = y := by
  have e0 := idx11 t
  funext a; apply Fin.ext
  match a with
  | ⟨0, _⟩ => show win0_11.index t (0 : Fin 1) * 1024 + 1 * (y 0).val = (y 0).val; omega

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (y : S5x256x1536.Idx) : ((cfg0.win 12).blk t).view.emb y = y := by
  obtain ⟨e0, e1, e2⟩ := idx12 t
  funext a; apply Fin.ext
  match a with
  | ⟨0, _⟩ => show win0_12.index t (0 : Fin 3) * 5 + 1 * (y 0).val = (y 0).val; omega
  | ⟨1, _⟩ => show win0_12.index t (1 : Fin 3) * 256 + 1 * (y 1).val = (y 1).val; omega
  | ⟨2, _⟩ => show win0_12.index t (2 : Fin 3) * 1536 + 1 * (y 2).val = (y 2).val; omega

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

theorem emb13 (t : Fin cfg0.N) (y : S5x256x1024.Idx) : ((cfg0.win 13).blk t).view.emb y = y := by
  obtain ⟨e0, e1, e2⟩ := idx13 t
  funext a; apply Fin.ext
  match a with
  | ⟨0, _⟩ => show win0_13.index t (0 : Fin 3) * 5 + 1 * (y 0).val = (y 0).val; omega
  | ⟨1, _⟩ => show win0_13.index t (1 : Fin 3) * 256 + 1 * (y 1).val = (y 1).val; omega
  | ⟨2, _⟩ => show win0_13.index t (2 : Fin 3) * 1024 + 1 * (y 2).val = (y 2).val; omega

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

theorem emb14 (t : Fin cfg0.N) (y : S5x256x1536.Idx) : ((cfg0.win 14).blk t).view.emb y = y := by
  obtain ⟨e0, e1, e2⟩ := idx14 t
  funext a; apply Fin.ext
  match a with
  | ⟨0, _⟩ => show win0_14.index t (0 : Fin 3) * 5 + 1 * (y 0).val = (y 0).val; omega
  | ⟨1, _⟩ => show win0_14.index t (1 : Fin 3) * 256 + 1 * (y 1).val = (y 1).val; omega
  | ⟨2, _⟩ => show win0_14.index t (2 : Fin 3) * 1536 + 1 * (y 2).val = (y 2).val; omega

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)

theorem emb15 (t : Fin cfg0.N) (y : S5x256x1.Idx) : ((cfg0.win 15).blk t).view.emb y = y := by
  obtain ⟨e0, e1, e2⟩ := idx15 t
  funext a; apply Fin.ext
  match a with
  | ⟨0, _⟩ => show win0_15.index t (0 : Fin 3) * 5 + 1 * (y 0).val = (y 0).val; omega
  | ⟨1, _⟩ => show win0_15.index t (1 : Fin 3) * 256 + 1 * (y 1).val = (y 1).val; omega
  | ⟨2, _⟩ => show win0_15.index t (2 : Fin 3) * 1 + 1 * (y 2).val = (y 2).val; omega

variable (m : (ℓ : Loc nD τ sig) → Buf (Elt Ideal) ℓ)

/-! ## What the host lines prepare -/

theorem V_v0 (c : Dev nD) : (V m c main_v0 : Vec Ideal S5x256x2x768 .f32)
    = shapeCast S5x256x2x768 (m ((c : Thread nD τ).loc main_arg0)) shapeCasts_S5x256x1536_S5x256x2x768 := by
  unfold_abbrev_sides
  after_results
  first | done | rfl

theorem V_v2 (c : Dev nD) : (V m c main_v2 : Vec Ideal S5x256x2x128 .f32)
    = shapeCast S5x256x2x128 (extractStridedSlice S5x256x256 ![0, 0, 0] (m ((c : Thread nD τ).loc main_arg1)) slices_S5x256x512_S5x256x256_0_0_0) shapeCasts_S5x256x256_S5x256x2x128 := by
  unfold_abbrev_sides
  after_results
  first | done | rfl

theorem V_v4 (c : Dev nD) : (V m c main_v4 : Vec Ideal S5x256x2x128 .f32)
    = shapeCast S5x256x2x128 (extractStridedSlice S5x256x256 ![0, 0, 256] (m ((c : Thread nD τ).loc main_arg1)) slices_S5x256x512_S5x256x256_0_0_256) shapeCasts_S5x256x256_S5x256x2x128 := by
  unfold_abbrev_sides
  after_results
  first | done | rfl

theorem V_v8 (c : Dev nD) : (V m c main_v8 : Vec Ideal S5x256x2x768 .f32)
    = shapeCast S5x256x2x768 (shapeCast S5x256x1536 (broadcastInDim S5x256x24x64 ![0, 1, 2] bcast_S5x256x24_S5x256x24x64_0_1_2 (extractStridedSlice S5x256x24 ![0, 0, 0] (m ((c : Thread nD τ).loc main_arg2)) slices_S5x256x64_S5x256x24_0_0_0) : Vec Ideal S5x256x24x64 .f32) shapeCasts_S5x256x24x64_S5x256x1536) shapeCasts_S5x256x1536_S5x256x2x768 := by
  unfold_abbrev_sides
  after_results
  first | done | rfl

theorem V_v12 (c : Dev nD) : (V m c main_v12 : Vec Ideal S5x256x2x768 .f32)
    = shapeCast S5x256x2x768 (shapeCast S5x256x1536 (broadcastInDim S5x256x24x64 ![0, 1, 2] bcast_S5x256x24_S5x256x24x64_0_1_2 (extractStridedSlice S5x256x24 ![0, 0, 32] (m ((c : Thread nD τ).loc main_arg2)) slices_S5x256x64_S5x256x24_0_0_32) : Vec Ideal S5x256x24x64 .f32) shapeCasts_S5x256x24x64_S5x256x1536) shapeCasts_S5x256x1536_S5x256x2x768 := by
  unfold_abbrev_sides
  after_results
  first | done | rfl

theorem V_v13 (c : Dev nD) : (V m c main_v13 : Vec Ideal S5x256x2x768 .f32)
    = shapeCast S5x256x2x768 (m ((c : Thread nD τ).loc main_arg3)) shapeCasts_S5x256x1536_S5x256x2x768 := by
  unfold_abbrev_sides
  after_results
  first | done | rfl

theorem V_v14 (c : Dev nD) : (V m c main_v14 : Vec Ideal S256x2x768x128 .f32)
    = shapeCast S256x2x768x128 (m ((c : Thread nD τ).loc main_arg4)) shapeCasts_S256x1536x128_S256x2x768x128 := by
  unfold_abbrev_sides
  after_results
  first | done | rfl

theorem V_v15 (c : Dev nD) : (V m c main_v15 : Vec Ideal S256x2x768 .f32)
    = shapeCast S256x2x768 (m ((c : Thread nD τ).loc main_arg5)) shapeCasts_S256x1536_S256x2x768 := by
  unfold_abbrev_sides
  after_results
  first | done | rfl

theorem V_v18 (c : Dev nD) : (V m c main_v18 : Vec Ideal S2x768 .f32)
    = shapeCast S2x768 (shapeCast S1536 (broadcastInDim S24x64 ![0] bcast_S24_S24x64_0 (m ((c : Thread nD τ).loc main_arg6)) : Vec Ideal S24x64 .f32) shapeCasts_S24x64_S1536) shapeCasts_S1536_S2x768 := by
  unfold_abbrev_sides
  after_results
  first | done | rfl

theorem V_v19 (c : Dev nD) : (V m c main_v19 : Vec Ideal S2x768 .f32)
    = shapeCast S2x768 (m ((c : Thread nD τ).loc main_arg7)) shapeCasts_S1536_S2x768 := by
  unfold_abbrev_sides
  after_results
  first | done | rfl

theorem q_at (q : Vec Ideal S256x1536x128 .f32) (r : Fin 256) (g : Fin 2) (l : Fin 768) (n : Fin 128) :
    shapeCast S256x2x768x128 q shapeCasts_S256x1536x128_S256x2x768x128 (ix4 r g l n) = q (ix3 r ⟨768 * g + l, by omega⟩ n) :=
  shapeCast_apply _ _ _ _ (by
    rw [Shape.rowMajor_val_three, Shape.rowMajor_val_four]
    show (r.val * 1536 + (768 * g.val + l.val)) * 128 + n.val = ((r.val * 2 + g.val) * 768 + l.val) * 128 + n.val
    omega)

/-- The argument arrays of a launch, by coordinates. -/
def args (c : Dev nD) : SsmSpec.Args where
  xs t r l := m ((c : Thread nD τ).loc main_arg0) (ix3 t r l)
  bc t r l := m ((c : Thread nD τ).loc main_arg1) (ix3 t r l)
  dt t r l := m ((c : Thread nD τ).loc main_arg2) (ix3 t r l)
  z t r l := m ((c : Thread nD τ).loc main_arg3) (ix3 t r l)
  q r l n := m ((c : Thread nD τ).loc main_arg4) (ix3 r l n)
  s r l := m ((c : Thread nD τ).loc main_arg5) (ix2 r l)
  ds h := m ((c : Thread nD τ).loc main_arg6) (ix1 h)
  gn l := m ((c : Thread nD τ).loc main_arg7) (ix1 l)
  w x y := m ((c : Thread nD τ).loc main_arg8) (ix2 x y)
  ws l := m ((c : Thread nD τ).loc main_arg9) (ix1 l)

variable (c : Dev nD)

theorem in0 (t : Fin 5) (r : Fin 256) (g : Fin 2) (l : Fin 768) : iblk m c 0 pt (ix4 t r g l) = (args m c).xs t r ⟨768 * g + l, by omega⟩ := by
  show V m c main_v0 (((cfg0.win 0).blk pt).view.emb (ix4 t r g l)) = _
  rw [emb0, V_v0]
  pointwise
  exact congrArg (fun x => (args m c).xs t r x) (Fin.ext (by first | omega | (dsimp only; omega)))

theorem in1 (t : Fin 5) (r : Fin 256) (g : Fin 2) (n : Fin 128) : iblk m c 1 pt (ix4 t r g n) = (args m c).bc t r ⟨128 * g + n, by omega⟩ := by
  show V m c main_v2 (((cfg0.win 1).blk pt).view.emb (ix4 t r g n)) = _
  rw [emb1, V_v2]
  pointwise
  exact congrArg (fun x => (args m c).bc t r x) (Fin.ext (by first | omega | (dsimp only; omega)))

theorem in2 (t : Fin 5) (r : Fin 256) (g : Fin 2) (n : Fin 128) : iblk m c 2 pt (ix4 t r g n) = (args m c).bc t r ⟨256 + (128 * g + n), by omega⟩ := by
  show V m c main_v4 (((cfg0.win 2).blk pt).view.emb (ix4 t r g n)) = _
  rw [emb2, V_v4]
  pointwise
  exact congrArg (fun x => (args m c).bc t r x) (Fin.ext (by first | omega | (dsimp only; omega)))

theorem in3 (t : Fin 5) (r : Fin 256) (g : Fin 2) (l : Fin 768) : iblk m c 3 pt (ix4 t r g l) = (args m c).dt t r ⟨(768 * g + l) / 64, by omega⟩ := by
  show V m c main_v8 (((cfg0.win 3).blk pt).view.emb (ix4 t r g l)) = _
  rw [emb3, V_v8]
  pointwise
  exact congrArg (fun x => (args m c).dt t r x) (Fin.ext (by first | omega | (dsimp only; omega)))

theorem in4 (t : Fin 5) (r : Fin 256) (g : Fin 2) (l : Fin 768) : iblk m c 4 pt (ix4 t r g l) = (args m c).dt t r ⟨32 + (768 * g + l) / 64, by omega⟩ := by
  show V m c main_v12 (((cfg0.win 4).blk pt).view.emb (ix4 t r g l)) = _
  rw [emb4, V_v12]
  pointwise
  exact congrArg (fun x => (args m c).dt t r x) (Fin.ext (by first | omega | (dsimp only; omega)))

theorem in5 (t : Fin 5) (r : Fin 256) (g : Fin 2) (l : Fin 768) : iblk m c 5 pt (ix4 t r g l) = (args m c).z t r ⟨768 * g + l, by omega⟩ := by
  show V m c main_v13 (((cfg0.win 5).blk pt).view.emb (ix4 t r g l)) = _
  rw [emb5, V_v13]
  pointwise
  exact congrArg (fun x => (args m c).z t r x) (Fin.ext (by first | omega | (dsimp only; omega)))

theorem in6 (r : Fin 256) (g : Fin 2) (l : Fin 768) (n : Fin 128) : iblk m c 6 pt (ix4 r g l n) = (args m c).q r ⟨768 * g + l, by omega⟩ n := by
  show V m c main_v14 (((cfg0.win 6).blk pt).view.emb (ix4 r g l n)) = _
  rw [emb6, V_v14]
  exact q_at _ r g l n

theorem in7 (r : Fin 256) (g : Fin 2) (l : Fin 768) : iblk m c 7 pt (ix3 r g l) = (args m c).s r ⟨768 * g + l, by omega⟩ := by
  show V m c main_v15 (((cfg0.win 7).blk pt).view.emb (ix3 r g l)) = _
  rw [emb7, V_v15]
  pointwise
  exact congrArg (fun x => (args m c).s r x) (Fin.ext (by first | omega | (dsimp only; omega)))

theorem in8 (g : Fin 2) (l : Fin 768) : iblk m c 8 pt (ix2 g l) = (args m c).ds ⟨(768 * g + l) / 64, by omega⟩ := by
  show V m c main_v18 (((cfg0.win 8).blk pt).view.emb (ix2 g l)) = _
  rw [emb8, V_v18]
  pointwise
  exact congrArg (fun x => (args m c).ds x) (Fin.ext (by first | omega | (dsimp only; omega)))

theorem in9 (g : Fin 2) (l : Fin 768) : iblk m c 9 pt (ix2 g l) = (args m c).gn ⟨768 * g + l, by omega⟩ := by
  show V m c main_v19 (((cfg0.win 9).blk pt).view.emb (ix2 g l)) = _
  rw [emb9, V_v19]
  pointwise
  exact congrArg (fun x => (args m c).gn x) (Fin.ext (by first | omega | (dsimp only; omega)))

theorem in10 (x : Fin 1536) (l : Fin 1024) : iblk m c 10 pt (ix2 x l) = (args m c).w x l := by
  show V m c main_arg8 (((cfg0.win 10).blk pt).view.emb (ix2 x l)) = _
  rw [emb10, V_main_arg8]; rfl

theorem in11 (l : Fin 1024) : iblk m c 11 pt (ix1 l) = (args m c).ws l := by
  show V m c main_arg9 (((cfg0.win 11).blk pt).view.emb (ix1 l)) = _
  rw [emb11, V_main_arg9]; rfl

/-- What the reference loads. -/
abbrev lds : Loads Ideal := loads (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt)

theorem ld_768 (x : Vec Ideal S5x256x2x768 .f32) (t : Fin 5) (r : Fin 256) (g : Fin 2) (l : Fin 768) :
    (![View.ld x r0_2, View.ld x r0_10, View.ld x r0_15, View.ld x r0_20, View.ld x r0_25] : Fin 5 → Vec Ideal S1x256x2x768 .f32) t (ix4 0 r g l) = x (ix4 t r g l) := by
  match t with
  | ⟨0, _⟩ => exact ld_at (S := S5x256x2x768) x (off := ![0, 0, 0, 0]) (size := S1x256x2x768.size) (ix4 0 r g l) (ix4 0 r g l : S5x256x2x768.Idx) (fun a => match a with | ⟨0, _⟩ => rfl | ⟨1, _⟩ => z0 | ⟨2, _⟩ => z0 | ⟨3, _⟩ => z0)
  | ⟨1, _⟩ => exact ld_at (S := S5x256x2x768) x (off := ![1, 0, 0, 0]) (size := S1x256x2x768.size) (ix4 0 r g l) (ix4 1 r g l : S5x256x2x768.Idx) (fun a => match a with | ⟨0, _⟩ => rfl | ⟨1, _⟩ => z0 | ⟨2, _⟩ => z0 | ⟨3, _⟩ => z0)
  | ⟨2, _⟩ => exact ld_at (S := S5x256x2x768) x (off := ![2, 0, 0, 0]) (size := S1x256x2x768.size) (ix4 0 r g l) (ix4 2 r g l : S5x256x2x768.Idx) (fun a => match a with | ⟨0, _⟩ => rfl | ⟨1, _⟩ => z0 | ⟨2, _⟩ => z0 | ⟨3, _⟩ => z0)
  | ⟨3, _⟩ => exact ld_at (S := S5x256x2x768) x (off := ![3, 0, 0, 0]) (size := S1x256x2x768.size) (ix4 0 r g l) (ix4 3 r g l : S5x256x2x768.Idx) (fun a => match a with | ⟨0, _⟩ => rfl | ⟨1, _⟩ => z0 | ⟨2, _⟩ => z0 | ⟨3, _⟩ => z0)
  | ⟨4, _⟩ => exact ld_at (S := S5x256x2x768) x (off := ![4, 0, 0, 0]) (size := S1x256x2x768.size) (ix4 0 r g l) (ix4 4 r g l : S5x256x2x768.Idx) (fun a => match a with | ⟨0, _⟩ => rfl | ⟨1, _⟩ => z0 | ⟨2, _⟩ => z0 | ⟨3, _⟩ => z0)

theorem ld_128 (x : Vec Ideal S5x256x2x128 .f32) (t : Fin 5) (r : Fin 256) (g : Fin 2) (l : Fin 128) :
    (![View.ld x r0_3, View.ld x r0_11, View.ld x r0_16, View.ld x r0_21, View.ld x r0_26] : Fin 5 → Vec Ideal S1x256x2x128 .f32) t (ix4 0 r g l) = x (ix4 t r g l) := by
  match t with
  | ⟨0, _⟩ => exact ld_at (S := S5x256x2x128) x (off := ![0, 0, 0, 0]) (size := S1x256x2x128.size) (ix4 0 r g l) (ix4 0 r g l : S5x256x2x128.Idx) (fun a => match a with | ⟨0, _⟩ => rfl | ⟨1, _⟩ => z0 | ⟨2, _⟩ => z0 | ⟨3, _⟩ => z0)
  | ⟨1, _⟩ => exact ld_at (S := S5x256x2x128) x (off := ![1, 0, 0, 0]) (size := S1x256x2x128.size) (ix4 0 r g l) (ix4 1 r g l : S5x256x2x128.Idx) (fun a => match a with | ⟨0, _⟩ => rfl | ⟨1, _⟩ => z0 | ⟨2, _⟩ => z0 | ⟨3, _⟩ => z0)
  | ⟨2, _⟩ => exact ld_at (S := S5x256x2x128) x (off := ![2, 0, 0, 0]) (size := S1x256x2x128.size) (ix4 0 r g l) (ix4 2 r g l : S5x256x2x128.Idx) (fun a => match a with | ⟨0, _⟩ => rfl | ⟨1, _⟩ => z0 | ⟨2, _⟩ => z0 | ⟨3, _⟩ => z0)
  | ⟨3, _⟩ => exact ld_at (S := S5x256x2x128) x (off := ![3, 0, 0, 0]) (size := S1x256x2x128.size) (ix4 0 r g l) (ix4 3 r g l : S5x256x2x128.Idx) (fun a => match a with | ⟨0, _⟩ => rfl | ⟨1, _⟩ => z0 | ⟨2, _⟩ => z0 | ⟨3, _⟩ => z0)
  | ⟨4, _⟩ => exact ld_at (S := S5x256x2x128) x (off := ![4, 0, 0, 0]) (size := S1x256x2x128.size) (ix4 0 r g l) (ix4 4 r g l : S5x256x2x128.Idx) (fun a => match a with | ⟨0, _⟩ => rfl | ⟨1, _⟩ => z0 | ⟨2, _⟩ => z0 | ⟨3, _⟩ => z0)

set_option maxHeartbeats 2000000 in
/-- What the reference loads, as the arguments. -/
theorem reads : Reads (lds m c) (args m c) where
  xs t r g l := (ld_768 (iblk m c 0 pt) t r g l).trans (in0 m c t r g l)
  d t r g l := (ld_768 (iblk m c 3 pt) t r g l).trans (in3 m c t r g l)
  a t r g l := (ld_768 (iblk m c 4 pt) t r g l).trans (in4 m c t r g l)
  z t r g l := (ld_768 (iblk m c 5 pt) t r g l).trans (in5 m c t r g l)
  b t r g n := (ld_128 (iblk m c 1 pt) t r g n).trans (in1 m c t r g n)
  c t r g n := (ld_128 (iblk m c 2 pt) t r g n).trans (in2 m c t r g n)
  q r g l n := (ld_at (S := S256x2x768x128) (iblk m c 6 pt) (ix4 r g l n) (ix4 r g l n : S256x2x768x128.Idx) (fun a => match a with | ⟨0, _⟩ => z0 | ⟨1, _⟩ => z0 | ⟨2, _⟩ => z0 | ⟨3, _⟩ => z0)).trans (in6 m c r g l n)
  s r g l := (ld_at (S := S256x2x768) (iblk m c 7 pt) (ix3 r g l) (ix3 r g l : S256x2x768.Idx) (fun a => match a with | ⟨0, _⟩ => z0 | ⟨1, _⟩ => z0 | ⟨2, _⟩ => z0)).trans (in7 m c r g l)
  ds g l := (ld_at (S := S2x768) (iblk m c 8 pt) (ix2 g l) (ix2 g l : S2x768.Idx) (fun a => match a with | ⟨0, _⟩ => z0 | ⟨1, _⟩ => z0)).trans (in8 m c g l)
  g g l := (ld_at (S := S2x768) (iblk m c 9 pt) (ix2 g l) (ix2 g l : S2x768.Idx) (fun a => match a with | ⟨0, _⟩ => z0 | ⟨1, _⟩ => z0)).trans (in9 m c g l)

/-- The branch's output. -/
abbrev Y (s : Fin 5) (r : Fin 256) : Fin 1536 → EReal := SsmSpec.norm (args m c) (SsmSpec.outs (args m c)) s r

theorem y0 (r : Fin 256) : (fun l => row (lds m c) (st0 (lds m c)) 0 (ix2 r l)) = Y m c 0 r :=
  row_eq (reads m c) _ 0 (fun r g l n => st0_eq (reads m c) r g l n) r

theorem y1 (r : Fin 256) : (fun l => row (lds m c) (st1 (lds m c)) 1 (ix2 r l)) = Y m c 1 r :=
  row_eq (reads m c) _ 1 (fun r g l n => st1_eq (reads m c) r g l n) r

theorem y2 (r : Fin 256) : (fun l => row (lds m c) (st2 (lds m c)) 2 (ix2 r l)) = Y m c 2 r :=
  row_eq (reads m c) _ 2 (fun r g l n => st2_eq (reads m c) r g l n) r

theorem y3 (r : Fin 256) : (fun l => row (lds m c) (st3 (lds m c)) 3 (ix2 r l)) = Y m c 3 r :=
  row_eq (reads m c) _ 3 (fun r g l n => st3_eq (reads m c) r g l n) r

theorem y4 (r : Fin 256) : (fun l => row (lds m c) (st4 (lds m c)) 4 (ix2 r l)) = Y m c 4 r :=
  row_eq (reads m c) _ 4 (fun r g l n => st4_eq (reads m c) r g l n) r

theorem w_eq : (fun x l => View.ld (iblk m c 10 pt) r0_6 (ix2 x l)) = (args m c).w :=
  funext fun x => funext fun l => (ld_at (S := S1536x1024) (iblk m c 10 pt) (ix2 x l) (ix2 x l : S1536x1024.Idx)
    (fun a => match a with | ⟨0, _⟩ => z0 | ⟨1, _⟩ => z0)).trans (in10 m c x l)

theorem ws_eq : (fun l => View.ld (iblk m c 11 pt) r0_7 (ix1 l)) = (args m c).ws :=
  funext fun l => (ld_at (S := S1024) (iblk m c 11 pt) (ix1 l) (ix1 l : S1024.Idx)
    (fun a => match a with | ⟨0, _⟩ => z0)).trans (in11 m c l)

theorem congrArg₃ {α β γ δ : Sort _} (f : α → β → γ → δ) {a a' : α} {b b' : β} {c c' : γ} (ha : a = a') (hb : b = b') (hc : c = c') :
    f a b c = f a' b' c' := by subst ha hb hc; rfl

/-- One step's piece of a result array. -/
theorem tile {n : Nat} {e : EltTy} (G : Fin 5 → Fin 256 → Fin n → Elt Ideal e) (t s : Fin 5) (r : Fin 256) (l : Fin n) (p : Vec Ideal ⟨3, ![1, 256, n]⟩ e)
    (h : ∀ r l, p (ix3 0 r l) = G t r l) : View.TileAt (S := ⟨3, ![5, 256, n]⟩) (ix3 s r l) ![t.val, 0, 0] (⟨3, ![1, 256, n]⟩ : Shape).size p (G s r l) := by
  intro x hx
  have h0 : s.val = t.val + (x 0).val := hx 0
  have h1 : r.val = 0 + (x 1).val := hx 1
  have h2 : l.val = 0 + (x 2).val := hx 2
  have l0 : (x 0).val < 1 := (x 0).isLt
  have ex : x = ix3 (0 : Fin 1) r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  have et : t = s := Fin.ext (by omega)
  subst et
  exact (congrArg p ex).trans (h r l)

theorem out12 (s : Fin 5) (r : Fin 256) (l : Fin 1536) :
    out0_12 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) = Y m c s r l := by
  unfold out0_12
  refine View.canon_eq_of_allAt _ _ _ (cover0_12 _ _ _ _ _ _) ?_
  have key := tile (n := 1536) (e := .f32) (fun s r l => Y m c s r l)
  refine View.allAt_cons_unit _ _ _ _ _ (key 4 s r l _ fun r l => (congrFun (piece12_4 _ _ _ _ _ _ _ _ _ _ _ _) (ix3 0 r l)).trans ((pay36 _ _ _ 0 r l).trans (congrFun (y4 m c r) l))) ?_
  refine View.allAt_cons_unit _ _ _ _ _ (key 3 s r l _ fun r l => (congrFun (piece12_3 _ _ _ _ _ _ _ _ _ _ _ _) (ix3 0 r l)).trans ((pay36 _ _ _ 0 r l).trans (congrFun (y3 m c r) l))) ?_
  refine View.allAt_cons_unit _ _ _ _ _ (key 2 s r l _ fun r l => (congrFun (piece12_2 _ _ _ _ _ _ _ _ _ _ _ _) (ix3 0 r l)).trans ((pay36 _ _ _ 0 r l).trans (congrFun (y2 m c r) l))) ?_
  refine View.allAt_cons_unit _ _ _ _ _ (key 1 s r l _ fun r l => (congrFun (piece12_1 _ _ _ _ _ _ _ _ _ _ _ _) (ix3 0 r l)).trans ((pay36 _ _ _ 0 r l).trans (congrFun (y1 m c r) l))) ?_
  exact View.allAt_cons_unit _ _ _ _ _ (key 0 s r l _ fun r l => (congrFun (piece12_0 _ _ _ _ _ _ _ _ _ _ _ _) (ix3 0 r l)).trans ((pay36 _ _ _ 0 r l).trans (congrFun (y0 m c r) l))) (View.allAt_nil _ _)

theorem arr12 (s : Fin 5) (r : Fin 256) (l : Fin 1536) :
    (dats m 0 c).arrAt 12 cfg0.N (ix3 s r l : S5x256x1536.Idx) = Y m c s r l := by
  have b := congrFun (Value.blocks12 m c pt (flush0_12 pt)) (ix3 s r l : S5x256x1536.Idx)
  rw [Value.flushed12] at b
  have b' : (dats m 0 c).arrAt 12 cfg0.N (((cfg0.win 12).blk pt).view.emb (ix3 s r l : S5x256x1536.Idx))
      = out0_12 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) := b
  rw [emb12, out12] at b'
  exact b'

theorem out13 (s : Fin 5) (r : Fin 256) (l : Fin 1024) :
    out0_13 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) = Row.proj (Y m c s r) (args m c).w (args m c).ws l := by
  unfold out0_13
  refine View.canon_eq_of_allAt _ _ _ (cover0_13 _ _ _ _ _ _) ?_
  have key := tile (n := 1024) (e := .f32) (fun s r l => Row.proj (Y m c s r) (args m c).w (args m c).ws l)
  refine View.allAt_cons_unit _ _ _ _ _ (key 4 s r l _ fun r l => (congrFun (piece13_4 _ _ _ _ _ _ _ _ _ _ _ _) (ix3 0 r l)).trans ((pay37 _ _ _ _ _ 0 r l).trans (congrArg₃ (fun v w ws => Row.proj v w ws l) (y4 m c r) (w_eq m c) (ws_eq m c)))) ?_
  refine View.allAt_cons_unit _ _ _ _ _ (key 3 s r l _ fun r l => (congrFun (piece13_3 _ _ _ _ _ _ _ _ _ _ _ _) (ix3 0 r l)).trans ((pay37 _ _ _ _ _ 0 r l).trans (congrArg₃ (fun v w ws => Row.proj v w ws l) (y3 m c r) (w_eq m c) (ws_eq m c)))) ?_
  refine View.allAt_cons_unit _ _ _ _ _ (key 2 s r l _ fun r l => (congrFun (piece13_2 _ _ _ _ _ _ _ _ _ _ _ _) (ix3 0 r l)).trans ((pay37 _ _ _ _ _ 0 r l).trans (congrArg₃ (fun v w ws => Row.proj v w ws l) (y2 m c r) (w_eq m c) (ws_eq m c)))) ?_
  refine View.allAt_cons_unit _ _ _ _ _ (key 1 s r l _ fun r l => (congrFun (piece13_1 _ _ _ _ _ _ _ _ _ _ _ _) (ix3 0 r l)).trans ((pay37 _ _ _ _ _ 0 r l).trans (congrArg₃ (fun v w ws => Row.proj v w ws l) (y1 m c r) (w_eq m c) (ws_eq m c)))) ?_
  exact View.allAt_cons_unit _ _ _ _ _ (key 0 s r l _ fun r l => (congrFun (piece13_0 _ _ _ _ _ _ _ _ _ _ _ _) (ix3 0 r l)).trans ((pay37 _ _ _ _ _ 0 r l).trans (congrArg₃ (fun v w ws => Row.proj v w ws l) (y0 m c r) (w_eq m c) (ws_eq m c)))) (View.allAt_nil _ _)

theorem arr13 (s : Fin 5) (r : Fin 256) (l : Fin 1024) :
    (dats m 0 c).arrAt 13 cfg0.N (ix3 s r l : S5x256x1024.Idx) = Row.proj (Y m c s r) (args m c).w (args m c).ws l := by
  have b := congrFun (Value.blocks13 m c pt (flush0_13 pt)) (ix3 s r l : S5x256x1024.Idx)
  rw [Value.flushed13] at b
  have b' : (dats m 0 c).arrAt 13 cfg0.N (((cfg0.win 13).blk pt).view.emb (ix3 s r l : S5x256x1024.Idx))
      = out0_13 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) := b
  rw [emb13, out13] at b'
  exact b'

theorem out14 (s : Fin 5) (r : Fin 256) (l : Fin 1536) :
    out0_14 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) = Row.code8 (Y m c s r) l := by
  unfold out0_14
  refine View.canon_eq_of_allAt _ _ _ (cover0_14 _ _ _ _ _ _) ?_
  have key := tile (n := 1536) (e := .i8) (fun s r l => Row.code8 (Y m c s r) l)
  refine View.allAt_cons_unit _ _ _ _ _ (key 4 s r l _ fun r l => (congrFun (piece14_4 _ _ _ _ _ _ _ _ _ _ _ _) (ix3 0 r l)).trans ((pay38 _ _ _ 0 r l).trans (congrArg (fun v => Row.code8 v l) (y4 m c r)))) ?_
  refine View.allAt_cons_unit _ _ _ _ _ (key 3 s r l _ fun r l => (congrFun (piece14_3 _ _ _ _ _ _ _ _ _ _ _ _) (ix3 0 r l)).trans ((pay38 _ _ _ 0 r l).trans (congrArg (fun v => Row.code8 v l) (y3 m c r)))) ?_
  refine View.allAt_cons_unit _ _ _ _ _ (key 2 s r l _ fun r l => (congrFun (piece14_2 _ _ _ _ _ _ _ _ _ _ _ _) (ix3 0 r l)).trans ((pay38 _ _ _ 0 r l).trans (congrArg (fun v => Row.code8 v l) (y2 m c r)))) ?_
  refine View.allAt_cons_unit _ _ _ _ _ (key 1 s r l _ fun r l => (congrFun (piece14_1 _ _ _ _ _ _ _ _ _ _ _ _) (ix3 0 r l)).trans ((pay38 _ _ _ 0 r l).trans (congrArg (fun v => Row.code8 v l) (y1 m c r)))) ?_
  exact View.allAt_cons_unit _ _ _ _ _ (key 0 s r l _ fun r l => (congrFun (piece14_0 _ _ _ _ _ _ _ _ _ _ _ _) (ix3 0 r l)).trans ((pay38 _ _ _ 0 r l).trans (congrArg (fun v => Row.code8 v l) (y0 m c r)))) (View.allAt_nil _ _)

theorem arr14 (s : Fin 5) (r : Fin 256) (l : Fin 1536) :
    (dats m 0 c).arrAt 14 cfg0.N (ix3 s r l : S5x256x1536.Idx) = Row.code8 (Y m c s r) l := by
  have b := congrFun (Value.blocks14 m c pt (flush0_14 pt)) (ix3 s r l : S5x256x1536.Idx)
  rw [Value.flushed14] at b
  have b' : (dats m 0 c).arrAt 14 cfg0.N (((cfg0.win 14).blk pt).view.emb (ix3 s r l : S5x256x1536.Idx))
      = out0_14 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) := b
  rw [emb14, out14] at b'
  exact b'

theorem out15 (s : Fin 5) (r : Fin 256) (l : Fin 1) :
    out0_15 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) = Row.scale (Y m c s r) := by
  unfold out0_15
  refine View.canon_eq_of_allAt _ _ _ (cover0_15 _ _ _ _ _ _) ?_
  have key := tile (n := 1) (e := .f32) (fun s r l => Row.scale (Y m c s r))
  refine View.allAt_cons_unit _ _ _ _ _ (key 4 s r l _ fun r l => (congrFun (piece15_4 _ _ _ _ _ _ _ _ _ _ _ _) (ix3 0 r l)).trans ((pay39 _ _ _ 0 r l).trans (congrArg Row.scale (y4 m c r)))) ?_
  refine View.allAt_cons_unit _ _ _ _ _ (key 3 s r l _ fun r l => (congrFun (piece15_3 _ _ _ _ _ _ _ _ _ _ _ _) (ix3 0 r l)).trans ((pay39 _ _ _ 0 r l).trans (congrArg Row.scale (y3 m c r)))) ?_
  refine View.allAt_cons_unit _ _ _ _ _ (key 2 s r l _ fun r l => (congrFun (piece15_2 _ _ _ _ _ _ _ _ _ _ _ _) (ix3 0 r l)).trans ((pay39 _ _ _ 0 r l).trans (congrArg Row.scale (y2 m c r)))) ?_
  refine View.allAt_cons_unit _ _ _ _ _ (key 1 s r l _ fun r l => (congrFun (piece15_1 _ _ _ _ _ _ _ _ _ _ _ _) (ix3 0 r l)).trans ((pay39 _ _ _ 0 r l).trans (congrArg Row.scale (y1 m c r)))) ?_
  exact View.allAt_cons_unit _ _ _ _ _ (key 0 s r l _ fun r l => (congrFun (piece15_0 _ _ _ _ _ _ _ _ _ _ _ _) (ix3 0 r l)).trans ((pay39 _ _ _ 0 r l).trans (congrArg Row.scale (y0 m c r)))) (View.allAt_nil _ _)

theorem arr15 (s : Fin 5) (r : Fin 256) (l : Fin 1) :
    (dats m 0 c).arrAt 15 cfg0.N (ix3 s r l : S5x256x1.Idx) = Row.scale (Y m c s r) := by
  have b := congrFun (Value.blocks15 m c pt (flush0_15 pt)) (ix3 s r l : S5x256x1.Idx)
  rw [Value.flushed15] at b
  have b' : (dats m 0 c).arrAt 15 cfg0.N (((cfg0.win 15).blk pt).view.emb (ix3 s r l : S5x256x1.Idx))
      = out0_15 (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (ix3 s r l) := b
  rw [emb15, out15] at b'
  exact b'

end Cert.Proof.SsmRefFinal

end
-- ==== Proof.SsmClaim.lean ====
/- The state-space kernel and its reference leave the same four result arrays when their arguments agree and the arrays of
   the recursion hold no infinity: each array of either program is the same function (SsmSpec.lean) of the arguments, the
   kernel's in the closed form, the reference's step by step. -/
module

public import proofs.«01_k».proof.Defs
public import proofs.«01_k».proof.Proof.Gen.Pre_finite_state_space
public import proofs.«01_k».proof.Proof.SsmFinal
public import proofs.«01_k».proof.Proof.SsmRefFinal

@[expose] public section

set_option maxRecDepth 16384

noncomputable section

namespace Cert.Proof.SsmClaim

open Idealize.ShloMosaic Idealize.ShloMosaic.TcCoe Idealize.SL.Sem Cert.Proof

/-- Two arrays of rank 3 are equal when they agree at every triple of coordinates. -/
theorem ext3 {a b d : Nat} {α : Type} {f g : (⟨3, ![a, b, d]⟩ : Shape).Idx → α}
    (h : ∀ (i : Fin a) (j : Fin b) (k : Fin d), f (ix3 i j k) = g (ix3 i j k)) : f = g := by
  funext i
  have e : i = ix3 (i 0) (i 1) (i 2) := by
    funext q
    match q with
    | ⟨0, _⟩ => rfl
    | ⟨1, _⟩ => rfl
    | ⟨2, _⟩ => rfl
  rw [e]
  exact h (i 0) (i 1) (i 2)

/-- A number whose absolute value is below infinity is a real number. -/
theorem real_of_lt (x : EReal) (h : Ideal.cmp .olt (max x (-x)) (Ideal.ofBits .f32 0x7F800000#32) = 1) : ∃ y : ℝ, x = y := by
  have htop : Ideal.ofBits .f32 0x7F800000#32 = ⊤ := by simp [Ideal.ofBits, Ideal.ieee]
  rw [htop, Ideal.cmp_olt_eq_one, max_lt_iff] at h
  induction x with
  | bot => exact absurd h.2 (by simp)
  | top => exact absurd h.1 (lt_irrefl _)
  | coe y => exact ⟨y, rfl⟩

theorem slice0 (v : Vec Ideal ⟨3, ![5, 256, 64]⟩ .f32) (t : Fin 5) (r : Fin 256) (x : Fin 24) :
    extractStridedSlice ⟨3, ![5, 256, 24]⟩ ![0, 0, 0] v Cert.Pre_finite_state_space.Gen.slices_S5x256x64_S5x256x24_0_0_0 (ix3 t r x)
      = v (ix3 t r ⟨x, by omega⟩) := by
  pointwise
  try rfl

theorem slice32 (v : Vec Ideal ⟨3, ![5, 256, 64]⟩ .f32) (t : Fin 5) (r : Fin 256) (x : Fin 24) :
    extractStridedSlice ⟨3, ![5, 256, 24]⟩ ![0, 0, 32] v Cert.Pre_finite_state_space.Gen.slices_S5x256x64_S5x256x24_0_0_32 (ix3 t r x)
      = v (ix3 t r ⟨32 + x, by omega⟩) := by
  pointwise
  try rfl

variable (m : (ℓ : Loc SsmIdeal.nD SsmIdeal.τ SsmIdeal.sig) → Buf (Elt Ideal) ℓ)
  (m' : (ℓ : Loc SsmRefIdeal.nD SsmRefIdeal.τ SsmRefIdeal.sig) → Buf (Elt Ideal) ℓ)

/-- The precondition says that the recursion's numbers are real numbers. -/
theorem finite (h : Pre_SsmIdeal_finite_state_space (hPre_finite_state_space := Cert.Pre_finite_state_space.Gen.facts) m)
    (c : Dev Cert.SsmIdeal.nD) : SsmSpec.Finite (SsmIn.args m c) := by
  obtain ⟨h0, h1, h2, h3, h4, h5⟩ := h c
  exact {
    xs := fun t r l => real_of_lt _ (congrFun h0 (ix3 t r l))
    bc := fun t r l => real_of_lt _ (congrFun h1 (ix3 t r l))
    d := fun t r x => by
      obtain ⟨y, hy⟩ := real_of_lt _ (congrFun h2 (ix3 t r x))
      exact ⟨y, (slice0 _ t r x).symm.trans hy⟩
    a := fun t r x => by
      obtain ⟨y, hy⟩ := real_of_lt _ (congrFun h3 (ix3 t r x))
      exact ⟨y, (slice32 _ t r x).symm.trans hy⟩
    q := fun r l n => real_of_lt _ (congrFun h4 (ix3 r l n))
    s := fun r l => real_of_lt _ (congrFun h5 (ix2 r l)) }

/-- The arguments of the two launches agree. -/
def Agree : Prop :=
  ∀ c : Dev Cert.SsmIdeal.nD,
    m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
    ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
    ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
    ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
    ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
    ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
    ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
    ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
    ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
    ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)

theorem args_eq (h : Agree m m') (c : Dev Cert.SsmIdeal.nD) : SsmRefFinal.args m' c = SsmIn.args m c := by
  obtain ⟨h0, h1, h2, h3, h4, h5, h6, h7, h8, h9⟩ := h c
  unfold SsmRefFinal.args SsmIn.args
  congr 1
  · funext t r l; exact congrFun h0 (ix3 t r l)
  · funext t r l; exact congrFun h1 (ix3 t r l)
  · funext t r l; exact congrFun h2 (ix3 t r l)
  · funext t r l; exact congrFun h3 (ix3 t r l)
  · funext r l n; exact congrFun h4 (ix3 r l n)
  · funext r l; exact congrFun h5 (ix2 r l)
  · funext x; exact congrFun h6 (ix1 x)
  · funext l; exact congrFun h7 (ix1 l)
  · funext x y; exact congrFun h8 (ix2 x y)
  · funext l; exact congrFun h9 (ix1 l)

theorem eq11 (h : Agree m m') (c : Dev Cert.SsmIdeal.nD) (hf : SsmSpec.Finite (SsmIn.args m c)) :
    (SsmRefIdeal.Gen.dats m' 0 c).arrAt 12 SsmRefIdeal.cfg0.N
      = (SsmIdeal.Gen.dats m 0 c).arrAt 11 SsmIdeal.cfg0.N :=
  ext3 (a := 5) (b := 256) (d := 1536) fun s r l => by
    refine (SsmRefFinal.arr12 m' c s r l).trans (Eq.trans ?_ (SsmFinal.arr11 m c s r l).symm)
    unfold SsmRefFinal.Y
    rw [args_eq m m' h c, SsmSpec.outs_eq _ hf]

theorem eq12 (h : Agree m m') (c : Dev Cert.SsmIdeal.nD) (hf : SsmSpec.Finite (SsmIn.args m c)) :
    (SsmRefIdeal.Gen.dats m' 0 c).arrAt 13 SsmRefIdeal.cfg0.N
      = (SsmIdeal.Gen.dats m 0 c).arrAt 12 SsmIdeal.cfg0.N :=
  ext3 (a := 5) (b := 256) (d := 1024) fun s r l => by
    refine (SsmRefFinal.arr13 m' c s r l).trans (Eq.trans ?_ (SsmFinal.arr12 m c s r l).symm)
    unfold SsmRefFinal.Y
    rw [args_eq m m' h c, SsmSpec.outs_eq _ hf]

theorem eq13 (h : Agree m m') (c : Dev Cert.SsmIdeal.nD) (hf : SsmSpec.Finite (SsmIn.args m c)) :
    (SsmRefIdeal.Gen.dats m' 0 c).arrAt 14 SsmRefIdeal.cfg0.N
      = (SsmIdeal.Gen.dats m 0 c).arrAt 13 SsmIdeal.cfg0.N :=
  ext3 (a := 5) (b := 256) (d := 1536) fun s r l => by
    refine (SsmRefFinal.arr14 m' c s r l).trans (Eq.trans ?_ (SsmFinal.arr13 m c s r l).symm)
    unfold SsmRefFinal.Y
    rw [args_eq m m' h c, SsmSpec.outs_eq _ hf]

theorem eq14 (h : Agree m m') (c : Dev Cert.SsmIdeal.nD) (hf : SsmSpec.Finite (SsmIn.args m c)) :
    (SsmRefIdeal.Gen.dats m' 0 c).arrAt 15 SsmRefIdeal.cfg0.N
      = (SsmIdeal.Gen.dats m 0 c).arrAt 14 SsmIdeal.cfg0.N :=
  ext3 (a := 5) (b := 256) (d := 1) fun s r l => by
    refine (SsmRefFinal.arr15 m' c s r l).trans (Eq.trans ?_ (SsmFinal.arr14 m c s r l).symm)
    unfold SsmRefFinal.Y
    rw [args_eq m m' h c, SsmSpec.outs_eq _ hf]

theorem algebraic : Cert.algebraic_SsmIdeal_SsmRefIdeal_pre_finite_state_space (hSsmIdeal := Cert.SsmIdeal.Gen.facts)
    (hSsmRefIdeal := Cert.SsmRefIdeal.Gen.facts) (hPre_finite_state_space := Cert.Pre_finite_state_space.Gen.facts) := by
  intro m ρ m' ρ' hpre hag
  have hA : Agree m m' := hag
  have hF := finite m hpre
  refine ⟨fun c => (SsmIdeal.Gen.dats m 0 c).arrAt 11 SsmIdeal.cfg0.N, fun c => (SsmIdeal.Gen.dats m 0 c).arrAt 12 SsmIdeal.cfg0.N, fun c => (SsmIdeal.Gen.dats m 0 c).arrAt 13 SsmIdeal.cfg0.N, fun c => (SsmIdeal.Gen.dats m 0 c).arrAt 14 SsmIdeal.cfg0.N,
    SsmIdeal.Value.run_blocks m ρ,
    (θ_run SsmRefIdeal.defs _ _).mono (fun r h c => ?_) (SsmRefIdeal.Value.run_blocks m' ρ')⟩
  obtain ⟨a0, a1, a2, a3, k⟩ := h c
  exact ⟨a0.trans (eq11 m m' hA c (hF c)), a1.trans (eq12 m m' hA c (hF c)), a2.trans (eq13 m m' hA c (hF c)),
    a3.trans (eq14 m m' hA c (hF c)), k⟩

end Cert.Proof.SsmClaim

end
-- ==== Proof.lean ====
module

public import proofs.«01_k».proof.Defs
public import proofs.«01_k».proof.Proof.Gen.TailIdeal.Value
public import proofs.«01_k».proof.Proof.Gen.TailRefIdeal.Value
public import proofs.«01_k».proof.Proof.Gen.Proj.Frame.Runs
public import proofs.«01_k».proof.Proof.Gen.ProjIdeal.Frame.Runs
public import proofs.«01_k».proof.Proof.Gen.ProjRefIdeal.Value
public import proofs.«01_k».proof.Proof.Gen.SsmIdeal.Value
public import proofs.«01_k».proof.Proof.Gen.SsmRefIdeal.Value
public import proofs.«01_k».proof.Proof.Gen.Pre_finite_state_space
public import proofs.«01_k».proof.Proof.Gen.Ssm.Frame
public import proofs.«01_k».proof.Proof.Gen.Slot.Frame
public import proofs.«01_k».proof.Proof.Gen.SlotIdeal.Value
public import proofs.«01_k».proof.Proof.Gen.SlotRefIdeal
public import proofs.«01_k».proof.Proof.Gen.Pre_slots_of_table
public import proofs.«01_k».proof.Proof.SlotClaim
public import proofs.«01_k».proof.Proof.TailClaim
public import proofs.«01_k».proof.Proof.ProjFrame
public import proofs.«01_k».proof.Proof.ProjIdealFrame
public import proofs.«01_k».proof.Proof.ProjClaim
public import proofs.«01_k».proof.Proof.SsmClaim
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Skeleton
public import proofs.«01_k».proof.Proof.Gen.TailRefIdeal.Launch
public import proofs.«01_k».proof.Proof.Gen.TailRefIdeal.Points
public import proofs.«01_k».proof.Proof.Gen.TailRefIdeal.Frame
public import Idealize.ShloMosaic.Adequacy
public import Idealize.ShloMosaic.Init

@[expose] public section

noncomputable section

namespace Cert.Proof

open Idealize.ShloMosaic Idealize.SL.Sem Cert.Tail

theorem claim : Cert.Claim := ⟨Cert.Tail.Gen.facts, Cert.TailIdeal.Gen.facts, Cert.TailRefIdeal.Gen.facts,
  Cert.Proj.Gen.facts, Cert.ProjIdeal.Gen.facts, Cert.ProjRefIdeal.Gen.facts,
  Cert.Ssm.Gen.facts, Cert.SsmIdeal.Gen.facts, Cert.SsmRefIdeal.Gen.facts,
  Cert.Slot.Gen.facts, Cert.SlotIdeal.Gen.facts, Cert.SlotRefIdeal.Gen.facts, Cert.Pre_finite_state_space.Gen.facts,
  Cert.Pre_slots_of_table.Gen.facts,
  fun m ρ _ => Cert.Tail.Gen.frame m ρ, fun m ρ _ => Cert.TailIdeal.Gen.frame m ρ,
  fun m ρ _ => Cert.TailRefIdeal.Gen.frame m ρ,
  fun m ρ _ => Cert.Proj.Body.frame m ρ, fun m ρ _ => Cert.ProjIdeal.Body.frame m ρ,
  fun m ρ _ => Cert.ProjRefIdeal.Gen.frame m ρ,
  fun m ρ _ => Cert.Ssm.Gen.frame m ρ, fun m ρ _ => Cert.SsmIdeal.Gen.frame m ρ, fun m ρ _ => Cert.SsmIdeal.Gen.frame m ρ,
  fun m ρ _ => Cert.SsmRefIdeal.Gen.frame m ρ, fun m ρ _ => Cert.SsmRefIdeal.Gen.frame m ρ,
  fun m ρ _ => Cert.Slot.Gen.frame m ρ, fun m ρ _ => Cert.SlotIdeal.Gen.frame m ρ, fun m ρ _ => Cert.SlotIdeal.Gen.frame m ρ,
  fun m ρ _ => Cert.Proof.SlotClaim.frame_ref m ρ, fun m ρ _ => Cert.Proof.SlotClaim.frame_ref m ρ,
  trivial, TailClaim.algebraic, trivial, ProjClaim.algebraic,
  trivial, SsmClaim.algebraic, trivial, SlotClaim.algebraic⟩

end Cert.Proof

end
